-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_rows_in_range : Cert.Pre_rows_in_range.Facts] (m : (ℓ : Loc Cert.Reference.nD Cert.Reference.τ Cert.Reference.sig) → Buf (Elt Bits) ℓ) : Prop :=
  ∀ c : Dev Cert.Reference.nD,
    (Cert.Pre_rows_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_counts_fit : Cert.Pre_counts_fit.Facts] (m : (ℓ : Loc Cert.Kernel2.nD Cert.Kernel2.τ Cert.Kernel2.sig) → Buf (Elt Bits) ℓ) : Prop :=
  ∀ c : Dev Cert.Kernel2.nD,
    (Cert.Pre_counts_fit.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_counts_fit : Cert.Pre_counts_fit.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_counts_fit.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal [hPre_counts_fit : Cert.Pre_counts_fit.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_counts_fit.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_rows_in_range : Cert.Pre_rows_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_counts_fit : Cert.Pre_counts_fit.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_counts_fit : Cert.Pre_counts_fit.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] [hPre_counts_fit : Cert.Pre_counts_fit.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  True

def bitexact_Kernel_Reference [hKernel : Cert.Kernel.Facts] [hReference : Cert.Reference.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_on_expert_rows [hKernel2Ideal : Cert.Kernel2Ideal.Facts] [hReference2Ideal : Cert.Reference2Ideal.Facts] [hPre_counts_fit : Cert.Pre_counts_fit.Facts] [hOn_expert_rows : Cert.On_expert_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v67)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![655360, 128]⟩ : Shape).Idx, (Cert.On_expert_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Kernel2Ideal.nD Cert.Kernel2Ideal.τ).loc Cert.Kernel2Ideal.main_v67) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![655360, 128]⟩ : Shape).Idx, (Cert.On_expert_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Reference2Ideal.nD Cert.Reference2Ideal.τ).loc Cert.Reference2Ideal.main_v67) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hPre_rows_in_range : Cert.Pre_rows_in_range.Facts) (hPre_counts_fit : Cert.Pre_counts_fit.Facts) (hOn_expert_rows : Cert.On_expert_rows.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal) (hPre_rows_in_range := hPre_rows_in_range)
    ∧ quiescent_Reference (hReference := hReference) (hPre_rows_in_range := hPre_rows_in_range)
    ∧ quiescent_Kernel2 (hKernel2 := hKernel2) (hPre_counts_fit := hPre_counts_fit)
    ∧ quiescent_Kernel2Ideal (hKernel2Ideal := hKernel2Ideal) (hPre_counts_fit := hPre_counts_fit)
    ∧ quiescent_Reference2Ideal (hReference2Ideal := hReference2Ideal) (hPre_counts_fit := hPre_counts_fit)
    ∧ preserves_Kernel_KernelIdeal
    ∧ bitexact_Kernel_Reference (hKernel := hKernel) (hReference := hReference) (hPre_rows_in_range := hPre_rows_in_range)
    ∧ algebraic_KernelIdeal_ReferenceIdeal (hKernelIdeal := hKernelIdeal) (hReferenceIdeal := hReferenceIdeal) (hPre_rows_in_range := hPre_rows_in_range)
    ∧ preserves_Kernel2_Kernel2Ideal
    ∧ algebraic_Kernel2Ideal_Reference2Ideal_on_expert_rows (hKernel2Ideal := hKernel2Ideal) (hReference2Ideal := hReference2Ideal) (hPre_counts_fit := hPre_counts_fit) (hOn_expert_rows := hOn_expert_rows)
-- ==== On_expert_rows.lean ====
abbrev S32 : Shape := ⟨1, ![32]⟩
abbrev S655360x128 : Shape := ⟨2, ![655360, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S655360x32 : Shape := ⟨2, ![655360, 32]⟩
abbrev S1x32 : Shape := ⟨2, ![1, 32]⟩
abbrev S655360 : Shape := ⟨1, ![655360]⟩
abbrev S655360x1 : Shape := ⟨2, ![655360, 1]⟩

class Facts : Prop where
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  bcast_S_S655360x32 : S_.BroadcastsInDim S655360x32 (![] : Fin 0 → Fin S655360x32.rank)
  bcast_S32_S1x32_1 : S32.BroadcastsInDim S1x32 (![1] : Fin 1 → Fin S1x32.rank)
  bcast_S1x32_S655360x32_0_1 : S1x32.BroadcastsInDim S655360x32 (![0, 1] : Fin 2 → Fin S655360x32.rank)
  reducesTo_S655360x32_S655360_d1 : S655360x32.ReducesTo [1] S655360
  bcast_S655360_S655360x1_0 : S655360.BroadcastsInDim S655360x1 (![0] : Fin 1 → Fin S655360x1.rank)
  bcast_S655360x1_S655360x128_0_1 : S655360x1.BroadcastsInDim S655360x128 (![0, 1] : Fin 2 → Fin S655360x128.rank)

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn_where_2 {F : FTy → Type} [FloatOps F] (arg0 : IVec S655360x32 1) (arg1 : IVec S655360x32 32) (arg2 : IVec S655360x32 32) : IVec S655360x32 32 :=
  let v0 : IVec S655360x32 32 := select arg0 arg1 arg2
  v0

def fn_floor_divide_1 {F : FTy → Type} [FloatOps F] (arg0 : IVec S655360x32 32) (arg1 : IVec S_ 32) : IVec S655360x32 32 :=
  let v0 : IVec S_ 32 := id arg1
  let v1 : IVec S655360x32 32 := broadcastInDim S655360x32 ![] bcast_S_S655360x32 v0
  let v2 : IVec S655360x32 32 := Host.divsi arg0 v1
  let v3 : IVec S655360x32 32 := signi arg0
  let v4 : IVec S_ 32 := signi v0
  let v5 : IVec S655360x32 32 := broadcastInDim S655360x32 ![] bcast_S_S655360x32 v4
  let v6 : IVec S655360x32 1 := cmpi .ne v3 v5
  let v7 : IVec S655360x32 32 := broadcastInDim S655360x32 ![] bcast_S_S655360x32 v0
  let v8 : IVec S655360x32 32 := Host.remsi arg0 v7
  let c : IVec S_ 32 := constantI S_ 32 0#32
  let v9 : IVec S655360x32 32 := broadcastInDim S655360x32 ![] bcast_S_S655360x32 c
  let v10 : IVec S655360x32 1 := cmpi .ne v8 v9
  let v11 : IVec S655360x32 1 := andi v6 v10
  let c_0 : IVec S_ 32 := constantI S_ 32 1#32
  let v12 : IVec S655360x32 32 := broadcastInDim S655360x32 ![] bcast_S_S655360x32 c_0
  let v13 : IVec S655360x32 32 := subi v2 v12
  let v14 : IVec S655360x32 32 := fn_where_2 (F := F) v11 v13 v2
  v14

def fn_part1 {F : FTy → Type} [FloatOps F] (main_v18 : IVec S655360x1 1) : IVec S655360x128 1 :=
  let main_v19 : IVec S655360x128 1 := broadcastInDim S655360x128 ![0, 1] bcast_S655360x1_S655360x128_0_1 main_v18
  main_v19

def fn {F : FTy → Type} [FloatOps F] (main_arg0 : IVec S32 32) (main_arg1 : FVec F S655360x128 .f32) (main_arg2 : FVec F S32x1024x2048 .f32) (main_arg3 : FVec F S32x2048 .f32) (main_arg4 : FVec F S32x1024x1024 .f32) (main_arg5 : FVec F S32x1024 .f32) : IVec S655360x128 1 :=
  let main_c : IVec S_ 32 := constantI S_ 32 511#32
  let main_v0 : IVec S32 32 := broadcastInDim S32 ![] bcast_S_S32 main_c
  let main_v1 : IVec S32 32 := addi main_arg0 main_v0
  let main_c_0 : IVec S_ 32 := constantI S_ 32 512#32
  let main_v2 : IVec S32 32 := fn_floor_divide (F := F) main_v1 main_c_0
  let main_c_1 : IVec S_ 32 := constantI S_ 32 512#32
  let main_v3 : IVec S32 32 := broadcastInDim S32 ![] bcast_S_S32 main_c_1
  let main_v4 : IVec S32 32 := muli main_v2 main_v3
  let main_v5 : IVec S32 32 := fn_cumsum (F := F) main_v4
  let main_v6 : IVec S32 32 := subi main_v5 main_v4
  let main_v7 : IVec S655360x32 32 := iotaInDim S655360x32 32 0
  let main_c_2 : IVec S_ 32 := constantI S_ 32 8#32
  let main_v8 : IVec S655360x32 32 := fn_floor_divide_1 (F := F) main_v7 main_c_2
  let main_v9 : IVec S1x32 32 := broadcastInDim S1x32 ![1] bcast_S32_S1x32_1 main_v6
  let main_v10 : IVec S655360x32 32 := broadcastInDim S655360x32 ![0, 1] bcast_S1x32_S655360x32_0_1 main_v9
  let main_v11 : IVec S655360x32 1 := cmpi .sle main_v10 main_v8
  let main_v12 : IVec S32 32 := addi main_v6 main_arg0
  let main_v13 : IVec S1x32 32 := broadcastInDim S1x32 ![1] bcast_S32_S1x32_1 main_v12
  let main_v14 : IVec S655360x32 32 := broadcastInDim S655360x32 ![0, 1] bcast_S1x32_S655360x32_0_1 main_v13
  let main_v15 : IVec S655360x32 1 := cmpi .slt main_v8 main_v14
  let main_v16 : IVec S655360x32 1 := andi main_v11 main_v15
  let main_c_3 : IVec S_ 1 := constantI S_ 1 0#1
  let main_v17 : IVec S655360 1 := (fun x v => Host.reduce IntOp.ori x v reducesTo_S655360x32_S655360_d1 h_S_) main_v16 main_c_3
  let main_v18 : IVec S655360x1 1 := broadcastInDim S655360x1 ![0] bcast_S655360_S655360x1_0 main_v17
  fn_part1 (F := F) main_v18
-- ==== Pre_counts_fit.lean ====
abbrev S32 : Shape := ⟨1, ![32]⟩
abbrev S655360x128 : Shape := ⟨2, ![655360, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S32 32) (main_arg1 : FVec F S655360x128 .f32) (main_arg2 : FVec F S32x1024x2048 .f32) (main_arg3 : FVec F S32x2048 .f32) (main_arg4 : FVec F S32x1024x1024 .f32) (main_arg5 : FVec F S32x1024 .f32) : IVec S32 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 65536#32
  let main_v2 : IVec S32 32 := broadcastInDim S32 ![] bcast_S_S32 main_c_0
  let main_v3 : IVec S32 1 := cmpi .sle main_arg0 main_v2
  let main_v4 : IVec S32 1 := andi main_v1 main_v3
  let main_c_1 : IVec S_ 32 := constantI S_ 32 0#32
  let main_v5 : IVec S_ 32 := (fun x v => Host.reduce IntOp.addi x v reducesTo_S32_S_d0 h_S_) main_arg0 main_c_1
  let main_c_2 : IVec S_ 32 := constantI S_ 32 65536#32
  let main_v6 : IVec S_ 1 := cmpi .eq main_v5 main_c_2
  let main_v7 : IVec S32 1 := broadcastInDim S32 ![] bcast_S_S32 main_v6
  let main_v8 : IVec S32 1 := andi main_v4 main_v7
  main_v8
-- ==== Pre_rows_in_range.lean ====
abbrev S81920x8x128 : Shape := ⟨3, ![81920, 8, 128]⟩
abbrev S4x2048 : Shape := ⟨2, ![4, 2048]⟩
abbrev S_ : Shape := ⟨0, ![]⟩

class Facts : Prop where
  bcast_S_S4x2048 : S_.BroadcastsInDim S4x2048 (![] : Fin 0 → Fin S4x2048.rank)

variable [Facts]

def fn {F : FTy → Type} [FloatOps F] (main_arg0 : FVec F S81920x8x128 .f32) (main_arg1 : IVec S4x2048 32) : IVec S4x2048 1 :=
  let main_c : IVec S_ 32 := constantI S_ 32 0#32
  let main_v0 : IVec S4x2048 32 := broadcastInDim S4x2048 ![] bcast_S_S4x2048 main_c
  let main_v1 : IVec S4x2048 1 := cmpi .sge main_arg1 main_v0
  let main_c_0 : IVec S_ 32 := constantI S_ 32 81920#32
  let main_v2 : IVec S4x2048 32 := broadcastInDim S4x2048 ![] bcast_S_S4x2048 main_c_0
  let main_v3 : IVec S4x2048 1 := cmpi .slt main_arg1 main_v2
  let main_v4 : IVec S4x2048 1 := andi main_v1 main_v3
  main_v4
-- ==== Kernel.lean ====
abbrev S81920x8x128 : Shape := ⟨3, ![81920, 8, 128]⟩
abbrev S4x2048 : Shape := ⟨2, ![4, 2048]⟩
abbrev S256x32 : Shape := ⟨2, ![256, 32]⟩
abbrev S_ : Shape := ⟨0, ![]⟩
abbrev S256x128 : Shape := ⟨2, ![256, 128]⟩
abbrev S8192x8x128 : Shape := ⟨3, ![8192, 8, 128]⟩
abbrev S2x1x128 : Shape := ⟨3, ![2, 1, 128]⟩
abbrev S2 : Shape := ⟨1, ![2]⟩
abbrev S2x32x8x128 : Shape := ⟨4, ![2, 32, 8, 128]⟩
abbrev S1x1x128 : Shape := ⟨3, ![1, 1, 128]⟩
abbrev S1x128 : Shape := ⟨2, ![1, 128]⟩
abbrev S1 : Shape := ⟨1, ![1]⟩
abbrev S1x32x8x128 : Shape := ⟨4, ![1, 32, 8, 128]⟩
abbrev S32x8x128 : Shape := ⟨3, ![32, 8, 128]⟩
abbrev S32x2x128 : Shape := ⟨3, ![32, 2, 128]⟩
abbrev S1x32 : Shape := ⟨2, ![1, 32]⟩
abbrev S32 : Shape := ⟨1, ![32]⟩
abbrev S81920x2x128 : Shape := ⟨3, ![81920, 2, 128]⟩

abbrev nBuf : Table → Nat
  | .hbm => 7
  | .local .scVector .vmem => 2
  | _ => 0

abbrev bufTy : (tb : Table) → Fin (nBuf tb) → BufTy
  | .hbm, ⟨0, _⟩ => ⟨S81920x8x128, .f32⟩
  | .hbm, ⟨1, _⟩ => ⟨S4x2048, .i32⟩
  | .hbm, ⟨2, _⟩ => ⟨S256x32, .i32⟩
  | .hbm, ⟨3, _⟩ => ⟨S_, .i32⟩
  | .hbm, ⟨4, _⟩ => ⟨S_, .i32⟩
  | .hbm, ⟨5, _⟩ => ⟨S256x128, .i32⟩
  | .hbm, ⟨6, _⟩ => ⟨S8192x8x128, .f32⟩
  | .local .scVector .vmem, ⟨0, _⟩ => ⟨S2x1x128, .i32⟩
  | .local .scVector .vmem, ⟨1, _⟩ => ⟨S2x32x8x128, .f32⟩
  | _, _ => ⟨S81920x8x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_v1_scv : Ref sig .scVector := ⟨.hbm, 5, rfl⟩
abbrev main_v2_scv : Ref sig .scVector := ⟨.hbm, 6, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_15_r0 : BitVec 32 := 0#32
  let c0_i32_16_r0 : BitVec 32 := 0#32
  ![v21_r0.toNat, 0, 0]
def k0_off2 (i : grid0.Coords) : Fin 2 → Nat :=
  let c1_i32_14_r0 : BitVec 32 := 1#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c1_i32_14_r0 v7_r0
  let c0_i32_17_r0 : BitVec 32 := 0#32
  ![v22_r0.toNat, 0]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_27_r0 : BitVec 32 := 0#32
  let c8_i32_28_r0 : BitVec 32 := 8#32
  let v32_r0 : BitVec 32 := Scalar.addi c0_i32_27_r0 c8_i32_28_r0
  let c1_i32_29_r0 : BitVec 32 := 1#32
  ⟨c0_i32_27_r0, v32_r0, c1_i32_29_r0⟩
def k0_off4 (arg6_r0 : BitVec 32) : Fin 3 → Nat :=
  let c2_i32_106_r0 : BitVec 32 := 2#32
  let v144_r0 : BitVec 32 := Scalar.remui arg6_r0 c2_i32_106_r0
  let c0_i32_108_r0 : BitVec 32 := 0#32
  let c0_i32_109_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c8_i32_66_r0 : BitVec 32 := 8#32
  let v74_r0 : BitVec 1 := Scalar.cmpi .eq v73_r0 c8_i32_66_r0
  let c0_i32_67_r0 : BitVec 32 := 0#32
  let v75_r0 : BitVec 32 := Scalar.select v74_r0 c0_i32_67_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c7_i32_72_r0 : BitVec 32 := 7#32
  let v83_r0 : BitVec 1 := Scalar.cmpi .sge arg5_r0 c7_i32_72_r0
  let true_73_r0 : BitVec 1 := 1#1
  let v84_r0 : BitVec 1 := Scalar.xori v83_r0 true_73_r0
  let v85_r0 : BitVec 1 := Scalar.andi v82_r0 v84_r0
  let true_74_r0 : BitVec 1 := 1#1
  let v86_r0 : BitVec 1 := Scalar.andi v85_r0 true_74_r0
  let v87_r0 : BitVec 32 := Scalar.extui v86_r0
  let c0_i32_75_r0 : BitVec 32 := 0#32
  let v88_r0 : BitVec 1 := Scalar.cmpi .ne v87_r0 c0_i32_75_r0
  v88_r0

def k0_off5 (i : grid0.Coords) (arg10_r0 : BitVec 32) : Fin 2 → Nat :=
  let c1_i32_107_r0 : BitVec 32 := 1#32
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c8_i32_66_r0 : BitVec 32 := 8#32
  let v74_r0 : BitVec 1 := Scalar.cmpi .eq v73_r0 c8_i32_66_r0
  let c0_i32_67_r0 : BitVec 32 := 0#32
  let v75_r0 : BitVec 32 := Scalar.select v74_r0 c0_i32_67_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c1_i32_107_r0 v76_r0
  let c0_i32_110_r0 : BitVec 32 := 0#32
  ![v145_r0.toNat, 0]
def k0_off6 (arg6_r0 : BitVec 32) : Fin 1 → Nat :=
  let c2_i32_106_r0 : BitVec 32 := 2#32
  let v144_r0 : BitVec 32 := Scalar.remui arg6_r0 c2_i32_106_r0
  ![v144_r0.toNat]
def k0_off7 (arg7_r0 : BitVec 32) : Fin 3 → Nat :=
  let c2_i32_107_r0 : BitVec 32 := 2#32
  let v145_r0 : BitVec 32 := Scalar.remui arg7_r0 c2_i32_107_r0
  let c0_i32_108_r0 : BitVec 32 := 0#32
  let c0_i32_109_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c7_i32_63_r0 : BitVec 32 := 7#32
  let v70_r0 : BitVec 32 := Scalar.select v69_r0 c7_i32_63_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_58_r0 : BitVec 32 := 0#32
  let v64_r0 : BitVec 1 := Scalar.cmpi .eq arg5_r0 c0_i32_58_r0
  let v97_r0 : BitVec 1 := Scalar.ori v96_r0 v64_r0
  let c0_i32_80_r0 : BitVec 32 := 0#32
  let v98_r0 : BitVec 1 := Scalar.cmpi .sge arg5_r0 c0_i32_80_r0
  let v99_r0 : BitVec 1 := Scalar.andi v97_r0 v98_r0
  let v100_r0 : BitVec 32 := Scalar.extui v99_r0
  let c0_i32_81_r0 : BitVec 32 := 0#32
  let v101_r0 : BitVec 1 := Scalar.cmpi .ne v100_r0 c0_i32_81_r0
  v101_r0

def k0_off8 (i : grid0.Coords) (arg10_r0 : BitVec 32) : Fin 2 → Nat :=
  let c1_i32_106_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c1_i32_106_r0 v66_r0
  let c0_i32_110_r0 : BitVec 32 := 0#32
  ![v144_r0.toNat, 0]
def k0_off9 (arg7_r0 : BitVec 32) : Fin 1 → Nat :=
  let c2_i32_107_r0 : BitVec 32 := 2#32
  let v145_r0 : BitVec 32 := Scalar.remui arg7_r0 c2_i32_107_r0
  ![v145_r0.toNat]
def k0_off10 (arg8_r0 : BitVec 32) : Fin 4 → Nat :=
  let c2_i32_85_r0 : BitVec 32 := 2#32
  let v109_r0 : BitVec 32 := Scalar.remui arg8_r0 c2_i32_85_r0
  let c0_i32_106_r1 : BitVec 32 := 0#32
  let c0_i32_107_r1 : BitVec 32 := 0#32
  let c0_i32_108_r1 : BitVec 32 := 0#32
  ![v109_r0.toNat, 0, 0, 0]

def k0_chk2 (arg8_r0 : BitVec 32) : Prop :=
  (∀ a, (k0_off10 arg8_r0) a + S1x32x8x128.size a ≤ S2x32x8x128.size a)
theorem k0_off10_inb : ∀ (arg8_r0 : BitVec 32) (k0_hw2 : k0_chk2 arg8_r0), ∀ a, (k0_off10 arg8_r0) a + S1x32x8x128.size a ≤ S2x32x8x128.size a := fun arg8_r0 k0_hw2 => k0_hw2

def k0_off11 (arg7_r0 : BitVec 32) : Fin 3 → Nat :=
  let c2_i32_84_r0 : BitVec 32 := 2#32
  let v108_r0 : BitVec 32 := Scalar.remui arg7_r0 c2_i32_84_r0
  let c0_i32_112_r1 : BitVec 32 := 0#32
  let c0_i32_113_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 4 → Nat :=
  let c2_i32_106_r0 : BitVec 32 := 2#32
  let v144_r0 : BitVec 32 := Scalar.remui arg8_r0 c2_i32_106_r0
  let c0_i32_108_r0 : BitVec 32 := 0#32
  let c0_i32_109_r0 : BitVec 32 := 0#32
  let c0_i32_110_r0 : BitVec 32 := 0#32
  ![v144_r0.toNat, 0, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c8_i32_66_r0 : BitVec 32 := 8#32
  let v74_r0 : BitVec 1 := Scalar.cmpi .eq v73_r0 c8_i32_66_r0
  let c0_i32_67_r0 : BitVec 32 := 0#32
  let v75_r0 : BitVec 32 := Scalar.select v74_r0 c0_i32_67_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c7_i32_59_r0 : BitVec 32 := 7#32
  let v65_r0 : BitVec 1 := Scalar.cmpi .eq arg5_r0 c7_i32_59_r0
  let v116_r0 : BitVec 1 := Scalar.ori v115_r0 v65_r0
  let v117_r0 : BitVec 32 := Scalar.extui v116_r0
  let c0_i32_91_r0 : BitVec 32 := 0#32
  let v118_r0 : BitVec 1 := Scalar.cmpi .ne v117_r0 c0_i32_91_r0
  v118_r0

def k0_off13 (i : grid0.Coords) (arg10_r0 : BitVec 32) : Fin 3 → Nat :=
  let c32_i32_107_r0 : BitVec 32 := 32#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c32_i32_107_r0 v66_r0
  let c0_i32_111_r0 : BitVec 32 := 0#32
  let c0_i32_112_r0 : BitVec 32 := 0#32
  ![v145_r0.toNat, 0, 0]
def k0_off14 (arg8_r0 : BitVec 32) : Fin 1 → Nat :=
  let c2_i32_106_r0 : BitVec 32 := 2#32
  let v144_r0 : BitVec 32 := Scalar.remui arg8_r0 c2_i32_106_r0
  ![v144_r0.toNat]
def k0_off15 (arg9_r0 : BitVec 32) : Fin 4 → Nat :=
  let c2_i32_106_r0 : BitVec 32 := 2#32
  let v144_r0 : BitVec 32 := Scalar.remui arg9_r0 c2_i32_106_r0
  let c0_i32_108_r0 : BitVec 32 := 0#32
  let c0_i32_109_r0 : BitVec 32 := 0#32
  let c0_i32_110_r0 : BitVec 32 := 0#32
  ![v144_r0.toNat, 0, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c7_i32_63_r0 : BitVec 32 := 7#32
  let v70_r0 : BitVec 32 := Scalar.select v69_r0 c7_i32_63_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_58_r0 : BitVec 32 := 0#32
  let v64_r0 : BitVec 1 := Scalar.cmpi .eq arg5_r0 c0_i32_58_r0
  let true_97_r0 : BitVec 1 := 1#1
  let v129_r0 : BitVec 1 := Scalar.xori v64_r0 true_97_r0
  let v130_r0 : BitVec 1 := Scalar.andi v128_r0 v129_r0
  let v131_r0 : BitVec 32 := Scalar.extui v130_r0
  let c0_i32_98_r0 : BitVec 32 := 0#32
  let v132_r0 : BitVec 1 := Scalar.cmpi .ne v131_r0 c0_i32_98_r0
  v132_r0

def k0_off16 (i : grid0.Coords) (arg10_r0 : BitVec 32) : Fin 3 → Nat :=
  let c32_i32_107_r0 : BitVec 32 := 32#32
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c7_i32_63_r0 : BitVec 32 := 7#32
  let v70_r0 : BitVec 32 := Scalar.select v69_r0 c7_i32_63_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c32_i32_107_r0 v71_r0
  let c0_i32_111_r0 : BitVec 32 := 0#32
  let c0_i32_112_r0 : BitVec 32 := 0#32
  ![v145_r0.toNat, 0, 0]
def k0_off17 (arg9_r0 : BitVec 32) : Fin 1 → Nat :=
  let c2_i32_106_r0 : BitVec 32 := 2#32
  let v144_r0 : BitVec 32 := Scalar.remui arg9_r0 c2_i32_106_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S256x128.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S256x128.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x32x8x128.size a ≤ S2x32x8x128.size a) ∧
  (∀ (k0_h5 : k0_cond5 i k0_t1 arg10_r0 = 1#1), ∀ a, (k0_off13 i arg10_r0) a + S32x8x128.size a ≤ S8192x8x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x32x8x128.size a ≤ S2x32x8x128.size a) ∧
  (∀ (k0_h7 : k0_cond7 i k0_t1 arg10_r0 = 1#1), ∀ a, (k0_off16 i arg10_r0) a + S32x8x128.size a ≤ S8192x8x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S256x128.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S256x128.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x32x8x128.size a ≤ S2x32x8x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S32x8x128.size a ≤ S8192x8x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x32x8x128.size a ≤ S2x32x8x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S32x8x128.size a ≤ S8192x8x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 4 → Nat :=
  let c2_i32_47_r0 : BitVec 32 := 2#32
  let v54_r0 : BitVec 32 := Scalar.remui v33_3_r0 c2_i32_47_r0
  let c0_i32_48_r0 : BitVec 32 := 0#32
  let c0_i32_49_r0 : BitVec 32 := 0#32
  let c0_i32_50_r0 : BitVec 32 := 0#32
  ![v54_r0.toNat, 0, 0, 0]

def k0_off19 (i : grid0.Coords) (v33_4_r0 : BitVec 32) : Fin 3 → Nat :=
  let c32_i32_r0 : BitVec 32 := 32#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c7_i32_34_r0 : BitVec 32 := 7#32
  let v37_r0 : BitVec 32 := Scalar.select v36_r0 c7_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c32_i32_r0 v38_r0
  let c0_i32_51_r0 : BitVec 32 := 0#32
  let c0_i32_52_r0 : BitVec 32 := 0#32
  ![v55_r0.toNat, 0, 0]

def k0_chk5 (i : grid0.Coords) (v33_4_r0 : BitVec 32) : Prop :=
  (∀ a, (k0_off19 i v33_4_r0) a + S32x8x128.size a ≤ S8192x8x128.size a)
theorem k0_off19_inb : ∀ (i : grid0.Coords) (v33_4_r0 : BitVec 32) (k0_hw5 : k0_chk5 i v33_4_r0), ∀ a, (k0_off19 i v33_4_r0) a + S32x8x128.size a ≤ S8192x8x128.size a := fun i v33_4_r0 k0_hw5 => k0_hw5

def k0_off20 (v33_3_r0 : BitVec 32) : Fin 1 → Nat :=
  let c2_i32_47_r0 : BitVec 32 := 2#32
  let v54_r0 : BitVec 32 := Scalar.remui v33_3_r0 c2_i32_47_r0
  ![v54_r0.toNat]
def k0_off21 (v33_3_r0 : BitVec 32) : Fin 4 → Nat :=
  let c2_i32_47_r0 : BitVec 32 := 2#32
  let v54_r0 : BitVec 32 := Scalar.remui v33_3_r0 c2_i32_47_r0
  let c0_i32_55_r0 : BitVec 32 := 0#32
  let c0_i32_56_r0 : BitVec 32 := 0#32
  let c0_i32_57_r0 : BitVec 32 := 0#32
  ![v54_r0.toNat, 0, 0, 0]

def k0_chk4 (v33_3_r0 : BitVec 32) : Prop :=
  (∀ a, (k0_off18 v33_3_r0) a + S1x32x8x128.size a ≤ S2x32x8x128.size a) ∧
  (∀ a, (k0_off20 v33_3_r0) a + S1.size a ≤ S2.size a) ∧
  (∀ a, (k0_off21 v33_3_r0) a + S1x32x8x128.size a ≤ S2x32x8x128.size a)
theorem k0_off18_inb : ∀ (v33_3_r0 : BitVec 32) (k0_hw4 : k0_chk4 v33_3_r0), ∀ a, (k0_off18 v33_3_r0) a + S1x32x8x128.size a ≤ S2x32x8x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x32x8x128.size a ≤ S2x32x8x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S81920x8x128 : Shape := ⟨3, ![81920, 8, 128]⟩
abbrev S4x2048 : Shape := ⟨2, ![4, 2048]⟩
abbrev S8192 : Shape := ⟨1, ![8192]⟩
abbrev S_ : Shape := ⟨0, ![]⟩
abbrev S8192x1 : Shape := ⟨2, ![8192, 1]⟩
abbrev S8192x8x128 : Shape := ⟨3, ![8192, 8, 128]⟩

abbrev nBuf : Space → Nat
  | .hbm => 12
  | .vmem => 0
  | .smem => 0
  | _ => 0

abbrev bufTy : (tb : Table) → Fin (tcTables nBuf tb) → BufTy
  | .hbm, ⟨0, _⟩ => ⟨S81920x8x128, .f32⟩
  | .hbm, ⟨1, _⟩ => ⟨S4x2048, .i32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S8192x8x128, .f32⟩
  | _, _ => ⟨S81920x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel2.lean ====
abbrev S32 : Shape := ⟨1, ![32]⟩
abbrev S655360x128 : Shape := ⟨2, ![655360, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S160 : Shape := ⟨1, ![160]⟩
abbrev S1x32 : Shape := ⟨2, ![1, 32]⟩
abbrev S160x1 : Shape := ⟨2, ![160, 1]⟩
abbrev S160x32 : Shape := ⟨2, ![160, 32]⟩
abbrev S1 : Shape := ⟨1, ![1]⟩
abbrev S32x1 : Shape := ⟨2, ![32, 1]⟩
abbrev S32x32 : Shape := ⟨2, ![32, 32]⟩
abbrev S32x1x2048 : Shape := ⟨3, ![32, 1, 2048]⟩
abbrev S32x1x1024 : Shape := ⟨3, ![32, 1, 1024]⟩
abbrev S4096x128 : Shape := ⟨2, ![4096, 128]⟩
abbrev S1x1x2048 : Shape := ⟨3, ![1, 1, 2048]⟩
abbrev S1x1x1024 : Shape := ⟨3, ![1, 1, 1024]⟩
abbrev S2x1024x2048 : Shape := ⟨3, ![2, 1024, 2048]⟩
abbrev S2x1024x1024 : Shape := ⟨3, ![2, 1024, 1024]⟩
abbrev S1024x2048 : Shape := ⟨2, ![1024, 2048]⟩
abbrev S1024x1024 : Shape := ⟨2, ![1024, 1024]⟩
abbrev S2x2 : Shape := ⟨2, ![2, 2]⟩
abbrev S1x1 : Shape := ⟨2, ![1, 1]⟩
abbrev S1x1024x2048 : Shape := ⟨3, ![1, 1024, 2048]⟩
abbrev S1x1024x1024 : Shape := ⟨3, ![1, 1024, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩
abbrev S2048x128 : Shape := ⟨2, ![2048, 128]⟩
abbrev S256x128 : Shape := ⟨2, ![256, 128]⟩
abbrev S256x1024 : Shape := ⟨2, ![256, 1024]⟩
abbrev S256x2048 : Shape := ⟨2, ![256, 2048]⟩

abbrev nBuf : Space → Nat
  | .hbm => 138
  | .vmem => 12
  | .smem => 5
  | _ => 0

abbrev hbmTy0_0 (i : Nat) : BufTy := match i % 128 with
  | 0 => ⟨S32, .i32⟩
  | 1 => ⟨S655360x128, .f32⟩
  | 2 => ⟨S32x1024x2048, .f32⟩
  | 3 => ⟨S32x2048, .f32⟩
  | 4 => ⟨S32x1024x1024, .f32⟩
  | 5 => ⟨S32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S_, .i32⟩
  | 32 => ⟨S32, .i32⟩
  | 33 => ⟨S32, .i32⟩
  | 34 => ⟨S_, .i32⟩
  | 35 => ⟨S32, .i32⟩
  | 36 => ⟨S32, .i32⟩
  | 37 => ⟨S160, .i32⟩
  | 38 => ⟨S1x32, .i32⟩
  | 39 => ⟨S160x1, .i32⟩
  | 40 => ⟨S160x32, .i32⟩
  | 41 => ⟨S160x32, .i32⟩
  | 42 => ⟨S160x32, .i1⟩
  | 43 => ⟨S160x32, .i32⟩
  | 44 => ⟨S_, .i32⟩
  | 45 => ⟨S160, .i32⟩
  | 46 => ⟨S_, .i32⟩
  | 47 => ⟨S160, .i32⟩
  | 48 => ⟨S32, .i32⟩
  | 49 => ⟨S_, .i32⟩
  | 50 => ⟨S32, .i32⟩
  | 51 => ⟨S32, .i1⟩
  | 52 => ⟨S1x32, .i32⟩
  | 53 => ⟨S32x1, .i32⟩
  | 54 => ⟨S32x32, .i32⟩
  | 55 => ⟨S32x32, .i32⟩
  | 56 => ⟨S32x32, .i1⟩
  | 57 => ⟨S1x32, .i1⟩
  | 58 => ⟨S32x32, .i1⟩
  | 59 => ⟨S32x32, .i1⟩
  | 60 => ⟨S1x32, .i32⟩
  | 61 => ⟨S_, .i32⟩
  | 62 => ⟨S_, .i32⟩
  | 63 => ⟨S32x32, .i32⟩
  | 64 => ⟨S32x32, .i32⟩
  | 65 => ⟨S32x32, .i32⟩
  | 66 => ⟨S_, .i32⟩
  | 67 => ⟨S32, .i32⟩
  | 68 => ⟨S_, .i32⟩
  | 69 => ⟨S32, .i32⟩
  | 70 => ⟨S32, .i1⟩
  | 71 => ⟨S_, .i32⟩
  | 72 => ⟨S_, .i32⟩
  | 73 => ⟨S32, .i32⟩
  | 74 => ⟨S32, .i32⟩
  | 75 => ⟨S32, .i32⟩
  | 76 => ⟨S_, .i32⟩
  | 77 => ⟨S_, .i32⟩
  | 78 => ⟨S32, .i32⟩
  | 79 => ⟨S_, .i32⟩
  | 80 => ⟨S32, .i32⟩
  | 81 => ⟨S32, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S32, .i32⟩
  | 89 => ⟨S32, .i32⟩
  | 90 => ⟨S_, .i32⟩
  | 91 => ⟨S32, .i32⟩
  | 92 => ⟨S32, .i1⟩
  | 93 => ⟨S_, .i32⟩
  | 94 => ⟨S32, .i32⟩
  | 95 => ⟨S32, .i1⟩
  | 96 => ⟨S_, .i32⟩
  | 97 => ⟨S_, .i1⟩
  | 98 => ⟨S32, .i1⟩
  | 99 => ⟨S32, .i1⟩
  | 100 => ⟨S32, .i1⟩
  | 101 => ⟨S32, .i32⟩
  | 102 => ⟨S32, .i32⟩
  | 103 => ⟨S32, .i32⟩
  | 104 => ⟨S160x1, .i32⟩
  | 105 => ⟨S1x32, .i32⟩
  | 106 => ⟨S160x32, .i32⟩
  | 107 => ⟨S160x32, .i32⟩
  | 108 => ⟨S160x32, .i1⟩
  | 109 => ⟨S160x32, .i32⟩
  | 110 => ⟨S1x32, .i32⟩
  | 111 => ⟨S160x32, .i32⟩
  | 112 => ⟨S160x32, .i32⟩
  | 113 => ⟨S_, .i32⟩
  | 114 => ⟨S1x32, .i32⟩
  | 115 => ⟨S160x32, .i32⟩
  | 116 => ⟨S160x32, .i32⟩
  | 117 => ⟨S_, .i32⟩
  | 118 => ⟨S32, .i32⟩
  | 119 => ⟨S1x32, .i32⟩
  | 120 => ⟨S160x32, .i32⟩
  | 121 => ⟨S160x32, .i32⟩
  | 122 => ⟨S_, .i32⟩
  | 123 => ⟨S160, .i32⟩
  | 124 => ⟨S_, .i32⟩
  | 125 => ⟨S160, .i32⟩
  | 126 => ⟨S160, .i32⟩
  | 127 => ⟨S160, .i32⟩
  | _ => ⟨S32, .i32⟩

abbrev hbmTy0_1 (i : Nat) : BufTy := match i % 128 with
  | 0 => ⟨S_, .i32⟩
  | 1 => ⟨S_, .i32⟩
  | 2 => ⟨S_, .i32⟩
  | 3 => ⟨S160, .i32⟩
  | 4 => ⟨S160, .i32⟩
  | 5 => ⟨S_, .i32⟩
  | 6 => ⟨S160, .i32⟩
  | 7 => ⟨S32x1x2048, .f32⟩
  | 8 => ⟨S32x1x1024, .f32⟩
  | 9 => ⟨S655360x128, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S4096x128, .f32⟩
  | .local _ .vmem, ⟨7, _⟩ => ⟨S4096x128, .f32⟩
  | .local _ .vmem, ⟨8, _⟩ => ⟨S2x1024x2048, .f32⟩
  | .local _ .vmem, ⟨9, _⟩ => ⟨S2x1024x1024, .f32⟩
  | .local _ .vmem, ⟨10, _⟩ => ⟨S1024x2048, .bf16⟩
  | .local _ .vmem, ⟨11, _⟩ => ⟨S1024x1024, .bf16⟩
  | .local _ .smem, ⟨0, _⟩ => ⟨S160, .i32⟩
  | .local _ .smem, ⟨1, _⟩ => ⟨S1, .i32⟩
  | .local _ .smem, ⟨2, _⟩ => ⟨S160, .i32⟩
  | .local _ .smem, ⟨3, _⟩ => ⟨S160, .i32⟩
  | .local _ .smem, ⟨4, _⟩ => ⟨S160, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_call1_call0_c : Ref sig .tc := ⟨.hbm, 30, rfl⟩
abbrev main_call1_call0_v0 : Ref sig .tc := ⟨.hbm, 31, rfl⟩
abbrev main_v5 : Ref sig .tc := ⟨.hbm, 32, rfl⟩
abbrev main_v6 : Ref sig .tc := ⟨.hbm, 33, rfl⟩
abbrev main_c_2 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c_3 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_v20 : Ref sig .tc := ⟨.hbm, 48, rfl⟩
abbrev main_c_5 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v32 : Ref sig .tc := ⟨.hbm, 65, rfl⟩
abbrev main_c_7 : Ref sig .tc := ⟨.hbm, 66, rfl⟩
abbrev main_v33 : Ref sig .tc := ⟨.hbm, 67, rfl⟩
abbrev main_c_8 : Ref sig .tc := ⟨.hbm, 68, rfl⟩
abbrev main_v34 : Ref sig .tc := ⟨.hbm, 69, rfl⟩
abbrev main_v35 : Ref sig .tc := ⟨.hbm, 70, rfl⟩
abbrev main_c_9 : Ref sig .tc := ⟨.hbm, 71, rfl⟩
abbrev main_call3_v0 : Ref sig .tc := ⟨.hbm, 72, rfl⟩
abbrev main_call3_v1 : Ref sig .tc := ⟨.hbm, 73, rfl⟩
abbrev main_v36 : Ref sig .tc := ⟨.hbm, 74, rfl⟩
abbrev main_v37 : Ref sig .tc := ⟨.hbm, 75, rfl⟩
abbrev main_call4_call0_c : Ref sig .tc := ⟨.hbm, 76, rfl⟩
abbrev main_call4_call0_v0 : Ref sig .tc := ⟨.hbm, 77, rfl⟩
abbrev main_v38 : Ref sig .tc := ⟨.hbm, 78, rfl⟩
abbrev main_c_10 : Ref sig .tc := ⟨.hbm, 79, rfl⟩
abbrev main_v39 : Ref sig .tc := ⟨.hbm, 80, rfl⟩
abbrev main_v40 : Ref sig .tc := ⟨.hbm, 81, rfl⟩
abbrev main_c_11 : Ref sig .tc := ⟨.hbm, 82, rfl⟩
abbrev main_call5_v0 : Ref sig .tc := ⟨.hbm, 83, rfl⟩
abbrev main_call5_c : Ref sig .tc := ⟨.hbm, 84, rfl⟩
abbrev main_call5_v1 : Ref sig .tc := ⟨.hbm, 85, rfl⟩
abbrev main_call5_c_0 : Ref sig .tc := ⟨.hbm, 86, rfl⟩
abbrev main_call5_v2 : Ref sig .tc := ⟨.hbm, 87, rfl⟩
abbrev main_call5_v3 : Ref sig .tc := ⟨.hbm, 88, rfl⟩
abbrev main_call5_v4 : Ref sig .tc := ⟨.hbm, 89, rfl⟩
abbrev main_call5_c_1 : Ref sig .tc := ⟨.hbm, 90, rfl⟩
abbrev main_call5_v5 : Ref sig .tc := ⟨.hbm, 91, rfl⟩
abbrev main_call5_v6 : Ref sig .tc := ⟨.hbm, 92, rfl⟩
abbrev main_call5_c_2 : Ref sig .tc := ⟨.hbm, 93, rfl⟩
abbrev main_call5_v7 : Ref sig .tc := ⟨.hbm, 94, rfl⟩
abbrev main_call5_v8 : Ref sig .tc := ⟨.hbm, 95, rfl⟩
abbrev main_call5_c_3 : Ref sig .tc := ⟨.hbm, 96, rfl⟩
abbrev main_call5_v9 : Ref sig .tc := ⟨.hbm, 97, rfl⟩
abbrev main_call5_v10 : Ref sig .tc := ⟨.hbm, 98, rfl⟩
abbrev main_call5_v11 : Ref sig .tc := ⟨.hbm, 99, rfl⟩
abbrev main_call5_v12 : Ref sig .tc := ⟨.hbm, 100, rfl⟩
abbrev main_call5_v13 : Ref sig .tc := ⟨.hbm, 101, rfl⟩
abbrev main_call5_v14 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_c_12 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_c_13 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_c_14 : Ref sig .tc := ⟨.hbm, 122, rfl⟩
abbrev main_v60 : Ref sig .tc := ⟨.hbm, 123, rfl⟩
abbrev main_c_15 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_c_16 : Ref sig .tc := ⟨.hbm, 128, rfl⟩
abbrev main_c_17 : Ref sig .tc := ⟨.hbm, 129, rfl⟩
abbrev main_call6_v0 : Ref sig .tc := ⟨.hbm, 130, rfl⟩
abbrev main_call6_v1 : Ref sig .tc := ⟨.hbm, 131, rfl⟩
abbrev main_call6_v2 : Ref sig .tc := ⟨.hbm, 132, rfl⟩
abbrev main_call6_v3 : Ref sig .tc := ⟨.hbm, 133, rfl⟩
abbrev main_call6_v4 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v18 : Ref sig .tc := ⟨.smem, 0, rfl⟩
abbrev main_v19 : Ref sig .tc := ⟨.smem, 1, rfl⟩
abbrev main_v51 : Ref sig .tc := ⟨.smem, 2, rfl⟩
abbrev main_v55 : Ref sig .tc := ⟨.smem, 3, rfl⟩
abbrev main_v64 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![160], ![false]⟩

abbrev pre0 : Pipeline.Prefetch sig := ⟨5, ![main_v18.idx, main_v19.idx, main_v51.idx, main_v55.idx, main_v64.idx], fun | 0 => main_v18.names | 1 => main_v19.names | 2 => main_v51.names | 3 => main_v55.names | 4 => main_v64.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let v3 : Index := Scalar.indexCast v2
  ![v3.toNat]
def k0_off3 (i : grid0.Coords) : Fin 1 → Nat :=
  let arg0 : BitVec 32 := BitVec.ofNat 32 (i 0).val
  let v25 : Index := Scalar.indexCast arg0
  ![v25.toNat]
def k0_cond2 (i : grid0.Coords) : BitVec 1 :=
  let arg0 : BitVec 32 := BitVec.ofNat 32 (i 0).val
  let c0_i32_4 : BitVec 32 := 0#32
  let v29 : BitVec 1 := Scalar.cmpi .eq arg0 c0_i32_4
  let v30 : BitVec 32 := Scalar.extui v29
  let c0_i32_5 : BitVec 32 := 0#32
  let v31 : BitVec 1 := Scalar.cmpi .ne v30 c0_i32_5
  v31

def k0_off4 (v28 : BitVec 32) : Fin 2 → Nat :=
  let c0_i32_26 : BitVec 32 := 0#32
  ![0, v28.toNat]
def k0_cond1 (i : grid0.Coords) (v0 : BitVec 32) (v4 : BitVec 32) (v7 : BitVec 32) : BitVec 1 :=
  let arg0 : BitVec 32 := BitVec.ofNat 32 (i 0).val
  let c0_i32_0 : BitVec 32 := 0#32
  let v5 : BitVec 1 := Scalar.cmpi .eq arg0 c0_i32_0
  let v8 : BitVec 1 := Scalar.cmpi .ne v7 v4
  let v9 : BitVec 1 := Scalar.ori v5 v8
  let v10 : BitVec 1 := Scalar.cmpi .slt arg0 v0
  let v11 : BitVec 1 := Scalar.andi v9 v10
  let v12 : BitVec 32 := Scalar.extui v11
  let c0_i32_1 : BitVec 32 := 0#32
  let v13 : BitVec 1 := Scalar.cmpi .ne v12 c0_i32_1
  v13

def k0_off5 (v28 : BitVec 32) : Fin 3 → Nat :=
  let c0_i32_27 : BitVec 32 := 0#32
  let c0_i32_28 : BitVec 32 := 0#32
  ![v28.toNat, 0, 0]
def k0_off6 (v26 : BitVec 32) : Fin 3 → Nat :=
  let c0_i32_29 : BitVec 32 := 0#32
  let c0_i32_30 : BitVec 32 := 0#32
  ![v26.toNat, 0, 0]

def k0_off7 (v28 : BitVec 32) : Fin 2 → Nat :=
  let c1_i32_31 : BitVec 32 := 1#32
  ![1, v28.toNat]
def k0_off8 (v28 : BitVec 32) : Fin 3 → Nat :=
  let c0_i32_32 : BitVec 32 := 0#32
  let c0_i32_33 : BitVec 32 := 0#32
  ![v28.toNat, 0, 0]
def k0_off9 (v26 : BitVec 32) : Fin 3 → Nat :=
  let c0_i32_34 : BitVec 32 := 0#32
  let c0_i32_35 : BitVec 32 := 0#32
  ![v26.toNat, 0, 0]
def k0_off10 (v28 : BitVec 32) : Fin 2 → Nat :=
  let c0_i32_6 : BitVec 32 := 0#32
  ![0, v28.toNat]
def k0_off11 (v28 : BitVec 32) : Fin 3 → Nat :=
  let c0_i32_7 : BitVec 32 := 0#32
  let c0_i32_8 : BitVec 32 := 0#32
  ![v28.toNat, 0, 0]
def k0_off12 (v26 : BitVec 32) : Fin 3 → Nat :=
  let c0_i32_9 : BitVec 32 := 0#32
  let c0_i32_10 : BitVec 32 := 0#32
  ![v26.toNat, 0, 0]
def k0_off13 (v28 : BitVec 32) : Fin 2 → Nat :=
  let c1_i32_11 : BitVec 32 := 1#32
  ![1, v28.toNat]
def k0_off14 (v28 : BitVec 32) : Fin 3 → Nat :=
  let c0_i32_12 : BitVec 32 := 0#32
  let c0_i32_13 : BitVec 32 := 0#32
  ![v28.toNat, 0, 0]
def k0_off15 (v26 : BitVec 32) : Fin 3 → Nat :=
  let c0_i32_14 : BitVec 32 := 0#32
  let c0_i32_15 : BitVec 32 := 0#32
  ![v26.toNat, 0, 0]

def k0_chk2 (i : grid0.Coords) (v0 : BitVec 32) (v4 : BitVec 32) (v7 : BitVec 32) (v26 : BitVec 32) : Prop :=
  (∀ (k0_h1 : k0_cond1 i v0 v4 v7 = 1#1), ∀ (k0_h2 : k0_cond2 i = 1#1), ∀ a, (k0_off6 v26) a + S1x1024x2048.size a ≤ S32x1024x2048.size a) ∧
  (∀ (k0_h1 : k0_cond1 i v0 v4 v7 = 1#1), ∀ (k0_h2 : k0_cond2 i = 1#1), ∀ a, (k0_off9 v26) a + S1x1024x1024.size a ≤ S32x1024x1024.size a) ∧
  (∀ (k0_h1 : k0_cond1 i v0 v4 v7 = 1#1), ∀ a, (k0_off12 v26) a + S1x1024x2048.size a ≤ S32x1024x2048.size a) ∧
  (∀ (k0_h1 : k0_cond1 i v0 v4 v7 = 1#1), ∀ a, (k0_off15 v26) a + S1x1024x1024.size a ≤ S32x1024x1024.size a)
theorem k0_off6_inb : ∀ (i : grid0.Coords) (v0 : BitVec 32) (v4 : BitVec 32) (v7 : BitVec 32) (v26 : BitVec 32) (k0_hw2 : k0_chk2 i v0 v4 v7 v26), ∀ (k0_h1 : k0_cond1 i v0 v4 v7 = 1#1), ∀ (k0_h2 : k0_cond2 i = 1#1), ∀ a, (k0_off6 v26) a + S1x1024x2048.size a ≤ S32x1024x2048.size a := fun i v0 v4 v7 v26 k0_hw2 k0_h1 k0_h2 => k0_hw2.1 k0_h1 k0_h2
theorem k0_off9_inb : ∀ (i : grid0.Coords) (v0 : BitVec 32) (v4 : BitVec 32) (v7 : BitVec 32) (v26 : BitVec 32) (k0_hw2 : k0_chk2 i v0 v4 v7 v26), ∀ (k0_h1 : k0_cond1 i v0 v4 v7 = 1#1), ∀ (k0_h2 : k0_cond2 i = 1#1), ∀ a, (k0_off9 v26) a + S1x1024x1024.size a ≤ S32x1024x1024.size a := fun i v0 v4 v7 v26 k0_hw2 k0_h1 k0_h2 => k0_hw2.2.1 k0_h1 k0_h2
theorem k0_off12_inb : ∀ (i : grid0.Coords) (v0 : BitVec 32) (v4 : BitVec 32) (v7 : BitVec 32) (v26 : BitVec 32) (k0_hw2 : k0_chk2 i v0 v4 v7 v26), ∀ (k0_h1 : k0_cond1 i v0 v4 v7 = 1#1), ∀ a, (k0_off12 v26) a + S1x1024x2048.size a ≤ S32x1024x2048.size a := fun i v0 v4 v7 v26 k0_hw2 k0_h1 => k0_hw2.2.2.1 k0_h1
theorem k0_off15_inb : ∀ (i : grid0.Coords) (v0 : BitVec 32) (v4 : BitVec 32) (v7 : BitVec 32) (v26 : BitVec 32) (k0_hw2 : k0_chk2 i v0 v4 v7 v26), ∀ (k0_h1 : k0_cond1 i v0 v4 v7 = 1#1), ∀ a, (k0_off15 v26) a + S1x1024x1024.size a ≤ S32x1024x1024.size a := fun i v0 v4 v7 v26 k0_hw2 k0_h1 => k0_hw2.2.2.2 k0_h1

def k0_off16 (v28 : BitVec 32) : Fin 3 → Nat :=
  let v44 : Index := Scalar.indexCast v28
  let c0_16 : Index := 0#32
  let c0_17 : Index := 0#32
  ![v44.toNat, 0, 0]
def k0_off17 (v28 : BitVec 32) : Fin 3 → Nat :=
  let v51 : Index := Scalar.indexCast v28
  let c0_20 : Index := 0#32
  let c0_21 : Index := 0#32
  ![v51.toNat, 0, 0]

def k0_chk1 (i : grid0.Coords) (v0 : BitVec 32) (v4 : BitVec 32) (v7 : BitVec 32) (v28 : BitVec 32) : Prop :=
  (∀ (k0_h1 : k0_cond1 i v0 v4 v7 = 1#1), ∀ (k0_h2 : k0_cond2 i = 1#1), ∀ a, (k0_off4 v28) a + S1x1.size a ≤ S2x2.size a) ∧
  (∀ (k0_h1 : k0_cond1 i v0 v4 v7 = 1#1), ∀ (k0_h2 : k0_cond2 i = 1#1), ∀ a, (k0_off5 v28) a + S1x1024x2048.size a ≤ S2x1024x2048.size a) ∧
  (∀ (k0_h1 : k0_cond1 i v0 v4 v7 = 1#1), ∀ (k0_h2 : k0_cond2 i = 1#1), ∀ a, (k0_off7 v28) a + S1x1.size a ≤ S2x2.size a) ∧
  (∀ (k0_h1 : k0_cond1 i v0 v4 v7 = 1#1), ∀ (k0_h2 : k0_cond2 i = 1#1), ∀ a, (k0_off8 v28) a + S1x1024x1024.size a ≤ S2x1024x1024.size a) ∧
  (∀ (k0_h1 : k0_cond1 i v0 v4 v7 = 1#1), ∀ a, (k0_off10 v28) a + S1x1.size a ≤ S2x2.size a) ∧
  (∀ (k0_h1 : k0_cond1 i v0 v4 v7 = 1#1), ∀ a, (k0_off11 v28) a + S1x1024x2048.size a ≤ S2x1024x2048.size a) ∧
  (∀ (k0_h1 : k0_cond1 i v0 v4 v7 = 1#1), ∀ a, (k0_off13 v28) a + S1x1.size a ≤ S2x2.size a) ∧
  (∀ (k0_h1 : k0_cond1 i v0 v4 v7 = 1#1), ∀ a, (k0_off14 v28) a + S1x1024x1024.size a ≤ S2x1024x1024.size a) ∧
  (∀ (k0_h1 : k0_cond1 i v0 v4 v7 = 1#1), ∀ a, (k0_off16 v28) a + S1x1024x2048.size a ≤ S2x1024x2048.size a) ∧
  (∀ (k0_h1 : k0_cond1 i v0 v4 v7 = 1#1), ∀ a, (k0_off17 v28) a + S1x1024x1024.size a ≤ S2x1024x1024.size a)
theorem k0_off4_inb : ∀ (i : grid0.Coords) (v0 : BitVec 32) (v4 : BitVec 32) (v7 : BitVec 32) (v28 : BitVec 32) (k0_hw1 : k0_chk1 i v0 v4 v7 v28), ∀ (k0_h1 : k0_cond1 i v0 v4 v7 = 1#1), ∀ (k0_h2 : k0_cond2 i = 1#1), ∀ a, (k0_off4 v28) a + S1x1.size a ≤ S2x2.size a := fun i v0 v4 v7 v28 k0_hw1 k0_h1 k0_h2 => k0_hw1.1 k0_h1 k0_h2
theorem k0_off5_inb : ∀ (i : grid0.Coords) (v0 : BitVec 32) (v4 : BitVec 32) (v7 : BitVec 32) (v28 : BitVec 32) (k0_hw1 : k0_chk1 i v0 v4 v7 v28), ∀ (k0_h1 : k0_cond1 i v0 v4 v7 = 1#1), ∀ (k0_h2 : k0_cond2 i = 1#1), ∀ a, (k0_off5 v28) a + S1x1024x2048.size a ≤ S2x1024x2048.size a := fun i v0 v4 v7 v28 k0_hw1 k0_h1 k0_h2 => k0_hw1.2.1 k0_h1 k0_h2
theorem k0_off7_inb : ∀ (i : grid0.Coords) (v0 : BitVec 32) (v4 : BitVec 32) (v7 : BitVec 32) (v28 : BitVec 32) (k0_hw1 : k0_chk1 i v0 v4 v7 v28), ∀ (k0_h1 : k0_cond1 i v0 v4 v7 = 1#1), ∀ (k0_h2 : k0_cond2 i = 1#1), ∀ a, (k0_off7 v28) a + S1x1.size a ≤ S2x2.size a := fun i v0 v4 v7 v28 k0_hw1 k0_h1 k0_h2 => k0_hw1.2.2.1 k0_h1 k0_h2
theorem k0_off8_inb : ∀ (i : grid0.Coords) (v0 : BitVec 32) (v4 : BitVec 32) (v7 : BitVec 32) (v28 : BitVec 32) (k0_hw1 : k0_chk1 i v0 v4 v7 v28), ∀ (k0_h1 : k0_cond1 i v0 v4 v7 = 1#1), ∀ (k0_h2 : k0_cond2 i = 1#1), ∀ a, (k0_off8 v28) a + S1x1024x1024.size a ≤ S2x1024x1024.size a := fun i v0 v4 v7 v28 k0_hw1 k0_h1 k0_h2 => k0_hw1.2.2.2.1 k0_h1 k0_h2
theorem k0_off10_inb : ∀ (i : grid0.Coords) (v0 : BitVec 32) (v4 : BitVec 32) (v7 : BitVec 32) (v28 : BitVec 32) (k0_hw1 : k0_chk1 i v0 v4 v7 v28), ∀ (k0_h1 : k0_cond1 i v0 v4 v7 = 1#1), ∀ a, (k0_off10 v28) a + S1x1.size a ≤ S2x2.size a := fun i v0 v4 v7 v28 k0_hw1 k0_h1 => k0_hw1.2.2.2.2.1 k0_h1
theorem k0_off11_inb : ∀ (i : grid0.Coords) (v0 : BitVec 32) (v4 : BitVec 32) (v7 : BitVec 32) (v28 : BitVec 32) (k0_hw1 : k0_chk1 i v0 v4 v7 v28), ∀ (k0_h1 : k0_cond1 i v0 v4 v7 = 1#1), ∀ a, (k0_off11 v28) a + S1x1024x2048.size a ≤ S2x1024x2048.size a := fun i v0 v4 v7 v28 k0_hw1 k0_h1 => k0_hw1.2.2.2.2.2.1 k0_h1
theorem k0_off13_inb : ∀ (i : grid0.Coords) (v0 : BitVec 32) (v4 : BitVec 32) (v7 : BitVec 32) (v28 : BitVec 32) (k0_hw1 : k0_chk1 i v0 v4 v7 v28), ∀ (k0_h1 : k0_cond1 i v0 v4 v7 = 1#1), ∀ a, (k0_off13 v28) a + S1x1.size a ≤ S2x2.size a := fun i v0 v4 v7 v28 k0_hw1 k0_h1 => k0_hw1.2.2.2.2.2.2.1 k0_h1
theorem k0_off14_inb : ∀ (i : grid0.Coords) (v0 : BitVec 32) (v4 : BitVec 32) (v7 : BitVec 32) (v28 : BitVec 32) (k0_hw1 : k0_chk1 i v0 v4 v7 v28), ∀ (k0_h1 : k0_cond1 i v0 v4 v7 = 1#1), ∀ a, (k0_off14 v28) a + S1x1024x1024.size a ≤ S2x1024x1024.size a := fun i v0 v4 v7 v28 k0_hw1 k0_h1 => k0_hw1.2.2.2.2.2.2.2.1 k0_h1
theorem k0_off16_inb : ∀ (i : grid0.Coords) (v0 : BitVec 32) (v4 : BitVec 32) (v7 : BitVec 32) (v28 : BitVec 32) (k0_hw1 : k0_chk1 i v0 v4 v7 v28), ∀ (k0_h1 : k0_cond1 i v0 v4 v7 = 1#1), ∀ a, (k0_off16 v28) a + S1x1024x2048.size a ≤ S2x1024x2048.size a := fun i v0 v4 v7 v28 k0_hw1 k0_h1 => k0_hw1.2.2.2.2.2.2.2.2.1 k0_h1
theorem k0_off17_inb : ∀ (i : grid0.Coords) (v0 : BitVec 32) (v4 : BitVec 32) (v7 : BitVec 32) (v28 : BitVec 32) (k0_hw1 : k0_chk1 i v0 v4 v7 v28), ∀ (k0_h1 : k0_cond1 i v0 v4 v7 = 1#1), ∀ a, (k0_off17 v28) a + S1x1024x1024.size a ≤ S2x1024x1024.size a := fun i v0 v4 v7 v28 k0_hw1 k0_h1 => k0_hw1.2.2.2.2.2.2.2.2.2 k0_h1

def k0_off18 (i : grid0.Coords) : Fin 1 → Nat :=
  let arg0 : BitVec 32 := BitVec.ofNat 32 (i 0).val
  let v58 : Index := Scalar.indexCast arg0
  ![v58.toNat]
def k0_off19 (v28 : BitVec 32) : Fin 2 → Nat :=
  let c0_i32_27 : BitVec 32 := 0#32
  let c1_i32_26 : BitVec 32 := 1#32
  let v63 : BitVec 32 := Scalar.subi c1_i32_26 v28
  ![0, v63.toNat]
def k0_cond3 (v59 : BitVec 32) : BitVec 1 :=
  let c0_i32_24 : BitVec 32 := 0#32
  let v60 : BitVec 1 := Scalar.cmpi .sge v59 c0_i32_24
  let v61 : BitVec 32 := Scalar.extui v60
  let c0_i32_25 : BitVec 32 := 0#32
  let v62 : BitVec 1 := Scalar.cmpi .ne v61 c0_i32_25
  v62

def k0_off20 (v28 : BitVec 32) : Fin 3 → Nat :=
  let c1_i32_26 : BitVec 32 := 1#32
  let v63 : BitVec 32 := Scalar.subi c1_i32_26 v28
  let c0_i32_28 : BitVec 32 := 0#32
  let c0_i32_29 : BitVec 32 := 0#32
  ![v63.toNat, 0, 0]
def k0_off21 (v59 : BitVec 32) : Fin 3 → Nat :=
  let c0_i32_30 : BitVec 32 := 0#32
  let c0_i32_31 : BitVec 32 := 0#32
  ![v59.toNat, 0, 0]
def k0_off22 (v28 : BitVec 32) : Fin 2 → Nat :=
  let c1_i32_32 : BitVec 32 := 1#32
  let c1_i32_26 : BitVec 32 := 1#32
  let v63 : BitVec 32 := Scalar.subi c1_i32_26 v28
  ![1, v63.toNat]
def k0_off23 (v28 : BitVec 32) : Fin 3 → Nat :=
  let c1_i32_26 : BitVec 32 := 1#32
  let v63 : BitVec 32 := Scalar.subi c1_i32_26 v28
  let c0_i32_33 : BitVec 32 := 0#32
  let c0_i32_34 : BitVec 32 := 0#32
  ![v63.toNat, 0, 0]
def k0_off24 (v59 : BitVec 32) : Fin 3 → Nat :=
  let c0_i32_35 : BitVec 32 := 0#32
  let c0_i32_36 : BitVec 32 := 0#32
  ![v59.toNat, 0, 0]

def k0_chk3 (i : grid0.Coords) (v0 : BitVec 32) (v4 : BitVec 32) (v7 : BitVec 32) (v28 : BitVec 32) (v59 : BitVec 32) : Prop :=
  (∀ (k0_h1 : k0_cond1 i v0 v4 v7 = 1#1), ∀ (k0_h3 : k0_cond3 v59 = 1#1), ∀ a, (k0_off19 v28) a + S1x1.size a ≤ S2x2.size a) ∧
  (∀ (k0_h1 : k0_cond1 i v0 v4 v7 = 1#1), ∀ (k0_h3 : k0_cond3 v59 = 1#1), ∀ a, (k0_off20 v28) a + S1x1024x2048.size a ≤ S2x1024x2048.size a) ∧
  (∀ (k0_h1 : k0_cond1 i v0 v4 v7 = 1#1), ∀ (k0_h3 : k0_cond3 v59 = 1#1), ∀ a, (k0_off21 v59) a + S1x1024x2048.size a ≤ S32x1024x2048.size a) ∧
  (∀ (k0_h1 : k0_cond1 i v0 v4 v7 = 1#1), ∀ (k0_h3 : k0_cond3 v59 = 1#1), ∀ a, (k0_off22 v28) a + S1x1.size a ≤ S2x2.size a) ∧
  (∀ (k0_h1 : k0_cond1 i v0 v4 v7 = 1#1), ∀ (k0_h3 : k0_cond3 v59 = 1#1), ∀ a, (k0_off23 v28) a + S1x1024x1024.size a ≤ S2x1024x1024.size a) ∧
  (∀ (k0_h1 : k0_cond1 i v0 v4 v7 = 1#1), ∀ (k0_h3 : k0_cond3 v59 = 1#1), ∀ a, (k0_off24 v59) a + S1x1024x1024.size a ≤ S32x1024x1024.size a)
theorem k0_off19_inb : ∀ (i : grid0.Coords) (v0 : BitVec 32) (v4 : BitVec 32) (v7 : BitVec 32) (v28 : BitVec 32) (v59 : BitVec 32) (k0_hw3 : k0_chk3 i v0 v4 v7 v28 v59), ∀ (k0_h1 : k0_cond1 i v0 v4 v7 = 1#1), ∀ (k0_h3 : k0_cond3 v59 = 1#1), ∀ a, (k0_off19 v28) a + S1x1.size a ≤ S2x2.size a := fun i v0 v4 v7 v28 v59 k0_hw3 k0_h1 k0_h3 => k0_hw3.1 k0_h1 k0_h3
theorem k0_off20_inb : ∀ (i : grid0.Coords) (v0 : BitVec 32) (v4 : BitVec 32) (v7 : BitVec 32) (v28 : BitVec 32) (v59 : BitVec 32) (k0_hw3 : k0_chk3 i v0 v4 v7 v28 v59), ∀ (k0_h1 : k0_cond1 i v0 v4 v7 = 1#1), ∀ (k0_h3 : k0_cond3 v59 = 1#1), ∀ a, (k0_off20 v28) a + S1x1024x2048.size a ≤ S2x1024x2048.size a := fun i v0 v4 v7 v28 v59 k0_hw3 k0_h1 k0_h3 => k0_hw3.2.1 k0_h1 k0_h3
theorem k0_off21_inb : ∀ (i : grid0.Coords) (v0 : BitVec 32) (v4 : BitVec 32) (v7 : BitVec 32) (v28 : BitVec 32) (v59 : BitVec 32) (k0_hw3 : k0_chk3 i v0 v4 v7 v28 v59), ∀ (k0_h1 : k0_cond1 i v0 v4 v7 = 1#1), ∀ (k0_h3 : k0_cond3 v59 = 1#1), ∀ a, (k0_off21 v59) a + S1x1024x2048.size a ≤ S32x1024x2048.size a := fun i v0 v4 v7 v28 v59 k0_hw3 k0_h1 k0_h3 => k0_hw3.2.2.1 k0_h1 k0_h3
theorem k0_off22_inb : ∀ (i : grid0.Coords) (v0 : BitVec 32) (v4 : BitVec 32) (v7 : BitVec 32) (v28 : BitVec 32) (v59 : BitVec 32) (k0_hw3 : k0_chk3 i v0 v4 v7 v28 v59), ∀ (k0_h1 : k0_cond1 i v0 v4 v7 = 1#1), ∀ (k0_h3 : k0_cond3 v59 = 1#1), ∀ a, (k0_off22 v28) a + S1x1.size a ≤ S2x2.size a := fun i v0 v4 v7 v28 v59 k0_hw3 k0_h1 k0_h3 => k0_hw3.2.2.2.1 k0_h1 k0_h3
theorem k0_off23_inb : ∀ (i : grid0.Coords) (v0 : BitVec 32) (v4 : BitVec 32) (v7 : BitVec 32) (v28 : BitVec 32) (v59 : BitVec 32) (k0_hw3 : k0_chk3 i v0 v4 v7 v28 v59), ∀ (k0_h1 : k0_cond1 i v0 v4 v7 = 1#1), ∀ (k0_h3 : k0_cond3 v59 = 1#1), ∀ a, (k0_off23 v28) a + S1x1024x1024.size a ≤ S2x1024x1024.size a := fun i v0 v4 v7 v28 v59 k0_hw3 k0_h1 k0_h3 => k0_hw3.2.2.2.2.1 k0_h1 k0_h3
theorem k0_off24_inb : ∀ (i : grid0.Coords) (v0 : BitVec 32) (v4 : BitVec 32) (v7 : BitVec 32) (v28 : BitVec 32) (v59 : BitVec 32) (k0_hw3 : k0_chk3 i v0 v4 v7 v28 v59), ∀ (k0_h1 : k0_cond1 i v0 v4 v7 = 1#1), ∀ (k0_h3 : k0_cond3 v59 = 1#1), ∀ a, (k0_off24 v59) a + S1x1024x1024.size a ≤ S32x1024x1024.size a := fun i v0 v4 v7 v28 v59 k0_hw3 k0_h1 k0_h3 => k0_hw3.2.2.2.2.2 k0_h1 k0_h3

def k0_off25 (i : grid0.Coords) : Fin 1 → Nat :=
  let arg0 : BitVec 32 := BitVec.ofNat 32 (i 0).val
  let v15 : Index := Scalar.indexCast arg0
  ![v15.toNat]
def k0_cond4 (i : grid0.Coords) (v0 : BitVec 32) (v16 : BitVec 32) : BitVec 1 :=
  let arg0 : BitVec 32 := BitVec.ofNat 32 (i 0).val
  let v14 : BitVec 1 := Scalar.cmpi .slt arg0 v0
  let c256_i32 : BitVec 32 := 256#32
  let v17 : BitVec 1 := Scalar.cmpi .sle v16 c256_i32
  let v_true : BitVec 1 := 1#1
  let v18 : BitVec 1 := Scalar.xori v17 v_true
  let v19 : BitVec 1 := Scalar.andi v14 v18
  let v20 : BitVec 32 := Scalar.extui v19
  let c0_i32_2 : BitVec 32 := 0#32
  let v21 : BitVec 1 := Scalar.cmpi .ne v20 c0_i32_2
  v21

def k0_cond5 (i : grid0.Coords) (v0 : BitVec 32) (v16 : BitVec 32) : BitVec 1 :=
  let arg0 : BitVec 32 := BitVec.ofNat 32 (i 0).val
  let v14 : BitVec 1 := Scalar.cmpi .slt arg0 v0
  let c256_i32 : BitVec 32 := 256#32
  let v17 : BitVec 1 := Scalar.cmpi .sle v16 c256_i32
  let v22 : BitVec 1 := Scalar.andi v14 v17
  let v23 : BitVec 32 := Scalar.extui v22
  let c0_i32_3 : BitVec 32 := 0#32
  let v24 : BitVec 1 := Scalar.cmpi .ne v23 c0_i32_3
  v24

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S32 : Shape := ⟨1, ![32]⟩
abbrev S655360x128 : Shape := ⟨2, ![655360, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S81920x1024 : Shape := ⟨2, ![81920, 1024]⟩
abbrev S_ : Shape := ⟨0, ![]⟩
abbrev S81920 : Shape := ⟨1, ![81920]⟩
abbrev S1x32 : Shape := ⟨2, ![1, 32]⟩
abbrev S81920x1 : Shape := ⟨2, ![81920, 1]⟩
abbrev S81920x32 : Shape := ⟨2, ![81920, 32]⟩
abbrev S81920x1024x2048 : Shape := ⟨3, ![81920, 1024, 2048]⟩
abbrev S81920x2048 : Shape := ⟨2, ![81920, 2048]⟩
abbrev S81920x1024x1024 : Shape := ⟨3, ![81920, 1024, 1024]⟩

abbrev nBuf : Space → Nat
  | .hbm => 117
  | .vmem => 0
  | .smem => 0
  | _ => 0

abbrev bufTy : (tb : Table) → Fin (tcTables nBuf tb) → BufTy
  | .hbm, ⟨0, _⟩ => ⟨S32, .i32⟩
  | .hbm, ⟨1, _⟩ => ⟨S655360x128, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S81920x1024, .f32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i1⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S81920, .i32⟩
  | .hbm, ⟨36, _⟩ => ⟨S1x32, .i32⟩
  | .hbm, ⟨37, _⟩ => ⟨S81920x1, .i32⟩
  | .hbm, ⟨38, _⟩ => ⟨S81920x32, .i32⟩
  | .hbm, ⟨39, _⟩ => ⟨S81920x32, .i32⟩
  | .hbm, ⟨40, _⟩ => ⟨S81920x32, .i1⟩
  | .hbm, ⟨41, _⟩ => ⟨S81920x32, .i32⟩
  | .hbm, ⟨42, _⟩ => ⟨S_, .i32⟩
  | .hbm, ⟨43, _⟩ => ⟨S81920, .i32⟩
  | .hbm, ⟨44, _⟩ => ⟨S_, .i32⟩
  | .hbm, ⟨45, _⟩ => ⟨S81920, .i32⟩
  | .hbm, ⟨46, _⟩ => ⟨S81920, .i32⟩
  | .hbm, ⟨47, _⟩ => ⟨S_, .i32⟩
  | .hbm, ⟨48, _⟩ => ⟨S81920, .i32⟩
  | .hbm, ⟨49, _⟩ => ⟨S81920, .i1⟩
  | .hbm, ⟨50, _⟩ => ⟨S_, .i32⟩
  | .hbm, ⟨51, _⟩ => ⟨S81920, .i32⟩
  | .hbm, ⟨52, _⟩ => ⟨S81920, .i32⟩
  | .hbm, ⟨53, _⟩ => ⟨S81920, .i32⟩
  | .hbm, ⟨54, _⟩ => ⟨S81920x1, .i32⟩
  | .hbm, ⟨55, _⟩ => ⟨S81920x1024x2048, .f32⟩
  | .hbm, ⟨56, _⟩ => ⟨S81920x2048, .f32⟩
  | .hbm, ⟨57, _⟩ => ⟨S_, .i32⟩
  | .hbm, ⟨58, _⟩ => ⟨S81920, .i32⟩
  | .hbm, ⟨59, _⟩ => ⟨S81920, .i1⟩
  | .hbm, ⟨60, _⟩ => ⟨S_, .i32⟩
  | .hbm, ⟨61, _⟩ => ⟨S81920, .i32⟩
  | .hbm, ⟨62, _⟩ => ⟨S81920, .i32⟩
  | .hbm, ⟨63, _⟩ => ⟨S81920, .i32⟩
  | .hbm, ⟨64, _⟩ => ⟨S81920x1, .i32⟩
  | .hbm, ⟨65, _⟩ => ⟨S81920x2048, .f32⟩
  | .hbm, ⟨66, _⟩ => ⟨S81920x2048, .f32⟩
  | .hbm, ⟨67, _⟩ => ⟨S81920x1024, .f32⟩
  | .hbm, ⟨68, _⟩ => ⟨S81920x1024, .f32⟩
  | .hbm, ⟨69, _⟩ => ⟨S_, .f32⟩
  | .hbm, ⟨70, _⟩ => ⟨S81920x1024, .f32⟩
  | .hbm, ⟨71, _⟩ => ⟨S81920x1024, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S81920x1024, .f32⟩
  | .hbm, ⟨76, _⟩ => ⟨S81920x1024, .f32⟩
  | .hbm, ⟨77, _⟩ => ⟨S_, .f32⟩
  | .hbm, ⟨78, _⟩ => ⟨S81920x1024, .f32⟩
  | .hbm, ⟨79, _⟩ => ⟨S81920x1024, .f32⟩
  | .hbm, ⟨80, _⟩ => ⟨S_, .f32⟩
  | .hbm, ⟨81, _⟩ => ⟨S81920x1024, .f32⟩
  | .hbm, ⟨82, _⟩ => ⟨S81920x1024, .f32⟩
  | .hbm, ⟨83, _⟩ => ⟨S81920x1024, .f32⟩
  | .hbm, ⟨84, _⟩ => ⟨S81920x1024, .f32⟩
  | .hbm, ⟨85, _⟩ => ⟨S_, .f32⟩
  | .hbm, ⟨86, _⟩ => ⟨S81920x1024, .f32⟩
  | .hbm, ⟨87, _⟩ => ⟨S81920x1024, .f32⟩
  | .hbm, ⟨88, _⟩ => ⟨S_, .f32⟩
  | .hbm, ⟨89, _⟩ => ⟨S81920x1024, .f32⟩
  | .hbm, ⟨90, _⟩ => ⟨S81920x1024, .f32⟩
  | .hbm, ⟨91, _⟩ => ⟨S81920x1024, .f32⟩
  | .hbm, ⟨92, _⟩ => ⟨S_, .f32⟩
  | .hbm, ⟨93, _⟩ => ⟨S81920x1024, .f32⟩
  | .hbm, ⟨94, _⟩ => ⟨S81920x1024, .f32⟩
  | .hbm, ⟨95, _⟩ => ⟨S81920x1024, .f32⟩
  | .hbm, ⟨96, _⟩ => ⟨S_, .i32⟩
  | .hbm, ⟨97, _⟩ => ⟨S81920, .i32⟩
  | .hbm, ⟨98, _⟩ => ⟨S81920, .i1⟩
  | .hbm, ⟨99, _⟩ => ⟨S_, .i32⟩
  | .hbm, ⟨100, _⟩ => ⟨S81920, .i32⟩
  | .hbm, ⟨101, _⟩ => ⟨S81920, .i32⟩
  | .hbm, ⟨102, _⟩ => ⟨S81920, .i32⟩
  | .hbm, ⟨103, _⟩ => ⟨S81920x1, .i32⟩
  | .hbm, ⟨104, _⟩ => ⟨S81920x1024x1024, .f32⟩
  | .hbm, ⟨105, _⟩ => ⟨S81920x1024, .f32⟩
  | .hbm, ⟨106, _⟩ => ⟨S_, .i32⟩
  | .hbm, ⟨107, _⟩ => ⟨S81920, .i32⟩
  | .hbm, ⟨108, _⟩ => ⟨S81920, .i1⟩
  | .hbm, ⟨109, _⟩ => ⟨S_, .i32⟩
  | .hbm, ⟨110, _⟩ => ⟨S81920, .i32⟩
  | .hbm, ⟨111, _⟩ => ⟨S81920, .i32⟩
  | .hbm, ⟨112, _⟩ => ⟨S81920, .i32⟩
  | .hbm, ⟨113, _⟩ => ⟨S81920x1, .i32⟩
  | .hbm, ⟨114, _⟩ => ⟨S81920x1024, .f32⟩
  | .hbm, ⟨115, _⟩ => ⟨S81920x1024, .f32⟩
  | .hbm, ⟨116, _⟩ => ⟨S655360x128, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v3 : Ref sig .tc := ⟨.hbm, 27, rfl⟩
abbrev main_c_1 : Ref sig .tc := ⟨.hbm, 28, rfl⟩
abbrev main_v4 : Ref sig .tc := ⟨.hbm, 29, rfl⟩
abbrev main_v5 : Ref sig .tc := ⟨.hbm, 30, rfl⟩
abbrev main_call1_call0_c : Ref sig .tc := ⟨.hbm, 31, rfl⟩
abbrev main_call1_call0_v0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_2 : Ref sig .tc := ⟨.hbm, 42, rfl⟩
abbrev main_v15 : Ref sig .tc := ⟨.hbm, 43, rfl⟩
abbrev main_c_3 : Ref sig .tc := ⟨.hbm, 44, rfl⟩
abbrev main_v16 : Ref sig .tc := ⟨.hbm, 45, rfl⟩
abbrev main_v17 : Ref sig .tc := ⟨.hbm, 46, rfl⟩
abbrev main_c_4 : Ref sig .tc := ⟨.hbm, 47, rfl⟩
abbrev main_v18 : Ref sig .tc := ⟨.hbm, 48, rfl⟩
abbrev main_v19 : Ref sig .tc := ⟨.hbm, 49, rfl⟩
abbrev main_c_5 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c_6 : Ref sig .tc := ⟨.hbm, 57, rfl⟩
abbrev main_v26 : Ref sig .tc := ⟨.hbm, 58, rfl⟩
abbrev main_v27 : Ref sig .tc := ⟨.hbm, 59, rfl⟩
abbrev main_c_7 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst : Ref sig .tc := ⟨.hbm, 69, rfl⟩
abbrev main_v36 : Ref sig .tc := ⟨.hbm, 70, rfl⟩
abbrev main_v37 : Ref sig .tc := ⟨.hbm, 71, rfl⟩
abbrev main_cst_8 : Ref sig .tc := ⟨.hbm, 72, rfl⟩
abbrev main_cst_9 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v38 : Ref sig .tc := ⟨.hbm, 79, rfl⟩
abbrev main_cst_10 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_cst_11 : Ref sig .tc := ⟨.hbm, 85, rfl⟩
abbrev main_v43 : Ref sig .tc := ⟨.hbm, 86, rfl⟩
abbrev main_v44 : Ref sig .tc := ⟨.hbm, 87, rfl⟩
abbrev main_cst_12 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_13 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_c_14 : Ref sig .tc := ⟨.hbm, 96, rfl⟩
abbrev main_v51 : Ref sig .tc := ⟨.hbm, 97, rfl⟩
abbrev main_v52 : Ref sig .tc := ⟨.hbm, 98, rfl⟩
abbrev main_c_15 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_c_16 : Ref sig .tc := ⟨.hbm, 106, rfl⟩
abbrev main_v59 : Ref sig .tc := ⟨.hbm, 107, rfl⟩
abbrev main_v60 : Ref sig .tc := ⟨.hbm, 108, rfl⟩
abbrev main_c_17 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩

abbrev nD : Nat := 1
abbrev τ : Topo := Topo.v7x

variable {F : FTy → Type} [FloatOps F]
-- ==== Proof.Setup.lean ====
/- The gather of the expert outputs' rows on the SparseCores: what the proof of the tile's run, of the launch and of
    the value share — the program as the launch theorem sees it, the resources, the slots of the two rings a tile
    keeps, the windows it moves, and the words the pipeline's loop carries from one trip to the next. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Collect

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources: the launch's handshakes and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The expert outputs' rows, the padded lists of row numbers, the rows collected. -/
abbrev yLoc (d : Dev nD) : Loc nD τ sig := (SparseCore.T d).loc main_arg0
abbrev iLoc (d : Dev nD) : Loc nD τ sig := (SparseCore.T d).loc main_v1
abbrev oLoc (d : Dev nD) : Loc nD τ sig := (SparseCore.T d).loc main_v2

abbrev yV : Memref sig .scVector .hbm S81920x8x128 .f32 := Memref.whole main_arg0_scv
abbrev iV : Memref sig .scVector .hbm S256x128 .i32 := Memref.whole main_v1_scv
abbrev oV : Memref sig .scVector .hbm S8192x8x128 .f32 := Memref.whole main_v2_scv
abbrev lV : Memref sig .scVector .vmem S2x1x128 .i32 := Memref.whole cc0_scoped0
abbrev tV : Memref sig .scVector .vmem S2x32x8x128 .f32 := Memref.whole cc0_scoped2

/-! ## The tile -/

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The word `k` of a count carried by the loop. -/
abbrev W (k : ℕ) : BitVec 32 := BitVec.ofNat 32 k

theorem remui_two_lt (w : BitVec 32) : (Scalar.remui w 2#32).toNat < 2 := by
  unfold Scalar.remui IntOp.remui
  rw [if_neg (by decide), BitVec.toNat_umod]; exact Nat.mod_lt _ (by decide)

theorem off7_inb (w : BitVec 32) : ∀ a, k0_off7 w a + S1x1x128.size a ≤ S2x1x128.size a := by
  have := remui_two_lt w; intro a; fin_cases a
  · show (Scalar.remui w 2#32).toNat + 1 ≤ 2; omega
  · show 0 + 1 ≤ 1; omega
  · show 0 + 128 ≤ 128; omega
theorem off9_inb (w : BitVec 32) : ∀ a, k0_off9 w a + S1.size a ≤ S2.size a := by
  have := remui_two_lt w; intro a; fin_cases a
  show (Scalar.remui w 2#32).toNat + 1 ≤ 2; omega
theorem off12_inb (w : BitVec 32) : ∀ a, k0_off12 w a + S1x32x8x128.size a ≤ S2x32x8x128.size a := by
  have := remui_two_lt w; intro a; fin_cases a
  · show (Scalar.remui w 2#32).toNat + 1 ≤ 2; omega
  · show 0 + 32 ≤ 32; omega
  · show 0 + 8 ≤ 8; omega
  · show 0 + 128 ≤ 128; omega

/-- The slot of the ring of lists that count `w` names, and its semaphore; -/
abbrev iSl (w : BitVec 32) : Memref sig .scVector .vmem S1x128 .i32 :=
  ((lV).slice (Rect.unit (s := S2x1x128) (k0_off7 w) S1x1x128.size (off7_inb w)) (fun _ => rfl)).squeeze S1x128 squeezes_S1x1x128_S1x128
abbrev iSm (w : BitVec 32) : DmaSem sig := ((cc0_scoped1.slice (Rect.unit (s := S2) (k0_off9 w) S1.size (off9_inb w))).squeeze S_ squeezes_S1_S_).sem
/-- the slot of the ring of collected rows that count `w` names, and its semaphore. -/
abbrev tSl (w : BitVec 32) : Memref sig .scVector .vmem S32x8x128 .f32 :=
  ((tV).slice (Rect.unit (s := S2x32x8x128) (k0_off12 w) S1x32x8x128.size (off12_inb w)) (fun _ => rfl)).squeeze S32x8x128 squeezes_S1x32x8x128_S32x8x128
abbrev tSm (w : BitVec 32) : DmaSem sig := ((cc0_scoped3.slice (Rect.unit (s := S2) (k0_off9 w) S1.size (off9_inb w))).squeeze S_ squeezes_S1_S_).sem

/-- The same slots as the gathers spell them. -/
abbrev gI (w : BitVec 32) : Memref sig .scVector .vmem S1x128 .i32 :=
  ((lV).slice (Rect.unit (s := S2x1x128) (k0_off11 w) S1x1x128.size (off7_inb w)) (fun _ => rfl)).squeeze S1x128 squeezes_S1x1x128_S1x128
abbrev gT (w : BitVec 32) : Memref sig .scVector .vmem S32x8x128 .f32 :=
  ((tV).slice (Rect.unit (s := S2x32x8x128) (k0_off10 w) S1x32x8x128.size (off12_inb w)) (fun _ => rfl)).squeeze S32x8x128 squeezes_S1x32x8x128_S32x8x128
/-- The two slots before the leading one is dropped, and that they are the same elements. -/
abbrev gI' (w : BitVec 32) : Memref sig .scVector .vmem S1x1x128 .i32 :=
  (lV).slice (Rect.unit (s := S2x1x128) (k0_off11 w) S1x1x128.size (off7_inb w)) (fun _ => rfl)
abbrev gT' (w : BitVec 32) : Memref sig .scVector .vmem S1x32x8x128 .f32 :=
  (tV).slice (Rect.unit (s := S2x32x8x128) (k0_off10 w) S1x32x8x128.size (off12_inb w)) (fun _ => rfl)
theorem set_gI (w : BitVec 32) : (iSl w).view.set = (gI' w).view.set := View.set_reshape ..
theorem set_gT (w : BitVec 32) : (tSl w).view.set = (gT' w).view.set := View.set_reshape ..
/-- The list of 32 row numbers in a slot. -/
abbrev gL (w : BitVec 32) : Memref sig .scVector .vmem S32 .i32 :=
  ((gI w).slice (Rect.unit (s := S1x128) ![0, 0] S1x32.size inb_S1x128_S1x32_0_0) (fun _ => rfl)).squeeze S32 squeezes_S1x32_S32

/-- Two offsets that agree cut the same windows. -/
theorem iWin_congr {a b : Fin 2 → ℕ} (h : a = b) (ha hb) :
    (iV).slice (Rect.unit (s := S256x128) a S1x128.size ha) (fun _ => rfl) = (iV).slice (Rect.unit (s := S256x128) b S1x128.size hb) (fun _ => rfl) := by subst h; rfl
theorem oWin_congr {a b : Fin 3 → ℕ} (h : a = b) (ha hb) :
    (oV).slice (Rect.unit (s := S8192x8x128) a S32x8x128.size ha) (fun _ => rfl) = (oV).slice (Rect.unit (s := S8192x8x128) b S32x8x128.size hb) (fun _ => rfl) := by subst h; rfl

abbrev iWin (a : Fin 2 → ℕ) (ha : ∀ x, a x + S1x128.size x ≤ S256x128.size x) : Memref sig .scVector .hbm S1x128 .i32 :=
  (iV).slice (Rect.unit (s := S256x128) a S1x128.size ha) (fun _ => rfl)
abbrev oWin (a : Fin 3 → ℕ) (ha : ∀ x, a x + S32x8x128.size x ≤ S8192x8x128.size x) : Memref sig .scVector .hbm S32x8x128 .f32 :=
  (oV).slice (Rect.unit (s := S8192x8x128) a S32x8x128.size ha) (fun _ => rfl)

end Cert.Proof.Collect

end
-- ==== Proof.Trip.lean ====
/- One trip of the pipeline's loop on a tile. -/
module

public import proofs.«01_k».proof.Proof.Setup
public import Idealize.ShloMosaic.Lib.ViewIndex

@[expose] public section

noncomputable section

namespace Cert.Proof.Collect

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## What the four gathers of a window leave in a slot -/

/-- The rows of `fy` that the list `r` names, as a window of 32 rows. -/
def pick (fy : S81920x8x128.Idx → F .f32) (r : S1x128.Idx → BitVec 32) : S32x8x128.Idx → F .f32 := fun x =>
  fy (fun a => match a with
    | 0 => ⟨(r (fun b => match b with | 0 => ⟨0, Nat.one_pos⟩ | 1 => ⟨(x 0).val, lt_of_lt_of_le (x 0).isLt (by decide)⟩)).toNat % 81920, Nat.mod_lt _ (by decide)⟩
    | 1 => x 1
    | 2 => x 2)

abbrev gR (c : ℕ) (hc : ∀ a, (![0, c, 0] : Fin 3 → ℕ) a + S32x2x128.size a ≤ S32x8x128.size a) : Rect S32x8x128 :=
  Rect.unit (s := S32x8x128) ![0, c, 0] S32x2x128.size hc
abbrev gY (c : ℕ) (hc : ∀ a, (![0, c, 0] : Fin 3 → ℕ) a + S81920x2x128.size a ≤ S81920x8x128.size a) : Memref sig .scVector .hbm S81920x2x128 .f32 :=
  (yV).slice (Rect.unit (s := S81920x8x128) ![0, c, 0] S81920x2x128.size hc) (fun _ => rfl)

/-- Four writes of two sublanes each, each agreeing with `G`, leave `G` in the slot. -/
theorem stage_read (v : View sig .scVector .vmem S32x8x128 .f32) (g : v.ty.Contents (Elt F)) (G : S32x8x128.Idx → F .f32)
    (p0 p1 p2 p3 : S32x2x128.Idx → F .f32) (h0 h1 h2 h3)
    (e0 : ∀ x, p0 x = G ((gR 0 h0).emb x)) (e1 : ∀ x, p1 x = G ((gR 2 h1).emb x)) (e2 : ∀ x, p2 x = G ((gR 4 h2).emb x)) (e3 : ∀ x, p3 x = G ((gR 6 h3).emb x)) :
    v.read (Elt F) ((v.slice (gR 6 h3)).write (Elt F) ((v.slice (gR 4 h2)).write (Elt F) ((v.slice (gR 2 h1)).write (Elt F)
      ((v.slice (gR 0 h0)).write (Elt F) g p0 Finset.univ) p1 Finset.univ) p2 Finset.univ) p3 Finset.univ) = G := by
  funext y
  refine View.read_writes_apply_of_pieces v g G [⟨gR 6 h3, p3⟩, ⟨gR 4 h2, p2⟩, ⟨gR 2 h1, p1⟩, ⟨gR 0 h0, p0⟩] ?_ y ?_
  · intro p hp
    simp only [List.mem_cons, List.not_mem_nil, or_false] at hp
    rcases hp with rfl | rfl | rfl | rfl
    · exact e3
    · exact e2
    · exact e1
    · exact e0
  · have hy0 : (y 0).val < 32 := (y 0).isLt
    have hy1 : (y 1).val < 8 := (y 1).isLt
    have hy2 : (y 2).val < 128 := (y 2).isLt
    have key : ∀ (c : ℕ) (hc), c ≤ (y 1).val → (y 1).val < c + 2 → y ∈ (gR c hc).set := by
      intro c hc ha hb
      rw [Rect.mem_set_unit]; intro a; fin_cases a
      · exact ⟨Nat.zero_le _, by show (y 0).val < 0 + 32; omega⟩
      · exact ⟨ha, hb⟩
      · exact ⟨Nat.zero_le _, by show (y 2).val < 0 + 128; omega⟩
    by_cases c3 : 6 ≤ (y 1).val
    · exact ⟨_, List.mem_cons_self, key 6 h3 c3 (by omega)⟩
    by_cases c2 : 4 ≤ (y 1).val
    · exact ⟨⟨gR 4 h2, p2⟩, by simp, key 4 h2 c2 (by omega)⟩
    by_cases c1 : 2 ≤ (y 1).val
    · exact ⟨⟨gR 2 h1, p1⟩, by simp, key 2 h1 c1 (by omega)⟩
    · exact ⟨⟨gR 0 h0, p0⟩, by simp, key 0 h0 (Nat.zero_le _) (by omega)⟩

section
variable (d : Dev nD) (L : grid0.Coords)

/-- Entry `k` of a list of 32 is the entry `(0, k)` of its slot. -/
theorem list_emb : ∀ k : Fin 32, ∀ a, (((Rect.unit (s := S1x128) ![0, 0] S1x32.size inb_S1x128_S1x32_0_0).emb
    (Shape.reshapeEquiv squeezes_S1x32_S32.numel_eq (S32.rowMajor.symm (k.cast (by decide))))) a).val = (![0, k.val] : Fin 2 → ℕ) a := by decide +kernel

/-- What a gather of the sublanes `c`, `c + 1` lands, by the rows of the list in the slot. -/
theorem pay_eq (w : BitVec 32) (fy : Buf (Elt F) (yLoc d)) (l : Buf (Elt F) ((VT d L).loc cc0_scoped0)) (c : ℕ) (hc) (hc')
    (hn : S32.numel = S32x2x128.size gathers_S81920x2x128_S32x2x128.axis')
    (hin : ∀ x, ((gL w).view.read (Elt F) l x).toNat < S81920x2x128.size gathers_S81920x2x128_S32x2x128.axis) (x : S32x2x128.Idx) :
    SparseCore.gatherPayload (F := F) (e := .f32) gathers_S81920x2x128_S32x2x128 ((gY c hc').view.read (Elt F) fy) (SparseCore.rows ((gL w).view.read (Elt F) l) hn hin) x
      = pick fy ((iSl w).view.read (Elt F) l) ((gR c hc).emb x) := by
  have hx0 : (x 0).val < 32 := (x 0).isLt
  have key : (gL w).view.read (Elt F) l (S32.rowMajor.symm ((x gathers_S81920x2x128_S32x2x128.axis').cast hn.symm))
      = (iSl w).view.read (Elt F) l (fun b => match b with | 0 => ⟨0, Nat.one_pos⟩ | 1 => ⟨((gR c hc).emb x 0).val, lt_of_lt_of_le ((gR c hc).emb x 0).isLt (by decide)⟩) := by
    refine congrArg ((iSl w).view.read (Elt F) l) (funext fun b => Fin.ext ?_)
    refine (list_emb ⟨(x 0).val, hx0⟩ b).trans ?_
    fin_cases b
    · rfl
    · exact (show (x 0).val = 0 + 1 * (x 0).val by omega)
  have hlt := hin (S32.rowMajor.symm ((x gathers_S81920x2x128_S32x2x128.axis').cast hn.symm))
  have ax := congrArg Fin.val (Shape.Gathers.idx_axis gathers_S81920x2x128_S32x2x128 (SparseCore.rows ((gL w).view.read (Elt F) l) hn hin) x)
  refine congrArg fy (funext fun a => Fin.ext ?_)
  fin_cases a
  · refine (show _ = 0 + 1 * (gathers_S81920x2x128_S32x2x128.idx (SparseCore.rows ((gL w).view.read (Elt F) l) hn hin) x gathers_S81920x2x128_S32x2x128.axis).val from rfl).trans ?_
    rw [ax, Nat.zero_add, Nat.one_mul]
    refine (show _ = ((gL w).view.read (Elt F) l (S32.rowMajor.symm ((x gathers_S81920x2x128_S32x2x128.axis').cast hn.symm))).toNat from rfl).trans ?_
    rw [← Nat.mod_eq_of_lt hlt, key]; rfl
  · have h := Shape.Gathers.idx_of_ne gathers_S81920x2x128_S32x2x128 (SparseCore.rows ((gL w).view.read (Elt F) l) hn hin) x 1 (by decide)
    exact congrArg (fun n => c + 1 * n) h
  · have h := Shape.Gathers.idx_of_ne gathers_S81920x2x128_S32x2x128 (SparseCore.rows ((gL w).view.read (Elt F) l) hn hin) x 2 (by decide)
    exact congrArg (fun n => 0 + 1 * n) h

/-- What the four gathers of a window leave in a slot is the rows the list in its slot names. -/
theorem slot_eq (w : BitVec 32) (fy : Buf (Elt F) (yLoc d)) (l : Buf (Elt F) ((VT d L).loc cc0_scoped0)) (g : Buf (Elt F) ((VT d L).loc cc0_scoped2)) (h0 h1 h2 h3 k0 k1 k2 k3)
    (hn : S32.numel = S32x2x128.size gathers_S81920x2x128_S32x2x128.axis')
    (hin : ∀ x, ((gL w).view.read (Elt F) l x).toNat < S81920x2x128.size gathers_S81920x2x128_S32x2x128.axis) :
    (tSl w).view.read (Elt F)
        (((gT w).slice (gR 6 h3) (fun _ => rfl)).view.write (Elt F)
          (((gT w).slice (gR 4 h2) (fun _ => rfl)).view.write (Elt F)
            (((gT w).slice (gR 2 h1) (fun _ => rfl)).view.write (Elt F)
              (((gT w).slice (gR 0 h0) (fun _ => rfl)).view.write (Elt F) g
                (SparseCore.gatherPayload (F := F) (e := .f32) gathers_S81920x2x128_S32x2x128 ((gY 0 k0).view.read (Elt F) fy) (SparseCore.rows ((gL w).view.read (Elt F) l) hn hin)) Finset.univ)
              (SparseCore.gatherPayload (F := F) (e := .f32) gathers_S81920x2x128_S32x2x128 ((gY 2 k1).view.read (Elt F) fy) (SparseCore.rows ((gL w).view.read (Elt F) l) hn hin)) Finset.univ)
            (SparseCore.gatherPayload (F := F) (e := .f32) gathers_S81920x2x128_S32x2x128 ((gY 4 k2).view.read (Elt F) fy) (SparseCore.rows ((gL w).view.read (Elt F) l) hn hin)) Finset.univ)
          (SparseCore.gatherPayload (F := F) (e := .f32) gathers_S81920x2x128_S32x2x128 ((gY 6 k3).view.read (Elt F) fy) (SparseCore.rows ((gL w).view.read (Elt F) l) hn hin)) Finset.univ)
      = pick fy ((iSl w).view.read (Elt F) l) :=
  stage_read (gT w).view g (pick fy ((iSl w).view.read (Elt F) l)) _ _ _ _ h0 h1 h2 h3
    (fun x => pay_eq d L w fy l 0 h0 k0 hn hin x) (fun x => pay_eq d L w fy l 2 h1 k1 hn hin x)
    (fun x => pay_eq d L w fy l 4 h2 k2 hn hin x) (fun x => pay_eq d L w fy l 6 h3 k3 hn hin x)

/-! ## The resources of a trip -/

/-- The loop's trip on this tile's buffers. -/
abbrev body (v4 : BitVec 32) := k0_t1_body (F := F) L yV (Memref.isWhole_whole _) iV (Memref.isWhole_whole _) oV (Memref.isWhole_whole _)
  lV (Memref.isWhole_whole _) cc0_scoped1 tV (Memref.isWhole_whole _) cc0_scoped3 cc0_scoped4 cc0_scoped5 cc0_scoped6 cc0_scoped7 v4

/-- The words a trip hands to the next. -/
def next (v4 : BitVec 32) (t : Fin k0_t1_loop.trips) (w6 w7 w8 w9 w10 : BitVec 32) : BitVec 32 × BitVec 32 × BitVec 32 × BitVec 32 × BitVec 32 :=
  let iv := Scf.iv 0#32 1#32 t
  let v64 := Scalar.cmpi .eq iv 0#32
  let v65 := Scalar.cmpi .eq iv 7#32
  let v66 := Scalar.addi w10 v4
  let v68 := Scalar.select 1#1 (Scalar.subi w10 1#32) w10
  let v71 := Scalar.addi (Scalar.select (Scalar.cmpi .eq v68 4294967295#32) 7#32 v68) v4
  let v73 := Scalar.select 1#1 (Scalar.addi w10 1#32) w10
  let v76 := Scalar.addi (Scalar.select (Scalar.cmpi .eq v73 8#32) 0#32 v73) v4
  let v85 := Scalar.andi (Scalar.cmpi .ne v66 v76) (Scalar.xori (Scalar.cmpi .sge iv 7#32) 1#1)
  (Scalar.select (Scalar.andi v85 1#1) (Scalar.addi w6 1#32) w6,
    Scalar.select (Scalar.ori (Scalar.cmpi .ne v66 v76) v65) (Scalar.addi w7 1#32) w7,
    Scalar.select (Scalar.andi (Scalar.ori (Scalar.cmpi .ne v66 v76) v65) 1#1) (Scalar.addi w8 1#32) w8,
    Scalar.select (Scalar.andi (Scalar.andi (Scalar.cmpi .ne v66 v71) (Scalar.xori v64 1#1)) 1#1) (Scalar.addi w9 1#32) w9,
    Scalar.select (Scalar.cmpi .eq v73 8#32) 0#32 v73)

/-- A semaphore of the tile at zero. -/
abbrev zero (s : DmaSem sig) : sProp 𝕄 := semVal (VT d L, SemLoc.dma s) 0
/-- A transfer in flight on a semaphore of the tile. -/
abbrev FL (s : DmaSem sig) (n : ℕ) (X : sProp 𝕄) : sProp 𝕄 := Transfers.Flight countersEmb (VT d L) (SemLoc.dma s) (default : HIx 1) n X
abbrev iPt (fi : Buf (Elt F) (iLoc d)) (a : Fin 2 → ℕ) (h : ∀ x, a x + S1x128.size x ≤ S256x128.size x) : sProp 𝕄 := (iWin a h).view.loc (VT d L) ↦[(iWin a h).view.set]{fullShare} fi
abbrev oPt (fo : Buf (Elt F) (oLoc d)) (a : Fin 3 → ℕ) (h : ∀ x, a x + S32x8x128.size x ≤ S8192x8x128.size x) : sProp 𝕄 := (oWin a h).view.loc (VT d L) ↦[(oWin a h).view.set]{fullShare} fo
abbrev iAt (w : BitVec 32) (l : Buf (Elt F) ((VT d L).loc cc0_scoped0)) : sProp 𝕄 := (iSl w).view.loc (VT d L) ↦[(iSl w).view.set]{fullShare} l
abbrev tAt (w : BitVec 32) (g : Buf (Elt F) ((VT d L).loc cc0_scoped2)) : sProp 𝕄 := (tSl w).view.loc (VT d L) ↦[(tSl w).view.set]{fullShare} g
/-- A slot of the lists at some contents, a slot of the rows at some contents, a slot of the lists holding a window's. -/
abbrev iAny (w : BitVec 32) : sProp 𝕄 := iprop(∃ l, iAt (F := F) d L w l)
abbrev tAny (w : BitVec 32) : sProp 𝕄 := iprop(∃ g, tAt (F := F) d L w g)
abbrev iRdy (fi : Buf (Elt F) (iLoc d)) (w : BitVec 32) (a : Fin 2 → ℕ) (h : ∀ x, a x + S1x128.size x ≤ S256x128.size x) : sProp 𝕄 :=
  iprop(∃ l, ⌜(iSl w).view.read (Elt F) l = (iWin a h).view.read (Elt F) fi⌝ ∗ iAt (F := F) d L w l)
/-- A window of the lists on its way into a slot; a slot's rows on their way to a window. -/
abbrev iFl (fi : Buf (Elt F) (iLoc d)) (w : BitVec 32) (a : Fin 2 → ℕ) (h : ∀ x, a x + S1x128.size x ≤ S256x128.size x) : sProp 𝕄 := FL d L (iSm w) 4096 iprop(iRdy d L fi w a h ∗ iPt d L fi a h)
abbrev oFl (G : Buf (Elt F) (oLoc d)) (w : BitVec 32) (a : Fin 3 → ℕ) (h : ∀ x, a x + S32x8x128.size x ≤ S8192x8x128.size x) : sProp 𝕄 :=
  iprop(∃ g, FL d L (tSm w) 1048576 iprop(oPt d L G a h ∗ tAt (F := F) d L w g))
abbrev gz : sProp 𝕄 := iprop(zero (F := F) d L cc0_scoped4.sem ∗ zero (F := F) d L cc0_scoped5.sem ∗ zero (F := F) d L cc0_scoped6.sem ∗ zero (F := F) d L cc0_scoped7.sem)
abbrev ow (O : CellTallies nD τ sig (HIx 1)) : sProp 𝕄 := iprop(∃ Wt, owes (VT d L) O Wt)

theorem pts_gI (w : BitVec 32) (f : Buf (Elt F) ((VT d L).loc cc0_scoped0)) :
    (iAt d L w f : sProp 𝕄) = ((gI' w).view.loc (VT d L) ↦[(gI' w).view.set]{fullShare} f) := by
  unfold iAt; rw [set_gI]
theorem pts_gT (w : BitVec 32) (f : Buf (Elt F) ((VT d L).loc cc0_scoped2)) :
    (tAt d L w f : sProp 𝕄) = ((gT' w).view.loc (VT d L) ↦[(gT' w).view.set]{fullShare} f) := by
  unfold tAt; rw [set_gT]

/-- The list fetched into a slot, as the next trips read it. -/
theorem iFl_intro (fi : Buf (Elt F) (iLoc d)) (w : BitVec 32) (a : Fin 2 → ℕ) (h : ∀ x, a x + S1x128.size x ≤ S256x128.size x) (l : Buf (Elt F) ((VT d L).loc cc0_scoped0))
    (u : S1x128.Idx → BitVec 32) (hu : u = (iWin a h).view.read (Elt F) fi) :
    (FL d L (iSm w) 4096 iprop(iAt (F := F) d L w ((iSl w).view.writes (Elt F) l [⟨Rect.whole S1x128, u⟩]) ∗ iPt d L fi a h) : sProp 𝕄)
      ⊢ iFl d L fi w a h :=
  Transfers.Flight_mono countersEmb (VT d L) (by
    iintro ⟨H, Hi⟩
    isplitl [H]
    · iexists _
      isplitr
      rotate_left; · iexact H
      ipureintro; exact (View.read_writes_whole _ _ _).trans hu
    iexact Hi)

/-- A window written whole with what `G` reads there is the window at `G`. -/
theorem oPt_eq (G fo : Buf (Elt F) (oLoc d)) (a : Fin 3 → ℕ) (h : ∀ x, a x + S32x8x128.size x ≤ S8192x8x128.size x) (u : S32x8x128.Idx → F .f32) (hG : (oWin a h).view.read (Elt F) G = u) :
    (oPt d L ((oWin a h).view.writes (Elt F) fo [⟨Rect.whole S32x8x128, u⟩]) a h : sProp 𝕄) = oPt d L G a h :=
  pointsTo_congr fun i hi => by
    obtain ⟨x, -, rfl⟩ := Finset.mem_map.mp hi
    refine View.eq_of_read_eq (v := (oWin a h).view) (x := x) ?_
    rw [View.read_writes_whole, hG]

/-- The rows on their way out of a slot, as the trip that waits for them takes them. -/
theorem oFl_intro (G fo : Buf (Elt F) (oLoc d)) (w : BitVec 32) (a : Fin 3 → ℕ) (h : ∀ x, a x + S32x8x128.size x ≤ S8192x8x128.size x) (u : S32x8x128.Idx → F .f32) (hG : (oWin a h).view.read (Elt F) G = u)
    (g : Buf (Elt F) ((VT d L).loc cc0_scoped2)) :
    (FL d L (tSm w) 1048576 iprop(oPt d L ((oWin a h).view.writes (Elt F) fo [⟨Rect.whole S32x8x128, u⟩]) a h ∗ tAt d L w g) : sProp 𝕄)
      ⊢ oFl d L G w a h := by
  rw [oPt_eq d L G fo a h u hG]
  iintro H; iexists g; iexact H

/-- The row numbers of a list that has been fetched are rows of the source. -/
theorem inRange (fi : Buf (Elt F) (iLoc d)) (hfi : ∀ j, BitVec.toNat (fi j) < 81920) (w : BitVec 32) (a : Fin 2 → ℕ) (h : ∀ x, a x + S1x128.size x ≤ S256x128.size x)
    (l : Buf (Elt F) ((VT d L).loc cc0_scoped0)) (hl : (iSl w).view.read (Elt F) l = (iWin a h).view.read (Elt F) fi) :
    ∀ x, ((gL w).view.read (Elt F) l x).toNat < 81920 := fun x => by
  have e := congrFun hl ((Rect.unit (s := S1x128) ![0, 0] S1x32.size inb_S1x128_S1x32_0_0).emb (Shape.reshapeEquiv squeezes_S1x32_S32.numel_eq x))
  have e' : (gL w).view.read (Elt F) l x = fi ((iWin a h).view.emb ((Rect.unit (s := S1x128) ![0, 0] S1x32.size inb_S1x128_S1x32_0_0).emb (Shape.reshapeEquiv squeezes_S1x32_S32.numel_eq x))) := e
  rw [e']; exact hfi _

set_option maxHeartbeats 400000 in
/-- A trip in the middle: the next list is on its way, the rows before are waited for. -/
theorem trip_mid (O : CellTallies nD τ sig (HIx 1)) (q : PosShare TreeShare) (v4 : BitVec 32)
    (t : Fin k0_t1_loop.trips) (w6 w7 w9 w10 : BitVec 32)
    (hc1 : k0_cond1 L t w10 = 1#1) (hc2 : k0_cond2 L t w10 = 1#1) (hc5 : k0_cond5 L t w10 = 1#1) (hc7 : k0_cond7 L t w10 = 1#1)
    (h1 : k0_chk1 L t w6 w7 w7 w9 w10) (h2 : k0_chk2 w7) (h3 : k0_chk3 w7)
    (fy : Buf (Elt F) (yLoc d)) (fi : Buf (Elt F) (iLoc d)) (fo G : Buf (Elt F) (oLoc d))
    (hfi : ∀ j, BitVec.toNat (fi j) < 81920)
    (hwi hwn hwo hwp) (hG : (oWin (k0_off13 L w10) hwo).view.read (Elt F) G = pick fy ((iWin (k0_off8 L w10) hwi).view.read (Elt F) fi)) :
    (iprop(Transfers.MayWaits (VT d L) (default : HIx 1) O
        ∗ ((yV).view.loc (VT d L) ↦{q} fy)
        ∗ iFl d L fi w7 (k0_off8 L w10) hwi
        ∗ zero d L (iSm w6) ∗ iAny d L w6
        ∗ iPt d L fi (k0_off5 L w10) hwn
        ∗ tAny d L w7 ∗ zero d L (tSm w7)
        ∗ oPt d L fo (k0_off13 L w10) hwo
        ∗ oFl d L G w9 (k0_off16 L w10) hwp
        ∗ gz d L ∗ ow d L O) : sProp 𝕄)
      ⊢ wp frame (wpE (defs₀ (F := F)) 𝒱₀ (VT d L) none) Set.univ (body L v4 t (w6, w7, w7, w9, w10))
          fun r => iprop(⌜r = next v4 t w6 w7 w7 w9 w10⌝
            ∗ ((yV).view.loc (VT d L) ↦{q} fy)
            ∗ iFl d L fi w6 (k0_off5 L w10) hwn
            ∗ zero d L (iSm w7) ∗ iAny d L w7
            ∗ iPt d L fi (k0_off8 L w10) hwi
            ∗ oFl d L G w7 (k0_off13 L w10) hwo
            ∗ zero d L (tSm w9) ∗ tAny d L w9
            ∗ oPt d L G (k0_off16 L w10) hwp
            ∗ gz d L ∗ ow d L O) := by
  iintro ⟨#Hmw, Hy, HFi, Hz6, ⟨%l2, Hl2⟩, Hwn, ⟨%g1, Ht⟩, Hzt, Hwo, ⟨%g0, HFo⟩, ⟨Hc4, Hc5, Hc6, Hc7⟩, ⟨%Wt, HO⟩⟩
  sl_unfold [body, k0_t1_body]
  sl_exec (disch := first | sl_exact h1 | sl_exact h2 | sl_exact h3 | sl_exact hc1 | sl_exact hc2 | sl_exact hc5 | sl_exact hc7 | omega)
  icases HFi_dst with ⟨%l1, %hl1, HFi_dst⟩
  have hin := inRange d L fi hfi w7 _ _ l1 hl1
  ihave Hl1 := (Entails.of_eq (pts_gI (F := F) d L w7 l1)) $$ HFi_dst
  ihave Hg := (Entails.of_eq (pts_gT (F := F) d L w7 g1)) $$ Ht
  sl_exec (disch := first | sl_exact h1 | sl_exact h2 | sl_exact h3 | sl_exact hc1 | sl_exact hc2 | sl_exact hc5 | sl_exact hc7 | omega)
  ihave Hl1' := (Entails.of_eq (pts_gI (F := F) d L w7 l1).symm) $$ Hl1
  ihave HFi' := (iFl_intro d L fi w6 (k0_off5 L w10) hwn l2 (trip_mid.sl.dma0 d L t w6 w7 w9 w10 hc1 h1 fi) rfl) $$ Hz6
  have hu : trip_mid.sl.dma0_1 d L t w6 w7 w9 w10 hc5 h1 h2 h3 fy g1 l1 hin = pick fy ((iSl w7).view.read (Elt F) l1) := by
    unfold trip_mid.sl.dma0_1 trip_mid.sl.gather0 trip_mid.sl.gather1 trip_mid.sl.gather2 trip_mid.sl.gather3
    exact slot_eq d L w7 fy l1 g1 _ _ _ _ _ _ _ _ _ hin
  ihave HFt' := (oFl_intro d L G fo w7 (k0_off13 L w10) hwo _ (hG.trans (hl1 ▸ hu.symm)) _) $$ Hzt
  sl_step
  iclear Hg
  isplitr
  · ipureintro; rfl
  isplitl [Hy]; · iexact Hy
  isplitl [HFi']; · iexact HFi'
  isplitl [HFi]; · iexact HFi
  isplitl [Hl1']; · iexists l1; iexact Hl1'
  isplitl [HFi_src]; · iexact HFi_src
  isplitl [HFt']; · iexact HFt'
  isplitl [HFo]; · iexact HFo
  isplitl [HFo_src]; · iexists g0; iexact HFo_src
  isplitl [HFo_dst]; · iexact HFo_dst
  isplitl [Hc4 Hc5 Hc6 Hc7]
  · isplitl [Hc4]; · iexact Hc4
    isplitl [Hc5]; · iexact Hc5
    isplitl [Hc6]; · iexact Hc6
    iexact Hc7
  iexists _; iexact HO

set_option maxHeartbeats 400000 in
/-- The first trip: no rows are on their way yet. -/
theorem trip_first (O : CellTallies nD τ sig (HIx 1)) (q : PosShare TreeShare) (v4 : BitVec 32)
    (t : Fin k0_t1_loop.trips) (w6 w7 w9 w10 : BitVec 32)
    (hc1 : k0_cond1 L t w10 = 1#1) (hc2 : k0_cond2 L t w10 = 1#1) (hc5 : k0_cond5 L t w10 = 1#1) (hc7 : ¬ k0_cond7 L t w10 = 1#1)
    (h1 : k0_chk1 L t w6 w7 w7 w9 w10) (h2 : k0_chk2 w7) (h3 : k0_chk3 w7)
    (fy : Buf (Elt F) (yLoc d)) (fi : Buf (Elt F) (iLoc d)) (fo G : Buf (Elt F) (oLoc d))
    (hfi : ∀ j, BitVec.toNat (fi j) < 81920)
    (hwi hwn hwo) (hG : (oWin (k0_off13 L w10) hwo).view.read (Elt F) G = pick fy ((iWin (k0_off8 L w10) hwi).view.read (Elt F) fi)) :
    (iprop(Transfers.MayWaits (VT d L) (default : HIx 1) O
        ∗ ((yV).view.loc (VT d L) ↦{q} fy)
        ∗ iFl d L fi w7 (k0_off8 L w10) hwi
        ∗ zero d L (iSm w6) ∗ iAny d L w6
        ∗ iPt d L fi (k0_off5 L w10) hwn
        ∗ tAny d L w7 ∗ zero d L (tSm w7)
        ∗ oPt d L fo (k0_off13 L w10) hwo
        ∗ gz d L ∗ ow d L O) : sProp 𝕄)
      ⊢ wp frame (wpE (defs₀ (F := F)) 𝒱₀ (VT d L) none) Set.univ (body L v4 t (w6, w7, w7, w9, w10))
          fun r => iprop(⌜r = next v4 t w6 w7 w7 w9 w10⌝
            ∗ ((yV).view.loc (VT d L) ↦{q} fy)
            ∗ iFl d L fi w6 (k0_off5 L w10) hwn
            ∗ zero d L (iSm w7) ∗ iAny d L w7
            ∗ iPt d L fi (k0_off8 L w10) hwi
            ∗ oFl d L G w7 (k0_off13 L w10) hwo
            ∗ gz d L ∗ ow d L O) := by
  iintro ⟨#Hmw, Hy, HFi, Hz6, ⟨%l2, Hl2⟩, Hwn, ⟨%g1, Ht⟩, Hzt, Hwo, ⟨Hc4, Hc5, Hc6, Hc7⟩, ⟨%Wt, HO⟩⟩
  sl_unfold [body, k0_t1_body]
  sl_exec (disch := first | sl_exact h1 | sl_exact h2 | sl_exact h3 | sl_exact hc1 | sl_exact hc2 | sl_exact hc5 | sl_exact hc7 | omega)
  icases HFi_dst with ⟨%l1, %hl1, HFi_dst⟩
  have hin := inRange d L fi hfi w7 _ _ l1 hl1
  ihave Hl1 := (Entails.of_eq (pts_gI (F := F) d L w7 l1)) $$ HFi_dst
  ihave Hg := (Entails.of_eq (pts_gT (F := F) d L w7 g1)) $$ Ht
  sl_exec (disch := first | sl_exact h1 | sl_exact h2 | sl_exact h3 | sl_exact hc1 | sl_exact hc2 | sl_exact hc5 | sl_exact hc7 | omega)
  ihave Hl1' := (Entails.of_eq (pts_gI (F := F) d L w7 l1).symm) $$ Hl1
  ihave HFi' := (iFl_intro d L fi w6 (k0_off5 L w10) hwn l2 (trip_first.sl.dma0 d L t w6 w7 w9 w10 hc1 h1 fi) rfl) $$ Hz6
  have hu : trip_first.sl.dma0_1 d L t w6 w7 w9 w10 hc5 h1 h2 h3 fy g1 l1 hin = pick fy ((iSl w7).view.read (Elt F) l1) := by
    unfold trip_first.sl.dma0_1 trip_first.sl.gather0 trip_first.sl.gather1 trip_first.sl.gather2 trip_first.sl.gather3
    exact slot_eq d L w7 fy l1 g1 _ _ _ _ _ _ _ _ _ hin
  ihave HFt' := (oFl_intro d L G fo w7 (k0_off13 L w10) hwo _ (hG.trans (hl1 ▸ hu.symm)) _) $$ Hzt
  sl_step
  iclear Hg
  isplitr
  · ipureintro; rfl
  isplitl [Hy]; · iexact Hy
  isplitl [HFi']; · iexact HFi'
  isplitl [HFi]; · iexact HFi
  isplitl [Hl1']; · iexists l1; iexact Hl1'
  isplitl [HFi_src]; · iexact HFi_src
  isplitl [HFt']; · iexact HFt'
  isplitl [Hc4 Hc5 Hc6 Hc7]
  · isplitl [Hc4]; · iexact Hc4
    isplitl [Hc5]; · iexact Hc5
    isplitl [Hc6]; · iexact Hc6
    iexact Hc7
  iexists _; iexact HO

set_option maxHeartbeats 400000 in
/-- The last trip: no list is fetched any more. -/
theorem trip_last (O : CellTallies nD τ sig (HIx 1)) (q : PosShare TreeShare) (v4 : BitVec 32)
    (t : Fin k0_t1_loop.trips) (w6 w7 w9 w10 : BitVec 32)
    (hc1 : ¬ k0_cond1 L t w10 = 1#1) (hc2 : k0_cond2 L t w10 = 1#1) (hc5 : k0_cond5 L t w10 = 1#1) (hc7 : k0_cond7 L t w10 = 1#1)
    (h1 : k0_chk1 L t w6 w7 w7 w9 w10) (h2 : k0_chk2 w7) (h3 : k0_chk3 w7)
    (fy : Buf (Elt F) (yLoc d)) (fi : Buf (Elt F) (iLoc d)) (fo G : Buf (Elt F) (oLoc d))
    (hfi : ∀ j, BitVec.toNat (fi j) < 81920)
    (hwi hwo hwp) (hG : (oWin (k0_off13 L w10) hwo).view.read (Elt F) G = pick fy ((iWin (k0_off8 L w10) hwi).view.read (Elt F) fi)) :
    (iprop(Transfers.MayWaits (VT d L) (default : HIx 1) O
        ∗ ((yV).view.loc (VT d L) ↦{q} fy)
        ∗ iFl d L fi w7 (k0_off8 L w10) hwi
        ∗ tAny d L w7 ∗ zero d L (tSm w7)
        ∗ oPt d L fo (k0_off13 L w10) hwo
        ∗ oFl d L G w9 (k0_off16 L w10) hwp
        ∗ gz d L ∗ ow d L O) : sProp 𝕄)
      ⊢ wp frame (wpE (defs₀ (F := F)) 𝒱₀ (VT d L) none) Set.univ (body L v4 t (w6, w7, w7, w9, w10))
          fun r => iprop(⌜r = next v4 t w6 w7 w7 w9 w10⌝
            ∗ ((yV).view.loc (VT d L) ↦{q} fy)
            ∗ zero d L (iSm w7) ∗ iAny d L w7
            ∗ iPt d L fi (k0_off8 L w10) hwi
            ∗ oFl d L G w7 (k0_off13 L w10) hwo
            ∗ zero d L (tSm w9) ∗ tAny d L w9
            ∗ oPt d L G (k0_off16 L w10) hwp
            ∗ gz d L ∗ ow d L O) := by
  iintro ⟨#Hmw, Hy, HFi, ⟨%g1, Ht⟩, Hzt, Hwo, ⟨%g0, HFo⟩, ⟨Hc4, Hc5, Hc6, Hc7⟩, ⟨%Wt, HO⟩⟩
  sl_unfold [body, k0_t1_body]
  sl_exec (disch := first | sl_exact h1 | sl_exact h2 | sl_exact h3 | sl_exact hc1 | sl_exact hc2 | sl_exact hc5 | sl_exact hc7 | omega)
  icases HFi_dst with ⟨%l1, %hl1, HFi_dst⟩
  have hin := inRange d L fi hfi w7 _ _ l1 hl1
  ihave Hl1 := (Entails.of_eq (pts_gI (F := F) d L w7 l1)) $$ HFi_dst
  ihave Hg := (Entails.of_eq (pts_gT (F := F) d L w7 g1)) $$ Ht
  sl_exec (disch := first | sl_exact h1 | sl_exact h2 | sl_exact h3 | sl_exact hc1 | sl_exact hc2 | sl_exact hc5 | sl_exact hc7 | omega)
  ihave Hl1' := (Entails.of_eq (pts_gI (F := F) d L w7 l1).symm) $$ Hl1
  have hu : trip_last.sl.dma0 d L t w6 w7 w9 w10 hc5 h1 h2 h3 fy g1 l1 hin = pick fy ((iSl w7).view.read (Elt F) l1) := by
    unfold trip_last.sl.dma0 trip_last.sl.gather0 trip_last.sl.gather1 trip_last.sl.gather2 trip_last.sl.gather3
    exact slot_eq d L w7 fy l1 g1 _ _ _ _ _ _ _ _ _ hin
  ihave HFt' := (oFl_intro d L G fo w7 (k0_off13 L w10) hwo _ (hG.trans (hl1 ▸ hu.symm)) _) $$ Hzt
  sl_step
  iclear Hg
  isplitr
  · ipureintro; rfl
  isplitl [Hy]; · iexact Hy
  isplitl [HFi]; · iexact HFi
  isplitl [Hl1']; · iexists l1; iexact Hl1'
  isplitl [HFi_src]; · iexact HFi_src
  isplitl [HFt']; · iexact HFt'
  isplitl [HFo]; · iexact HFo
  isplitl [HFo_src]; · iexists g0; iexact HFo_src
  isplitl [HFo_dst]; · iexact HFo_dst
  isplitl [Hc4 Hc5 Hc6 Hc7]
  · isplitl [Hc4]; · iexact Hc4
    isplitl [Hc5]; · iexact Hc5
    isplitl [Hc6]; · iexact Hc6
    iexact Hc7
  iexists _; iexact HO

end
end Cert.Proof.Collect

end
-- ==== Proof.Words.lean ====
/- The windows of a tile by number, the words of a trip by its number, and what the trips hand to one another. -/
module

public import proofs.«01_k».proof.Proof.Trip

@[expose] public section

noncomputable section

namespace Cert.Proof.Collect

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The windows by number -/

/-- Where list `n`, and the rows of window `n`, start. -/
def iO (n : ℕ) : Fin 2 → ℕ := ![n % 256, 0]
def oO (n : ℕ) : Fin 3 → ℕ := ![32 * (n % 256), 0, 0]

theorem iO_inb (n : ℕ) : ∀ a, iO n a + S1x128.size a ≤ S256x128.size a := by
  have := Nat.mod_lt n (show 0 < 256 by decide); intro a; fin_cases a
  · show n % 256 + 1 ≤ 256; omega
  · show 0 + 128 ≤ 128; omega
theorem oO_inb (n : ℕ) : ∀ a, oO n a + S32x8x128.size a ≤ S8192x8x128.size a := by
  have := Nat.mod_lt n (show 0 < 256 by decide); intro a; fin_cases a
  · show 32 * (n % 256) + 32 ≤ 8192; omega
  · show 0 + 8 ≤ 8; omega
  · show 0 + 128 ≤ 128; omega

/-- The first window of a tile. -/
def B (L : grid0.Coords) : ℕ := 8 * (16 * (L 0).val + (L 1).val)

def mk (c : Fin 2) (s : Fin 16) : grid0.Coords := fun | 0 => c | 1 => s | ⟨_ + 2, h⟩ => absurd h (Nat.not_lt.2 (Nat.le_add_left _ _))
theorem mk_eta (L : grid0.Coords) : mk (L 0) (L 1) = L := by funext a; fin_cases a <;> rfl

/-- The word of a tile's first window, as its body computes it. -/
def V4 (L : grid0.Coords) : BitVec 32 :=
  Scalar.muli (Scalar.addi (Scalar.addi 0#32 (Scalar.muli (BitVec.ofNat 32 (L 1).val) 1#32)) (Scalar.muli (BitVec.ofNat 32 (L 0).val) 16#32)) 8#32

/-- The words before trip `t`. -/
def words (t : ℕ) : BitVec 32 × BitVec 32 × BitVec 32 × BitVec 32 × BitVec 32 := (W (min (t + 1) 8), W t, W t, W (t - 1), W (t % 8))

section
variable (L : grid0.Coords) (t : Fin k0_t1_loop.trips)

theorem trips_eq : k0_t1_loop.trips = 8 := by decide +kernel
theorem lt8 (t : Fin k0_t1_loop.trips) : t.val < 8 := trips_eq ▸ t.isLt

/-- A fact of each tile's trips, from the fact of each pair of coordinates. -/
theorem at_coords {P : grid0.Coords → Prop} (h : ∀ c s, P (mk c s)) (L : grid0.Coords) : P L := mk_eta L ▸ h (L 0) (L 1)

theorem cond1_lt : ∀ (L : grid0.Coords) (t : Fin k0_t1_loop.trips), t.val < 7 → k0_cond1 L t (W (t.val % 8)) = 1#1 :=
  at_coords (by decide +kernel)
theorem cond1_7 : ∀ (L : grid0.Coords) (t : Fin k0_t1_loop.trips), t.val = 7 → ¬ k0_cond1 L t (W (t.val % 8)) = 1#1 :=
  at_coords (by decide +kernel)
theorem cond2_eq : ∀ (L : grid0.Coords) (t : Fin k0_t1_loop.trips), k0_cond2 L t (W (t.val % 8)) = 1#1 :=
  at_coords (by decide +kernel)
theorem cond5_eq : ∀ (L : grid0.Coords) (t : Fin k0_t1_loop.trips), k0_cond5 L t (W (t.val % 8)) = 1#1 :=
  at_coords (by decide +kernel)
theorem cond7_0 : ∀ (L : grid0.Coords) (t : Fin k0_t1_loop.trips), t.val = 0 → ¬ k0_cond7 L t (W (t.val % 8)) = 1#1 :=
  at_coords (by decide +kernel)
theorem cond7_pos : ∀ (L : grid0.Coords) (t : Fin k0_t1_loop.trips), 0 < t.val → k0_cond7 L t (W (t.val % 8)) = 1#1 :=
  at_coords (by decide +kernel)

theorem off8_eq (L : grid0.Coords) (t : Fin k0_t1_loop.trips) : k0_off8 L (W (t.val % 8)) = iO (B L + t.val) :=
  funext (at_coords (P := fun L => ∀ (t : Fin k0_t1_loop.trips) a, k0_off8 L (W (t.val % 8)) a = iO (B L + t.val) a) (by decide +kernel) L t)
theorem off13_eq (L : grid0.Coords) (t : Fin k0_t1_loop.trips) : k0_off13 L (W (t.val % 8)) = oO (B L + t.val) :=
  funext (at_coords (P := fun L => ∀ (t : Fin k0_t1_loop.trips) a, k0_off13 L (W (t.val % 8)) a = oO (B L + t.val) a) (by decide +kernel) L t)
theorem off5_eq (L : grid0.Coords) (t : Fin k0_t1_loop.trips) (h : t.val < 7) : k0_off5 L (W (t.val % 8)) = iO (B L + (t.val + 1)) :=
  funext (at_coords (P := fun L => ∀ (t : Fin k0_t1_loop.trips), t.val < 7 → ∀ a, k0_off5 L (W (t.val % 8)) a = iO (B L + (t.val + 1)) a) (by decide +kernel) L t h)
theorem off16_eq (L : grid0.Coords) (t : Fin k0_t1_loop.trips) (h : 0 < t.val) : k0_off16 L (W (t.val % 8)) = oO (B L + (t.val - 1)) :=
  funext (at_coords (P := fun L => ∀ (t : Fin k0_t1_loop.trips), 0 < t.val → ∀ a, k0_off16 L (W (t.val % 8)) a = oO (B L + (t.val - 1)) a) (by decide +kernel) L t h)
theorem off2_eq (L : grid0.Coords) : k0_off2 L = iO (B L + 0) :=
  funext (at_coords (P := fun L => ∀ a, k0_off2 L a = iO (B L + 0) a) (by decide +kernel) L)
theorem off19_eq (L : grid0.Coords) : k0_off19 L (W 0) = oO (B L + 7) :=
  funext (at_coords (P := fun L => ∀ a, k0_off19 L (W 0) a = oO (B L + 7) a) (by decide +kernel) L)

theorem next_eq : ∀ (L : grid0.Coords) (t : Fin k0_t1_loop.trips), next (V4 L) t (W (min (t.val + 1) 8)) (W t.val) (W t.val) (W (t.val - 1)) (W (t.val % 8)) = words (t.val + 1) :=
  at_coords (by decide +kernel)

theorem chk2_any (w : BitVec 32) : k0_chk2 w := off12_inb w
theorem chk3_any (w : BitVec 32) : k0_chk3 w := off7_inb w
theorem chk4_any (w : BitVec 32) : k0_chk4 w := ⟨off12_inb w, off9_inb w, off12_inb w⟩
theorem chk5_0 : k0_chk5 L (W 0) := by unfold k0_chk5; rw [off19_eq]; exact oO_inb _
theorem chk1_eq (w6 w7 w8 w9 : BitVec 32) : k0_chk1 L t w6 w7 w8 w9 (W (t.val % 8)) := by
  have h7 := cond1_7 L t; have h0 := cond7_0 L t; have h8 := lt8 t
  refine ⟨fun _ => off7_inb _, fun h => ?_, fun _ => off9_inb _, fun _ => off7_inb _, fun _ => ?_, fun _ => off9_inb _, fun _ => off12_inb _, fun _ => ?_, fun _ => off9_inb _, fun _ => off12_inb _, fun h => ?_, fun _ => off9_inb _⟩
  · rw [off5_eq L t (by by_contra hc; exact h7 (by omega) h)]; exact iO_inb _
  · rw [off8_eq]; exact iO_inb _
  · rw [off13_eq]; exact oO_inb _
  · rw [off16_eq L t (by by_contra hc; exact h0 (by omega) h)]; exact oO_inb _

end

/-! ## The slots by number: two of each -/

theorem remui_add_two (k : ℕ) (hk : k < 16) : Scalar.remui (W (k + 2)) 2#32 = Scalar.remui (W k) 2#32 :=
  (show ∀ k : Fin 16, Scalar.remui (W (k.val + 2)) 2#32 = Scalar.remui (W k.val) 2#32 by decide +kernel) ⟨k, hk⟩

theorem lCut_congr {a b : Fin 3 → ℕ} (h : a = b) (ha hb) :
    ((lV).slice (Rect.unit (s := S2x1x128) a S1x1x128.size ha) (fun _ => rfl)).view.set = ((lV).slice (Rect.unit (s := S2x1x128) b S1x1x128.size hb) (fun _ => rfl)).view.set := by subst h; rfl
theorem tCut_congr {a b : Fin 4 → ℕ} (h : a = b) (ha hb) :
    ((tV).slice (Rect.unit (s := S2x32x8x128) a S1x32x8x128.size ha) (fun _ => rfl)).view.set = ((tV).slice (Rect.unit (s := S2x32x8x128) b S1x32x8x128.size hb) (fun _ => rfl)).view.set := by subst h; rfl
theorem sCut_congr (S : DmaSems sig S2) {a b : Fin 1 → ℕ} (h : a = b) (ha hb) :
    ((S.slice (Rect.unit (s := S2) a S1.size ha)).squeeze S_ squeezes_S1_S_).sem = ((S.slice (Rect.unit (s := S2) b S1.size hb)).squeeze S_ squeezes_S1_S_).sem := by subst h; rfl

section
variable (d : Dev nD) (L : grid0.Coords) {w w' : BitVec 32} (h : Scalar.remui w 2#32 = Scalar.remui w' 2#32)
include h

theorem off7_congr : k0_off7 w = k0_off7 w' := by unfold k0_off7; simp only [h]
theorem off9_congr : k0_off9 w = k0_off9 w' := by unfold k0_off9; simp only [h]
theorem off12_congr : k0_off12 w = k0_off12 w' := by unfold k0_off12; simp only [h]
theorem iAt_congr (l : Buf (Elt F) ((VT d L).loc cc0_scoped0)) : (iAt d L w l : sProp 𝕄) = iAt d L w' l := by
  have e : (iSl w).view.set = (iSl w').view.set := by
    refine (View.set_reshape ..).trans (Eq.trans ?_ (View.set_reshape ..).symm)
    exact lCut_congr (off7_congr h) _ _
  unfold iAt; rw [e]
theorem tAt_congr (g : Buf (Elt F) ((VT d L).loc cc0_scoped2)) : (tAt d L w g : sProp 𝕄) = tAt d L w' g := by
  have e : (tSl w).view.set = (tSl w').view.set := by
    refine (View.set_reshape ..).trans (Eq.trans ?_ (View.set_reshape ..).symm)
    exact tCut_congr (off12_congr h) _ _
  unfold tAt; rw [e]
theorem iAny_congr : (iAny d L w : sProp 𝕄) = iAny d L w' := by unfold iAny; simp only [iAt_congr (F := F) d L h]
theorem tAny_congr : (tAny d L w : sProp 𝕄) = tAny d L w' := by unfold tAny; simp only [tAt_congr (F := F) d L h]
theorem iSm_congr : iSm w = iSm w' := sCut_congr cc0_scoped1 (off9_congr h) _ _
theorem tSm_congr : tSm w = tSm w' := sCut_congr cc0_scoped3 (off9_congr h) _ _
end

end Cert.Proof.Collect

end
-- ==== Proof.Tile.lean ====
/- The pipeline's loop on a tile, by windows: the invariant, a trip's step, the tile's run. -/
module

public import proofs.«01_k».proof.Proof.Words

@[expose] public section

noncomputable section

namespace Cert.Proof.Collect

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the program leaves: row `p` is the row the list of its window names -/

def Gv (fy : S81920x8x128.Idx → F .f32) (fi : S256x128.Idx → BitVec 32) : S8192x8x128.Idx → F .f32 := fun p =>
  fy (fun a => match a with
    | 0 => ⟨(fi (fun b => match b with
        | 0 => ⟨(p 0).val / 32, Nat.div_lt_of_lt_mul (show (p 0).val < 32 * 256 from (p 0).isLt)⟩
        | 1 => ⟨(p 0).val % 32, lt_of_lt_of_le (Nat.mod_lt _ (by decide)) (show 32 ≤ 128 by decide)⟩)).toNat % 81920, Nat.mod_lt _ (by decide)⟩
    | 1 => p 1
    | 2 => p 2)

theorem read_Gv (d : Dev nD) (fy : Buf (Elt F) (yLoc d)) (fi : Buf (Elt F) (iLoc d)) (n : ℕ) {a : Fin 2 → ℕ} {b : Fin 3 → ℕ} (ea : a = iO n) (eb : b = oO n) (ha hb) :
    (oWin b hb).view.read (Elt F) (Gv fy fi : Buf (Elt F) (oLoc d)) = pick fy ((iWin a ha).view.read (Elt F) fi) := by
  subst ea eb
  funext x
  have hx : (x 0).val < 32 := (x 0).isLt
  have key : (fun b => match b with
        | 0 => ⟨(((oWin (oO n) hb).view.emb x) 0).val / 32, Nat.div_lt_of_lt_mul (show (((oWin (oO n) hb).view.emb x) 0).val < 32 * 256 from (((oWin (oO n) hb).view.emb x) 0).isLt)⟩
        | 1 => ⟨(((oWin (oO n) hb).view.emb x) 0).val % 32, lt_of_lt_of_le (Nat.mod_lt _ (by decide)) (show 32 ≤ 128 by decide)⟩ : S256x128.Idx)
      = (iWin (iO n) ha).view.emb (fun b => match b with | 0 => ⟨0, Nat.one_pos⟩ | 1 => ⟨(x 0).val, lt_of_lt_of_le (x 0).isLt (by decide)⟩) := by
    funext b; apply Fin.ext; fin_cases b
    · show (32 * (n % 256) + 1 * (x 0).val) / 32 = n % 256 + 1 * 0; omega
    · show (32 * (n % 256) + 1 * (x 0).val) % 32 = 0 + 1 * (x 0).val; omega
  refine congrArg fy (funext fun a => Fin.ext ?_)
  fin_cases a
  · exact congrArg (fun j => (fi j).toNat % 81920) key
  · show 0 + 1 * (x 1).val = (x 1).val; omega
  · show 0 + 1 * (x 2).val = (x 2).val; omega

/-! ## Windows by number -/

section
variable (d : Dev nD) (L : grid0.Coords)

theorem iPt_congr (fi : Buf (Elt F) (iLoc d)) {a b : Fin 2 → ℕ} (e : a = b) (ha hb) : (iPt d L fi a ha : sProp 𝕄) = iPt d L fi b hb := by subst e; rfl
theorem oPt_congr (f : Buf (Elt F) (oLoc d)) {a b : Fin 3 → ℕ} (e : a = b) (ha hb) : (oPt d L f a ha : sProp 𝕄) = oPt d L f b hb := by subst e; rfl
theorem iFl_congr (fi : Buf (Elt F) (iLoc d)) (w : BitVec 32) {a b : Fin 2 → ℕ} (e : a = b) (ha hb) : (iFl d L fi w a ha : sProp 𝕄) = iFl d L fi w b hb := by subst e; rfl
theorem oFl_congr (f : Buf (Elt F) (oLoc d)) (w : BitVec 32) {a b : Fin 3 → ℕ} (e : a = b) (ha hb) : (oFl d L f w a ha : sProp 𝕄) = oFl d L f w b hb := by subst e; rfl

/-- List `n`; the rows of window `n`. -/
abbrev iN (fi : Buf (Elt F) (iLoc d)) (n : ℕ) : sProp 𝕄 := iPt d L fi (iO n) (iO_inb n)
abbrev oN (f : Buf (Elt F) (oLoc d)) (n : ℕ) : sProp 𝕄 := oPt d L f (oO n) (oO_inb n)

/-- Before trip `t`: the tile's lists but the one on its way, its windows of rows but the one on its way. -/
def inS (fi : Buf (Elt F) (iLoc d)) (t : ℕ) : sProp 𝕄 := bigSep Finset.univ fun k : Fin 8 => if k.val = t then iprop(emp) else iN d L fi (B L + k.val)
def outS (fo G : Buf (Elt F) (oLoc d)) (t : ℕ) : sProp 𝕄 :=
  bigSep Finset.univ fun k : Fin 8 => if k.val + 1 = t then iprop(emp) else if k.val < t then oN d L G (B L + k.val) else oN d L fo (B L + k.val)

end

theorem take_give {Φ Ψ : Fin 8 → sProp 𝕄} (i j : Fin 8) (hij : i ≠ j) (hj : Φ j = iprop(emp)) (hi : Ψ i = iprop(emp)) (hr : ∀ k, k ≠ i → k ≠ j → Φ k = Ψ k) :
    bigSep Finset.univ Φ ⊢ iprop(Φ i ∗ (Ψ j -∗ bigSep Finset.univ Ψ)) := by
  rw [SparseCore.bigSep_erase' (Finset.mem_univ i) (Φ := Φ), SparseCore.bigSep_erase' (Finset.mem_univ i) (Φ := Ψ),
    SparseCore.bigSep_erase' (Finset.mem_erase.mpr ⟨hij.symm, Finset.mem_univ j⟩) (Φ := Φ), SparseCore.bigSep_erase' (Finset.mem_erase.mpr ⟨hij.symm, Finset.mem_univ j⟩) (Φ := Ψ),
    bigSep_congr (fun k hk => hr k (Finset.mem_erase.mp (Finset.mem_erase.mp hk).2).1 (Finset.mem_erase.mp hk).1), hj, hi]
  iintro ⟨Hi, -, HR⟩
  isplitl [Hi]; · iexact Hi
  iintro Hj
  isplitr; · iempintro
  isplitl [Hj]; · iexact Hj
  iexact HR
theorem give {Φ Ψ : Fin 8 → sProp 𝕄} (j : Fin 8) (hj : Φ j = iprop(emp)) (hr : ∀ k, k ≠ j → Φ k = Ψ k) :
    bigSep Finset.univ Φ ⊢ iprop(Ψ j -∗ bigSep Finset.univ Ψ) := by
  rw [SparseCore.bigSep_erase' (Finset.mem_univ j) (Φ := Φ), SparseCore.bigSep_erase' (Finset.mem_univ j) (Φ := Ψ),
    bigSep_congr (fun k hk => hr k (Finset.mem_erase.mp hk).1), hj]
  iintro ⟨-, HR⟩
  iintro Hj
  isplitl [Hj]; · iexact Hj
  iexact HR
theorem take {Φ Ψ : Fin 8 → sProp 𝕄} (i : Fin 8) (hi : Ψ i = iprop(emp)) (hr : ∀ k, k ≠ i → Φ k = Ψ k) :
    bigSep Finset.univ Φ ⊢ iprop(Φ i ∗ bigSep Finset.univ Ψ) := by
  rw [SparseCore.bigSep_erase' (Finset.mem_univ i) (Φ := Φ), SparseCore.bigSep_erase' (Finset.mem_univ i) (Φ := Ψ),
    bigSep_congr (fun k hk => hr k (Finset.mem_erase.mp hk).1), hi]
  iintro ⟨Hi, HR⟩
  isplitl [Hi]; · iexact Hi
  isplitr; · iempintro
  iexact HR

section
variable (d : Dev nD) (L : grid0.Coords)

theorem inS_step (fi : Buf (Elt F) (iLoc d)) (t : ℕ) (h : t < 7) :
    (inS d L fi t : sProp 𝕄) ⊢ iprop(iN d L fi (B L + (t + 1)) ∗ (iN d L fi (B L + t) -∗ inS d L fi (t + 1))) := by
  unfold inS
  have := take_give (F := F) (Φ := fun k : Fin 8 => if k.val = t then iprop(emp) else iN d L fi (B L + k.val))
    (Ψ := fun k : Fin 8 => if k.val = t + 1 then iprop(emp) else iN d L fi (B L + k.val)) ⟨t + 1, by omega⟩ ⟨t, by omega⟩
    (fun e => by have := congrArg Fin.val e; simp at this) (if_pos rfl) (if_pos rfl)
    (fun k h1 h2 => by
      have h1' : k.val ≠ t + 1 := fun e => h1 (Fin.ext e)
      have h2' : k.val ≠ t := fun e => h2 (Fin.ext e)
      simp only [if_neg h1', if_neg h2'])
  simpa only [Nat.succ_ne_self, if_false, (Nat.succ_ne_self t).symm, show ¬ t + 1 = t by omega, show ¬ t = t + 1 by omega] using this
theorem inS_first (fi : Buf (Elt F) (iLoc d)) : (bigSep Finset.univ (fun k : Fin 8 => iN d L fi (B L + k.val)) : sProp 𝕄) ⊢ iprop(iN d L fi (B L + 0) ∗ inS d L fi 0) :=
  take (F := F) (Φ := fun k : Fin 8 => iN d L fi (B L + k.val)) (Ψ := fun k : Fin 8 => if k.val = 0 then iprop(emp) else iN d L fi (B L + k.val)) 0 (if_pos rfl)
    (fun k h => (if_neg fun e => h (Fin.ext e)).symm)
theorem inS_last (fi : Buf (Elt F) (iLoc d)) : (inS d L fi 7 : sProp 𝕄) ⊢ iprop(iN d L fi (B L + 7) -∗ bigSep Finset.univ (fun k : Fin 8 => iN d L fi (B L + k.val))) :=
  give (F := F) (Φ := fun k : Fin 8 => if k.val = 7 then iprop(emp) else iN d L fi (B L + k.val)) (Ψ := fun k : Fin 8 => iN d L fi (B L + k.val)) 7 (if_pos rfl)
    (fun k h => if_neg fun e => h (Fin.ext e))
theorem outS_zero (fo G : Buf (Elt F) (oLoc d)) : (bigSep Finset.univ (fun k : Fin 8 => oN d L fo (B L + k.val)) : sProp 𝕄) = outS d L fo G 0 :=
  bigSep_congr fun k _ => ((if_neg (Nat.succ_ne_zero _)).trans (if_neg (Nat.not_lt_zero _))).symm
theorem outS_first (fo G : Buf (Elt F) (oLoc d)) : (outS d L fo G 0 : sProp 𝕄) ⊢ iprop(oN d L fo (B L + 0) ∗ outS d L fo G 1) := by
  rw [← outS_zero]
  exact take (F := F) (Φ := fun k : Fin 8 => oN d L fo (B L + k.val)) (Ψ := fun k : Fin 8 => if k.val + 1 = 1 then iprop(emp) else if k.val < 1 then oN d L G (B L + k.val) else oN d L fo (B L + k.val)) 0 (if_pos rfl)
    (fun k h => by
      have h' : k.val ≠ 0 := fun e => h (Fin.ext e)
      simp only [show ¬ k.val + 1 = 1 by omega, show ¬ k.val < 1 by omega, if_false])
theorem outS_step (fo G : Buf (Elt F) (oLoc d)) (t : ℕ) (h0 : 0 < t) (h : t < 8) :
    (outS d L fo G t : sProp 𝕄) ⊢ iprop(oN d L fo (B L + t) ∗ (oN d L G (B L + (t - 1)) -∗ outS d L fo G (t + 1))) := by
  unfold outS
  have := take_give (F := F) (Φ := fun k : Fin 8 => if k.val + 1 = t then iprop(emp) else if k.val < t then oN d L G (B L + k.val) else oN d L fo (B L + k.val))
    (Ψ := fun k : Fin 8 => if k.val + 1 = t + 1 then iprop(emp) else if k.val < t + 1 then oN d L G (B L + k.val) else oN d L fo (B L + k.val)) ⟨t, by omega⟩ ⟨t - 1, by omega⟩
    (fun e => by have := congrArg Fin.val e; simp only at this; omega) (if_pos (by show t - 1 + 1 = t; omega)) (if_pos rfl)
    (fun k h1 h2 => by
      have h1' : k.val ≠ t := fun e => h1 (Fin.ext e)
      have h2' : k.val ≠ t - 1 := fun e => h2 (Fin.ext e)
      by_cases hk : k.val < t
      · simp only [show ¬ k.val + 1 = t by omega, show ¬ k.val + 1 = t + 1 by omega, hk, show k.val < t + 1 by omega, if_false, if_true]
      · simp only [show ¬ k.val + 1 = t by omega, show ¬ k.val + 1 = t + 1 by omega, hk, show ¬ k.val < t + 1 by omega, if_false])
  simpa only [show ¬ t + 1 = t by omega, show ¬ t < t by omega, show ¬ t - 1 + 1 = t + 1 by omega, show t - 1 < t + 1 by omega, if_false, if_true] using this
theorem outS_last (fo G : Buf (Elt F) (oLoc d)) : (outS d L fo G 8 : sProp 𝕄) ⊢ iprop(oN d L G (B L + 7) -∗ bigSep Finset.univ (fun k : Fin 8 => oN d L G (B L + k.val))) :=
  give (F := F) (Φ := fun k : Fin 8 => if k.val + 1 = 8 then iprop(emp) else if k.val < 8 then oN d L G (B L + k.val) else oN d L fo (B L + k.val)) (Ψ := fun k : Fin 8 => oN d L G (B L + k.val)) 7 (if_pos rfl)
    (fun k h => by
      have h' : k.val ≠ 7 := fun e => h (Fin.ext e)
      simp only [show ¬ k.val + 1 = 8 by omega, show k.val < 8 from k.isLt, if_false, if_true])

/-! ## The invariant -/

/-- The slots of the lists before trip `t`: list `t` on its way to its slot, the other slot free; after the last trip both free. -/
def LP (fi : Buf (Elt F) (iLoc d)) (t : ℕ) : sProp 𝕄 :=
  if t < 8 then iprop(iFl d L fi (W t) (iO (B L + t)) (iO_inb _) ∗ zero d L (iSm (W (t + 1))) ∗ iAny d L (W (t + 1)))
  else iprop((zero d L (iSm (W 0)) ∗ iAny d L (W 0)) ∗ zero d L (iSm (W 1)) ∗ iAny d L (W 1))
/-- The slots of the rows before trip `t`: the one of window `t - 1` on its way out, the other free. -/
def RP (G : Buf (Elt F) (oLoc d)) (t : ℕ) : sProp 𝕄 :=
  iprop((zero d L (tSm (W t)) ∗ tAny d L (W t))
    ∗ if 0 < t then oFl d L G (W (t - 1)) (oO (B L + (t - 1))) (oO_inb _) else iprop(zero d L (tSm (W 1)) ∗ tAny d L (W 1)))

def IL (O : CellTallies nD τ sig (HIx 1)) (q : PosShare TreeShare) (fy : Buf (Elt F) (yLoc d)) (fi : Buf (Elt F) (iLoc d)) (fo G : Buf (Elt F) (oLoc d))
    (t : ℕ) (acc : BitVec 32 × BitVec 32 × BitVec 32 × BitVec 32 × BitVec 32) : sProp 𝕄 :=
  iprop(Transfers.MayWaits (VT d L) (default : HIx 1) O ∗ ⌜acc = words t⌝
    ∗ ((yV).view.loc (VT d L) ↦{q} fy)
    ∗ LP d L fi t ∗ (if t < 8 then inS d L fi t else bigSep Finset.univ fun k : Fin 8 => iN d L fi (B L + k.val))
    ∗ RP d L G t ∗ outS d L fo G t
    ∗ gz d L ∗ ow d L O)

/-- One trip keeps the invariant. -/
theorem step (O : CellTallies nD τ sig (HIx 1)) (q : PosShare TreeShare) (fy : Buf (Elt F) (yLoc d)) (fi : Buf (Elt F) (iLoc d)) (fo : Buf (Elt F) (oLoc d))
    (hfi : ∀ j, BitVec.toNat (fi j) < 81920) (t : Fin k0_t1_loop.trips) :
    (IL d L O q fy fi fo (Gv fy fi) t.val (words t.val) : sProp 𝕄)
      ⊢ wp frame (wpE (defs₀ (F := F)) 𝒱₀ (VT d L) none) Set.univ (body L (V4 L) t (words t.val))
          fun r => IL d L O q fy fi fo (Gv fy fi) (t.val + 1) r := by
  have h8 := lt8 t
  have c2 := cond2_eq L t; have c5 := cond5_eq L t
  have ei := off8_eq L t; have eo := off13_eq L t
  have hG := read_Gv d fy fi (B L + t.val) ei eo (by rw [ei]; exact iO_inb _) (by rw [eo]; exact oO_inb _)
  rcases Nat.lt_or_ge 0 t.val with hpos | hz
  · have c7 := cond7_pos L t hpos
    have ep := off16_eq L t hpos
    have hrem : Scalar.remui (W (t.val - 1)) 2#32 = Scalar.remui (W (t.val + 1)) 2#32 := by
      have := remui_add_two (t.val - 1) (by omega)
      rw [← this, show t.val - 1 + 2 = t.val + 1 by omega]
    rcases Nat.lt_or_ge t.val 7 with h7 | h7
    · have c1 := cond1_lt L t h7
      have en := off5_eq L t h7
      have hn := next_eq L t
      unfold IL LP RP
      simp only [if_pos h8, if_pos hpos, if_pos (Nat.succ_pos t.val), show t.val + 1 < 8 by omega, if_true, Nat.add_sub_cancel]
      rw [show words t.val = (W (t.val + 1), W t.val, W t.val, W (t.val - 1), W (t.val % 8)) by unfold words; rw [Nat.min_eq_left (by omega)]]
      rw [Nat.min_eq_left (by omega)] at hn
      iintro ⟨#Hmw, -, Hy, ⟨HFi, Hz6, Hl⟩, Hin, ⟨⟨Hzt, Ht⟩, HFo⟩, Hout, Hgz, HO⟩
      ihave Hin' := (inS_step (F := F) d L fi t.val h7) $$ Hin
      icases Hin' with ⟨Hwn, Hin⟩
      ihave Hout' := (outS_step (F := F) d L fo (Gv fy fi) t.val hpos h8) $$ Hout
      icases Hout' with ⟨Hwo, Hout⟩
      iapply (wp_wand_r Idealize.ShloMosaic.frame (wpE (defs₀ (F := F)) 𝒱₀ (VT d L) none) Set.univ)
      isplitl [Hy HFi Hz6 Hl Hwn Ht Hzt Hwo HFo Hgz HO]
      · iapply (trip_mid (F := F) d L O q (V4 L) t (W (t.val + 1)) (W t.val) (W (t.val - 1)) (W (t.val % 8)) c1 c2 c5 c7 (chk1_eq L t _ _ _ _) (chk2_any _) (chk3_any _)
          fy fi fo (Gv fy fi) hfi (by rw [ei]; exact iO_inb _) (by rw [en]; exact iO_inb _) (by rw [eo]; exact oO_inb _) (by rw [ep]; exact oO_inb _) hG)
        isplitr; · iexact Hmw
        isplitl [Hy]; · iexact Hy
        isplitl [HFi]; · iapply (Entails.of_eq (iFl_congr (F := F) d L fi _ ei.symm _ _)); iexact HFi
        isplitl [Hz6]; · iexact Hz6
        isplitl [Hl]; · iexact Hl
        isplitl [Hwn]; · iapply (Entails.of_eq (iPt_congr (F := F) d L fi en.symm _ _)); iexact Hwn
        isplitl [Ht]; · iexact Ht
        isplitl [Hzt]; · iexact Hzt
        isplitl [Hwo]; · iapply (Entails.of_eq (oPt_congr (F := F) d L fo eo.symm _ _)); iexact Hwo
        isplitl [HFo]; · iapply (Entails.of_eq (oFl_congr (F := F) d L (Gv fy fi) _ ep.symm _ _)); iexact HFo
        isplitl [Hgz]; · iexact Hgz
        iexact HO
      iintro %r ⟨%hr, Hy, HFi, Hz, Hl, Hwi, HFo, Hzt, Ht, Hwp, Hgz, HO⟩
      isplitr; · iexact Hmw
      isplitr; · ipureintro; exact hr.trans hn
      isplitl [Hy]; · iexact Hy
      isplitl [HFi Hz Hl]
      · isplitl [HFi]; · iapply (Entails.of_eq (iFl_congr (F := F) d L fi _ en _ _)); iexact HFi
        isplitl [Hz]; · iapply (Entails.of_eq (congrArg (zero (F := F) d L) (iSm_congr (remui_add_two t.val (by omega))).symm)); iexact Hz
        iapply (Entails.of_eq (iAny_congr (F := F) d L (remui_add_two t.val (by omega))).symm); iexact Hl
      isplitl [Hin Hwi]
      · iapply Hin; iapply (Entails.of_eq (iPt_congr (F := F) d L fi ei _ _)); iexact Hwi
      isplitl [HFo Hzt Ht]
      · isplitl [Hzt Ht]
        · isplitl [Hzt]; · iapply (Entails.of_eq (congrArg (zero (F := F) d L) (tSm_congr hrem))); iexact Hzt
          iapply (Entails.of_eq (tAny_congr (F := F) d L hrem)); iexact Ht
        · iapply (Entails.of_eq (oFl_congr (F := F) d L (Gv fy fi) _ eo _ _)); iexact HFo
      isplitl [Hout Hwp]
      · iapply Hout; iapply (Entails.of_eq (oPt_congr (F := F) d L (Gv fy fi) ep _ _)); iexact Hwp
      isplitl [Hgz]; · iexact Hgz
      iexact HO
    · have h7' : t.val = 7 := by omega
      have c1 := cond1_7 L t h7'
      have hn := next_eq L t
      have r0 : Scalar.remui (W (t.val + 1)) 2#32 = Scalar.remui (W 0) 2#32 := by rw [h7']; decide
      have r1 : Scalar.remui (W t.val) 2#32 = Scalar.remui (W 1) 2#32 := by rw [h7']; decide
      unfold IL LP RP
      simp only [if_pos h8, if_pos hpos, if_pos (Nat.succ_pos t.val), show ¬ t.val + 1 < 8 by omega, if_true, if_false, Nat.add_sub_cancel]
      rw [show words t.val = (W (t.val + 1), W t.val, W t.val, W (t.val - 1), W (t.val % 8)) by unfold words; rw [Nat.min_eq_left (by omega)]]
      rw [Nat.min_eq_left (by omega)] at hn
      iintro ⟨#Hmw, -, Hy, ⟨HFi, Hz6, Hl6⟩, Hin, ⟨⟨Hzt, Ht⟩, HFo⟩, Hout, Hgz, HO⟩
      ihave Hout' := (outS_step (F := F) d L fo (Gv fy fi) t.val hpos h8) $$ Hout
      icases Hout' with ⟨Hwo, Hout⟩
      iapply (wp_wand_r Idealize.ShloMosaic.frame (wpE (defs₀ (F := F)) 𝒱₀ (VT d L) none) Set.univ)
      isplitl [Hy HFi Ht Hzt Hwo HFo Hgz HO]
      · iapply (trip_last (F := F) d L O q (V4 L) t (W (t.val + 1)) (W t.val) (W (t.val - 1)) (W (t.val % 8)) c1 c2 c5 c7 (chk1_eq L t _ _ _ _) (chk2_any _) (chk3_any _)
          fy fi fo (Gv fy fi) hfi (by rw [ei]; exact iO_inb _) (by rw [eo]; exact oO_inb _) (by rw [ep]; exact oO_inb _) hG)
        isplitr; · iexact Hmw
        isplitl [Hy]; · iexact Hy
        isplitl [HFi]; · iapply (Entails.of_eq (iFl_congr (F := F) d L fi _ ei.symm _ _)); iexact HFi
        isplitl [Ht]; · iexact Ht
        isplitl [Hzt]; · iexact Hzt
        isplitl [Hwo]; · iapply (Entails.of_eq (oPt_congr (F := F) d L fo eo.symm _ _)); iexact Hwo
        isplitl [HFo]; · iapply (Entails.of_eq (oFl_congr (F := F) d L (Gv fy fi) _ ep.symm _ _)); iexact HFo
        isplitl [Hgz]; · iexact Hgz
        iexact HO
      iintro %r ⟨%hr, Hy, Hz, Hl, Hwi, HFo, Hzt, Ht, Hwp, Hgz, HO⟩
      isplitr; · iexact Hmw
      isplitr; · ipureintro; exact hr.trans hn
      isplitl [Hy]; · iexact Hy
      isplitl [Hz6 Hl6 Hz Hl]
      · isplitl [Hz6 Hl6]
        · isplitl [Hz6]; · iapply (Entails.of_eq (congrArg (zero (F := F) d L) (iSm_congr r0))); iexact Hz6
          iapply (Entails.of_eq (iAny_congr (F := F) d L r0)); iexact Hl6
        isplitl [Hz]; · iapply (Entails.of_eq (congrArg (zero (F := F) d L) (iSm_congr r1))); iexact Hz
        iapply (Entails.of_eq (iAny_congr (F := F) d L r1)); iexact Hl
      isplitl [Hin Hwi]
      · have hlast := inS_last (F := F) d L fi
        rw [← h7'] at hlast
        iapply hlast $$ Hin
        iapply (Entails.of_eq (iPt_congr (F := F) d L fi ei _ _)); iexact Hwi
      isplitl [HFo Hzt Ht]
      · isplitl [Hzt Ht]
        · isplitl [Hzt]; · iapply (Entails.of_eq (congrArg (zero (F := F) d L) (tSm_congr hrem))); iexact Hzt
          iapply (Entails.of_eq (tAny_congr (F := F) d L hrem)); iexact Ht
        · iapply (Entails.of_eq (oFl_congr (F := F) d L (Gv fy fi) _ eo _ _)); iexact HFo
      isplitl [Hout Hwp]
      · iapply Hout; iapply (Entails.of_eq (oPt_congr (F := F) d L (Gv fy fi) ep _ _)); iexact Hwp
      isplitl [Hgz]; · iexact Hgz
      iexact HO
  · have h0 : t.val = 0 := by omega
    have c7 := cond7_0 L t h0
    have c1 := cond1_lt L t (by omega)
    have en := off5_eq L t (by omega)
    have hn := next_eq L t
    have r1 : Scalar.remui (W 1) 2#32 = Scalar.remui (W (t.val + 1)) 2#32 := by rw [h0]
    unfold IL LP RP
    simp only [if_pos h8, show ¬ 0 < t.val by omega, if_pos (Nat.succ_pos t.val), show t.val + 1 < 8 by omega, if_true, if_false, Nat.add_sub_cancel]
    rw [show words t.val = (W (t.val + 1), W t.val, W t.val, W (t.val - 1), W (t.val % 8)) by unfold words; rw [Nat.min_eq_left (by omega)]]
    rw [Nat.min_eq_left (by omega)] at hn
    iintro ⟨#Hmw, -, Hy, ⟨HFi, Hz6, Hl⟩, Hin, ⟨⟨Hzt, Ht⟩, Hzt1, Ht1⟩, Hout, Hgz, HO⟩
    ihave Hin' := (inS_step (F := F) d L fi t.val (by omega)) $$ Hin
    icases Hin' with ⟨Hwn, Hin⟩
    have hfirst : (outS d L fo (Gv fy fi) t.val : sProp 𝕄) ⊢ iprop(oN d L fo (B L + t.val) ∗ outS d L fo (Gv fy fi) (t.val + 1)) := by
      rw [h0]; exact outS_first (F := F) d L fo (Gv fy fi)
    ihave Hout' := hfirst $$ Hout
    icases Hout' with ⟨Hwo, Hout⟩
    iapply (wp_wand_r Idealize.ShloMosaic.frame (wpE (defs₀ (F := F)) 𝒱₀ (VT d L) none) Set.univ)
    isplitl [Hy HFi Hz6 Hl Hwn Ht Hzt Hwo Hgz HO]
    · iapply (trip_first (F := F) d L O q (V4 L) t (W (t.val + 1)) (W t.val) (W (t.val - 1)) (W (t.val % 8)) c1 c2 c5 c7 (chk1_eq L t _ _ _ _) (chk2_any _) (chk3_any _)
        fy fi fo (Gv fy fi) hfi (by rw [ei]; exact iO_inb _) (by rw [en]; exact iO_inb _) (by rw [eo]; exact oO_inb _) hG)
      isplitr; · iexact Hmw
      isplitl [Hy]; · iexact Hy
      isplitl [HFi]; · iapply (Entails.of_eq (iFl_congr (F := F) d L fi _ ei.symm _ _)); iexact HFi
      isplitl [Hz6]; · iexact Hz6
      isplitl [Hl]; · iexact Hl
      isplitl [Hwn]; · iapply (Entails.of_eq (iPt_congr (F := F) d L fi en.symm _ _)); iexact Hwn
      isplitl [Ht]; · iexact Ht
      isplitl [Hzt]; · iexact Hzt
      isplitl [Hwo]; · iapply (Entails.of_eq (oPt_congr (F := F) d L fo eo.symm _ _)); iexact Hwo
      isplitl [Hgz]; · iexact Hgz
      iexact HO
    iintro %r ⟨%hr, Hy, HFi, Hz, Hl, Hwi, HFo, Hgz, HO⟩
    isplitr; · iexact Hmw
    isplitr; · ipureintro; exact hr.trans hn
    isplitl [Hy]; · iexact Hy
    isplitl [HFi Hz Hl]
    · isplitl [HFi]; · iapply (Entails.of_eq (iFl_congr (F := F) d L fi _ en _ _)); iexact HFi
      isplitl [Hz]; · iapply (Entails.of_eq (congrArg (zero (F := F) d L) (iSm_congr (remui_add_two t.val (by omega))).symm)); iexact Hz
      iapply (Entails.of_eq (iAny_congr (F := F) d L (remui_add_two t.val (by omega))).symm); iexact Hl
    isplitl [Hin Hwi]
    · iapply Hin; iapply (Entails.of_eq (iPt_congr (F := F) d L fi ei _ _)); iexact Hwi
    isplitl [HFo Hzt1 Ht1]
    · isplitl [Hzt1 Ht1]
      · isplitl [Hzt1]; · iapply (Entails.of_eq (congrArg (zero (F := F) d L) (tSm_congr r1))); iexact Hzt1
        iapply (Entails.of_eq (tAny_congr (F := F) d L r1)); iexact Ht1
      · iapply (Entails.of_eq (oFl_congr (F := F) d L (Gv fy fi) _ eo _ _)); iexact HFo
    isplitl [Hout]; · iexact Hout
    isplitl [Hgz]; · iexact Hgz
    iexact HO

theorem step' (O : CellTallies nD τ sig (HIx 1)) (q : PosShare TreeShare) (fy : Buf (Elt F) (yLoc d)) (fi : Buf (Elt F) (iLoc d)) (fo : Buf (Elt F) (oLoc d))
    (hfi : ∀ j, BitVec.toNat (fi j) < 81920) (t : Fin k0_t1_loop.trips) (acc : BitVec 32 × BitVec 32 × BitVec 32 × BitVec 32 × BitVec 32) :
    (IL d L O q fy fi fo (Gv fy fi) t.val acc : sProp 𝕄)
      ⊢ wp frame (wpE (defs₀ (F := F)) 𝒱₀ (VT d L) none) Set.univ (body L (V4 L) t acc)
          fun r => IL d L O q fy fi fo (Gv fy fi) (t.val + 1) r := by
  have e : (IL d L O q fy fi fo (Gv fy fi) t.val acc : sProp 𝕄) ⊢ iprop(⌜acc = words t.val⌝ ∗ IL d L O q fy fi fo (Gv fy fi) t.val acc) := by
    unfold IL
    iintro ⟨#Hmw, %hacc, HR⟩
    isplitr; · ipureintro; exact hacc
    isplitr; · iexact Hmw
    isplitr; · ipureintro; exact hacc
    iexact HR
  refine e.trans ?_
  iintro ⟨%hacc, H⟩
  subst hacc
  iapply (step (F := F) d L O q fy fi fo hfi t); iexact H

theorem iSm_zero : iSm (W 0) = ⟨0, by decide⟩ := by decide

/-- `iFl_intro` of the first slot, its semaphore named by its number. -/
theorem iFl_intro_zero (fi : Buf (Elt F) (iLoc d)) (a : Fin 2 → ℕ) (h : ∀ x, a x + S1x128.size x ≤ S256x128.size x) (l : Buf (Elt F) ((VT d L).loc cc0_scoped0))
    (u : S1x128.Idx → BitVec 32) (hu : u = (iWin a h).view.read (Elt F) fi) :
    (Transfers.Flight countersEmb (VT d L) (SemLoc.dma (⟨0, by decide⟩ : DmaSem sig)) (default : HIx 1) 4096
        iprop(iAt (F := F) d L (W 0) ((iSl (W 0)).view.writes (Elt F) l [⟨Rect.whole S1x128, u⟩]) ∗ iPt d L fi a h) : sProp 𝕄)
      ⊢ iFl d L fi (W 0) a h := by
  rw [← iSm_zero]; exact iFl_intro (F := F) d L fi (W 0) a h l u hu

/-- The task's body on its tile: its lists and the source kept, its windows of rows at what the lists name. -/
theorem tile_run (O : CellTallies nD τ sig (HIx 1)) (q : PosShare TreeShare) (fy : Buf (Elt F) (yLoc d)) (fi : Buf (Elt F) (iLoc d)) (fo : Buf (Elt F) (oLoc d))
    (hfi : ∀ j, BitVec.toNat (fi j) < 81920) :
    (iprop(Transfers.MayWaits (VT d L) (default : HIx 1) O
        ∗ ((yV).view.loc (VT d L) ↦{q} fy)
        ∗ (bigSep Finset.univ fun k : Fin 8 => iN d L fi (B L + k.val))
        ∗ (bigSep Finset.univ fun k : Fin 8 => oN d L fo (B L + k.val))
        ∗ (iAny d L (W 0) ∗ iAny d L (W 1)) ∗ (tAny d L (W 0) ∗ tAny d L (W 1))
        ∗ (zero d L (iSm (W 0)) ∗ zero d L (iSm (W 1)) ∗ zero d L (tSm (W 0)) ∗ zero d L (tSm (W 1)) ∗ gz d L)
        ∗ ow d L O) : sProp 𝕄)
      ⊢ wp frame (wpE (defs₀ (F := F)) 𝒱₀ (VT d L) none) Set.univ
          (cc0_collect (F := F) L yV (Memref.isWhole_whole _) iV (Memref.isWhole_whole _) oV (Memref.isWhole_whole _)
            lV (Memref.isWhole_whole _) cc0_scoped1 tV (Memref.isWhole_whole _) cc0_scoped3 cc0_scoped4 cc0_scoped5 cc0_scoped6 cc0_scoped7)
          fun _ => iprop(((yV).view.loc (VT d L) ↦{q} fy)
            ∗ (bigSep Finset.univ fun k : Fin 8 => iN d L fi (B L + k.val))
            ∗ (bigSep Finset.univ fun k : Fin 8 => oN d L (Gv fy fi) (B L + k.val))
            ∗ (iAny d L (W 0) ∗ iAny d L (W 1)) ∗ (tAny d L (W 0) ∗ tAny d L (W 1))
            ∗ (zero d L (iSm (W 0)) ∗ zero d L (iSm (W 1)) ∗ zero d L (tSm (W 0)) ∗ zero d L (tSm (W 1)) ∗ gz d L)
            ∗ ow d L O) := by
  have e2 := off2_eq L
  have h5 := chk5_0 L; have h4 := chk4_any (W 7)
  iintro ⟨#Hmw, Hy, Hin, Hout, ⟨⟨%l0, Hl0⟩, Hl1⟩, ⟨Ht0, Ht1⟩, ⟨Hzi0, Hzi1, Hzt0, Hzt1, Hgz⟩, ⟨%Wt, HO⟩⟩
  ihave Hin' := (inS_first (F := F) d L fi) $$ Hin
  icases Hin' with ⟨Hw0, Hin⟩
  have hw0 : ∀ x, k0_off2 L x + S1x128.size x ≤ S256x128.size x := by rw [e2]; exact iO_inb _
  ihave Hw0' := (Entails.of_eq (iPt_congr (F := F) d L fi e2.symm _ hw0)) $$ Hw0
  rw [cc0_collect_eq_skeleton]
  unfold cc0_collect_skel
  simp only [k0_part6_eq_skeleton, k0_part7_eq_skeleton]
  unfold k0_part6_skel k0_part7_skel
  sl_exec
  first | rw [bind_assoc] | simp only [Prog.bind_assoc] | rw [wp_bind]
  sl_for (IL (F := F) d L O q fy fi fo (Gv fy fi)) $$ [Hy Hin Hout Hl1 Ht0 Ht1 Hzi0 Hzi1 Hzt0 Hzt1 Hgz HO]
  · intro k acc
    exact step' (F := F) d L O q fy fi fo hfi k acc
  · ihave HF := (iFl_intro_zero (F := F) d L fi (k0_off2 L) hw0 l0 (tile_run.sl.dma0 d L fi) rfl) $$ Hzi0
    unfold IL LP RP
    simp only [show (0 : ℕ) < 8 by decide, show ¬ (0 : ℕ) < 0 by decide, if_true, if_false]
    isplitr; · iexact Hmw
    isplitr; · ipureintro; rfl
    isplitl [Hy]; · iexact Hy
    isplitl [HF Hzi1 Hl1]
    · isplitl [HF]; · iapply (Entails.of_eq (iFl_congr (F := F) d L fi _ e2 _ _)); iexact HF
      isplitl [Hzi1]; · iexact Hzi1
      iexact Hl1
    isplitl [Hin]; · iexact Hin
    isplitl [Ht0 Ht1 Hzt0 Hzt1]
    · isplitl [Ht0 Hzt0]
      · isplitl [Hzt0]; · iexact Hzt0
        iexact Ht0
      isplitl [Hzt1]; · iexact Hzt1
      iexact Ht1
    isplitl [Hout]; · iapply (Entails.of_eq (outS_zero (F := F) d L fo (Gv fy fi))); iexact Hout
    isplitl [Hgz]; · iexact Hgz
    iexists _; iexact HO
  iintro %acc HI
  rw [show Scf.trips k0_t1_loop.lb k0_t1_loop.ub k0_t1_loop.st = 8 from trips_eq]
  unfold IL LP RP
  simp only [show ¬ (8 : ℕ) < 8 by decide, show (0 : ℕ) < 8 by decide, if_true, if_false]
  icases HI with ⟨-, %hacc, Hy, ⟨⟨Hzi0, Hl0⟩, Hzi1, Hl1⟩, Hin, ⟨⟨Hzt0, Ht0⟩, ⟨%g0, HFo⟩⟩, Hout, Hgz, ⟨%W1, HO⟩⟩
  subst hacc
  rw [show words 8 = (W 8, W 8, W 8, W 7, W 0) from rfl]
  sl_unfold [tile_run.sl.prog.cont_1]
  sl_exec (disch := first | sl_exact h5 | sl_exact h4 | omega)
  sl_step
  have r8 : Scalar.remui (W 8) 2#32 = Scalar.remui (W 0) 2#32 := by decide
  have r7 : Scalar.remui (W (8 - 1)) 2#32 = Scalar.remui (W 1) 2#32 := by decide
  isplitl [Hy]; · iexact Hy
  isplitl [Hin]; · iexact Hin
  isplitl [Hout HFo_dst]
  · iapply (outS_last (F := F) d L fo (Gv fy fi)) $$ Hout; iexact HFo_dst
  isplitl [Hl0 Hl1]
  · isplitl [Hl0]; · iexact Hl0
    iexact Hl1
  isplitl [Ht0 HFo_src]
  · isplitl [Ht0]; · iapply (Entails.of_eq (tAny_congr (F := F) d L r8)); iexact Ht0
    iapply (Entails.of_eq (tAny_congr (F := F) d L r7)); iexists g0; iexact HFo_src
  isplitl [Hzi0 Hzi1 Hzt0 HFo Hgz]
  · isplitl [Hzi0]; · iexact Hzi0
    isplitl [Hzi1]; · iexact Hzi1
    isplitl [Hzt0]; · iapply (Entails.of_eq (congrArg (zero (F := F) d L) (tSm_congr r8))); iexact Hzt0
    isplitl [HFo]; · iapply (Entails.of_eq (congrArg (zero (F := F) d L) (tSm_congr r7))); iexact HFo
    iexact Hgz
  iexists _; iexact HO

end
end Cert.Proof.Collect

end
-- ==== Proof.Split.lean ====
/- What the launch deals a tile and what it takes back: the lists, the source and the output cut by windows and by
    tiles, the two rings cut by slots, the tile's semaphores one by one. -/
module

public import proofs.«01_k».proof.Proof.Tile

@[expose] public section

noncomputable section

namespace Cert.Proof.Collect

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The windows, cut and joined -/

/-- The places of list `n`, and of the rows of window `n`. -/
def iWs (n : ℕ) : Finset S256x128.Idx := (iWin (iO n) (iO_inb n)).view.set
def oWs (n : ℕ) : Finset S8192x8x128.Idx := (oWin (oO n) (oO_inb n)).view.set

theorem iWs_rect (n : ℕ) : iWs n = (Rect.unit (s := S256x128) (iO n) S1x128.size (iO_inb n)).set := by
  show ((View.whole (main_v1_scv : Ref sig .scVector)).slice _).set = _
  rw [View.set_slice]; exact Finset.map_refl
theorem oWs_rect (n : ℕ) : oWs n = (Rect.unit (s := S8192x8x128) (oO n) S32x8x128.size (oO_inb n)).set := by
  show ((View.whole (main_v2_scv : Ref sig .scVector)).slice _).set = _
  rw [View.set_slice]; exact Finset.map_refl

theorem mem_iWs (n : ℕ) (x : S256x128.Idx) : x ∈ iWs n ↔ (x 0).val = n % 256 := by
  rw [iWs_rect, Rect.mem_set_unit]
  constructor
  · intro h
    have h0 : n % 256 ≤ (x 0).val ∧ (x 0).val < n % 256 + 1 := h 0
    omega
  · intro h a
    have h1 : (x 1).val < 128 := (x 1).isLt
    fin_cases a
    · show n % 256 ≤ (x 0).val ∧ (x 0).val < n % 256 + 1; omega
    · show 0 ≤ (x 1).val ∧ (x 1).val < 0 + 128; omega
theorem mem_oWs (n : ℕ) (x : S8192x8x128.Idx) : x ∈ oWs n ↔ (x 0).val / 32 = n % 256 := by
  rw [oWs_rect, Rect.mem_set_unit]
  constructor
  · intro h
    have h0 : 32 * (n % 256) ≤ (x 0).val ∧ (x 0).val < 32 * (n % 256) + 32 := h 0
    omega
  · intro h a
    have h1 : (x 1).val < 8 := (x 1).isLt
    have h2 : (x 2).val < 128 := (x 2).isLt
    fin_cases a
    · show 32 * (n % 256) ≤ (x 0).val ∧ (x 0).val < 32 * (n % 256) + 32; omega
    · show 0 ≤ (x 1).val ∧ (x 1).val < 0 + 8; omega
    · show 0 ≤ (x 2).val ∧ (x 2).val < 0 + 128; omega

theorem iWs_disjoint : ∀ a ∈ (Finset.univ : Finset (Fin 256)), ∀ b ∈ (Finset.univ : Finset (Fin 256)), a ≠ b → Disjoint (iWs a.val) (iWs b.val) := by
  intro a _ b _ h
  rw [Finset.disjoint_left]; intro x hx hy
  rw [mem_iWs] at hx hy
  exact h (Fin.ext (by have := a.isLt; have := b.isLt; omega))
theorem oWs_disjoint : ∀ a ∈ (Finset.univ : Finset (Fin 256)), ∀ b ∈ (Finset.univ : Finset (Fin 256)), a ≠ b → Disjoint (oWs a.val) (oWs b.val) := by
  intro a _ b _ h
  rw [Finset.disjoint_left]; intro x hx hy
  rw [mem_oWs] at hx hy
  exact h (Fin.ext (by have := a.isLt; have := b.isLt; omega))
theorem iWs_cover : (Finset.univ : Finset (Fin 256)).biUnion (fun n => iWs n.val) = Finset.univ := by
  refine Finset.eq_univ_of_forall fun x => Finset.mem_biUnion.mpr ⟨⟨(x 0).val, (x 0).isLt⟩, Finset.mem_univ _, ?_⟩
  rw [mem_iWs]; have : (x 0).val < 256 := (x 0).isLt; show (x 0).val = (x 0).val % 256; omega
theorem oWs_cover : (Finset.univ : Finset (Fin 256)).biUnion (fun n => oWs n.val) = Finset.univ := by
  have hx (x : S8192x8x128.Idx) : (x 0).val < 8192 := (x 0).isLt
  refine Finset.eq_univ_of_forall fun x => Finset.mem_biUnion.mpr ⟨⟨(x 0).val / 32, by have := hx x; omega⟩, Finset.mem_univ _, ?_⟩
  rw [mem_oWs]; have := hx x; show (x 0).val / 32 = ((x 0).val / 32) % 256; omega

variable (d : Dev nD)

abbrev iW (fi : Buf (Elt F) (iLoc d)) (n : ℕ) : sProp 𝕄 := iLoc d ↦[iWs n]{fullShare} fi
abbrev oW (fo : Buf (Elt F) (oLoc d)) (n : ℕ) : sProp 𝕄 := oLoc d ↦[oWs n]{fullShare} fo

theorem iN_eq (L : grid0.Coords) (fi : Buf (Elt F) (iLoc d)) (n : ℕ) : (iN d L fi n : sProp 𝕄) = iW d fi n := rfl
theorem oN_eq (L : grid0.Coords) (fo : Buf (Elt F) (oLoc d)) (n : ℕ) : (oN d L fo n : sProp 𝕄) = oW d fo n := rfl

/-- 256 things numbered are those of each core's each subcore's eight windows; 32 things numbered one of each subcore. -/
theorem by_tiles (Φ : ℕ → sProp 𝕄) : (bigSep Finset.univ fun n : Fin 256 => Φ n.val)
    = bigSep Finset.univ fun c : Fin 2 => bigSep Finset.univ fun s : Fin 16 => bigSep Finset.univ fun k : Fin 8 => Φ (8 * (16 * c.val + s.val) + k.val) := by
  rw [bigSep_univ_equiv (finProdFinEquiv (m := 32) (n := 8)) (fun n : Fin (32 * 8) => Φ n.val), BI.bigSep_univ_prod,
    bigSep_univ_equiv (finProdFinEquiv (m := 2) (n := 16)) (fun t : Fin (2 * 16) => bigSep Finset.univ fun k : Fin 8 => Φ (finProdFinEquiv (m := 32) (n := 8) (t, k)).val), BI.bigSep_univ_prod]
  refine bigSep_congr fun c _ => bigSep_congr fun s _ => bigSep_congr fun k _ => congrArg Φ ?_
  show k.val + 8 * (s.val + 16 * c.val) = _
  omega
theorem by_tasks (Φ : ℕ → sProp 𝕄) : (bigSep (Finset.range 32) Φ)
    = bigSep Finset.univ fun c : Fin 2 => bigSep Finset.univ fun s : Fin 16 => Φ (16 * c.val + s.val) := by
  rw [show Finset.range 32 = (Finset.univ : Finset (Fin 32)).map Fin.valEmbedding by decide, BI.bigSep_map,
    bigSep_univ_equiv (finProdFinEquiv (m := 2) (n := 16)), BI.bigSep_univ_prod]
  refine bigSep_congr fun c _ => bigSep_congr fun s _ => congrArg Φ ?_
  show s.val + 16 * c.val = _
  omega

theorem i_tiles (fi : Buf (Elt F) (iLoc d)) : (iLoc d ↦{fullShare} fi : sProp 𝕄)
    = bigSep Finset.univ fun c : Fin 2 => bigSep Finset.univ fun s : Fin 16 => bigSep Finset.univ fun k : Fin 8 => iW d fi (8 * (16 * c.val + s.val) + k.val) := by
  rw [← by_tiles (F := F) (fun n => iW d fi n), ← pointsTo_biUnion Finset.univ (ℓ := iLoc d) (fun n : Fin 256 => iWs n.val) iWs_disjoint, iWs_cover]
theorem o_tiles (fo : Buf (Elt F) (oLoc d)) : (oLoc d ↦{fullShare} fo : sProp 𝕄)
    = bigSep Finset.univ fun c : Fin 2 => bigSep Finset.univ fun s : Fin 16 => bigSep Finset.univ fun k : Fin 8 => oW d fo (8 * (16 * c.val + s.val) + k.val) := by
  rw [← by_tiles (F := F) (fun n => oW d fo n), ← pointsTo_biUnion Finset.univ (ℓ := oLoc d) (fun n : Fin 256 => oWs n.val) oWs_disjoint, oWs_cover]

/-- The share of the source that goes to a tile. -/
abbrev yq (c s : ℕ) : PosShare TreeShare := Transfers.shareTokN fullShare (16 * c + s)
theorem y_tiles (fy : Buf (Elt F) (yLoc d)) : (yLoc d ↦{fullShare} fy : sProp 𝕄)
    ⊣⊢ iprop((yLoc d ↦{Transfers.shareDrop fullShare 32} fy)
      ∗ bigSep Finset.univ fun c : Fin 2 => bigSep Finset.univ fun s : Fin 16 => yLoc d ↦{yq c.val s.val} fy) := by
  rw [← by_tasks (F := F) (fun n => yLoc d ↦{Transfers.shareTokN fullShare n} fy)]
  exact Transfers.pointsTo_toks_range (ℓ := yLoc d) (S := Finset.univ) (f := fy) fullShare 32

/-! ## The two slots of each ring -/

def iSs (k : ℕ) : Finset S2x1x128.Idx := (iSl (W k)).view.set
def tSs (k : ℕ) : Finset S2x32x8x128.Idx := (tSl (W k)).view.set
theorem slot_word : ∀ k : Fin 2, (Scalar.remui (W k.val) 2#32).toNat = k.val := by decide

theorem iSs_rect (k : ℕ) : iSs k = (Rect.unit (s := S2x1x128) (k0_off7 (W k)) S1x1x128.size (off7_inb _)).set := by
  show (((View.whole (cc0_scoped0 : Ref sig .scVector)).slice _).reshape _ _).set = _
  rw [View.set_reshape, View.set_slice]; exact Finset.map_refl
theorem tSs_rect (k : ℕ) : tSs k = (Rect.unit (s := S2x32x8x128) (k0_off12 (W k)) S1x32x8x128.size (off12_inb _)).set := by
  show (((View.whole (cc0_scoped2 : Ref sig .scVector)).slice _).reshape _ _).set = _
  rw [View.set_reshape, View.set_slice]; exact Finset.map_refl

theorem mem_iSs (k : Fin 2) (x : S2x1x128.Idx) : x ∈ iSs k.val ↔ (x 0).val = k.val := by
  have e0 := slot_word k
  rw [iSs_rect, Rect.mem_set_unit]
  constructor
  · intro h
    have h0 : (Scalar.remui (W k.val) 2#32).toNat ≤ (x 0).val ∧ (x 0).val < (Scalar.remui (W k.val) 2#32).toNat + 1 := h 0
    omega
  · intro h a
    have h1 : (x 1).val < 1 := (x 1).isLt
    have h2 : (x 2).val < 128 := (x 2).isLt
    fin_cases a
    · show (Scalar.remui (W k.val) 2#32).toNat ≤ (x 0).val ∧ (x 0).val < (Scalar.remui (W k.val) 2#32).toNat + 1; omega
    · show 0 ≤ (x 1).val ∧ (x 1).val < 0 + 1; omega
    · show 0 ≤ (x 2).val ∧ (x 2).val < 0 + 128; omega
theorem mem_tSs (k : Fin 2) (x : S2x32x8x128.Idx) : x ∈ tSs k.val ↔ (x 0).val = k.val := by
  have e0 := slot_word k
  rw [tSs_rect, Rect.mem_set_unit]
  constructor
  · intro h
    have h0 : (Scalar.remui (W k.val) 2#32).toNat ≤ (x 0).val ∧ (x 0).val < (Scalar.remui (W k.val) 2#32).toNat + 1 := h 0
    omega
  · intro h a
    have h1 : (x 1).val < 32 := (x 1).isLt
    have h2 : (x 2).val < 8 := (x 2).isLt
    have h3 : (x 3).val < 128 := (x 3).isLt
    fin_cases a
    · show (Scalar.remui (W k.val) 2#32).toNat ≤ (x 0).val ∧ (x 0).val < (Scalar.remui (W k.val) 2#32).toNat + 1; omega
    · show 0 ≤ (x 1).val ∧ (x 1).val < 0 + 32; omega
    · show 0 ≤ (x 2).val ∧ (x 2).val < 0 + 8; omega
    · show 0 ≤ (x 3).val ∧ (x 3).val < 0 + 128; omega

section
variable (L : grid0.Coords)

theorem iSs_disjoint : ∀ a ∈ (Finset.univ : Finset (Fin 2)), ∀ b ∈ (Finset.univ : Finset (Fin 2)), a ≠ b → Disjoint (iSs a.val) (iSs b.val) := by
  intro a _ b _ h
  rw [Finset.disjoint_left]; intro x hx hy
  rw [mem_iSs] at hx hy
  exact h (Fin.ext (hx.symm.trans hy))
theorem tSs_disjoint : ∀ a ∈ (Finset.univ : Finset (Fin 2)), ∀ b ∈ (Finset.univ : Finset (Fin 2)), a ≠ b → Disjoint (tSs a.val) (tSs b.val) := by
  intro a _ b _ h
  rw [Finset.disjoint_left]; intro x hx hy
  rw [mem_tSs] at hx hy
  exact h (Fin.ext (hx.symm.trans hy))
theorem iSs_cover : (Finset.univ : Finset (Fin 2)).biUnion (fun k => iSs k.val) = Finset.univ := by
  refine Finset.eq_univ_of_forall fun x => Finset.mem_biUnion.mpr ⟨⟨(x 0).val, (x 0).isLt⟩, Finset.mem_univ _, ?_⟩
  rw [mem_iSs]
theorem tSs_cover : (Finset.univ : Finset (Fin 2)).biUnion (fun k => tSs k.val) = Finset.univ := by
  refine Finset.eq_univ_of_forall fun x => Finset.mem_biUnion.mpr ⟨⟨(x 0).val, (x 0).isLt⟩, Finset.mem_univ _, ?_⟩
  rw [mem_tSs]

theorem l_slots (l : Buf (Elt F) ((VT d L).loc cc0_scoped0)) : ((VT d L).loc cc0_scoped0 ↦{fullShare} l : sProp 𝕄) = iprop(iAt d L (W 0) l ∗ iAt d L (W 1) l) := by
  have h := pointsTo_biUnion (Val := Elt F) (U := UU) (Ix := HIx 1) (Name := ℕ) (Lvl := ℕ) Finset.univ (ℓ := (VT d L).loc cc0_scoped0) (q := fullShare) (f := l) (fun k : Fin 2 => iSs k.val) iSs_disjoint
  rw [iSs_cover, BI.bigSep_fin_two] at h
  exact h
theorem t_slots (g : Buf (Elt F) ((VT d L).loc cc0_scoped2)) : ((VT d L).loc cc0_scoped2 ↦{fullShare} g : sProp 𝕄) = iprop(tAt d L (W 0) g ∗ tAt d L (W 1) g) := by
  have h := pointsTo_biUnion (Val := Elt F) (U := UU) (Ix := HIx 1) (Name := ℕ) (Lvl := ℕ) Finset.univ (ℓ := (VT d L).loc cc0_scoped2) (q := fullShare) (f := g) (fun k : Fin 2 => tSs k.val) tSs_disjoint
  rw [tSs_cover, BI.bigSep_fin_two] at h
  exact h

theorem l_join : iprop(iAny d L (W 0) ∗ iAny d L (W 1)) ⊢ (iprop(∃ l, (VT d L).loc cc0_scoped0 ↦{fullShare} l) : sProp 𝕄) := by
  iintro ⟨⟨%l0, H0⟩, ⟨%l1, H1⟩⟩
  have h := pointsTo_biUnion_join (ℓ := (VT d L).loc cc0_scoped0) (q := fullShare) (Val := Elt F) (U := UU) (Ix := HIx 1) (Name := ℕ) (Lvl := ℕ) Finset.univ
    (fun k : Fin 2 => iSs k.val) (fun k => if k = 0 then l0 else l1) l0 iSs_disjoint
  rw [iSs_cover, BI.bigSep_fin_two] at h
  have h' : iprop(iAt d L (W 0) l0 ∗ iAt d L (W 1) l1) ⊢ (iprop(∃ g, (VT d L).loc cc0_scoped0 ↦{fullShare} g) : sProp 𝕄) := by
    refine BIBase.Entails.trans h ?_
    iintro ⟨%g, -, Hg⟩
    iexists g; iexact Hg
  iapply h'
  isplitl [H0]; · iexact H0
  iexact H1
theorem t_join : iprop(tAny d L (W 0) ∗ tAny d L (W 1)) ⊢ (iprop(∃ g, (VT d L).loc cc0_scoped2 ↦{fullShare} g) : sProp 𝕄) := by
  iintro ⟨⟨%l0, H0⟩, ⟨%l1, H1⟩⟩
  have h := pointsTo_biUnion_join (ℓ := (VT d L).loc cc0_scoped2) (q := fullShare) (Val := Elt F) (U := UU) (Ix := HIx 1) (Name := ℕ) (Lvl := ℕ) Finset.univ
    (fun k : Fin 2 => tSs k.val) (fun k => if k = 0 then l0 else l1) l0 tSs_disjoint
  rw [tSs_cover, BI.bigSep_fin_two] at h
  have h' : iprop(tAt d L (W 0) l0 ∗ tAt d L (W 1) l1) ⊢ (iprop(∃ g, (VT d L).loc cc0_scoped2 ↦{fullShare} g) : sProp 𝕄) := by
    refine BIBase.Entails.trans h ?_
    iintro ⟨%g, -, Hg⟩
    iexists g; iexact Hg
  iapply h'
  isplitl [H0]; · iexact H0
  iexact H1

end

end Cert.Proof.Collect

end
-- ==== Proof.Launch.lean ====
/- The task on its tile from what the launch deals it, the launch of the 32 tasks, and @main: the host's padding of the
    lists, the call, and what the memory holds at the end. -/
module

public import proofs.«01_k».proof.Proof.Split

@[expose] public section

noncomputable section

namespace Cert.Proof.Collect

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
open Idealize.ShloMosaic.StableHlo (held held_split after wp_seq seq)

section
variable (d : Dev nD) (L : grid0.Coords)

/-! ## The tile's own semaphores and scratch -/

/-- The eight transfer semaphores of a tile by number. -/
abbrev cell (d : Dev nD) (c : Fin τ.nSC) (i : Fin τ.nSub) (k : Fin 8) : GSem nD τ sig := (V d c i, .dma (⟨k.val, k.isLt⟩ : DmaSem sig))

theorem cell_own (c : Fin τ.nSC) (i : Fin τ.nSub) (k : Fin 8) : cell d c i k ∈ ownCells (V d c i) :=
  mem_ownCells.mpr ⟨rfl, (show ∀ s : DmaSem sig, (SemLoc.dma s : SemLoc sig).isScoped .scVector = true by decide) _⟩

abbrev cells : sProp 𝕄 :=
  iprop(zero d L (iSm (W 0)) ∗ zero d L (iSm (W 1)) ∗ zero d L (tSm (W 0)) ∗ zero d L (tSm (W 1)) ∗ gz d L)

theorem cells_eq : (bigSep Finset.univ fun k : Fin 8 => semVal (cell d (cV L) (jV L) k) 0 : sProp 𝕄) = cells d L := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  unfold cells gz
  rw [show iSm (W 0) = ⟨0, by decide⟩ by decide, show iSm (W 1) = ⟨1, by decide⟩ by decide, show tSm (W 0) = ⟨2, by decide⟩ by decide,
    show tSm (W 1) = ⟨3, by decide⟩ by decide]
  rfl

theorem own_cells : (ownSems0 (VT d L) : sProp 𝕄)
    = iprop(cells d L ∗ bigSep (ownCells (VT d L) \ Finset.univ.image (cell d (cV L) (jV L))) fun g => semVal g 0) := by
  unfold SparseCore.Cfg.ownSems0
  rw [SparseCore.bigSep_sdiff_split' (t := Finset.univ.image (cell d (cV L) (jV L))) (Finset.image_subset_iff.mpr fun k _ => cell_own d (cV L) (jV L) k),
    SparseCore.bigSep_image_of_injOn (fun a _ b _ h => by
      have := congrArg (fun g : GSem nD τ sig => g.2) h
      simp only [SemLoc.dma.injEq, Fin.mk.injEq] at this; exact Fin.ext this),
    cells_eq]

abbrev refOf (b : Ref sig .scVector) : DevRef τ sig := (Proc.scVector (cV L) (jV L)).devRef b

/-- The two rings among the tile's own buffers. -/
theorem own_bufs : (ownBufs (VT d L) : sProp 𝕄)
    = iprop((∃ l, (VT d L).loc cc0_scoped0 ↦{fullShare} l) ∗ (∃ g, (VT d L).loc cc0_scoped2 ↦{fullShare} g)
        ∗ bigSep (((ownRefs (τ := τ) (.scVector (cV L) (jV L))).erase (refOf L cc0_scoped0)).erase (refOf L cc0_scoped2))
            fun b => iprop(∃ f, ((d, b) : Loc nD τ sig) ↦{fullShare} f)) := by
  have h0 : refOf L cc0_scoped0 ∈ ownRefs (τ := τ) (.scVector (cV L) (jV L)) := SparseCore.Cfg.mem_ownRefs_of_owner (p := Proc.scVector (cV L) (jV L)) rfl
  have h2 : refOf L cc0_scoped2 ∈ (ownRefs (τ := τ) (.scVector (cV L) (jV L))).erase (refOf L cc0_scoped0) :=
    Finset.mem_erase.mpr ⟨fun e => absurd (Proc.devRef_injective _ e) (show (cc0_scoped2 : Ref sig .scVector) ≠ cc0_scoped0 by decide),
      SparseCore.Cfg.mem_ownRefs_of_owner (p := Proc.scVector (cV L) (jV L)) rfl⟩
  unfold SparseCore.Cfg.ownBufs
  rw [SparseCore.bigSep_erase' h0, SparseCore.bigSep_erase' h2]

/-! ## The task -/

/-- What a tile is dealt, and what it gives back: its share of the source, its lists, its rows at contents `fo`. -/
abbrev dealt (d : Dev nD) (fy : Buf (Elt F) (yLoc d)) (fi : Buf (Elt F) (iLoc d)) (fo : Buf (Elt F) (oLoc d)) (c s : ℕ) : sProp 𝕄 :=
  iprop((yLoc d ↦{yq c s} fy) ∗ (bigSep Finset.univ fun k : Fin 8 => iW d fi (8 * (16 * c + s) + k.val))
    ∗ bigSep Finset.univ fun k : Fin 8 => oW d fo (8 * (16 * c + s) + k.val))

theorem task (hF : (K (F := F)).Facts) (O : CellTallies nD τ sig (HIx 1)) (Wt : Waits sig (HIx 1)) (hO : ∀ g, O g none = 0)
    (fy : Buf (Elt F) (yLoc d)) (fi : Buf (Elt F) (iLoc d)) (fo : Buf (Elt F) (oLoc d)) (hfi : ∀ j, BitVec.toNat (fi j) < 81920) :
    iprop(levAts (K (F := F)).L (K (F := F)).lev ∗ emp ∗ dealt d fy fi fo (L 0).val (L 1).val
        ∗ scopedBufs (VT d L) ∗ scopedSems0 (VT d L) ∗ owes (VT d L) O Wt)
      ⊢ wp frame (wpE (defs₀ (F := F)) 𝒱₀ (VT d L) none) Set.univ
          (cc0_collect (F := F) L yV (Memref.isWhole_whole _) iV (Memref.isWhole_whole _) oV (Memref.isWhole_whole _)
            lV (Memref.isWhole_whole _) cc0_scoped1 tV (Memref.isWhole_whole _) cc0_scoped3 cc0_scoped4 cc0_scoped5 cc0_scoped6 cc0_scoped7)
          fun _ => iprop(dealt d fy fi (Gv fy fi) (L 0).val (L 1).val ∗ scopedBufs (VT d L) ∗ scopedSems0 (VT d L)
            ∗ ∃ W', ⌜∀ p ∈ W', p ∈ Wt ∨ p.2 = none ∨ p.2 = some (0 : Fin 1)⌝ ∗ owes (VT d L) O W') := by
  rw [(K (F := F)).scopedBufs_V hF d (cV L) (jV L), SparseCore.Cfg.scopedSems0_V (Val := Elt F) d (cV L) (jV L), own_cells, own_bufs]
  iintro ⟨#Hlv, -, ⟨Hy, Hi, Ho⟩, ⟨⟨%l0, HL⟩, ⟨%g0, HT⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave HL' := (Entails.of_eq (l_slots (F := F) d L l0)) $$ HL
  ihave HT' := (Entails.of_eq (t_slots (F := F) d L g0)) $$ HT
  icases HL' with ⟨HL0, HL1⟩
  icases HT' with ⟨HT0, HT1⟩
  iapply (wp_wand_r Idealize.ShloMosaic.frame (wpE (defs₀ (F := F)) 𝒱₀ (VT d L) none) Set.univ)
  isplitl [Hy Hi Ho HL0 HL1 HT0 HT1 HC HO]
  · iapply (tile_run (F := F) d L O (yq (L 0).val (L 1).val) fy fi fo hfi)
    isplitr; · iexact Hmw
    isplitl [Hy]; · iexact Hy
    isplitl [Hi]; · iexact Hi
    isplitl [Ho]; · iexact Ho
    isplitl [HL0 HL1]
    · isplitl [HL0]; · iexists _; iexact HL0
      iexists _; iexact HL1
    isplitl [HT0 HT1]
    · isplitl [HT0]; · iexists _; iexact HT0
      iexists _; iexact HT1
    isplitl [HC]; · iexact HC
    iexists _; iexact HO
  iintro %_ ⟨Hy, Hi, Ho, HL, HT, HC, ⟨%W', HO⟩⟩
  isplitl [Hy Hi Ho]
  · isplitl [Hy]; · iexact Hy
    isplitl [Hi]; · iexact Hi
    iexact Ho
  isplitl [HL HT Hbufs]
  · isplitl [HL]; · iapply (l_join (F := F) d L); iexact HL
    isplitl [HT]; · iapply (t_join (F := F) d L); iexact HT
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

end

/-! ## What the handshakes carry -/

variable (fy : (d : Dev nD) → Buf (Elt F) (yLoc d)) (fi : (d : Dev nD) → Buf (Elt F) (iLoc d)) (fo : (d : Dev nD) → Buf (Elt F) (oLoc d))

def P : (K (F := F)).Pay (nD := nD) (Val := Elt F) (Name := ℕ) (U := UU) where
  st := fun q d c => match q with | 0 => bigSep Finset.univ fun s : Fin 16 => dealt d (fy d) (fi d) (fo d) c.val s.val
  dn := fun q d c => match q with | 0 => bigSep Finset.univ fun s : Fin 16 => dealt d (fy d) (fi d) (Gv (fy d) (fi d)) c.val s.val
  go := fun q d c s => match q with | 0 => dealt d (fy d) (fi d) (fo d) c.val s.val
  td := fun q d c s => match q with | 0 => dealt d (fy d) (fi d) (Gv (fy d) (fi d)) c.val s.val
  x := fun _ _ => iprop(emp)

instance dealt_storable (d : Dev nD) (fy fi fo) (c s : ℕ) : BI.Storable (upEmb : UEmb _ 𝕄) (dealt (F := F) d fy fi fo c s) := by
  unfold dealt; infer_instance

instance P_storable : (P (F := F) fy fi fo).IsStorable where
  st q d c := match q with
    | 0 => (inferInstance : BI.Storable (upEmb : UEmb _ 𝕄) (bigSep Finset.univ fun s : Fin 16 => dealt d (fy d) (fi d) (fo d) c.val s.val))
  dn q d c := match q with
    | 0 => (inferInstance : BI.Storable (upEmb : UEmb _ 𝕄) (bigSep Finset.univ fun s : Fin 16 => dealt d (fy d) (fi d) (Gv (fy d) (fi d)) c.val s.val))
  go q d c s := match q with
    | 0 => (inferInstance : BI.Storable (upEmb : UEmb _ 𝕄) (dealt d (fy d) (fi d) (fo d) c.val s.val))
  td q d c s := match q with
    | 0 => (inferInstance : BI.Storable (upEmb : UEmb _ 𝕄) (dealt d (fy d) (fi d) (Gv (fy d) (fi d)) c.val s.val))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_collect (F := F) (coordsV c s) yV (Memref.isWhole_whole _) iV (Memref.isWhole_whole _) oV (Memref.isWhole_whole _)
          lV (Memref.isWhole_whole _) cc0_scoped1 tV (Memref.isWhole_whole _) cc0_scoped3 cc0_scoped4 cc0_scoped5 cc0_scoped6 cc0_scoped7) ⟨⟩ c s := rfl

theorem tileObl (hF : (K (F := F)).Facts) (hfi : ∀ d j, BitVec.toNat (fi d j) < 81920) : (K (F := F)).TileObl (D (F := F)) 𝒱 (P fy fi fo) v₀ 0 := by
  intro d c i O Wt hO _ _
  simp only [show (P fy fi fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task d (coordsV ⟨_, hci.1⟩ ⟨_, hci.2⟩) hF O Wt hO (fy d) (fi d) (fo d) (hfi d)

theorem vecSplit : (K (F := F)).VecSplit' (P fy fi fo) 0 := by
  intro d c
  show (bigSep Finset.univ fun s : Fin 16 => dealt d (fy d) (fi d) (fo d) c.val s.val) ⊢ |={Set.univ}=> iprop(
      (bigSep Finset.univ fun s : Fin 16 => dealt d (fy d) (fi d) (fo d) c.val s.val)
      ∗ ((bigSep Finset.univ fun s : Fin 16 => dealt d (fy d) (fi d) (Gv (fy d) (fi d)) c.val s.val)
          -∗ bigSep Finset.univ fun s : Fin 16 => dealt d (fy d) (fi d) (Gv (fy d) (fi d)) c.val s.val))
  iintro H; imodintro
  isplitl [H]; · iexact H
  iintro H; iexact H

/-- Source, lists and output whole are what the tiles are dealt and what of the source stays behind. -/
theorem deal (d : Dev nD) (fy : Buf (Elt F) (yLoc d)) (fi : Buf (Elt F) (iLoc d)) (fo : Buf (Elt F) (oLoc d)) :
    (iprop((yLoc d ↦{fullShare} fy) ∗ (iLoc d ↦{fullShare} fi) ∗ oLoc d ↦{fullShare} fo) : sProp 𝕄)
      ⊣⊢ iprop((yLoc d ↦{Transfers.shareDrop fullShare 32} fy)
        ∗ bigSep Finset.univ fun c : Fin 2 => bigSep Finset.univ fun s : Fin 16 => dealt d fy fi fo c.val s.val) := by
  have e : (bigSep Finset.univ fun c : Fin 2 => bigSep Finset.univ fun s : Fin 16 => dealt (F := F) d fy fi fo c.val s.val)
      = iprop((bigSep Finset.univ fun c : Fin 2 => bigSep Finset.univ fun s : Fin 16 => yLoc d ↦{yq c.val s.val} fy)
          ∗ (iLoc d ↦{fullShare} fi) ∗ oLoc d ↦{fullShare} fo) := by
    rw [i_tiles, o_tiles, ← bigSep_sep', ← bigSep_sep']
    refine bigSep_congr fun c _ => ?_
    rw [← bigSep_sep', ← bigSep_sep']
  rw [e]
  constructor
  · iintro ⟨Hy, Hi, Ho⟩
    ihave Hy' := (y_tiles (F := F) d fy).1 $$ Hy
    icases Hy' with ⟨Hr, Hy⟩
    isplitl [Hr]; · iexact Hr
    isplitl [Hy]; · iexact Hy
    isplitl [Hi]; · iexact Hi
    iexact Ho
  · iintro ⟨Hr, Hy, Hi, Ho⟩
    isplitl [Hr Hy]
    · iapply (y_tiles (F := F) d fy).2
      isplitl [Hr]; · iexact Hr
      iexact Hy
    isplitl [Hi]; · iexact Hi
    iexact Ho

/-! ## The launch's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fy fi fo).x q thr) := by
  have none_of {I : Type} (s : Finset I) : (bigSep s fun _ => iprop(emp)) = (iprop(emp) : sProp 𝕄) := bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [none_of]; iempintro
  rw [show (bigSep Finset.univ fun thr : Thread nD τ => bigSep Finset.univ fun q : Fin 1 => (P (F := F) fy fi fo).x q thr) = bigSep Finset.univ fun _ => iprop(emp) from
    bigSep_congr fun _ _ => bigSep_univ_of_subsingleton (0 : Fin 1), none_of]
  iempintro

/-! ## @main on the TensorCore -/

/-- The host's operations before the call. -/
abbrev hostOps : List (HloOp τ sig (Elt F)) :=
  [ StableHlo.reshape main_arg1 main_v0 (rfl : (.i32 : EltTy) = .i32) shapeCasts_S4x2048_S256x32,
    StableHlo.nullary main_c (constantI S_ 32 0#32),
    StableHlo.TRef.unary (.of main_c) main_call0.v0 id,
    StableHlo.TRef.binary (.of main_v0 : StableHlo.TRef sig ⟨S256x32, .i32⟩) main_call0.v0 main_call0.v1 (fun x v => pad S256x128 ![0, 0] ![0, 96] ![0, 0] x v pads_S256x32_S256x128_000_0960 h_S_) ]

theorem main_eq (d : Dev nD) : main (F := F) d = seq hostOps >>= fun _ => (K (F := F)).run d 0 := by
  simp only [main, fn_pad.body, seq, bind_assoc, pure_bind]
  rfl

/-- The lists of row numbers: 256 of 32, each padded with zeros. -/
def lists (dest : S4x2048.Idx → BitVec 32) : S256x128.Idx → BitVec 32 :=
  pad S256x128 ![0, 0] ![0, 96] ![0, 0] (shapeCast S256x32 dest shapeCasts_S4x2048_S256x32) (constantI S_ 32 0#32) pads_S256x32_S256x128_000_0960 h_S_

abbrev dr (b : Ref sig .tc) : DevRef τ sig := Proc.devRef .tc b
/-- The arrays of @main. -/
abbrev HS : Finset (DevRef τ sig) := {dr main_arg0, dr main_arg1, dr main_v0, dr main_c, dr main_call0_v0, dr main_v1, dr main_v2}

theorem held_HS (d : Dev nD) (V : Valuation τ sig (Elt F)) :
    (held (SparseCore.T d) HS V : sProp 𝕄)
      = iprop((yLoc d ↦{fullShare} V (dr main_arg0)) ∗ ((SparseCore.T d).loc main_arg1 ↦{fullShare} V (dr main_arg1)) ∗ ((SparseCore.T d).loc main_v0 ↦{fullShare} V (dr main_v0))
          ∗ ((SparseCore.T d).loc main_c ↦{fullShare} V (dr main_c)) ∗ ((SparseCore.T d).loc main_call0_v0 ↦{fullShare} V (dr main_call0_v0))
          ∗ (iLoc d ↦{fullShare} V (dr main_v1)) ∗ oLoc d ↦{fullShare} V (dr main_v2)) := by
  unfold held HS
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable (m : (ℓ : Loc nD τ sig) → Buf (Elt F) ℓ) (ρ : Dev nD → PrngReg)

theorem unscoped_held (d : Dev nD) :
    (unscopedBufs d (fun b => m ((SparseCore.T d).loc b)) : sProp 𝕄) = held (SparseCore.T d) HS (fun b => m (d, b)) := by
  rw [held_HS]
  unfold unscopedBufs
  rw [show (Finset.univ.filter fun b : Ref sig .tc => ¬ b.isScoped) = {main_arg0, main_arg1, main_v0, main_c, main_call0_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

abbrev V₀ (d : Dev nD) : Valuation τ sig (Elt F) := fun b => m (d, b)
abbrev my (d : Dev nD) : Buf (Elt F) (yLoc d) := m (yLoc d)
abbrev ml (d : Dev nD) : Buf (Elt F) (iLoc d) := lists (m ((SparseCore.T d).loc main_arg1))
abbrev mo (d : Dev nD) : Buf (Elt F) (oLoc d) := m (oLoc d)

theorem after_y (d : Dev nD) : after hostOps (V₀ m d) (dr main_arg0) = m (yLoc d) := by after_results <;> rfl
theorem after_a (d : Dev nD) : after hostOps (V₀ m d) (dr main_arg1) = m ((SparseCore.T d).loc main_arg1) := by after_results <;> rfl
theorem after_l (d : Dev nD) : after hostOps (V₀ m d) (dr main_v1) = ml m d := by after_results <;> rfl
theorem after_o (d : Dev nD) : after hostOps (V₀ m d) (dr main_v2) = m (oLoc d) := by after_results <;> rfl

theorem hostOps_bufs : ∀ op ∈ (hostOps : List (HloOp τ sig (Elt F))), op.bufs ⊆ HS := by
  intro op h
  fin_cases h
  · show ({dr main_arg1, dr main_v0} : Finset (DevRef τ sig)) ⊆ HS; decide
  · show ({dr main_c} : Finset (DevRef τ sig)) ⊆ HS; decide
  · show ({dr main_c, dr main_call0_v0} : Finset (DevRef τ sig)) ⊆ HS; decide
  · show ({dr main_v0, dr main_call0_v0, dr main_v1} : Finset (DevRef τ sig)) ⊆ HS; decide
theorem hostOps_fresh : ∀ op ∈ (hostOps : List (HloOp τ sig (Elt F))), op.fresh = ∅ := by
  intro op h
  fin_cases h <;> rfl

/-- What @main leaves: the arguments as they were, the rows collected. -/
abbrev FIN (d : Dev nD) : sProp 𝕄 :=
  iprop((yLoc d ↦{fullShare} m (yLoc d)) ∗ ((SparseCore.T d).loc main_arg1 ↦{fullShare} m ((SparseCore.T d).loc main_arg1)) ∗ oLoc d ↦{fullShare} Gv (my m d) (ml m d))

abbrev PM : (K (F := F)).Pay (nD := nD) (Val := Elt F) (Name := ℕ) (U := UU) := P (my m) (ml m) (mo m)

theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d HS (fun _ => (K (F := F)).run d 0) hostOps hostOps_bufs hostOps_fresh (V₀ m d)) $$ [Hb Hheld]
  · isplitl [Hb]; · iexact Hb
    iexact Hheld
  iintro ⟨Hb, Hheld⟩
  ihave Hh := (Entails.of_eq (held_HS (F := F) d (after hostOps (V₀ m d)))) $$ Hheld
  icases Hh with ⟨Hy, Ha, -, -, -, Hi, Ho⟩
  ihave Hd := (deal (F := F) d (my m d) (ml m d) (mo m d)).1 $$ [Hy Hi Ho]
  · isplitl [Hy]; · iapply (Entails.of_eq (congrArg (fun f => (yLoc d ↦{fullShare} f : sProp 𝕄)) (after_y m d))); iexact Hy
    isplitl [Hi]; · iapply (Entails.of_eq (congrArg (fun f => (iLoc d ↦{fullShare} f : sProp 𝕄)) (after_l m d))); iexact Hi
    iapply (Entails.of_eq (congrArg (fun f => (oLoc d ↦{fullShare} f : sProp 𝕄)) (after_o m d))); iexact Ho
  icases Hd with ⟨Hr, Hd⟩
  iapply ((K (F := F)).wp_run (D (F := F)) 𝒱 (EH := EH) (P := PM m) κ d 0) $$ [Hst Hd Hr Ha Hb Hts]
  isplitr; · iexact Hctx
  isplitl [Hst]; · iexact Hst
  isplitl [Hd]; · iexact Hd
  iintro ⟨Hst, Hdn⟩
  ihave H := (deal (F := F) d (my m d) (ml m d) (Gv (my m d) (ml m d))).2 $$ [Hr Hdn]
  · isplitl [Hr]; · iexact Hr
    iexact Hdn
  icases H with ⟨Hy, -, Ho⟩
  isplitl [Hst]; · iexact Hst
  isplitr [Hb Hts]
  · isplitl [Hy]; · iexact Hy
    isplitl [Ha]; · iapply (Entails.of_eq (congrArg (fun f => ((SparseCore.T d).loc main_arg1 ↦{fullShare} f : sProp 𝕄)) (after_a m d))); iexact Ha
    iexact Ho
  isplitl [Hb] <;> iassumption

def fq (d : Dev nD) (s' : Phys nD τ sig (Elt F)) : Prop :=
  s'.mem.mem (oLoc d) = Gv (my m d) (ml m d) ∧ s'.mem.mem (yLoc d) = m (yLoc d) ∧ s'.mem.mem ((SparseCore.T d).loc main_arg1) = m ((SparseCore.T d).loc main_arg1)

theorem agree {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun (i : Idx ℓ) => h i (by simp)
  iexact HSI

theorem hfin (d : Dev nD) (s' : Phys nD τ sig (Elt F)) : iprop(FIN m d ∗ SI s') ⊢ (⌜fq m d s'⌝ : sProp 𝕄) := by
  iintro ⟨⟨Hy, Ha, Ho⟩, HSI⟩
  ihave H := (agree (F := F) (m (yLoc d)) s') $$ [Hy HSI]
  · isplitl [Hy] <;> iassumption
  icases H with ⟨%hy, HSI⟩
  ihave H := (agree (F := F) (m ((SparseCore.T d).loc main_arg1)) s') $$ [Ha HSI]
  · isplitl [Ha] <;> iassumption
  icases H with ⟨%ha, HSI⟩
  ihave H := (agree (F := F) (ℓ := oLoc d) (Gv (my m d) (ml m d)) s') $$ [Ho HSI]
  · isplitl [Ho] <;> iassumption
  icases H with ⟨%ho, -⟩
  ipureintro
  exact ⟨ho, hy, ha⟩

/-- At the end of a run: the rows collected, the arguments as they were, every semaphore zero. -/
def QC : PUnit × MemSt nD τ sig (Elt F) → Prop := fun r =>
  (∀ c : Dev nD, r.2.mem (oLoc c) = Gv (my m c) (ml m c) ∧ r.2.mem (yLoc c) = m (yLoc c) ∧ r.2.mem ((SparseCore.T c).loc main_arg1) = m ((SparseCore.T c).loc main_arg1))
    ∧ r.2.sem = fun _ => 0

/-- Every run of the program ends so, for any float values, where every listed row is one of the source's. -/
theorem run_main [∀ e, Nonempty (Elt F e)] (hfi : ∀ d j, BitVec.toNat (ml m d j) < 81920) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (my m) (ml m) (mo m) facts hfi)
    (fun q _ => match q with | 0 => SparseCore.Cfg.VecSplit.of_plain (vecSplit (my m) (ml m) (mo m)))
    m ρ main (fun _ => iprop(emp)) (FIN m) (u₀ (F := F)) (sep_elim_left.trans (hu₀ (my m) (ml m) (mo m))) (hmain m ρ) (fq m) (hfin m) (QC m) (fun _ h hz => ⟨h, hz⟩)

end Cert.Proof.Collect

end
-- ==== Proof.Value.lean ====
/- What the reference leaves, read at an index, is what the program leaves: the reference's gather at the reshaped indices
   is the row that the list of the window names; and what the precondition says of the indices. -/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_rows_in_range
public import Idealize.ShloMosaic.Lib.KernelVsHost
public import Idealize.ShloMosaic.Lib.Pipeline.Value

@[expose] public section

noncomputable section

namespace Cert.Proof.Collect

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The lists, read at an index -/

/-- The index of the list and the lane that hold position `p` of the reshaped indices. -/
def listIx (p : Fin 8192) : S256x32.Idx := fun b => match b with
  | 0 => ⟨p.val / 32, Nat.div_lt_of_lt_mul (show p.val < 32 * 256 from p.isLt)⟩
  | 1 => ⟨p.val % 32, Nat.mod_lt _ (by decide)⟩

/-- The same in the padded lists. -/
def laneIx (p : Fin 8192) : S256x128.Idx := fun b => match b with
  | 0 => ⟨p.val / 32, Nat.div_lt_of_lt_mul (show p.val < 32 * 256 from p.isLt)⟩
  | 1 => ⟨p.val % 32, lt_of_lt_of_le (Nat.mod_lt _ (by decide)) (show 32 ≤ 128 by decide)⟩

/-- Position `p` of the indices laid out in one row, in the four-row array. -/
def destIx (p : Fin 8192) : S4x2048.Idx := fun b => match b with
  | 0 => ⟨p.val / 2048, Nat.div_lt_of_lt_mul (show p.val < 2048 * 4 from p.isLt)⟩
  | 1 => ⟨p.val % 2048, Nat.mod_lt _ (by decide)⟩

theorem lists_apply (dest : S4x2048.Idx → BitVec 32) (p : Fin 8192) : lists dest (laneIx p) = dest (destIx p) := by
  have hp := p.isLt
  unfold lists
  refine (pad_apply_of_inside _ _ _ _ _ _ _ (laneIx p) (listIx p) ?_).trans ?_
  · intro a
    match a with
    | ⟨0, _⟩ => exact (show p.val / 32 = 0 + p.val / 32 * (0 + 1) by omega)
    | ⟨1, _⟩ => exact (show p.val % 32 = 0 + p.val % 32 * (0 + 1) by omega)
  · refine shapeCast_apply _ _ _ _ ?_
    rw [Shape.rowMajor_val_two, Shape.rowMajor_val_two]
    show p.val / 2048 * 2048 + p.val % 2048 = p.val / 32 * 32 + p.val % 32
    omega

theorem lists_lt (dest : S4x2048.Idx → BitVec 32) (h : ∀ j, (dest j).toNat < 81920) (j : S256x128.Idx) : (lists dest j).toNat < 81920 := by
  unfold lists pad
  split
  · exact h _
  · show (0#32).toNat < 81920
    decide

/-! ## The reference's gather, read at an index -/

/-- The indices as the reference gathers at them: laid out in one row, a negative one counted from the end. -/
abbrev refIx (dest : S4x2048.Idx → BitVec 32) : IVec Cert.ReferenceIdeal.S8192x1 32 :=
  broadcastInDim Cert.ReferenceIdeal.S8192x1 ![0] Cert.ReferenceIdeal.Gen.bcast_S8192_S8192x1_0
    (select (cmpi .slt (shapeCast _ dest Cert.ReferenceIdeal.Gen.shapeCasts_S4x2048_S8192)
        (broadcastInDim Cert.ReferenceIdeal.S8192 ![] Cert.ReferenceIdeal.Gen.bcast_S_S8192 (constantI Cert.ReferenceIdeal.S_ 32 0#32)))
      (addi (shapeCast _ dest Cert.ReferenceIdeal.Gen.shapeCasts_S4x2048_S8192)
        (broadcastInDim Cert.ReferenceIdeal.S8192 ![] Cert.ReferenceIdeal.Gen.bcast_S_S8192 (constantI Cert.ReferenceIdeal.S_ 32 81920#32)))
      (shapeCast _ dest Cert.ReferenceIdeal.Gen.shapeCasts_S4x2048_S8192))

theorem slt_zero {v : BitVec 32} (h : v.toNat < 81920) : IntOp.cmpi .slt v 0#32 = 0#1 := by
  have e : v.slt 0#32 = false := by
    simp only [BitVec.slt_eq_decide, decide_eq_false_iff_not, BitVec.toInt_eq_toNat_cond, BitVec.toNat_ofNat, Nat.reducePow, Nat.reduceMod]
    omega
  simp [IntOp.cmpi, e]

/-- Position `p` of the indices laid out in one row. -/
def rowIx (p : Fin 8192) : Cert.ReferenceIdeal.S8192.Idx := fun a => match a with | 0 => p

/-- An index in range is left as it is. -/
theorem refIx_apply (dest : S4x2048.Idx → BitVec 32) (h : ∀ j, (dest j).toNat < 81920) (p : Fin 8192) (k : Cert.ReferenceIdeal.S8192x1.Idx) (hk : (k 0).val = p.val) :
    refIx dest k = dest (destIx p) := by
  have hp := p.isLt
  have hb : shapeCast Cert.ReferenceIdeal.S8192 dest Cert.ReferenceIdeal.Gen.shapeCasts_S4x2048_S8192 (rowIx p) = dest (destIx p) := by
    refine shapeCast_apply _ _ _ _ ?_
    rw [Shape.rowMajor_val_two, Shape.rowMajor_val_one]
    show p.val / 2048 * 2048 + p.val % 2048 = p.val
    omega
  unfold refIx
  refine (broadcastInDim_apply _ _ _ _ (rowIx p) ?_).trans ?_
  · intro a
    obtain rfl : a = 0 := Subsingleton.elim _ _
    rw [if_neg (by decide)]
    exact hk.symm
  · show Scalar.select (IntOp.cmpi .slt (shapeCast Cert.ReferenceIdeal.S8192 dest Cert.ReferenceIdeal.Gen.shapeCasts_S4x2048_S8192 (rowIx p)) 0#32) _
      (shapeCast Cert.ReferenceIdeal.S8192 dest Cert.ReferenceIdeal.Gen.shapeCasts_S4x2048_S8192 (rowIx p)) = _
    rw [hb, slt_zero (h _)]
    rfl

/-- The reference's dimension numbers. -/
abbrev gDims : GatherDims Cert.ReferenceIdeal.S81920x8x128 Cert.ReferenceIdeal.S8192x1 Cert.ReferenceIdeal.S8192x8x128 :=
  Cert.ReferenceIdeal.gather_S81920x8x128_S8192x1_S8192x8x128_12_0_n_n_0_1_18128

theorem gDims_row (p : Cert.ReferenceIdeal.S8192x8x128.Idx) (dest : S4x2048.Idx → BitVec 32) (h : ∀ j, (dest j).toNat < 81920) :
    gDims.start p (refIx dest) 0 + gDims.batchCoord p 0 + gDims.offCoord p 0 = (dest (destIx (p 0))).toNat := by
  have hl := h (destIx (p 0))
  rw [GatherDims.batchCoord_eq_zero _ _ _ List.not_mem_nil,
    GatherDims.offCoord_eq_zero _ _ _ (fun hm => ((GatherDims.mem_sKept _ _).mp hm).1 (List.mem_singleton.mpr rfl))]
  unfold GatherDims.start
  rw [dif_pos (show (0 : Fin 3) ∈ gDims.startIndexMap from List.mem_singleton.mpr rfl), refIx_apply dest h (p 0) _ rfl]
  show min (dest (destIx (p 0))).toInt.toNat (81920 - 1) + 0 + 0 = _
  rw [BitVec.toInt_eq_toNat_cond, if_pos (by omega)]
  omega

theorem gDims_sub (p : Cert.ReferenceIdeal.S8192x8x128.Idx) (dest : S4x2048.Idx → BitVec 32) :
    gDims.start p (refIx dest) 1 + gDims.batchCoord p 1 + gDims.offCoord p 1 = (p 1).val := by
  rw [GatherDims.batchCoord_eq_zero _ _ _ List.not_mem_nil]
  unfold GatherDims.start GatherDims.offCoord
  rw [dif_neg (show ¬ (1 : Fin 3) ∈ gDims.startIndexMap by decide), dif_pos (show (1 : Fin 3) ∈ gDims.sKept by decide)]
  show 0 + 0 + (p 1).val = _
  omega

theorem gDims_lane (p : Cert.ReferenceIdeal.S8192x8x128.Idx) (dest : S4x2048.Idx → BitVec 32) :
    gDims.start p (refIx dest) 2 + gDims.batchCoord p 2 + gDims.offCoord p 2 = (p 2).val := by
  rw [GatherDims.batchCoord_eq_zero _ _ _ List.not_mem_nil]
  unfold GatherDims.start GatherDims.offCoord
  rw [dif_neg (show ¬ (2 : Fin 3) ∈ gDims.startIndexMap by decide), dif_pos (show (2 : Fin 3) ∈ gDims.sKept by decide)]
  show 0 + 0 + (p 2).val = _
  omega

/-- What the reference leaves is what the program leaves. -/
theorem gather_eq (fy : S81920x8x128.Idx → F .f32) (dest : S4x2048.Idx → BitVec 32) (h : ∀ j, (dest j).toNat < 81920) :
    Host.gather gDims fy (refIx dest) = Gv fy (lists dest) := by
  funext p
  have e1 : (lists dest (laneIx (p 0))).toNat % 81920 = (dest (destIx (p 0))).toNat := by
    exact (congrArg (fun w : BitVec 32 => w.toNat % 81920) (lists_apply dest (p 0))).trans (Nat.mod_eq_of_lt (h _))
  refine congrArg fy (funext fun a => Fin.ext ?_)
  match a with
  | ⟨0, _⟩ => exact (gDims_row p dest h).trans e1.symm
  | ⟨1, _⟩ => exact gDims_sub p dest
  | ⟨2, _⟩ => exact gDims_lane p dest

/-! ## What the precondition says of the indices -/

theorem in_range {v : BitVec 32} (e : IntOp.andi (IntOp.cmpi .sge v 0#32) (IntOp.cmpi .slt v 81920#32) = 1#1) : v.toNat < 81920 := by
  have hand : ∀ p q : Bool, IntOp.andi (BitVec.ofBool p) (BitVec.ofBool q) = 1#1 → p = true ∧ q = true := by decide
  have e' := hand _ _ e
  simp only [BitVec.sle_eq_decide, BitVec.slt_eq_decide, decide_eq_true_eq, BitVec.toInt_eq_toNat_cond, BitVec.toNat_ofNat, Nat.reducePow, Nat.reduceMod] at e'
  omega

theorem range_of_fn (fy : S81920x8x128.Idx → F .f32) (dest : S4x2048.Idx → BitVec 32)
    (h : Cert.Pre_rows_in_range.fn (F := F) fy dest = fun _ => 1#1) (j : S4x2048.Idx) : (dest j).toNat < 81920 :=
  in_range (congrFun h j)

end Cert.Proof.Collect

end
-- ==== Proof.ExpSetup.lean ====
/- The experts' feed-forward call: what the proof of the body's run, of the launch and of the value share — the
   resources, the two slots of the weights' rings, and the blocks of the weights the transfers read. -/
module

public import proofs.«01_k».proof.Defs
public import Idealize.ShloMosaic.Lib.Tactic
public import Idealize.ShloMosaic.Lib.ViewIndex
public import Idealize.ShloMosaic.Lib.WordCmp
public import Idealize.ShloMosaic.Lib.Pipeline.Kit
public import Idealize.ShloMosaic.Lib.Pipeline.Frame
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_counts_fit
public import proofs.«01_k».proof.Proof.Gen.On_expert_rows

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources: the staging cells' rounds and the counters of the kernel's own transfers. -/
abbrev UE : Type := UR sig nD τ × Counters

local notation "𝕄" => MT nD τ sig Unit (Elt F) ℕ UE ℕ

/-! ## The slots and the blocks -/

theorem sem_inb (k : ℕ) (hk : k < 2) (w : BitVec 32) (h : w.toNat < 2) : ∀ a, (![k, w.toNat] : Fin 2 → ℕ) a + S1x1.size a ≤ S2x2.size a := by
  intro a; fin_cases a
  · exact (show k + 1 ≤ 2 by omega)
  · exact (show w.toNat + 1 ≤ 2 by omega)
theorem gsl_inb (w : BitVec 32) (h : w.toNat < 2) : ∀ a, (k0_off5 w) a + S1x1024x2048.size a ≤ S2x1024x2048.size a := by
  intro a; fin_cases a
  · exact (show w.toNat + 1 ≤ 2 by omega)
  · exact (show 0 + 1024 ≤ 1024 by omega)
  · exact (show 0 + 2048 ≤ 2048 by omega)
theorem dsl_inb (w : BitVec 32) (h : w.toNat < 2) : ∀ a, (k0_off8 w) a + S1x1024x1024.size a ≤ S2x1024x1024.size a := by
  intro a; fin_cases a
  · exact (show w.toNat + 1 ≤ 2 by omega)
  · exact (show 0 + 1024 ≤ 1024 by omega)
  · exact (show 0 + 1024 ≤ 1024 by omega)
theorem gsr_inb (e : BitVec 32) (h : e.toNat < 32) : ∀ a, (k0_off6 e) a + S1x1024x2048.size a ≤ S32x1024x2048.size a := by
  intro a; fin_cases a
  · exact (show e.toNat + 1 ≤ 32 by omega)
  · exact (show 0 + 1024 ≤ 1024 by omega)
  · exact (show 0 + 2048 ≤ 2048 by omega)
theorem dsr_inb (e : BitVec 32) (h : e.toNat < 32) : ∀ a, (k0_off9 e) a + S1x1024x1024.size a ≤ S32x1024x1024.size a := by
  intro a; fin_cases a
  · exact (show e.toNat + 1 ≤ 32 by omega)
  · exact (show 0 + 1024 ≤ 1024 by omega)
  · exact (show 0 + 1024 ≤ 1024 by omega)

/-! ## What the body assumes of the words it reads, of words in range -/

theorem chk2_of (i : grid0.Coords) (v0 v4 v7 e : BitVec 32) (h : e.toNat < 32) : k0_chk2 i v0 v4 v7 e :=
  ⟨fun _ _ => gsr_inb e h, fun _ _ => dsr_inb e h, fun _ => gsr_inb e h, fun _ => dsr_inb e h⟩
theorem chk1_of (i : grid0.Coords) (v0 v4 v7 w : BitVec 32) (h : w.toNat < 2) : k0_chk1 i v0 v4 v7 w :=
  ⟨fun _ _ => sem_inb 0 (by decide) w h, fun _ _ => gsl_inb w h, fun _ _ => sem_inb 1 (by decide) w h, fun _ _ => dsl_inb w h,
    fun _ => sem_inb 0 (by decide) w h, fun _ => gsl_inb w h, fun _ => sem_inb 1 (by decide) w h, fun _ => dsl_inb w h, fun _ => gsl_inb w h, fun _ => dsl_inb w h⟩
/-- The other slot. -/
abbrev oth (w : BitVec 32) : BitVec 32 := Scalar.subi 1#32 w
theorem oth_lt (w : BitVec 32) (h : w.toNat < 2) : (oth w).toNat < 2 := by
  have hw : w = 0#32 ∨ w = 1#32 := by
    rcases (show w.toNat = 0 ∨ w.toNat = 1 by omega) with h | h
    · exact .inl (BitVec.eq_of_toNat_eq h)
    · exact .inr (BitVec.eq_of_toNat_eq h)
  rcases hw with rfl | rfl <;> decide
theorem cond3_iff (n : BitVec 32) : k0_cond3 n = 1#1 ↔ 0 ≤ n.toInt := by
  have e : k0_cond3 n = if 0 ≤ n.toInt then 1#1 else 0#1 := by
    unfold k0_cond3
    by_cases h : 0 ≤ n.toInt
    · rw [if_pos h]; have : Scalar.cmpi .sge n 0#32 = 1#1 := (WordCmp.cmpi_sge_eq n 0#32).trans (by rw [decide_eq_true (p := (0#32 : BitVec 32).toInt ≤ n.toInt) h]; rfl)
      simp only [this]; decide
    · rw [if_neg h]; have : Scalar.cmpi .sge n 0#32 = 0#1 := (WordCmp.cmpi_sge_eq n 0#32).trans (by rw [decide_eq_false (p := (0#32 : BitVec 32).toInt ≤ n.toInt) h]; rfl)
      simp only [this]; decide
  rw [e]; split <;> simp_all
theorem chk3_of (i : grid0.Coords) (v0 v4 v7 w n : BitVec 32) (h : w.toNat < 2) (hn : n.toInt < 32) : k0_chk3 i v0 v4 v7 w n := by
  have hh : k0_cond3 n = 1#1 → n.toNat < 32 := fun h3 => by
    have h0 := (cond3_iff n).1 h3
    rw [BitVec.toInt_eq_toNat_cond] at h0 hn
    split at h0 <;> omega
  exact ⟨fun _ _ => sem_inb 0 (by decide) (oth w) (oth_lt w h), fun _ _ => gsl_inb (oth w) (oth_lt w h), fun _ h3 => gsr_inb n (hh h3),
    fun _ _ => sem_inb 1 (by decide) (oth w) (oth_lt w h), fun _ _ => dsl_inb (oth w) (oth_lt w h), fun _ h3 => dsr_inb n (hh h3)⟩

/-- A slot of the gate and up weights' ring, before and after its leading axis is dropped; of the down weights'. -/
abbrev gS' (w : BitVec 32) (h : w.toNat < 2) : Memref sig .tc .vmem S1x1024x2048 .f32 :=
  (Memref.whole cc0_scratch0).slice (Rect.unit (s := S2x1024x2048) (k0_off5 w) S1x1024x2048.size (gsl_inb w h)) (fun _ => rfl)
abbrev gS (w : BitVec 32) (h : w.toNat < 2) : Memref sig .tc .vmem S1024x2048 .f32 := (gS' w h).squeeze S1024x2048 squeezes_S1x1024x2048_S1024x2048
abbrev dS' (w : BitVec 32) (h : w.toNat < 2) : Memref sig .tc .vmem S1x1024x1024 .f32 :=
  (Memref.whole cc0_scratch1).slice (Rect.unit (s := S2x1024x1024) (k0_off8 w) S1x1024x1024.size (dsl_inb w h)) (fun _ => rfl)
abbrev dS (w : BitVec 32) (h : w.toNat < 2) : Memref sig .tc .vmem S1024x1024 .f32 := (dS' w h).squeeze S1024x1024 squeezes_S1x1024x1024_S1024x1024
/-- An expert's gate and up weights; its down weights. -/
abbrev gE' (e : BitVec 32) (h : e.toNat < 32) : Memref sig .tc .hbm S1x1024x2048 .f32 :=
  (Memref.whole main_arg2).slice (Rect.unit (s := S32x1024x2048) (k0_off6 e) S1x1024x2048.size (gsr_inb e h)) (fun _ => rfl)
abbrev dE' (e : BitVec 32) (h : e.toNat < 32) : Memref sig .tc .hbm S1x1024x1024 .f32 :=
  (Memref.whole main_arg4).slice (Rect.unit (s := S32x1024x1024) (k0_off9 e) S1x1024x1024.size (dsr_inb e h)) (fun _ => rfl)
abbrev gE (e : BitVec 32) (h : e.toNat < 32) : Memref sig .tc .hbm S1024x2048 .f32 :=
  ((Memref.whole main_arg2).slice (Rect.unit (s := S32x1024x2048) (k0_off6 e) S1x1024x2048.size (gsr_inb e h)) (fun _ => rfl)).squeeze S1024x2048 squeezes_S1x1024x2048_S1024x2048
abbrev dE (e : BitVec 32) (h : e.toNat < 32) : Memref sig .tc .hbm S1024x1024 .f32 :=
  ((Memref.whole main_arg4).slice (Rect.unit (s := S32x1024x1024) (k0_off9 e) S1x1024x1024.size (dsr_inb e h)) (fun _ => rfl)).squeeze S1024x1024 squeezes_S1x1024x1024_S1024x1024
/-- The semaphores of a slot's two transfers. -/
abbrev gM (w : BitVec 32) (h : w.toNat < 2) : DmaSem sig := ((cc0_scratch4.slice (Rect.unit (s := S2x2) (k0_off4 w) S1x1.size (sem_inb 0 (by decide) w h))).squeeze S_ squeezes_S1x1_S_).sem
abbrev dM (w : BitVec 32) (h : w.toNat < 2) : DmaSem sig := ((cc0_scratch4.slice (Rect.unit (s := S2x2) (k0_off7 w) S1x1.size (sem_inb 1 (by decide) w h))).squeeze S_ squeezes_S1x1_S_).sem

section
variable (c : Dev nD)

abbrev Bf {sp : Space} {S : Shape} {e : EltTy} (M : Memref sig .tc sp S e) : Type := Buf (Elt F) (M.view.loc (c : Thread nD τ))
abbrev pt {sp : Space} {S : Shape} {e : EltTy} (M : Memref sig .tc sp S e) (f : Bf (F := F) c M) : sProp 𝕄 :=
  M.view.loc (c : Thread nD τ) ↦[M.view.set]{fullShare} f
abbrev zero (s : DmaSem sig) : sProp 𝕄 := semVal ((c : Thread nD τ), SemLoc.dma s) 0
abbrev FL (s : DmaSem sig) (n : ℕ) (X : sProp 𝕄) : sProp 𝕄 := Transfers.Flight countersEmb (c : Thread nD τ) (SemLoc.dma s) (default : Unit) n X

theorem pt_gS (w : BitVec 32) (h : w.toNat < 2) (f) : (pt (F := F) c (gS w h) f : sProp 𝕄) = pt c (gS' w h) f := by
  unfold pt; rw [show (gS w h).view.set = (gS' w h).view.set from View.set_reshape ..]
theorem pt_dS (w : BitVec 32) (h : w.toNat < 2) (f) : (pt (F := F) c (dS w h) f : sProp 𝕄) = pt c (dS' w h) f := by
  unfold pt; rw [show (dS w h).view.set = (dS' w h).view.set from View.set_reshape ..]

/-- A table held at a share. -/
abbrev tab (q : PosShare TreeShare) (R : Ref sig .tc) (f : Buf (Elt F) ((c : Thread nD τ).loc R)) : sProp 𝕄 := (Memref.whole R).view.loc (c : Thread nD τ) ↦{q} f

variable (fg : Buf (Elt F) ((c : Thread nD τ).loc main_arg2)) (fd : Buf (Elt F) ((c : Thread nD τ).loc main_arg4))

/-- The two rounded weights of an expert. -/
def wG (e : BitVec 32) (h : e.toNat < 32) : FVec F S1024x2048 .bf16 := k0_pay9 ((gE' e h).view.read (Elt F) fg)
def wD (e : BitVec 32) (h : e.toNat < 32) : FVec F S1024x1024 .bf16 := k0_pay10 ((dE' e h).view.read (Elt F) fd)
/-- The buffers of the rounded weights hold an expert's. -/
def wbuf (e : BitVec 32) (h : e.toNat < 32) : sProp 𝕄 :=
  iprop(∃ f2 f3, ⌜(Memref.whole cc0_scratch2).view.read (Elt F) f2 = wG c fg e h⌝ ∗ ⌜(Memref.whole cc0_scratch3).view.read (Elt F) f3 = wD c fd e h⌝
    ∗ ((Memref.whole cc0_scratch2).view.loc (c : Thread nD τ) ↦{fullShare} f2) ∗ ((Memref.whole cc0_scratch3).view.loc (c : Thread nD τ) ↦{fullShare} f3))
/-- The buffers of the rounded weights hold something. -/
def wany : sProp 𝕄 :=
  iprop(∃ (f2 : Bf (F := F) c (Memref.whole cc0_scratch2)) (f3 : Bf (F := F) c (Memref.whole cc0_scratch3)),
    ((Memref.whole cc0_scratch2).view.loc (c : Thread nD τ) ↦{fullShare} f2) ∗ ((Memref.whole cc0_scratch3).view.loc (c : Thread nD τ) ↦{fullShare} f3))
/-- A slot free, its two semaphores at zero. -/
def free (w : BitVec 32) (h : w.toNat < 2) : sProp 𝕄 :=
  iprop((∃ g : Bf (F := F) c (gS w h), pt c (gS w h) g) ∗ (∃ d : Bf (F := F) c (dS w h), pt c (dS w h) d) ∗ zero c (gM w h) ∗ zero c (dM w h))
/-- The two weights whole. -/
def arrs : sProp 𝕄 := iprop(((Memref.whole main_arg2).view.loc (c : Thread nD τ) ↦{fullShare} fg) ∗ ((Memref.whole main_arg4).view.loc (c : Thread nD τ) ↦{fullShare} fd))
/-- The two weights but an expert's. -/
def arrsBut (e : BitVec 32) (h : e.toNat < 32) : sProp 𝕄 :=
  iprop(((Memref.whole main_arg2).view.loc (c : Thread nD τ) ↦[Finset.univ \ (gE e h).view.set]{fullShare} fg)
    ∗ ((Memref.whole main_arg4).view.loc (c : Thread nD τ) ↦[Finset.univ \ (dE e h).view.set]{fullShare} fd))
/-- An expert's weights on their way into a slot. -/
def flight (w : BitVec 32) (h : w.toNat < 2) (e : BitVec 32) (he : e.toNat < 32) : sProp 𝕄 :=
  iprop(FL c (gM w h) (gS w h).view.dmaCredit iprop((∃ g, ⌜(gS w h).view.read (Elt F) g = (gE e he).view.read (Elt F) fg⌝ ∗ pt c (gS w h) g) ∗ pt c (gE e he) fg)
    ∗ FL c (dM w h) (dS w h).view.dmaCredit iprop((∃ d, ⌜(dS w h).view.read (Elt F) d = (dE e he).view.read (Elt F) fd⌝ ∗ pt c (dS w h) d) ∗ pt c (dE e he) fd))

end

end Cert.Proof.Experts

end
-- ==== Proof.ExpWeights.lean ====
/- The half of the body that brings an expert's weights in: the waits for the transfers into the current slot, the
   rounding of the two weights, and the start of the next expert's transfers. -/
module

public import proofs.«01_k».proof.Proof.ExpSetup

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UE ℕ

section
variable (c : Dev nD)

/-- The entry of a table for a grid point. -/
def at160 (i : grid0.Coords) : S160.Idx := fun a => match a with | 0 => ⟨(i 0).val, (i 0).isLt⟩
/-- The word of a table at a grid point, as the body reads it. -/
theorem word_at (f : S160.Idx → BitVec 32) (i : grid0.Coords) (a : Fin 1 → ℕ) (ha : a = ![(i 0).val])
    (h : ∀ x, a x + S1.size x ≤ S160.size x) (y : S1.Idx) :
    f ((Rect.unit (s := S160) a S1.size h).emb y) = f (at160 i) := by
  subst ha
  refine congrArg f (funext fun x => Fin.ext ?_)
  fin_cases x
  have : (y 0).val < 1 := (y 0).isLt
  exact (show (i 0).val + 1 * (y 0).val = (i 0).val by omega)

/-- The rest of the arguments of a part of the body. -/
abbrev part1 (i : grid0.Coords) (xb : Memref sig .tc .vmem S4096x128 .f32) (hxb : xb.IsWhole) (b1 : Memref sig .tc .vmem S1x1x2048 .f32) (hb1 : b1.IsWhole)
    (b2 : Memref sig .tc .vmem S1x1x1024 .f32) (hb2 : b2.IsWhole) (y : Memref sig .tc .vmem S4096x128 .f32) (hy : y.IsWhole) :=
  k0_part1 (F := F) i (Memref.whole main_v18) (Memref.isWhole_whole _) (Memref.whole main_v19) (Memref.isWhole_whole _) (Memref.whole main_v51) (Memref.isWhole_whole _)
    (Memref.whole main_v55) (Memref.isWhole_whole _) (Memref.whole main_v64) (Memref.isWhole_whole _) xb hxb (Memref.whole main_arg2) (Memref.isWhole_whole _) b1 hb1
    (Memref.whole main_arg4) (Memref.isWhole_whole _) b2 hb2 y hy (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4

end

section
variable (c : Dev nD) (i : grid0.Coords) (xb : Memref sig .tc .vmem S4096x128 .f32) (hxb : xb.IsWhole) (b1 : Memref sig .tc .vmem S1x1x2048 .f32) (hb1 : b1.IsWhole)
    (b2 : Memref sig .tc .vmem S1x1x1024 .f32) (hb2 : b2.IsWhole) (y : Memref sig .tc .vmem S4096x128 .f32) (hy : y.IsWhole)

theorem read_unsqueeze {S S' : Shape} (h : S'.numel = S.numel) {f g : S.Idx → F .f32}
    (e : (fun x => f (Shape.reshapeEquiv h x)) = fun x => g (Shape.reshapeEquiv h x)) : f = g := by
  funext x
  have := congrFun e ((Shape.reshapeEquiv h).symm x)
  simpa using this

theorem slot_g (fg : Buf (Elt F) ((c : Thread nD τ).loc main_arg2)) (w : BitVec 32) (h : w.toNat < 2) (e : BitVec 32) (he : e.toNat < 32) (g : Bf (F := F) c (gS w h))
    (hg : (gS w h).view.read (Elt F) g = (gE e he).view.read (Elt F) fg) : (gS' w h).view.read (Elt F) g = (gE' e he).view.read (Elt F) fg :=
  read_unsqueeze squeezes_S1x1024x2048_S1024x2048.numel_eq hg
theorem slot_d (fd : Buf (Elt F) ((c : Thread nD τ).loc main_arg4)) (w : BitVec 32) (h : w.toNat < 2) (e : BitVec 32) (he : e.toNat < 32) (g : Bf (F := F) c (dS w h))
    (hg : (dS w h).view.read (Elt F) g = (dE e he).view.read (Elt F) fd) : (dS' w h).view.read (Elt F) g = (dE' e he).view.read (Elt F) fd :=
  read_unsqueeze squeezes_S1x1024x1024_S1024x1024.numel_eq hg

/-- An expert's weights as they land in a slot. -/
theorem land_g (fg : Buf (Elt F) ((c : Thread nD τ).loc main_arg2)) (w : BitVec 32) (h : w.toNat < 2) (e : BitVec 32) (he : e.toNat < 32) (g : Bf (F := F) c (gS w h))
    (u : S1024x2048.Idx → F .f32) (hu : u = (gE e he).view.read (Elt F) fg) :
    (pt c (gS w h) ((gS w h).view.writes (Elt F) g [⟨Rect.whole S1024x2048, u⟩]) : sProp 𝕄) ⊢ iprop(∃ g, ⌜(gS w h).view.read (Elt F) g = (gE e he).view.read (Elt F) fg⌝ ∗ pt c (gS w h) g) := by
  iintro H
  iexists _
  isplitr
  rotate_left; · iexact H
  ipureintro; exact (View.read_writes_whole _ _ _).trans hu
theorem land_d (fd : Buf (Elt F) ((c : Thread nD τ).loc main_arg4)) (w : BitVec 32) (h : w.toNat < 2) (e : BitVec 32) (he : e.toNat < 32) (g : Bf (F := F) c (dS w h))
    (u : S1024x1024.Idx → F .f32) (hu : u = (dE e he).view.read (Elt F) fd) :
    (pt c (dS w h) ((dS w h).view.writes (Elt F) g [⟨Rect.whole S1024x1024, u⟩]) : sProp 𝕄) ⊢ iprop(∃ g, ⌜(dS w h).view.read (Elt F) g = (dE e he).view.read (Elt F) fd⌝ ∗ pt c (dS w h) g) := by
  iintro H
  iexists _
  isplitr
  rotate_left; · iexact H
  ipureintro; exact (View.read_writes_whole _ _ _).trans hu

/-- A write of the whole of a two-axis buffer is what is read. -/
theorem read_all {sp : Space} {S : Shape} {t : EltTy} (hr : S.rank = 2) (v : View sig .tc sp S t) (f : v.ty.Contents (Elt F)) (u : S.Idx → Elt F t) (a : Fin S.rank → ℕ) (ha : a = fun _ => 0) (h) :
    v.read (Elt F) (v.writes (Elt F) f [⟨Rect.unit (s := S) a S.size h, u⟩]) = u := by
  subst ha
  funext y
  have key : ∀ x : S.Idx, (Rect.unit (s := S) (fun _ => 0) S.size h).emb x = x := fun x => funext fun a => Fin.ext (by show 0 + 1 * (x a).val = (x a).val; omega)
  refine View.read_writes_apply_of_pieces v f u _ ?_ y ?_
  · intro p hp
    simp only [List.mem_cons, List.not_mem_nil, or_false] at hp
    subst hp
    intro x; exact congrArg u (key x).symm
  · refine ⟨_, List.mem_cons_self, ?_⟩
    rw [Rect.mem_set_unit]; intro a; exact ⟨Nat.zero_le _, by show (y a).val < 0 + S.size a; have := (y a).isLt; omega⟩

set_option maxHeartbeats 400000 in
theorem run1_first (q : PosShare TreeShare) (be : Buf (Elt F) ((c : Thread nD τ).loc main_v18)) (sl : Buf (Elt F) ((c : Thread nD τ).loc main_v55))
    (e w : BitVec 32) (he : be (at160 i) = e) (hw : sl (at160 i) = w)
    (he32 : e.toNat < 32) (hw2 : w.toNat < 2) (h2 : k0_cond2 i = 1#1)
    (fg : Buf (Elt F) ((c : Thread nD τ).loc main_arg2)) (fd : Buf (Elt F) ((c : Thread nD τ).loc main_arg4))
    (a0 v0 v4 v7 : BitVec 32) (h1 : k0_cond1 i v0 v4 v7 = 1#1) (W : Waits sig Unit) (Q : BitVec 32 → sProp 𝕄) :
    iprop(tab (F := F) c q main_v18 be ∗ tab c q main_v55 sl ∗ free (F := F) c w hw2 ∗ wany (F := F) c ∗ arrs c fg fd ∗ owes (c : Thread nD τ) 0 W
      ∗ (iprop(tab (F := F) c q main_v18 be ∗ tab c q main_v55 sl ∗ free (F := F) c w hw2 ∗ wbuf c fg fd e he32 ∗ arrs c fg fd ∗ ∃ W, owes (c : Thread nD τ) 0 W) -∗ Q w))
    ⊢ wp frame (wpE (defs₀ (F := F)) Variants.none c none) Set.univ (part1 i xb hxb b1 hb1 b2 hb2 y hy a0 v0 v4 v7 h1) Q := by
  unfold free wany arrs
  iintro ⟨HT, HS, ⟨⟨%g, Hg⟩, ⟨%d, Hd⟩, Hz, Hz'⟩, ⟨%fb, %fb', Hgb, Hdb⟩, ⟨HEg, HEd⟩, HO, Hk⟩
  sl_unfold [part1, k0_part1]
  sl_exec (disch := first | sl_exact h1 | sl_exact h2 | omega)
  generalize hr : run1_first.sl.r c i be = r
  obtain rfl : r = e := hr.symm.trans ((word_at be i _ (k0_off3_eq i) _ _).trans he)
  have hc2 := chk2_of i v0 v4 v7 r he32
  sl_exec (disch := first | sl_exact h1 | sl_exact h2 | sl_exact hc2 | omega)
  generalize hs : run1_first.sl.r_1 c i sl = s
  obtain rfl : s = w := hs.symm.trans ((word_at sl i _ (k0_off3_eq i) _ _).trans hw)
  have hc1 := chk1_of i v0 v4 v7 s hw2
  sl_exec (disch := first | sl_exact h1 | sl_exact h2 | sl_exact hc2 | sl_exact hc1 | omega)
  ihave Hg0 := (land_g c fg s hw2 r he32 g (run1_first.sl.dma0 c i h2 fg v0 v4 v7 h1 r hc2) rfl) $$ Hg
  ihave Hd0 := (land_d c fd s hw2 r he32 d (run1_first.sl.dma0_1 c i h2 fd v0 v4 v7 h1 r hc2) rfl) $$ Hd
  icases Hg0 with ⟨%g', %hg2, Hg⟩
  icases Hd0 with ⟨%d', %hd2, Hd⟩
  have hsg : ((Memref.whole cc0_scratch0).access (Rect.unit (s := S2x1024x2048) (k0_off16 s) S1x1024x2048.size (gsl_inb s hw2))).set ⊆ (gS' s hw2).view.set := Finset.Subset.refl _
  have hsd : ((Memref.whole cc0_scratch1).access (Rect.unit (s := S2x1024x1024) (k0_off17 s) S1x1024x1024.size (dsl_inb s hw2))).set ⊆ (dS' s hw2).view.set := Finset.Subset.refl _
  ihave Hg1 := (Entails.of_eq (pt_gS (F := F) c s hw2 _)) $$ Hg
  ihave Hd1 := (Entails.of_eq (pt_dS (F := F) c s hw2 _)) $$ Hd
  sl_exec (disch := first | sl_exact h1 | sl_exact h2 | sl_exact hc2 | sl_exact hc1 | omega)
  have hv50 : run1_first.sl.v50 i v0 v4 v7 h1 s hw2 hc1 g' = wG c fg r he32 := by
    unfold run1_first.sl.v50 run1_first.sl.v47
    exact congrArg k0_pay9 (slot_g c fg s hw2 r he32 _ hg2)
  have hv57 : run1_first.sl.v57 i v0 v4 v7 h1 s hw2 hc1 d' = wD c fd r he32 := by
    unfold run1_first.sl.v57 run1_first.sl.v54
    exact congrArg k0_pay10 (slot_d c fd s hw2 r he32 _ hd2)
  ihave Hg := (Entails.of_eq (pt_gS (F := F) c s hw2 _).symm) $$ Hg1
  ihave Hd := (Entails.of_eq (pt_dS (F := F) c s hw2 _).symm) $$ Hd1
  sl_step
  iapply Hk
  isplitl [HT]; · iexact HT
  isplitl [HS]; · iexact HS
  isplitl [Hg Hd Hz Hz']
  · isplitl [Hg]; · iexists _; iexact Hg
    isplitl [Hd]; · iexists _; iexact Hd
    isplitl [Hz]; · iexact Hz
    iexact Hz'
  isplitl [Hgb Hdb]
  · unfold wbuf
    iexists _, _
    isplitr
    rotate_left
    isplitr
    rotate_left
    isplitl [Hgb]; · iexact Hgb
    iexact Hdb
    · ipureintro; exact (read_all rfl _ _ _ _ (by funext a; fin_cases a <;> rfl) _).trans hv50
    · ipureintro; exact (read_all rfl _ _ _ _ (by funext a; fin_cases a <;> rfl) _).trans hv57
  isplitl [HEg HEd]
  · isplitl [HEg]; · iexact HEg
    iexact HEd
  iexists _; iexact HO

/-- The weights but an expert's, and that expert's, are the weights. -/
theorem arrs_join (fg : Buf (Elt F) ((c : Thread nD τ).loc main_arg2)) (fd : Buf (Elt F) ((c : Thread nD τ).loc main_arg4)) (e : BitVec 32) (he : e.toNat < 32) :
    iprop(arrsBut c fg fd e he ∗ pt c (gE e he) fg ∗ pt c (dE e he) fd) ⊢ (arrs c fg fd : sProp 𝕄) := by
  unfold arrs arrsBut
  iintro ⟨⟨H1, H2⟩, H3, H4⟩
  isplitl [H1 H3]
  · iapply (pointsTo_split_subset (ℓ := (Memref.whole main_arg2).view.loc (c : Thread nD τ)) (q := fullShare) (f := fg) (Finset.subset_univ (gE e he).view.set)).2
    isplitl [H3]; · iexact H3
    iexact H1
  iapply (pointsTo_split_subset (ℓ := (Memref.whole main_arg4).view.loc (c : Thread nD τ)) (q := fullShare) (f := fd) (Finset.subset_univ (dE e he).view.set)).2
  isplitl [H4]; · iexact H4
  iexact H2

set_option maxHeartbeats 400000 in
theorem run1_later (q : PosShare TreeShare) (be : Buf (Elt F) ((c : Thread nD τ).loc main_v18)) (sl : Buf (Elt F) ((c : Thread nD τ).loc main_v55))
    (e w : BitVec 32) (he : be (at160 i) = e) (hw : sl (at160 i) = w)
    (he32 : e.toNat < 32) (hw2 : w.toNat < 2) (h2 : ¬ k0_cond2 i = 1#1)
    (fg : Buf (Elt F) ((c : Thread nD τ).loc main_arg2)) (fd : Buf (Elt F) ((c : Thread nD τ).loc main_arg4))
    (a0 v0 v4 v7 : BitVec 32) (h1 : k0_cond1 i v0 v4 v7 = 1#1) (W : Waits sig Unit) (Q : BitVec 32 → sProp 𝕄) :
    iprop(tab (F := F) c q main_v18 be ∗ tab c q main_v55 sl ∗ flight c fg fd w hw2 e he32 ∗ wany (F := F) c ∗ arrsBut c fg fd e he32 ∗ owes (c : Thread nD τ) 0 W
      ∗ (iprop(tab (F := F) c q main_v18 be ∗ tab c q main_v55 sl ∗ free (F := F) c w hw2 ∗ wbuf c fg fd e he32 ∗ arrs c fg fd ∗ ∃ W, owes (c : Thread nD τ) 0 W) -∗ Q w))
    ⊢ wp frame (wpE (defs₀ (F := F)) Variants.none c none) Set.univ (part1 i xb hxb b1 hb1 b2 hb2 y hy a0 v0 v4 v7 h1) Q := by
  unfold free wany flight
  iintro ⟨HT, HS, ⟨HFg, HFd⟩, ⟨%fb, %fb', Hgb, Hdb⟩, HA, HO, Hk⟩
  sl_unfold [part1, k0_part1]
  sl_exec (disch := first | sl_exact h1 | sl_exact h2 | omega)
  generalize hr : run1_later.sl.r c i be = r
  obtain rfl : r = e := hr.symm.trans ((word_at be i _ (k0_off3_eq i) _ _).trans he)
  have hc2 := chk2_of i v0 v4 v7 r he32
  sl_exec (disch := first | sl_exact h1 | sl_exact h2 | sl_exact hc2 | omega)
  generalize hs : run1_later.sl.r_1 c i sl = s
  obtain rfl : s = w := hs.symm.trans ((word_at sl i _ (k0_off3_eq i) _ _).trans hw)
  have hc1 := chk1_of i v0 v4 v7 s hw2
  sl_exec (disch := first | sl_exact h1 | sl_exact h2 | sl_exact hc2 | sl_exact hc1 | omega)
  icases HFg_dst with ⟨%g, %hg2, Hg⟩
  icases HFd_dst with ⟨%d, %hd2, Hd⟩
  have hsg : ((Memref.whole cc0_scratch0).access (Rect.unit (s := S2x1024x2048) (k0_off16 s) S1x1024x2048.size (gsl_inb s hw2))).set ⊆ (gS' s hw2).view.set := Finset.Subset.refl _
  have hsd : ((Memref.whole cc0_scratch1).access (Rect.unit (s := S2x1024x1024) (k0_off17 s) S1x1024x1024.size (dsl_inb s hw2))).set ⊆ (dS' s hw2).view.set := Finset.Subset.refl _
  ihave Hg1 := (Entails.of_eq (pt_gS (F := F) c s hw2 _)) $$ Hg
  ihave Hd1 := (Entails.of_eq (pt_dS (F := F) c s hw2 _)) $$ Hd
  sl_exec (disch := first | sl_exact h1 | sl_exact h2 | sl_exact hc2 | sl_exact hc1 | omega)
  have hv50 : run1_later.sl.v50 i v0 v4 v7 h1 s hw2 hc1 g = wG c fg r he32 := by
    unfold run1_later.sl.v50 run1_later.sl.v47
    exact congrArg k0_pay9 (slot_g c fg s hw2 r he32 _ hg2)
  have hv57 : run1_later.sl.v57 i v0 v4 v7 h1 s hw2 hc1 d = wD c fd r he32 := by
    unfold run1_later.sl.v57 run1_later.sl.v54
    exact congrArg k0_pay10 (slot_d c fd s hw2 r he32 _ hd2)
  ihave Hg := (Entails.of_eq (pt_gS (F := F) c s hw2 _).symm) $$ Hg1
  ihave Hd := (Entails.of_eq (pt_dS (F := F) c s hw2 _).symm) $$ Hd1
  sl_step
  iapply Hk
  isplitl [HT]; · iexact HT
  isplitl [HS]; · iexact HS
  isplitl [Hg Hd HFg HFd]
  · isplitl [Hg]; · iexists _; iexact Hg
    isplitl [Hd]; · iexists _; iexact Hd
    isplitl [HFg]; · iexact HFg
    iexact HFd
  isplitl [Hgb Hdb]
  · unfold wbuf
    iexists _, _
    isplitr
    rotate_left
    isplitr
    rotate_left
    isplitl [Hgb]; · iexact Hgb
    iexact Hdb
    · ipureintro; exact (read_all rfl _ _ _ _ (by funext a; fin_cases a <;> rfl) _).trans hv50
    · ipureintro; exact (read_all rfl _ _ _ _ (by funext a; fin_cases a <;> rfl) _).trans hv57
  isplitl [HA HFg_src HFd_src]
  · iapply (arrs_join c fg fd r he32)
    isplitl [HA]; · iexact HA
    isplitl [HFg_src]; · iexact HFg_src
    iexact HFd_src
  iexists _; iexact HO
end

end Cert.Proof.Experts

end
-- ==== Proof.ExpFfn.lean ====
/- The expert's multiplications at a grid point: the block's rows read, multiplied and written. -/
module

public import proofs.«01_k».proof.Proof.ExpWeights

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UE ℕ

/-- The second half of the body: the block's rows multiplied, if it has any. -/
def half (i : grid0.Coords) (arg0 : BitVec 32) (v0 : Elt F .i32) (arg1 : Memref sig .tc .smem S160 .i32) (harg1 : arg1.IsWhole) (arg2 : Memref sig .tc .smem S1 .i32) (harg2 : arg2.IsWhole) (arg3 : Memref sig .tc .smem S160 .i32) (harg3 : arg3.IsWhole) (arg4 : Memref sig .tc .smem S160 .i32) (harg4 : arg4.IsWhole) (arg5 : Memref sig .tc .smem S160 .i32) (harg5 : arg5.IsWhole) (arg6 : Memref sig .tc .vmem S4096x128 .f32) (harg6 : arg6.IsWhole) (arg7 : Memref sig .tc .hbm S32x1024x2048 .f32) (harg7 : arg7.IsWhole) (arg8 : Memref sig .tc .vmem S1x1x2048 .f32) (harg8 : arg8.IsWhole) (arg9 : Memref sig .tc .hbm S32x1024x1024 .f32) (harg9 : arg9.IsWhole) (arg10 : Memref sig .tc .vmem S1x1x1024 .f32) (harg10 : arg10.IsWhole) (arg11 : Memref sig .tc .vmem S4096x128 .f32) (harg11 : arg11.IsWhole) (arg12 : Memref sig .tc .vmem S2x1024x2048 .f32) (harg12 : arg12.IsWhole) (arg13 : Memref sig .tc .vmem S2x1024x1024 .f32) (harg13 : arg13.IsWhole) (arg14 : Memref sig .tc .vmem S1024x2048 .bf16) (harg14 : arg14.IsWhole) (arg15 : Memref sig .tc .vmem S1024x1024 .bf16) (harg15 : arg15.IsWhole) (arg16 : DmaSems sig S2x2) :
    Prog (TpuEff nD τ sig (Elt F) Λ₀ .tc) PUnit := do
  let v14 : BitVec 1 := Scalar.cmpi .slt arg0 v0
  let v15 : Index := Scalar.indexCast arg0
  let v16 : Elt F .i32 ← smemLoad arg5 (Rect.unit (s := S160) (k0_off25 i) S1.size (k0_off25_inb i)) numel1_S1 rfl
  let c256_i32 : BitVec 32 := 256#32
  let v17 : BitVec 1 := Scalar.cmpi .sle v16 c256_i32
  let v_true : BitVec 1 := 1#1
  let v18 : BitVec 1 := Scalar.xori v17 v_true
  let v19 : BitVec 1 := Scalar.andi v14 v18
  let v20 : BitVec 32 := Scalar.extui v19
  let c0_i32_2 : BitVec 32 := 0#32
  let v21 : BitVec 1 := Scalar.cmpi .ne v20 c0_i32_2
  if k0_h4 : k0_cond4 i v0 v16 = 1#1 then do
    let ⟨v44, v46⟩ : Σ' (v44 : FVec F S512x2048 .f32), FVec F S1x2048 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
    let ⟨v70, v80⟩ : Σ' (v70 : FVec F S512x1024 .f32), FVec F S512x128 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v44 v46
    let v81 : Memref sig .tc .vmem S4096x128 .f32 := arg11.slice (Rect.unit (s := S4096x128) ![0, 0] S4096x128.size inb_S4096x128_S4096x128_0_0) (fun _ => rfl)
    let v82 : Vec F S512x128 .f32 ← Prog.lift (.load v81 (⟨![3, 0], S512x128.size, ![8, 1], inb_S4096x128_S512x128_3_0_s_8_1⟩ : LoadRect S4096x128) (View.loadsAt_vmem h_S512x128))
    Prog.lift (.store v81 ⟨(⟨![3, 0], S512x128.size, ![8, 1], inb_S4096x128_S512x128_3_0_s_8_1⟩ : LoadRect S4096x128), spos_8_1⟩ v80 Finset.univ (View.stores_vmem_bits_univ h_S512x128 rfl) (.inl rfl))
    have v83 : FVec F S512x128 .f32 := extractStridedSlice S512x128 ![0, 512] v70 slices_S512x1024_o0_512_S512x128
    let v84 : Memref sig .tc .vmem S4096x128 .f32 := arg11.slice (Rect.unit (s := S4096x128) ![0, 0] S4096x128.size inb_S4096x128_S4096x128_0_0) (fun _ => rfl)
    let v85 : Vec F S512x128 .f32 ← Prog.lift (.load v84 (⟨![4, 0], S512x128.size, ![8, 1], inb_S4096x128_S512x128_4_0_s_8_1⟩ : LoadRect S4096x128) (View.loadsAt_vmem h_S512x128))
    Prog.lift (.store v84 ⟨(⟨![4, 0], S512x128.size, ![8, 1], inb_S4096x128_S512x128_4_0_s_8_1⟩ : LoadRect S4096x128), spos_8_1⟩ v83 Finset.univ (View.stores_vmem_bits_univ h_S512x128 rfl) (.inl rfl))
    have v86 : FVec F S512x128 .f32 := extractStridedSlice S512x128 ![0, 640] v70 slices_S512x1024_o0_640_S512x128
    let v87 : Memref sig .tc .vmem S4096x128 .f32 := arg11.slice (Rect.unit (s := S4096x128) ![0, 0] S4096x128.size inb_S4096x128_S4096x128_0_0) (fun _ => rfl)
    let v88 : Vec F S512x128 .f32 ← Prog.lift (.load v87 (⟨![5, 0], S512x128.size, ![8, 1], inb_S4096x128_S512x128_5_0_s_8_1⟩ : LoadRect S4096x128) (View.loadsAt_vmem h_S512x128))
    Prog.lift (.store v87 ⟨(⟨![5, 0], S512x128.size, ![8, 1], inb_S4096x128_S512x128_5_0_s_8_1⟩ : LoadRect S4096x128), spos_8_1⟩ v86 Finset.univ (View.stores_vmem_bits_univ h_S512x128 rfl) (.inl rfl))
    have v89 : FVec F S512x128 .f32 := extractStridedSlice S512x128 ![0, 768] v70 slices_S512x1024_o0_768_S512x128
    let v90 : Memref sig .tc .vmem S4096x128 .f32 := arg11.slice (Rect.unit (s := S4096x128) ![0, 0] S4096x128.size inb_S4096x128_S4096x128_0_0) (fun _ => rfl)
    let v91 : Vec F S512x128 .f32 ← Prog.lift (.load v90 (⟨![6, 0], S512x128.size, ![8, 1], inb_S4096x128_S512x128_6_0_s_8_1⟩ : LoadRect S4096x128) (View.loadsAt_vmem h_S512x128))
    Prog.lift (.store v90 ⟨(⟨![6, 0], S512x128.size, ![8, 1], inb_S4096x128_S512x128_6_0_s_8_1⟩ : LoadRect S4096x128), spos_8_1⟩ v89 Finset.univ (View.stores_vmem_bits_univ h_S512x128 rfl) (.inl rfl))
    have v92 : FVec F S512x128 .f32 := extractStridedSlice S512x128 ![0, 896] v70 slices_S512x1024_o0_896_S512x128
    let v93 : Memref sig .tc .vmem S4096x128 .f32 := arg11.slice (Rect.unit (s := S4096x128) ![0, 0] S4096x128.size inb_S4096x128_S4096x128_0_0) (fun _ => rfl)
    let v94 : Vec F S512x128 .f32 ← Prog.lift (.load v93 (⟨![7, 0], S512x128.size, ![8, 1], inb_S4096x128_S512x128_7_0_s_8_1⟩ : LoadRect S4096x128) (View.loadsAt_vmem h_S512x128))
    Prog.lift (.store v93 ⟨(⟨![7, 0], S512x128.size, ![8, 1], inb_S4096x128_S512x128_7_0_s_8_1⟩ : LoadRect S4096x128), spos_8_1⟩ v92 Finset.univ (View.stores_vmem_bits_univ h_S512x128 rfl) (.inl rfl))
    pure ⟨⟩
  else do
    pure ⟨⟩
  let v22 : BitVec 1 := Scalar.andi v14 v17
  let v23 : BitVec 32 := Scalar.extui v22
  let c0_i32_3 : BitVec 32 := 0#32
  let v24 : BitVec 1 := Scalar.cmpi .ne v23 c0_i32_3
  if k0_h5 : k0_cond5 i v0 v16 = 1#1 then do
    let ⟨v44, v46⟩ : Σ' (v44 : FVec F S256x2048 .f32), FVec F S1x2048 .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
    let ⟨v70, v80⟩ : Σ' (v70 : FVec F S256x1024 .f32), FVec F S256x128 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v44 v46
    let v81 : Memref sig .tc .vmem S2048x128 .f32 := arg11.slice (Rect.unit (s := S4096x128) ![0, 0] S2048x128.size inb_S4096x128_S2048x128_0_0) (fun _ => rfl)
    let v82 : Vec F S256x128 .f32 ← Prog.lift (.load v81 (⟨![3, 0], S256x128.size, ![8, 1], inb_S2048x128_S256x128_3_0_s_8_1⟩ : LoadRect S2048x128) (View.loadsAt_vmem h_S256x128))
    Prog.lift (.store v81 ⟨(⟨![3, 0], S256x128.size, ![8, 1], inb_S2048x128_S256x128_3_0_s_8_1⟩ : LoadRect S2048x128), spos_8_1⟩ v80 Finset.univ (View.stores_vmem_bits_univ h_S256x128 rfl) (.inl rfl))
    have v83 : FVec F S256x128 .f32 := extractStridedSlice S256x128 ![0, 512] v70 slices_S256x1024_o0_512_S256x128
    let v84 : Memref sig .tc .vmem S2048x128 .f32 := arg11.slice (Rect.unit (s := S4096x128) ![0, 0] S2048x128.size inb_S4096x128_S2048x128_0_0) (fun _ => rfl)
    let v85 : Vec F S256x128 .f32 ← Prog.lift (.load v84 (⟨![4, 0], S256x128.size, ![8, 1], inb_S2048x128_S256x128_4_0_s_8_1⟩ : LoadRect S2048x128) (View.loadsAt_vmem h_S256x128))
    Prog.lift (.store v84 ⟨(⟨![4, 0], S256x128.size, ![8, 1], inb_S2048x128_S256x128_4_0_s_8_1⟩ : LoadRect S2048x128), spos_8_1⟩ v83 Finset.univ (View.stores_vmem_bits_univ h_S256x128 rfl) (.inl rfl))
    have v86 : FVec F S256x128 .f32 := extractStridedSlice S256x128 ![0, 640] v70 slices_S256x1024_o0_640_S256x128
    let v87 : Memref sig .tc .vmem S2048x128 .f32 := arg11.slice (Rect.unit (s := S4096x128) ![0, 0] S2048x128.size inb_S4096x128_S2048x128_0_0) (fun _ => rfl)
    let v88 : Vec F S256x128 .f32 ← Prog.lift (.load v87 (⟨![5, 0], S256x128.size, ![8, 1], inb_S2048x128_S256x128_5_0_s_8_1⟩ : LoadRect S2048x128) (View.loadsAt_vmem h_S256x128))
    Prog.lift (.store v87 ⟨(⟨![5, 0], S256x128.size, ![8, 1], inb_S2048x128_S256x128_5_0_s_8_1⟩ : LoadRect S2048x128), spos_8_1⟩ v86 Finset.univ (View.stores_vmem_bits_univ h_S256x128 rfl) (.inl rfl))
    have v89 : FVec F S256x128 .f32 := extractStridedSlice S256x128 ![0, 768] v70 slices_S256x1024_o0_768_S256x128
    let v90 : Memref sig .tc .vmem S2048x128 .f32 := arg11.slice (Rect.unit (s := S4096x128) ![0, 0] S2048x128.size inb_S4096x128_S2048x128_0_0) (fun _ => rfl)
    let v91 : Vec F S256x128 .f32 ← Prog.lift (.load v90 (⟨![6, 0], S256x128.size, ![8, 1], inb_S2048x128_S256x128_6_0_s_8_1⟩ : LoadRect S2048x128) (View.loadsAt_vmem h_S256x128))
    Prog.lift (.store v90 ⟨(⟨![6, 0], S256x128.size, ![8, 1], inb_S2048x128_S256x128_6_0_s_8_1⟩ : LoadRect S2048x128), spos_8_1⟩ v89 Finset.univ (View.stores_vmem_bits_univ h_S256x128 rfl) (.inl rfl))
    have v92 : FVec F S256x128 .f32 := extractStridedSlice S256x128 ![0, 896] v70 slices_S256x1024_o0_896_S256x128
    let v93 : Memref sig .tc .vmem S2048x128 .f32 := arg11.slice (Rect.unit (s := S4096x128) ![0, 0] S2048x128.size inb_S4096x128_S2048x128_0_0) (fun _ => rfl)
    let v94 : Vec F S256x128 .f32 ← Prog.lift (.load v93 (⟨![7, 0], S256x128.size, ![8, 1], inb_S2048x128_S256x128_7_0_s_8_1⟩ : LoadRect S2048x128) (View.loadsAt_vmem h_S256x128))
    Prog.lift (.store v93 ⟨(⟨![7, 0], S256x128.size, ![8, 1], inb_S2048x128_S256x128_7_0_s_8_1⟩ : LoadRect S2048x128), spos_8_1⟩ v92 Finset.univ (View.stores_vmem_bits_univ h_S256x128 rfl) (.inl rfl))
    pure ⟨⟩
  else do
    pure ⟨⟩
  pure ⟨⟩

section
variable (c : Dev nD) (i : grid0.Coords) (xb : Memref sig .tc .vmem S4096x128 .f32) (hxb : xb.IsWhole) (b1 : Memref sig .tc .vmem S1x1x2048 .f32) (hb1 : b1.IsWhole)
    (b2 : Memref sig .tc .vmem S1x1x1024 .f32) (hb2 : b2.IsWhole) (y : Memref sig .tc .vmem S4096x128 .f32) (hy : y.IsWhole)

/-- The kernel's body at the program's buffers. -/
abbrev body :=
  cc0_experts (F := F) i (Memref.whole main_v18) (Memref.isWhole_whole _) (Memref.whole main_v19) (Memref.isWhole_whole _) (Memref.whole main_v51) (Memref.isWhole_whole _)
    (Memref.whole main_v55) (Memref.isWhole_whole _) (Memref.whole main_v64) (Memref.isWhole_whole _) xb hxb (Memref.whole main_arg2) (Memref.isWhole_whole _) b1 hb1
    (Memref.whole main_arg4) (Memref.isWhole_whole _) b2 hb2 y hy (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4

abbrev half' (v0 : BitVec 32) :=
  half (F := F) i (BitVec.ofNat 32 (i 0).val) v0 (Memref.whole main_v18) (Memref.isWhole_whole _) (Memref.whole main_v19) (Memref.isWhole_whole _) (Memref.whole main_v51) (Memref.isWhole_whole _)
    (Memref.whole main_v55) (Memref.isWhole_whole _) (Memref.whole main_v64) (Memref.isWhole_whole _) xb hxb (Memref.whole main_arg2) (Memref.isWhole_whole _) b1 hb1
    (Memref.whole main_arg4) (Memref.isWhole_whole _) b2 hb2 y hy (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4

/-- The block's rows multiplied, 512 of them: of the block's rows of 128 (eight to a row), the two biases and the two rounded weights. -/
def bigV (X : S4096x128.Idx → F .f32) (B1 : Vec F S1x1x2048 .f32) (G : Vec F S1024x2048 .bf16) (B2 : Vec F S1x1x1024 .f32) (D : Vec F S1024x1024 .bf16) : FVec F S512x1024 .f32 :=
  k0_pay13 (k0_pay11 (fun u => X (((Rect.unit (s := S4096x128) ![0, 0] S4096x128.size inb_S4096x128_S4096x128_0_0).withinL (⟨![0, 0], S512x128.size, ![8, 1], inb_S4096x128_S512x128_0_0_s_8_1⟩ : LoadRect S4096x128) (fun _ => rfl)).idx u))
      (fun u => X (((Rect.unit (s := S4096x128) ![0, 0] S4096x128.size inb_S4096x128_S4096x128_0_0).withinL (⟨![1, 0], S512x128.size, ![8, 1], inb_S4096x128_S512x128_1_0_s_8_1⟩ : LoadRect S4096x128) (fun _ => rfl)).idx u))
      (fun u => X (((Rect.unit (s := S4096x128) ![0, 0] S4096x128.size inb_S4096x128_S4096x128_0_0).withinL (⟨![2, 0], S512x128.size, ![8, 1], inb_S4096x128_S512x128_2_0_s_8_1⟩ : LoadRect S4096x128) (fun _ => rfl)).idx u))
      (fun u => X (((Rect.unit (s := S4096x128) ![0, 0] S4096x128.size inb_S4096x128_S4096x128_0_0).withinL (⟨![3, 0], S512x128.size, ![8, 1], inb_S4096x128_S512x128_3_0_s_8_1⟩ : LoadRect S4096x128) (fun _ => rfl)).idx u))
      (fun u => X (((Rect.unit (s := S4096x128) ![0, 0] S4096x128.size inb_S4096x128_S4096x128_0_0).withinL (⟨![4, 0], S512x128.size, ![8, 1], inb_S4096x128_S512x128_4_0_s_8_1⟩ : LoadRect S4096x128) (fun _ => rfl)).idx u))
      (fun u => X (((Rect.unit (s := S4096x128) ![0, 0] S4096x128.size inb_S4096x128_S4096x128_0_0).withinL (⟨![5, 0], S512x128.size, ![8, 1], inb_S4096x128_S512x128_5_0_s_8_1⟩ : LoadRect S4096x128) (fun _ => rfl)).idx u))
      (fun u => X (((Rect.unit (s := S4096x128) ![0, 0] S4096x128.size inb_S4096x128_S4096x128_0_0).withinL (⟨![6, 0], S512x128.size, ![8, 1], inb_S4096x128_S512x128_6_0_s_8_1⟩ : LoadRect S4096x128) (fun _ => rfl)).idx u))
      (fun u => X (((Rect.unit (s := S4096x128) ![0, 0] S4096x128.size inb_S4096x128_S4096x128_0_0).withinL (⟨![7, 0], S512x128.size, ![8, 1], inb_S4096x128_S512x128_7_0_s_8_1⟩ : LoadRect S4096x128) (fun _ => rfl)).idx u)) G) (k0_pay12 B1) D B2
/-- The block's first 256 rows multiplied. -/
def smallV (X : S4096x128.Idx → F .f32) (B1 : Vec F S1x1x2048 .f32) (G : Vec F S1024x2048 .bf16) (B2 : Vec F S1x1x1024 .f32) (D : Vec F S1024x1024 .bf16) : FVec F S256x1024 .f32 :=
  k0_pay20 (k0_pay18 (fun u => X (((Rect.unit (s := S4096x128) ![0, 0] S2048x128.size inb_S4096x128_S2048x128_0_0).withinL (⟨![0, 0], S256x128.size, ![8, 1], inb_S2048x128_S256x128_0_0_s_8_1⟩ : LoadRect S2048x128) (fun _ => rfl)).idx u))
      (fun u => X (((Rect.unit (s := S4096x128) ![0, 0] S2048x128.size inb_S4096x128_S2048x128_0_0).withinL (⟨![1, 0], S256x128.size, ![8, 1], inb_S2048x128_S256x128_1_0_s_8_1⟩ : LoadRect S2048x128) (fun _ => rfl)).idx u))
      (fun u => X (((Rect.unit (s := S4096x128) ![0, 0] S2048x128.size inb_S4096x128_S2048x128_0_0).withinL (⟨![2, 0], S256x128.size, ![8, 1], inb_S2048x128_S256x128_2_0_s_8_1⟩ : LoadRect S2048x128) (fun _ => rfl)).idx u))
      (fun u => X (((Rect.unit (s := S4096x128) ![0, 0] S2048x128.size inb_S4096x128_S2048x128_0_0).withinL (⟨![3, 0], S256x128.size, ![8, 1], inb_S2048x128_S256x128_3_0_s_8_1⟩ : LoadRect S2048x128) (fun _ => rfl)).idx u))
      (fun u => X (((Rect.unit (s := S4096x128) ![0, 0] S2048x128.size inb_S4096x128_S2048x128_0_0).withinL (⟨![4, 0], S256x128.size, ![8, 1], inb_S2048x128_S256x128_4_0_s_8_1⟩ : LoadRect S2048x128) (fun _ => rfl)).idx u))
      (fun u => X (((Rect.unit (s := S4096x128) ![0, 0] S2048x128.size inb_S4096x128_S2048x128_0_0).withinL (⟨![5, 0], S256x128.size, ![8, 1], inb_S2048x128_S256x128_5_0_s_8_1⟩ : LoadRect S2048x128) (fun _ => rfl)).idx u))
      (fun u => X (((Rect.unit (s := S4096x128) ![0, 0] S2048x128.size inb_S4096x128_S2048x128_0_0).withinL (⟨![6, 0], S256x128.size, ![8, 1], inb_S2048x128_S256x128_6_0_s_8_1⟩ : LoadRect S2048x128) (fun _ => rfl)).idx u))
      (fun u => X (((Rect.unit (s := S4096x128) ![0, 0] S2048x128.size inb_S4096x128_S2048x128_0_0).withinL (⟨![7, 0], S256x128.size, ![8, 1], inb_S2048x128_S256x128_7_0_s_8_1⟩ : LoadRect S2048x128) (fun _ => rfl)).idx u)) G) (k0_pay19 B1) D B2
/-- Where a row of 128 finds its entries: eight of them make a row of 1024. -/
def atBig (x : S4096x128.Idx) : S512x1024.Idx := fun a => match a with
  | 0 => ⟨(x 0).val / 8, by have : (x 0).val < 4096 := (x 0).isLt; show _ < 512; omega⟩
  | 1 => ⟨(x 0).val % 8 * 128 + (x 1).val, by have : (x 1).val < 128 := (x 1).isLt; show _ < 1024; omega⟩
def atSmall (x : S4096x128.Idx) (h : (x 0).val < 2048) : S256x1024.Idx := fun a => match a with
  | 0 => ⟨(x 0).val / 8, by show _ < 256; omega⟩
  | 1 => ⟨(x 0).val % 8 * 128 + (x 1).val, by have : (x 1).val < 128 := (x 1).isLt; show _ < 1024; omega⟩

/-- What a grid point leaves in the output window, of what it found there: all its rows, half of them, or what it found. -/
def outRel (v0 v16 : BitVec 32) (i : grid0.Coords) (X : S4096x128.Idx → F .f32) (B1 : Vec F S1x1x2048 .f32) (G : Vec F S1024x2048 .bf16) (B2 : Vec F S1x1x1024 .f32) (D : Vec F S1024x1024 .bf16)
    (Y Y' : S4096x128.Idx → F .f32) : Prop :=
  (k0_cond5 i v0 v16 = 1#1 → ∀ x h, Y' x = smallV X B1 G B2 D (atSmall x h)) ∧ (¬ k0_cond5 i v0 v16 = 1#1 → k0_cond4 i v0 v16 = 1#1 → ∀ x, Y' x = bigV X B1 G B2 D (atBig x))
  ∧ (¬ k0_cond5 i v0 v16 = 1#1 → ¬ k0_cond4 i v0 v16 = 1#1 → Y' = Y)

/-- A read of writes whose every payload at an element's place is a known value. -/
theorem read_pieces {sp : Space} {S : Shape} {e : EltTy} {κ : Kind} (v : View sig κ sp S e) (f : v.ty.Contents (Elt F)) (z : Elt F e) (x : S.Idx) : ∀ L : List (View.Piece (Elt F) S e),
    (∀ p ∈ L, ∀ u : p.1.shape.Idx, p.1.emb u = x → p.2 u = z) → (∃ p ∈ L, x ∈ p.1.set) → v.read (Elt F) (v.writes (Elt F) f L) x = z
  | [], _, h => by obtain ⟨_, hm, _⟩ := h; exact absurd hm List.not_mem_nil
  | p :: L, hP, h => by
    by_cases hy : x ∈ p.1.set
    · obtain ⟨u, hu⟩ := p.1.exists_idx_of_mem hy
      have hu : p.1.emb u = x := hu
      rw [← hu, View.read_writes_cons_emb]
      exact hP p List.mem_cons_self u hu
    · have hy' : x ∉ Finset.univ.map p.1.emb := by rwa [Rect.map_emb_univ]
      rw [View.writes_cons, View.read_slice_write_of_not_mem p.1 _ _ _ hy']
      refine read_pieces v f z x L (fun q hq => hP q (List.mem_cons_of_mem _ hq)) ?_
      obtain ⟨q, hq, hyq⟩ := h
      rcases List.mem_cons.mp hq with rfl | hq'
      · exact absurd hyq hy
      · exact ⟨q, hq', hyq⟩

/-- A load of all of a buffer reads it. -/
theorem readAt_all {sp : Space} {S : Shape} {e : EltTy} {κ : Kind} (v : View sig κ sp S e) (f : v.ty.Contents (Elt F)) {off : Fin S.rank → ℕ} (inb : ∀ a, off a + S.size a ≤ S.size a) :
    v.readAt (Elt F) (Rect.unit off S.size inb).toLoadRect f = v.read (Elt F) f := by
  funext z
  refine congrArg (v.read (Elt F) f) (funext fun a => Fin.ext ?_)
  have h : off a = 0 := by have := inb a; omega
  exact (show off a + 1 * (z a).val = (z a).val by omega)

/-- A block of 128 columns, as a column of the rows of 1024. -/
def col_big (k : ℕ) (hk : k < 8) (u : S512x128.Idx) : S512x1024.Idx := fun a => match a with
  | 0 => ⟨(u 0).val, (u 0).isLt⟩
  | 1 => ⟨128 * k + (u 1).val, by have : (u 1).val < 128 := (u 1).isLt; show _ < 1024; omega⟩
theorem at_big (k : ℕ) (hk : k < 8) (u : S512x128.Idx) (x : S4096x128.Idx) (h0 : (x 0).val = k + 8 * (u 0).val) (h1 : (x 1).val = (u 1).val) : col_big k hk u = atBig x := by
  have hu : (u 0).val < 512 := (u 0).isLt
  funext a
  apply Fin.ext
  fin_cases a
  · exact (show (u 0).val = (x 0).val / 8 by omega)
  · exact (show 128 * k + (u 1).val = (x 0).val % 8 * 128 + (x 1).val by omega)
theorem read_big (v : View sig .tc .vmem S4096x128 .f32) (f : v.ty.Contents (Elt F)) (V : FVec F S512x1024 .f32) (w0 w1 w2 w3 w4 w5 w6 w7 : FVec F S512x128 .f32)
    (e0 : ∀ u, w0 u = V (col_big 0 (by decide) u)) (e1 : ∀ u, w1 u = V (col_big 1 (by decide) u)) (e2 : ∀ u, w2 u = V (col_big 2 (by decide) u)) (e3 : ∀ u, w3 u = V (col_big 3 (by decide) u)) (e4 : ∀ u, w4 u = V (col_big 4 (by decide) u)) (e5 : ∀ u, w5 u = V (col_big 5 (by decide) u)) (e6 : ∀ u, w6 u = V (col_big 6 (by decide) u)) (e7 : ∀ u, w7 u = V (col_big 7 (by decide) u)) (x : S4096x128.Idx) :
    v.read (Elt F) (v.writes (Elt F) f [⟨(Rect.unit (s := S4096x128) ![0, 0] S4096x128.size inb_S4096x128_S4096x128_0_0).within ⟨(⟨![7, 0], S512x128.size, ![8, 1], inb_S4096x128_S512x128_7_0_s_8_1⟩ : LoadRect S4096x128), spos_8_1⟩ (fun _ => rfl), w7⟩, ⟨(Rect.unit (s := S4096x128) ![0, 0] S4096x128.size inb_S4096x128_S4096x128_0_0).within ⟨(⟨![6, 0], S512x128.size, ![8, 1], inb_S4096x128_S512x128_6_0_s_8_1⟩ : LoadRect S4096x128), spos_8_1⟩ (fun _ => rfl), w6⟩, ⟨(Rect.unit (s := S4096x128) ![0, 0] S4096x128.size inb_S4096x128_S4096x128_0_0).within ⟨(⟨![5, 0], S512x128.size, ![8, 1], inb_S4096x128_S512x128_5_0_s_8_1⟩ : LoadRect S4096x128), spos_8_1⟩ (fun _ => rfl), w5⟩, ⟨(Rect.unit (s := S4096x128) ![0, 0] S4096x128.size inb_S4096x128_S4096x128_0_0).within ⟨(⟨![4, 0], S512x128.size, ![8, 1], inb_S4096x128_S512x128_4_0_s_8_1⟩ : LoadRect S4096x128), spos_8_1⟩ (fun _ => rfl), w4⟩, ⟨(Rect.unit (s := S4096x128) ![0, 0] S4096x128.size inb_S4096x128_S4096x128_0_0).within ⟨(⟨![3, 0], S512x128.size, ![8, 1], inb_S4096x128_S512x128_3_0_s_8_1⟩ : LoadRect S4096x128), spos_8_1⟩ (fun _ => rfl), w3⟩, ⟨(Rect.unit (s := S4096x128) ![0, 0] S4096x128.size inb_S4096x128_S4096x128_0_0).within ⟨(⟨![2, 0], S512x128.size, ![8, 1], inb_S4096x128_S512x128_2_0_s_8_1⟩ : LoadRect S4096x128), spos_8_1⟩ (fun _ => rfl), w2⟩, ⟨(Rect.unit (s := S4096x128) ![0, 0] S4096x128.size inb_S4096x128_S4096x128_0_0).within ⟨(⟨![1, 0], S512x128.size, ![8, 1], inb_S4096x128_S512x128_1_0_s_8_1⟩ : LoadRect S4096x128), spos_8_1⟩ (fun _ => rfl), w1⟩, ⟨(Rect.unit (s := S4096x128) ![0, 0] S4096x128.size inb_S4096x128_S4096x128_0_0).within ⟨(⟨![0, 0], S512x128.size, ![8, 1], inb_S4096x128_S512x128_0_0_s_8_1⟩ : LoadRect S4096x128), spos_8_1⟩ (fun _ => rfl), w0⟩]) x = V (atBig x) := by
  have hx0 : (x 0).val < 4096 := (x 0).isLt
  have hx1 : (x 1).val < 128 := (x 1).isLt
  refine read_pieces v f _ x _ ?_ ?_
  · intro p hp u hu
    simp only [List.mem_cons, List.not_mem_nil, or_false] at hp
    have h0 := congrArg Fin.val (congrFun hu 0)
    have h1 := congrArg Fin.val (congrFun hu 1)
    rcases hp with rfl | rfl | rfl | rfl | rfl | rfl | rfl | rfl
    · have h0 : 0 + 7 + 8 * (u 0).val = (x 0).val := h0
      have h1 : 0 + 0 + 1 * (u 1).val = (x 1).val := h1
      exact (e7 u).trans (congrArg V (at_big 7 (by decide) u x (by omega) (by omega)))
    · have h0 : 0 + 6 + 8 * (u 0).val = (x 0).val := h0
      have h1 : 0 + 0 + 1 * (u 1).val = (x 1).val := h1
      exact (e6 u).trans (congrArg V (at_big 6 (by decide) u x (by omega) (by omega)))
    · have h0 : 0 + 5 + 8 * (u 0).val = (x 0).val := h0
      have h1 : 0 + 0 + 1 * (u 1).val = (x 1).val := h1
      exact (e5 u).trans (congrArg V (at_big 5 (by decide) u x (by omega) (by omega)))
    · have h0 : 0 + 4 + 8 * (u 0).val = (x 0).val := h0
      have h1 : 0 + 0 + 1 * (u 1).val = (x 1).val := h1
      exact (e4 u).trans (congrArg V (at_big 4 (by decide) u x (by omega) (by omega)))
    · have h0 : 0 + 3 + 8 * (u 0).val = (x 0).val := h0
      have h1 : 0 + 0 + 1 * (u 1).val = (x 1).val := h1
      exact (e3 u).trans (congrArg V (at_big 3 (by decide) u x (by omega) (by omega)))
    · have h0 : 0 + 2 + 8 * (u 0).val = (x 0).val := h0
      have h1 : 0 + 0 + 1 * (u 1).val = (x 1).val := h1
      exact (e2 u).trans (congrArg V (at_big 2 (by decide) u x (by omega) (by omega)))
    · have h0 : 0 + 1 + 8 * (u 0).val = (x 0).val := h0
      have h1 : 0 + 0 + 1 * (u 1).val = (x 1).val := h1
      exact (e1 u).trans (congrArg V (at_big 1 (by decide) u x (by omega) (by omega)))
    · have h0 : 0 + 0 + 8 * (u 0).val = (x 0).val := h0
      have h1 : 0 + 0 + 1 * (u 1).val = (x 1).val := h1
      exact (e0 u).trans (congrArg V (at_big 0 (by decide) u x (by omega) (by omega)))
  · have h8 : (x 0).val % 8 = 0 ∨ (x 0).val % 8 = 1 ∨ (x 0).val % 8 = 2 ∨ (x 0).val % 8 = 3 ∨ (x 0).val % 8 = 4 ∨ (x 0).val % 8 = 5 ∨ (x 0).val % 8 = 6 ∨ (x 0).val % 8 = 7 := by omega
    rcases h8 with h | h | h | h | h | h | h | h
    · refine ⟨_, List.mem_cons_of_mem _ (List.mem_cons_of_mem _ (List.mem_cons_of_mem _ (List.mem_cons_of_mem _ (List.mem_cons_of_mem _ (List.mem_cons_of_mem _ (List.mem_cons_of_mem _ List.mem_cons_self)))))), ?_⟩
      refine (LoadRect.mem_set _).2 fun a => ?_
      fin_cases a
      · exact ⟨(x 0).val / 8, (show (x 0).val / 8 < 512 by omega), (show (x 0).val = 0 + 0 + 8 * ((x 0).val / 8) by omega)⟩
      · exact ⟨(x 1).val, hx1, (show (x 1).val = 0 + 0 + 1 * (x 1).val by omega)⟩
    · refine ⟨_, List.mem_cons_of_mem _ (List.mem_cons_of_mem _ (List.mem_cons_of_mem _ (List.mem_cons_of_mem _ (List.mem_cons_of_mem _ (List.mem_cons_of_mem _ List.mem_cons_self))))), ?_⟩
      refine (LoadRect.mem_set _).2 fun a => ?_
      fin_cases a
      · exact ⟨(x 0).val / 8, (show (x 0).val / 8 < 512 by omega), (show (x 0).val = 0 + 1 + 8 * ((x 0).val / 8) by omega)⟩
      · exact ⟨(x 1).val, hx1, (show (x 1).val = 0 + 0 + 1 * (x 1).val by omega)⟩
    · refine ⟨_, List.mem_cons_of_mem _ (List.mem_cons_of_mem _ (List.mem_cons_of_mem _ (List.mem_cons_of_mem _ (List.mem_cons_of_mem _ List.mem_cons_self)))), ?_⟩
      refine (LoadRect.mem_set _).2 fun a => ?_
      fin_cases a
      · exact ⟨(x 0).val / 8, (show (x 0).val / 8 < 512 by omega), (show (x 0).val = 0 + 2 + 8 * ((x 0).val / 8) by omega)⟩
      · exact ⟨(x 1).val, hx1, (show (x 1).val = 0 + 0 + 1 * (x 1).val by omega)⟩
    · refine ⟨_, List.mem_cons_of_mem _ (List.mem_cons_of_mem _ (List.mem_cons_of_mem _ (List.mem_cons_of_mem _ List.mem_cons_self))), ?_⟩
      refine (LoadRect.mem_set _).2 fun a => ?_
      fin_cases a
      · exact ⟨(x 0).val / 8, (show (x 0).val / 8 < 512 by omega), (show (x 0).val = 0 + 3 + 8 * ((x 0).val / 8) by omega)⟩
      · exact ⟨(x 1).val, hx1, (show (x 1).val = 0 + 0 + 1 * (x 1).val by omega)⟩
    · refine ⟨_, List.mem_cons_of_mem _ (List.mem_cons_of_mem _ (List.mem_cons_of_mem _ List.mem_cons_self)), ?_⟩
      refine (LoadRect.mem_set _).2 fun a => ?_
      fin_cases a
      · exact ⟨(x 0).val / 8, (show (x 0).val / 8 < 512 by omega), (show (x 0).val = 0 + 4 + 8 * ((x 0).val / 8) by omega)⟩
      · exact ⟨(x 1).val, hx1, (show (x 1).val = 0 + 0 + 1 * (x 1).val by omega)⟩
    · refine ⟨_, List.mem_cons_of_mem _ (List.mem_cons_of_mem _ List.mem_cons_self), ?_⟩
      refine (LoadRect.mem_set _).2 fun a => ?_
      fin_cases a
      · exact ⟨(x 0).val / 8, (show (x 0).val / 8 < 512 by omega), (show (x 0).val = 0 + 5 + 8 * ((x 0).val / 8) by omega)⟩
      · exact ⟨(x 1).val, hx1, (show (x 1).val = 0 + 0 + 1 * (x 1).val by omega)⟩
    · refine ⟨_, List.mem_cons_of_mem _ List.mem_cons_self, ?_⟩
      refine (LoadRect.mem_set _).2 fun a => ?_
      fin_cases a
      · exact ⟨(x 0).val / 8, (show (x 0).val / 8 < 512 by omega), (show (x 0).val = 0 + 6 + 8 * ((x 0).val / 8) by omega)⟩
      · exact ⟨(x 1).val, hx1, (show (x 1).val = 0 + 0 + 1 * (x 1).val by omega)⟩
    · refine ⟨_, List.mem_cons_self, ?_⟩
      refine (LoadRect.mem_set _).2 fun a => ?_
      fin_cases a
      · exact ⟨(x 0).val / 8, (show (x 0).val / 8 < 512 by omega), (show (x 0).val = 0 + 7 + 8 * ((x 0).val / 8) by omega)⟩
      · exact ⟨(x 1).val, hx1, (show (x 1).val = 0 + 0 + 1 * (x 1).val by omega)⟩

/-- A block of 128 columns, as a column of the rows of 1024. -/
def col_small (k : ℕ) (hk : k < 8) (u : S256x128.Idx) : S256x1024.Idx := fun a => match a with
  | 0 => ⟨(u 0).val, (u 0).isLt⟩
  | 1 => ⟨128 * k + (u 1).val, by have : (u 1).val < 128 := (u 1).isLt; show _ < 1024; omega⟩
theorem at_small (k : ℕ) (hk : k < 8) (u : S256x128.Idx) (x : S4096x128.Idx) (hx : (x 0).val < 2048) (h0 : (x 0).val = k + 8 * (u 0).val) (h1 : (x 1).val = (u 1).val) : col_small k hk u = atSmall x hx := by
  have hu : (u 0).val < 256 := (u 0).isLt
  funext a
  apply Fin.ext
  fin_cases a
  · exact (show (u 0).val = (x 0).val / 8 by omega)
  · exact (show 128 * k + (u 1).val = (x 0).val % 8 * 128 + (x 1).val by omega)
theorem read_small (v : View sig .tc .vmem S4096x128 .f32) (f : v.ty.Contents (Elt F)) (V : FVec F S256x1024 .f32) (w0 w1 w2 w3 w4 w5 w6 w7 : FVec F S256x128 .f32)
    (e0 : ∀ u, w0 u = V (col_small 0 (by decide) u)) (e1 : ∀ u, w1 u = V (col_small 1 (by decide) u)) (e2 : ∀ u, w2 u = V (col_small 2 (by decide) u)) (e3 : ∀ u, w3 u = V (col_small 3 (by decide) u)) (e4 : ∀ u, w4 u = V (col_small 4 (by decide) u)) (e5 : ∀ u, w5 u = V (col_small 5 (by decide) u)) (e6 : ∀ u, w6 u = V (col_small 6 (by decide) u)) (e7 : ∀ u, w7 u = V (col_small 7 (by decide) u)) (x : S4096x128.Idx) (hx : (x 0).val < 2048) :
    v.read (Elt F) (v.writes (Elt F) f [⟨(Rect.unit (s := S4096x128) ![0, 0] S2048x128.size inb_S4096x128_S2048x128_0_0).within ⟨(⟨![7, 0], S256x128.size, ![8, 1], inb_S2048x128_S256x128_7_0_s_8_1⟩ : LoadRect S2048x128), spos_8_1⟩ (fun _ => rfl), w7⟩, ⟨(Rect.unit (s := S4096x128) ![0, 0] S2048x128.size inb_S4096x128_S2048x128_0_0).within ⟨(⟨![6, 0], S256x128.size, ![8, 1], inb_S2048x128_S256x128_6_0_s_8_1⟩ : LoadRect S2048x128), spos_8_1⟩ (fun _ => rfl), w6⟩, ⟨(Rect.unit (s := S4096x128) ![0, 0] S2048x128.size inb_S4096x128_S2048x128_0_0).within ⟨(⟨![5, 0], S256x128.size, ![8, 1], inb_S2048x128_S256x128_5_0_s_8_1⟩ : LoadRect S2048x128), spos_8_1⟩ (fun _ => rfl), w5⟩, ⟨(Rect.unit (s := S4096x128) ![0, 0] S2048x128.size inb_S4096x128_S2048x128_0_0).within ⟨(⟨![4, 0], S256x128.size, ![8, 1], inb_S2048x128_S256x128_4_0_s_8_1⟩ : LoadRect S2048x128), spos_8_1⟩ (fun _ => rfl), w4⟩, ⟨(Rect.unit (s := S4096x128) ![0, 0] S2048x128.size inb_S4096x128_S2048x128_0_0).within ⟨(⟨![3, 0], S256x128.size, ![8, 1], inb_S2048x128_S256x128_3_0_s_8_1⟩ : LoadRect S2048x128), spos_8_1⟩ (fun _ => rfl), w3⟩, ⟨(Rect.unit (s := S4096x128) ![0, 0] S2048x128.size inb_S4096x128_S2048x128_0_0).within ⟨(⟨![2, 0], S256x128.size, ![8, 1], inb_S2048x128_S256x128_2_0_s_8_1⟩ : LoadRect S2048x128), spos_8_1⟩ (fun _ => rfl), w2⟩, ⟨(Rect.unit (s := S4096x128) ![0, 0] S2048x128.size inb_S4096x128_S2048x128_0_0).within ⟨(⟨![1, 0], S256x128.size, ![8, 1], inb_S2048x128_S256x128_1_0_s_8_1⟩ : LoadRect S2048x128), spos_8_1⟩ (fun _ => rfl), w1⟩, ⟨(Rect.unit (s := S4096x128) ![0, 0] S2048x128.size inb_S4096x128_S2048x128_0_0).within ⟨(⟨![0, 0], S256x128.size, ![8, 1], inb_S2048x128_S256x128_0_0_s_8_1⟩ : LoadRect S2048x128), spos_8_1⟩ (fun _ => rfl), w0⟩]) x = V (atSmall x hx) := by
  have hx0 : (x 0).val < 2048 := hx
  have hx1 : (x 1).val < 128 := (x 1).isLt
  refine read_pieces v f _ x _ ?_ ?_
  · intro p hp u hu
    simp only [List.mem_cons, List.not_mem_nil, or_false] at hp
    have h0 := congrArg Fin.val (congrFun hu 0)
    have h1 := congrArg Fin.val (congrFun hu 1)
    rcases hp with rfl | rfl | rfl | rfl | rfl | rfl | rfl | rfl
    · have h0 : 0 + 7 + 8 * (u 0).val = (x 0).val := h0
      have h1 : 0 + 0 + 1 * (u 1).val = (x 1).val := h1
      exact (e7 u).trans (congrArg V (at_small 7 (by decide) u x hx (by omega) (by omega)))
    · have h0 : 0 + 6 + 8 * (u 0).val = (x 0).val := h0
      have h1 : 0 + 0 + 1 * (u 1).val = (x 1).val := h1
      exact (e6 u).trans (congrArg V (at_small 6 (by decide) u x hx (by omega) (by omega)))
    · have h0 : 0 + 5 + 8 * (u 0).val = (x 0).val := h0
      have h1 : 0 + 0 + 1 * (u 1).val = (x 1).val := h1
      exact (e5 u).trans (congrArg V (at_small 5 (by decide) u x hx (by omega) (by omega)))
    · have h0 : 0 + 4 + 8 * (u 0).val = (x 0).val := h0
      have h1 : 0 + 0 + 1 * (u 1).val = (x 1).val := h1
      exact (e4 u).trans (congrArg V (at_small 4 (by decide) u x hx (by omega) (by omega)))
    · have h0 : 0 + 3 + 8 * (u 0).val = (x 0).val := h0
      have h1 : 0 + 0 + 1 * (u 1).val = (x 1).val := h1
      exact (e3 u).trans (congrArg V (at_small 3 (by decide) u x hx (by omega) (by omega)))
    · have h0 : 0 + 2 + 8 * (u 0).val = (x 0).val := h0
      have h1 : 0 + 0 + 1 * (u 1).val = (x 1).val := h1
      exact (e2 u).trans (congrArg V (at_small 2 (by decide) u x hx (by omega) (by omega)))
    · have h0 : 0 + 1 + 8 * (u 0).val = (x 0).val := h0
      have h1 : 0 + 0 + 1 * (u 1).val = (x 1).val := h1
      exact (e1 u).trans (congrArg V (at_small 1 (by decide) u x hx (by omega) (by omega)))
    · have h0 : 0 + 0 + 8 * (u 0).val = (x 0).val := h0
      have h1 : 0 + 0 + 1 * (u 1).val = (x 1).val := h1
      exact (e0 u).trans (congrArg V (at_small 0 (by decide) u x hx (by omega) (by omega)))
  · have h8 : (x 0).val % 8 = 0 ∨ (x 0).val % 8 = 1 ∨ (x 0).val % 8 = 2 ∨ (x 0).val % 8 = 3 ∨ (x 0).val % 8 = 4 ∨ (x 0).val % 8 = 5 ∨ (x 0).val % 8 = 6 ∨ (x 0).val % 8 = 7 := by omega
    rcases h8 with h | h | h | h | h | h | h | h
    · refine ⟨_, List.mem_cons_of_mem _ (List.mem_cons_of_mem _ (List.mem_cons_of_mem _ (List.mem_cons_of_mem _ (List.mem_cons_of_mem _ (List.mem_cons_of_mem _ (List.mem_cons_of_mem _ List.mem_cons_self)))))), ?_⟩
      refine (LoadRect.mem_set _).2 fun a => ?_
      fin_cases a
      · exact ⟨(x 0).val / 8, (show (x 0).val / 8 < 256 by omega), (show (x 0).val = 0 + 0 + 8 * ((x 0).val / 8) by omega)⟩
      · exact ⟨(x 1).val, hx1, (show (x 1).val = 0 + 0 + 1 * (x 1).val by omega)⟩
    · refine ⟨_, List.mem_cons_of_mem _ (List.mem_cons_of_mem _ (List.mem_cons_of_mem _ (List.mem_cons_of_mem _ (List.mem_cons_of_mem _ (List.mem_cons_of_mem _ List.mem_cons_self))))), ?_⟩
      refine (LoadRect.mem_set _).2 fun a => ?_
      fin_cases a
      · exact ⟨(x 0).val / 8, (show (x 0).val / 8 < 256 by omega), (show (x 0).val = 0 + 1 + 8 * ((x 0).val / 8) by omega)⟩
      · exact ⟨(x 1).val, hx1, (show (x 1).val = 0 + 0 + 1 * (x 1).val by omega)⟩
    · refine ⟨_, List.mem_cons_of_mem _ (List.mem_cons_of_mem _ (List.mem_cons_of_mem _ (List.mem_cons_of_mem _ (List.mem_cons_of_mem _ List.mem_cons_self)))), ?_⟩
      refine (LoadRect.mem_set _).2 fun a => ?_
      fin_cases a
      · exact ⟨(x 0).val / 8, (show (x 0).val / 8 < 256 by omega), (show (x 0).val = 0 + 2 + 8 * ((x 0).val / 8) by omega)⟩
      · exact ⟨(x 1).val, hx1, (show (x 1).val = 0 + 0 + 1 * (x 1).val by omega)⟩
    · refine ⟨_, List.mem_cons_of_mem _ (List.mem_cons_of_mem _ (List.mem_cons_of_mem _ (List.mem_cons_of_mem _ List.mem_cons_self))), ?_⟩
      refine (LoadRect.mem_set _).2 fun a => ?_
      fin_cases a
      · exact ⟨(x 0).val / 8, (show (x 0).val / 8 < 256 by omega), (show (x 0).val = 0 + 3 + 8 * ((x 0).val / 8) by omega)⟩
      · exact ⟨(x 1).val, hx1, (show (x 1).val = 0 + 0 + 1 * (x 1).val by omega)⟩
    · refine ⟨_, List.mem_cons_of_mem _ (List.mem_cons_of_mem _ (List.mem_cons_of_mem _ List.mem_cons_self)), ?_⟩
      refine (LoadRect.mem_set _).2 fun a => ?_
      fin_cases a
      · exact ⟨(x 0).val / 8, (show (x 0).val / 8 < 256 by omega), (show (x 0).val = 0 + 4 + 8 * ((x 0).val / 8) by omega)⟩
      · exact ⟨(x 1).val, hx1, (show (x 1).val = 0 + 0 + 1 * (x 1).val by omega)⟩
    · refine ⟨_, List.mem_cons_of_mem _ (List.mem_cons_of_mem _ List.mem_cons_self), ?_⟩
      refine (LoadRect.mem_set _).2 fun a => ?_
      fin_cases a
      · exact ⟨(x 0).val / 8, (show (x 0).val / 8 < 256 by omega), (show (x 0).val = 0 + 5 + 8 * ((x 0).val / 8) by omega)⟩
      · exact ⟨(x 1).val, hx1, (show (x 1).val = 0 + 0 + 1 * (x 1).val by omega)⟩
    · refine ⟨_, List.mem_cons_of_mem _ List.mem_cons_self, ?_⟩
      refine (LoadRect.mem_set _).2 fun a => ?_
      fin_cases a
      · exact ⟨(x 0).val / 8, (show (x 0).val / 8 < 256 by omega), (show (x 0).val = 0 + 6 + 8 * ((x 0).val / 8) by omega)⟩
      · exact ⟨(x 1).val, hx1, (show (x 1).val = 0 + 0 + 1 * (x 1).val by omega)⟩
    · refine ⟨_, List.mem_cons_self, ?_⟩
      refine (LoadRect.mem_set _).2 fun a => ?_
      fin_cases a
      · exact ⟨(x 0).val / 8, (show (x 0).val / 8 < 256 by omega), (show (x 0).val = 0 + 7 + 8 * ((x 0).val / 8) by omega)⟩
      · exact ⟨(x 1).val, hx1, (show (x 1).val = 0 + 0 + 1 * (x 1).val by omega)⟩

set_option maxHeartbeats 400000 in
theorem half_run (q : PosShare TreeShare) (br : Buf (Elt F) ((c : Thread nD τ).loc main_v64)) (v0 v16 : BitVec 32) (hbr : br (at160 i) = v16)
    (f2 : Bf (F := F) c (Memref.whole cc0_scratch2)) (f3 : Bf (F := F) c (Memref.whole cc0_scratch3)) (X : Bf (F := F) c xb) (B1 : Bf (F := F) c b1) (B2 : Bf (F := F) c b2)
    (Y : Bf (F := F) c y) (W : Waits sig Unit) (Q : PUnit → sProp 𝕄) :
    iprop(tab (F := F) c q main_v64 br ∗ ((Memref.whole cc0_scratch2).view.loc (c : Thread nD τ) ↦{fullShare} f2)
      ∗ ((Memref.whole cc0_scratch3).view.loc (c : Thread nD τ) ↦{fullShare} f3) ∗ pt (F := F) c xb X ∗ pt (F := F) c b1 B1 ∗ pt (F := F) c b2 B2 ∗ pt (F := F) c y Y ∗ owes (c : Thread nD τ) 0 W
      ∗ (iprop(tab (F := F) c q main_v64 br ∗ ((Memref.whole cc0_scratch2).view.loc (c : Thread nD τ) ↦{fullShare} f2)
        ∗ ((Memref.whole cc0_scratch3).view.loc (c : Thread nD τ) ↦{fullShare} f3) ∗ pt (F := F) c xb X ∗ pt (F := F) c b1 B1 ∗ pt (F := F) c b2 B2
        ∗ (∃ Y', ⌜outRel v0 v16 i (xb.view.read (Elt F) X) (b1.view.read (Elt F) B1) ((Memref.whole cc0_scratch2).view.read (Elt F) f2) (b2.view.read (Elt F) B2) ((Memref.whole cc0_scratch3).view.read (Elt F) f3) (y.view.read (Elt F) Y) (y.view.read (Elt F) Y')⌝ ∗ pt (F := F) c y Y') ∗ ∃ W, owes (c : Thread nD τ) 0 W) -∗ Q ⟨⟩))
    ⊢ wp frame (wpE (defs₀ (F := F)) Variants.none c none) Set.univ (half' i xb hxb b1 hb1 b2 hb2 y hy v0) Q := by
  iintro ⟨HR, H2, H3, HX, HB1, HB2, HY, HO, Hk⟩
  sl_unfold [half', half, k0_part2, k0_part3, k0_part4, k0_part5]
  sl_exec (disch := first | omega)
  generalize hr : half_run.sl.r c i br = r
  obtain rfl : r = v16 := hr.symm.trans ((word_at br i _ (k0_off25_eq i) _ _).trans hbr)
  sl_exec (disch := first | omega)
  have r1 : View.readAt (Elt F) b1.view (Rect.unit (s := S1x1x2048) ![0, 0, 0] S1x1x2048.size inb_S1x1x2048_S1x1x2048_0_0_0).toLoadRect B1 = b1.view.read (Elt F) B1 := readAt_all ..
  have r2 : View.readAt (Elt F) (Memref.whole cc0_scratch2).view (Rect.unit (s := S1024x2048) ![0, 0] S1024x2048.size inb_S1024x2048_S1024x2048_0_0).toLoadRect f2 = (Memref.whole cc0_scratch2).view.read (Elt F) f2 := readAt_all ..
  have r3 : View.readAt (Elt F) b2.view (Rect.unit (s := S1x1x1024) ![0, 0, 0] S1x1x1024.size inb_S1x1x1024_S1x1x1024_0_0_0).toLoadRect B2 = b2.view.read (Elt F) B2 := readAt_all ..
  have r4 : View.readAt (Elt F) (Memref.whole cc0_scratch3).view (Rect.unit (s := S1024x1024) ![0, 0] S1024x1024.size inb_S1024x1024_S1024x1024_0_0).toLoadRect f3 = (Memref.whole cc0_scratch3).view.read (Elt F) f3 := readAt_all ..
  have eB : half_run.sl.v70 c xb b1 b2 f2 f3 X B1 B2 = bigV (xb.view.read (Elt F) X) (b1.view.read (Elt F) B1) ((Memref.whole cc0_scratch2).view.read (Elt F) f2) (b2.view.read (Elt F) B2) ((Memref.whole cc0_scratch3).view.read (Elt F) f3) := by
    rw [← r1, ← r2, ← r3, ← r4]; rfl
  have eS : half_run.sl.v70_1 c xb b1 b2 f2 f3 X B1 B2 = smallV (xb.view.read (Elt F) X) (b1.view.read (Elt F) B1) ((Memref.whole cc0_scratch2).view.read (Elt F) f2) (b2.view.read (Elt F) B2) ((Memref.whole cc0_scratch3).view.read (Elt F) f3) := by
    rw [← r1, ← r2, ← r3, ← r4]; rfl
  sl_step
  iapply Hk
  isplitl [HR]; · iexact HR
  isplitl [H2]; · iexact H2
  isplitl [H3]; · iexact H3
  isplitl [HX]; · iexact HX
  isplitl [HB1]; · iexact HB1
  isplitl [HB2]; · iexact HB2
  isplitr [HO]
  rotate_left; · iexists _; iexact HO
  iexists _
  isplitr
  rotate_left; · iexact HY
  ipureintro
  refine ⟨fun h5 x hx => ?_, fun h5 h4 x => ?_, fun h5 h4 => ?_⟩
  · rw [dif_pos h5, ← eS]
    exact read_small y.view _ _ _ _ _ _ _ _ _ _ (fun u => congrArg (half_run.sl.v70_1 c xb b1 b2 f2 f3 X B1 B2) (funext fun a => by fin_cases a <;> exact Fin.ext (by first | exact Nat.zero_add _ | rfl))) (fun u => congrArg (half_run.sl.v70_1 c xb b1 b2 f2 f3 X B1 B2) (funext fun a => by fin_cases a <;> exact Fin.ext (by first | exact Nat.zero_add _ | rfl))) (fun u => congrArg (half_run.sl.v70_1 c xb b1 b2 f2 f3 X B1 B2) (funext fun a => by fin_cases a <;> exact Fin.ext (by first | exact Nat.zero_add _ | rfl))) (fun u => congrArg (half_run.sl.v70_1 c xb b1 b2 f2 f3 X B1 B2) (funext fun a => by fin_cases a <;> exact Fin.ext (by first | exact Nat.zero_add _ | rfl))) (fun u => congrArg (half_run.sl.v70_1 c xb b1 b2 f2 f3 X B1 B2) (funext fun a => by fin_cases a <;> exact Fin.ext (by first | exact Nat.zero_add _ | rfl))) (fun u => congrArg (half_run.sl.v70_1 c xb b1 b2 f2 f3 X B1 B2) (funext fun a => by fin_cases a <;> exact Fin.ext (by first | exact Nat.zero_add _ | rfl))) (fun u => congrArg (half_run.sl.v70_1 c xb b1 b2 f2 f3 X B1 B2) (funext fun a => by fin_cases a <;> exact Fin.ext (by first | exact Nat.zero_add _ | rfl))) (fun u => congrArg (half_run.sl.v70_1 c xb b1 b2 f2 f3 X B1 B2) (funext fun a => by fin_cases a <;> exact Fin.ext (by first | exact Nat.zero_add _ | rfl))) x hx
  · rw [dif_neg h5, dif_pos h4, ← eB]
    exact read_big y.view _ _ _ _ _ _ _ _ _ _ (fun u => congrArg (half_run.sl.v70 c xb b1 b2 f2 f3 X B1 B2) (funext fun a => by fin_cases a <;> exact Fin.ext (by first | exact Nat.zero_add _ | rfl))) (fun u => congrArg (half_run.sl.v70 c xb b1 b2 f2 f3 X B1 B2) (funext fun a => by fin_cases a <;> exact Fin.ext (by first | exact Nat.zero_add _ | rfl))) (fun u => congrArg (half_run.sl.v70 c xb b1 b2 f2 f3 X B1 B2) (funext fun a => by fin_cases a <;> exact Fin.ext (by first | exact Nat.zero_add _ | rfl))) (fun u => congrArg (half_run.sl.v70 c xb b1 b2 f2 f3 X B1 B2) (funext fun a => by fin_cases a <;> exact Fin.ext (by first | exact Nat.zero_add _ | rfl))) (fun u => congrArg (half_run.sl.v70 c xb b1 b2 f2 f3 X B1 B2) (funext fun a => by fin_cases a <;> exact Fin.ext (by first | exact Nat.zero_add _ | rfl))) (fun u => congrArg (half_run.sl.v70 c xb b1 b2 f2 f3 X B1 B2) (funext fun a => by fin_cases a <;> exact Fin.ext (by first | exact Nat.zero_add _ | rfl))) (fun u => congrArg (half_run.sl.v70 c xb b1 b2 f2 f3 X B1 B2) (funext fun a => by fin_cases a <;> exact Fin.ext (by first | exact Nat.zero_add _ | rfl))) (fun u => congrArg (half_run.sl.v70 c xb b1 b2 f2 f3 X B1 B2) (funext fun a => by fin_cases a <;> exact Fin.ext (by first | exact Nat.zero_add _ | rfl))) x
  · rw [dif_neg h5, dif_neg h4]
end

end Cert.Proof.Experts

end
-- ==== Proof.ExpBody.lean ====
/- The whole body at a grid point, in the three ways it can begin. -/
module

public import proofs.«01_k».proof.Proof.ExpFfn

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UE ℕ

section
variable (c : Dev nD) (i : grid0.Coords) (xb : Memref sig .tc .vmem S4096x128 .f32) (hxb : xb.IsWhole) (b1 : Memref sig .tc .vmem S1x1x2048 .f32) (hb1 : b1.IsWhole)
    (b2 : Memref sig .tc .vmem S1x1x1024 .f32) (hb2 : b2.IsWhole) (y : Memref sig .tc .vmem S4096x128 .f32) (hy : y.IsWhole)

/-- The next expert's weights on their way into the other slot, if there is a next one. -/
def nxt (fg : Buf (Elt F) ((c : Thread nD τ).loc main_arg2)) (fd : Buf (Elt F) ((c : Thread nD τ).loc main_arg4)) (w : BitVec 32) (hw : w.toNat < 2) (n : BitVec 32) : sProp 𝕄 :=
  if h : n.toNat < 32 then iprop(flight c fg fd (oth w) (oth_lt w hw) n h ∗ arrsBut c fg fd n h) else iprop(free (F := F) c (oth w) (oth_lt w hw) ∗ arrs c fg fd)

variable (fg : Buf (Elt F) ((c : Thread nD τ).loc main_arg2)) (fd : Buf (Elt F) ((c : Thread nD τ).loc main_arg4))
  (X : Bf (F := F) c xb) (B1 : Bf (F := F) c b1) (B2 : Bf (F := F) c b2) (Y : Bf (F := F) c y)

/-- The staged blocks and the output window after the body at a point whose expert is `e`. -/
def done (v0 v16 e : BitVec 32) (he : e.toNat < 32) : sProp 𝕄 :=
  iprop(pt (F := F) c xb X ∗ pt (F := F) c b1 B1 ∗ pt (F := F) c b2 B2
    ∗ ∃ Y', ⌜outRel v0 v16 i (xb.view.read (Elt F) X) (b1.view.read (Elt F) B1) (wG c fg e he) (b2.view.read (Elt F) B2) (wD c fd e he) (y.view.read (Elt F) Y) (y.view.read (Elt F) Y')⌝
      ∗ pt (F := F) c y Y')

/-- The second half, with the rounded weights held as an expert's. -/
theorem half_wbuf (q : PosShare TreeShare) (br : Buf (Elt F) ((c : Thread nD τ).loc main_v64)) (v0 v16 : BitVec 32) (hbr : br (at160 i) = v16) (e : BitVec 32) (he : e.toNat < 32)
    (W : Waits sig Unit) (Q : PUnit → sProp 𝕄) :
    iprop(tab (F := F) c q main_v64 br ∗ wbuf c fg fd e he ∗ pt (F := F) c xb X ∗ pt (F := F) c b1 B1 ∗ pt (F := F) c b2 B2 ∗ pt (F := F) c y Y ∗ owes (c : Thread nD τ) 0 W
      ∗ (iprop(tab (F := F) c q main_v64 br ∗ wbuf c fg fd e he ∗ done c i xb b1 b2 y fg fd X B1 B2 Y v0 v16 e he ∗ ∃ W, owes (c : Thread nD τ) 0 W) -∗ Q ⟨⟩))
    ⊢ wp frame (wpE (defs₀ (F := F)) Variants.none c none) Set.univ (half' i xb hxb b1 hb1 b2 hb2 y hy v0) Q := by
  unfold wbuf done
  iintro ⟨HR, ⟨%f2, %f3, %h2, %h3, H2, H3⟩, HX, HB1, HB2, HY, HO, Hk⟩
  iapply (half_run c i xb hxb b1 hb1 b2 hb2 y hy q br v0 v16 hbr f2 f3 X B1 B2 Y W Q)
  isplitl [HR]; · iexact HR
  isplitl [H2]; · iexact H2
  isplitl [H3]; · iexact H3
  isplitl [HX]; · iexact HX
  isplitl [HB1]; · iexact HB1
  isplitl [HB2]; · iexact HB2
  isplitl [HY]; · iexact HY
  isplitl [HO]; · iexact HO
  iintro ⟨HR, H2, H3, HX, HB1, HB2, ⟨%Y', %hY, HY⟩, HO⟩
  iapply Hk
  isplitl [HR]; · iexact HR
  isplitl [H2 H3]
  · iexists f2, f3
    isplitr; · ipureintro; exact h2
    isplitr; · ipureintro; exact h3
    isplitl [H2]; · iexact H2
    iexact H3
  isplitr [HO]
  rotate_left; · iexact HO
  isplitl [HX]; · iexact HX
  isplitl [HB1]; · iexact HB1
  isplitl [HB2]; · iexact HB2
  iexists Y'
  isplitr
  · ipureintro; rw [h2, h3] at hY; exact hY
  iexact HY

/-- A point whose expert is the one before's. -/
theorem body_keep (q : PosShare TreeShare) (be : Buf (Elt F) ((c : Thread nD τ).loc main_v18)) (nu : Buf (Elt F) ((c : Thread nD τ).loc main_v19))
    (br : Buf (Elt F) ((c : Thread nD τ).loc main_v64)) (v0 v4 v7 v16 : BitVec 32)
    (hnu : ∀ x, nu x = v0) (hbr : br (at160 i) = v16) (hbe : be (at160 i) = v7) (hbp : ∀ h x, be ((Rect.unit (s := S160) (k0_off2 i) S1.size h).emb x) = v4)
    (h1 : ¬ k0_cond1 i v0 v4 v7 = 1#1) (e : BitVec 32) (he : e.toNat < 32) (W : Waits sig Unit) (Q : PUnit → sProp 𝕄) :
    iprop(tab (F := F) c q main_v18 be ∗ tab (F := F) c q main_v19 nu ∗ tab (F := F) c q main_v64 br ∗ wbuf c fg fd e he
      ∗ pt (F := F) c xb X ∗ pt (F := F) c b1 B1 ∗ pt (F := F) c b2 B2 ∗ pt (F := F) c y Y ∗ owes (c : Thread nD τ) 0 W
      ∗ (iprop(tab (F := F) c q main_v18 be ∗ tab (F := F) c q main_v19 nu ∗ tab (F := F) c q main_v64 br ∗ wbuf c fg fd e he
        ∗ done c i xb b1 b2 y fg fd X B1 B2 Y v0 v16 e he ∗ ∃ W, owes (c : Thread nD τ) 0 W) -∗ Q ⟨⟩))
    ⊢ wp frame (wpE (defs₀ (F := F)) Variants.none c none) Set.univ (body i xb hxb b1 hb1 b2 hb2 y hy) Q := by
  iintro ⟨HT, HN, HR, HW, HX, HB1, HB2, HY, HO, Hk⟩
  sl_unfold [body, cc0_experts]
  sl_exec (disch := first | sl_exact h1 | omega)
  generalize hr0 : body_keep.sl.r c nu = r0
  obtain rfl : r0 = v0 := hr0.symm.trans (hnu _)
  generalize hr1 : body_keep.sl.r_1 c i be = r1
  obtain rfl : r1 = v4 := hr1.symm.trans (hbp _ _)
  generalize hr2 : body_keep.sl.r_2 c i be = r2
  obtain rfl : r2 = v7 := hr2.symm.trans ((word_at be i _ (k0_off1_eq i) _ _).trans hbe)
  rw [dif_neg h1]
  iapply (half_wbuf c i xb hxb b1 hb1 b2 hb2 y hy fg fd X B1 B2 Y q br r0 v16 hbr e he W Q)
  isplitl [HR]; · iexact HR
  isplitl [HW]; · iexact HW
  isplitl [HX]; · iexact HX
  isplitl [HB1]; · iexact HB1
  isplitl [HB2]; · iexact HB2
  isplitl [HY]; · iexact HY
  isplitl [HO]; · iexact HO
  iintro ⟨HR, HW, HD, HO⟩
  iapply Hk
  isplitl [HT]; · iexact HT
  isplitl [HN]; · iexact HN
  isplitl [HR]; · iexact HR
  isplitl [HW]; · iexact HW
  isplitl [HD]; · iexact HD
  iexact HO
end

end Cert.Proof.Experts

end
-- ==== Proof.ExpBody2.lean ====
/- The whole body at a grid point, with a new expert. -/
module

public import proofs.«01_k».proof.Proof.ExpBody

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UE ℕ

section
variable (c : Dev nD) (i : grid0.Coords) (xb : Memref sig .tc .vmem S4096x128 .f32) (hxb : xb.IsWhole) (b1 : Memref sig .tc .vmem S1x1x2048 .f32) (hb1 : b1.IsWhole)
    (b2 : Memref sig .tc .vmem S1x1x1024 .f32) (hb2 : b2.IsWhole) (y : Memref sig .tc .vmem S4096x128 .f32) (hy : y.IsWhole)

variable (fg : Buf (Elt F) ((c : Thread nD τ).loc main_arg2)) (fd : Buf (Elt F) ((c : Thread nD τ).loc main_arg4))
  (X : Bf (F := F) c xb) (B1 : Bf (F := F) c b1) (B2 : Bf (F := F) c b2) (Y : Bf (F := F) c y)

/-- A resource set aside. -/
def kept (P : sProp 𝕄) : sProp 𝕄 := P
theorem kept_eq (P : sProp 𝕄) : P = kept P := rfl
theorem free_eq (w : BitVec 32) (h : w.toNat < 2) : free (F := F) c w h = iprop((∃ g : Bf (F := F) c (gS w h), pt c (gS w h) g) ∗ (∃ d : Bf (F := F) c (dS w h), pt c (dS w h) d) ∗ zero c (gM w h) ∗ zero c (dM w h)) := rfl
theorem nxt_pos (w : BitVec 32) (hw : w.toNat < 2) (n : BitVec 32) (h : n.toNat < 32) : nxt (F := F) c fg fd w hw n = iprop(flight c fg fd (oth w) (oth_lt w hw) n h ∗ arrsBut c fg fd n h) := dif_pos h
theorem nxt_neg (w : BitVec 32) (hw : w.toNat < 2) (n : BitVec 32) (h : ¬ n.toNat < 32) : nxt (F := F) c fg fd w hw n = iprop(free (F := F) c (oth w) (oth_lt w hw) ∗ arrs c fg fd) := dif_neg h
theorem fl_g (w : BitVec 32) (h : w.toNat < 2) (e : BitVec 32) (he : e.toNat < 32) (g : Bf (F := F) c (gS w h)) (u : S1024x2048.Idx → F .f32) (hu : u = (gE e he).view.read (Elt F) fg) :
    (FL c (gM w h) 262144 iprop(pt c (gS w h) ((gS w h).view.writes (Elt F) g [⟨Rect.whole S1024x2048, u⟩]) ∗ pt c (gE e he) fg) : sProp 𝕄)
      ⊢ FL c (gM w h) (gS w h).view.dmaCredit iprop((∃ g, ⌜(gS w h).view.read (Elt F) g = (gE e he).view.read (Elt F) fg⌝ ∗ pt c (gS w h) g) ∗ pt c (gE e he) fg) :=
  Transfers.Flight_mono countersEmb (c : Thread nD τ) (by
    iintro ⟨H, H'⟩
    isplitl [H]
    · iapply (land_g c fg w h e he g u hu); iexact H
    iexact H')
theorem fl_d (w : BitVec 32) (h : w.toNat < 2) (e : BitVec 32) (he : e.toNat < 32) (g : Bf (F := F) c (dS w h)) (u : S1024x1024.Idx → F .f32) (hu : u = (dE e he).view.read (Elt F) fd) :
    (FL c (dM w h) 131072 iprop(pt c (dS w h) ((dS w h).view.writes (Elt F) g [⟨Rect.whole S1024x1024, u⟩]) ∗ pt c (dE e he) fd) : sProp 𝕄)
      ⊢ FL c (dM w h) (dS w h).view.dmaCredit iprop((∃ d, ⌜(dS w h).view.read (Elt F) d = (dE e he).view.read (Elt F) fd⌝ ∗ pt c (dS w h) d) ∗ pt c (dE e he) fd) :=
  Transfers.Flight_mono countersEmb (c : Thread nD τ) (by
    iintro ⟨H, H'⟩
    isplitl [H]
    · iapply (land_d c fd w h e he g u hu); iexact H
    iexact H')
theorem toNat_of_cond3 (n : BitVec 32) (hn : n.toInt < 32) (h : k0_cond3 n = 1#1) : n.toNat < 32 := by
  have h0 := (cond3_iff n).1 h
  rw [BitVec.toInt_eq_toNat_cond] at h0 hn
  split at h0 <;> omega
theorem cond3_of (n : BitVec 32) (h : n.toNat < 32) : k0_cond3 n = 1#1 := by
  refine (cond3_iff n).2 ?_
  rw [BitVec.toInt_eq_toNat_cond]
  split <;> omega

set_option maxHeartbeats 400000 in
/-- The first point: its expert's weights are fetched and waited for. -/
theorem body_first (q : PosShare TreeShare) (be : Buf (Elt F) ((c : Thread nD τ).loc main_v18)) (nu : Buf (Elt F) ((c : Thread nD τ).loc main_v19))
    (nx : Buf (Elt F) ((c : Thread nD τ).loc main_v51)) (sl : Buf (Elt F) ((c : Thread nD τ).loc main_v55)) (br : Buf (Elt F) ((c : Thread nD τ).loc main_v64)) (v0 v4 e w n v16 : BitVec 32)
    (hnu : ∀ x, nu x = v0) (hbr : br (at160 i) = v16) (hbe : be (at160 i) = e) (hbp : ∀ h x, be ((Rect.unit (s := S160) (k0_off2 i) S1.size h).emb x) = v4)
    (hw : sl (at160 i) = w) (hn : nx (at160 i) = n)
    (h1 : k0_cond1 i v0 v4 e = 1#1) (h2 : k0_cond2 i = 1#1) (he : e.toNat < 32) (hw2 : w.toNat < 2) (hn32 : n.toInt < 32) (W : Waits sig Unit) (Q : PUnit → sProp 𝕄) :
    iprop(tab (F := F) c q main_v18 be ∗ tab (F := F) c q main_v19 nu ∗ tab (F := F) c q main_v51 nx ∗ tab (F := F) c q main_v55 sl ∗ tab (F := F) c q main_v64 br
      ∗ free (F := F) c w hw2 ∗ arrs c fg fd ∗ wany (F := F) c ∗ free (F := F) c (oth w) (oth_lt w hw2)
      ∗ pt (F := F) c xb X ∗ pt (F := F) c b1 B1 ∗ pt (F := F) c b2 B2 ∗ pt (F := F) c y Y ∗ owes (c : Thread nD τ) 0 W
      ∗ (iprop(tab (F := F) c q main_v18 be ∗ tab (F := F) c q main_v19 nu ∗ tab (F := F) c q main_v51 nx ∗ tab (F := F) c q main_v55 sl ∗ tab (F := F) c q main_v64 br
        ∗ wbuf c fg fd e he ∗ free (F := F) c w hw2 ∗ nxt c fg fd w hw2 n
        ∗ done c i xb b1 b2 y fg fd X B1 B2 Y v0 v16 e he ∗ ∃ W, owes (c : Thread nD τ) 0 W) -∗ Q ⟨⟩))
    ⊢ wp frame (wpE (defs₀ (F := F)) Variants.none c none) Set.univ (body i xb hxb b1 hb1 b2 hb2 y hy) Q := by
  iintro ⟨HT, HN, HNX, HS, HR, HP, HA, HWA, HF, HX, HB1, HB2, HY, HO, Hk⟩
  sl_unfold [body, cc0_experts]
  sl_exec (disch := first | sl_exact h1 | omega)
  generalize hr0 : body_first.sl.r c nu = r0
  obtain rfl : r0 = v0 := hr0.symm.trans (hnu _)
  generalize hr1 : body_first.sl.r_1 c i be = r1
  obtain rfl : r1 = v4 := hr1.symm.trans (hbp _ _)
  generalize hr2 : body_first.sl.r_2 c i be = r2
  obtain rfl : r2 = e := hr2.symm.trans ((word_at be i _ (k0_off1_eq i) _ _).trans hbe)
  rw [dif_pos h1, Idealize.SL.Sem.wp_bind]
  iapply (run1_first c i xb hxb b1 hb1 b2 hb2 y hy q be sl r2 w hbe hw he hw2 h2 fg fd _ r0 r1 r2 h1 W _)
  isplitl [HT]; · iexact HT
  isplitl [HS]; · iexact HS
  isplitl [HP]; · iexact HP
  isplitl [HWA]; · iexact HWA
  isplitl [HA]; · iexact HA
  isplitl [HO]; · iexact HO
  iintro ⟨HT, HS, HFw, HW, HA, ⟨%W', HO⟩⟩
  unfold arrs
  icases HA with ⟨HAg, HAd⟩
  have hc3 := chk3_of i r0 r1 r2 w n hw2 hn32
  sl_exec (disch := first | sl_exact h1 | omega)
  generalize hr3 : body_first.sl.r_4 c i nx = r3
  obtain rfl : r3 = n := hr3.symm.trans ((word_at nx i _ (k0_off18_eq i) _ _).trans hn)
  ihave HR := (Entails.of_eq (kept_eq (tab (F := F) c q main_v64 br))) $$ HR
  by_cases h3 : r3.toNat < 32
  · have hc : k0_cond3 r3 = 1#1 := cond3_of r3 h3
    ihave HF := (Entails.of_eq (free_eq (F := F) c (oth w) (oth_lt w hw2))) $$ HF
    icases HF with ⟨⟨%g, Hg⟩, ⟨%d, Hd⟩, Hz, Hz'⟩
    sl_exec (disch := first | sl_exact hc3 | sl_exact hc | omega)
    rw [← Idealize.SL.Sem.wp_bind]
    ihave HR := (Entails.of_eq (kept_eq (tab (F := F) c q main_v64 br)).symm) $$ HR
    iapply (half_wbuf c i xb hxb b1 hb1 b2 hb2 y hy fg fd X B1 B2 Y q br r0 v16 hbr r2 he W' Q)
    isplitl [HR]; · iexact HR
    isplitl [HW]; · iexact HW
    isplitl [HX]; · iexact HX
    isplitl [HB1]; · iexact HB1
    isplitl [HB2]; · iexact HB2
    isplitl [HY]; · iexact HY
    isplitl [HO]; · iexact HO
    iintro ⟨HR, HW, HD, HO⟩
    iapply Hk
    isplitl [HT]; · iexact HT
    isplitl [HN]; · iexact HN
    isplitl [HNX]; · iexact HNX
    isplitl [HS]; · iexact HS
    isplitl [HR]; · iexact HR
    isplitl [HW]; · iexact HW
    isplitl [HFw]; · iexact HFw
    isplitr [HD HO]
    rotate_left
    · isplitl [HD]; · iexact HD
      iexact HO
    rw [nxt_pos c fg fd w hw2 r3 h3]
    isplitl [Hz Hz']
    · unfold flight
      isplitl [Hz]
      · iapply (fl_g c fg (oth w) (oth_lt w hw2) r3 h3 g _ rfl); iexact Hz
      iapply (fl_d c fd (oth w) (oth_lt w hw2) r3 h3 d _ rfl); iexact Hz'
    unfold arrsBut
    isplitl [HAg]; · iexact HAg
    iexact HAd
  · have hc : ¬ k0_cond3 r3 = 1#1 := fun h => h3 (toNat_of_cond3 r3 hn32 h)
    sl_exec (disch := first | sl_exact hc3 | sl_exact hc | omega)
    rw [← Idealize.SL.Sem.wp_bind]
    ihave HR := (Entails.of_eq (kept_eq (tab (F := F) c q main_v64 br)).symm) $$ HR
    iapply (half_wbuf c i xb hxb b1 hb1 b2 hb2 y hy fg fd X B1 B2 Y q br r0 v16 hbr r2 he W' Q)
    isplitl [HR]; · iexact HR
    isplitl [HW]; · iexact HW
    isplitl [HX]; · iexact HX
    isplitl [HB1]; · iexact HB1
    isplitl [HB2]; · iexact HB2
    isplitl [HY]; · iexact HY
    isplitl [HO]; · iexact HO
    iintro ⟨HR, HW, HD, HO⟩
    iapply Hk
    isplitl [HT]; · iexact HT
    isplitl [HN]; · iexact HN
    isplitl [HNX]; · iexact HNX
    isplitl [HS]; · iexact HS
    isplitl [HR]; · iexact HR
    isplitl [HW]; · iexact HW
    isplitl [HFw]; · iexact HFw
    isplitr [HD HO]
    rotate_left
    · isplitl [HD]; · iexact HD
      iexact HO
    rw [nxt_neg c fg fd w hw2 r3 h3]
    isplitl [HF]; · iexact HF
    unfold arrs
    isplitl [HAg]; · iexact HAg
    iexact HAd

set_option maxHeartbeats 400000 in
/-- A point whose expert is new: its weights are on their way already. -/
theorem body_later (q : PosShare TreeShare) (be : Buf (Elt F) ((c : Thread nD τ).loc main_v18)) (nu : Buf (Elt F) ((c : Thread nD τ).loc main_v19))
    (nx : Buf (Elt F) ((c : Thread nD τ).loc main_v51)) (sl : Buf (Elt F) ((c : Thread nD τ).loc main_v55)) (br : Buf (Elt F) ((c : Thread nD τ).loc main_v64)) (v0 v4 e w n v16 : BitVec 32)
    (hnu : ∀ x, nu x = v0) (hbr : br (at160 i) = v16) (hbe : be (at160 i) = e) (hbp : ∀ h x, be ((Rect.unit (s := S160) (k0_off2 i) S1.size h).emb x) = v4)
    (hw : sl (at160 i) = w) (hn : nx (at160 i) = n)
    (h1 : k0_cond1 i v0 v4 e = 1#1) (h2 : ¬ k0_cond2 i = 1#1) (he : e.toNat < 32) (hw2 : w.toNat < 2) (hn32 : n.toInt < 32) (W : Waits sig Unit) (Q : PUnit → sProp 𝕄) :
    iprop(tab (F := F) c q main_v18 be ∗ tab (F := F) c q main_v19 nu ∗ tab (F := F) c q main_v51 nx ∗ tab (F := F) c q main_v55 sl ∗ tab (F := F) c q main_v64 br
      ∗ flight c fg fd w hw2 e he ∗ arrsBut c fg fd e he ∗ wany (F := F) c ∗ free (F := F) c (oth w) (oth_lt w hw2)
      ∗ pt (F := F) c xb X ∗ pt (F := F) c b1 B1 ∗ pt (F := F) c b2 B2 ∗ pt (F := F) c y Y ∗ owes (c : Thread nD τ) 0 W
      ∗ (iprop(tab (F := F) c q main_v18 be ∗ tab (F := F) c q main_v19 nu ∗ tab (F := F) c q main_v51 nx ∗ tab (F := F) c q main_v55 sl ∗ tab (F := F) c q main_v64 br
        ∗ wbuf c fg fd e he ∗ free (F := F) c w hw2 ∗ nxt c fg fd w hw2 n
        ∗ done c i xb b1 b2 y fg fd X B1 B2 Y v0 v16 e he ∗ ∃ W, owes (c : Thread nD τ) 0 W) -∗ Q ⟨⟩))
    ⊢ wp frame (wpE (defs₀ (F := F)) Variants.none c none) Set.univ (body i xb hxb b1 hb1 b2 hb2 y hy) Q := by
  iintro ⟨HT, HN, HNX, HS, HR, HP, HA, HWA, HF, HX, HB1, HB2, HY, HO, Hk⟩
  sl_unfold [body, cc0_experts]
  sl_exec (disch := first | sl_exact h1 | omega)
  generalize hr0 : body_later.sl.r c nu = r0
  obtain rfl : r0 = v0 := hr0.symm.trans (hnu _)
  generalize hr1 : body_later.sl.r_1 c i be = r1
  obtain rfl : r1 = v4 := hr1.symm.trans (hbp _ _)
  generalize hr2 : body_later.sl.r_2 c i be = r2
  obtain rfl : r2 = e := hr2.symm.trans ((word_at be i _ (k0_off1_eq i) _ _).trans hbe)
  rw [dif_pos h1, Idealize.SL.Sem.wp_bind]
  iapply (run1_later c i xb hxb b1 hb1 b2 hb2 y hy q be sl r2 w hbe hw he hw2 h2 fg fd _ r0 r1 r2 h1 W _)
  isplitl [HT]; · iexact HT
  isplitl [HS]; · iexact HS
  isplitl [HP]; · iexact HP
  isplitl [HWA]; · iexact HWA
  isplitl [HA]; · iexact HA
  isplitl [HO]; · iexact HO
  iintro ⟨HT, HS, HFw, HW, HA, ⟨%W', HO⟩⟩
  unfold arrs
  icases HA with ⟨HAg, HAd⟩
  have hc3 := chk3_of i r0 r1 r2 w n hw2 hn32
  sl_exec (disch := first | sl_exact h1 | omega)
  generalize hr3 : body_later.sl.r_4 c i nx = r3
  obtain rfl : r3 = n := hr3.symm.trans ((word_at nx i _ (k0_off18_eq i) _ _).trans hn)
  ihave HR := (Entails.of_eq (kept_eq (tab (F := F) c q main_v64 br))) $$ HR
  by_cases h3 : r3.toNat < 32
  · have hc : k0_cond3 r3 = 1#1 := cond3_of r3 h3
    ihave HF := (Entails.of_eq (free_eq (F := F) c (oth w) (oth_lt w hw2))) $$ HF
    icases HF with ⟨⟨%g, Hg⟩, ⟨%d, Hd⟩, Hz, Hz'⟩
    sl_exec (disch := first | sl_exact hc3 | sl_exact hc | omega)
    rw [← Idealize.SL.Sem.wp_bind]
    ihave HR := (Entails.of_eq (kept_eq (tab (F := F) c q main_v64 br)).symm) $$ HR
    iapply (half_wbuf c i xb hxb b1 hb1 b2 hb2 y hy fg fd X B1 B2 Y q br r0 v16 hbr r2 he W' Q)
    isplitl [HR]; · iexact HR
    isplitl [HW]; · iexact HW
    isplitl [HX]; · iexact HX
    isplitl [HB1]; · iexact HB1
    isplitl [HB2]; · iexact HB2
    isplitl [HY]; · iexact HY
    isplitl [HO]; · iexact HO
    iintro ⟨HR, HW, HD, HO⟩
    iapply Hk
    isplitl [HT]; · iexact HT
    isplitl [HN]; · iexact HN
    isplitl [HNX]; · iexact HNX
    isplitl [HS]; · iexact HS
    isplitl [HR]; · iexact HR
    isplitl [HW]; · iexact HW
    isplitl [HFw]; · iexact HFw
    isplitr [HD HO]
    rotate_left
    · isplitl [HD]; · iexact HD
      iexact HO
    rw [nxt_pos c fg fd w hw2 r3 h3]
    isplitl [Hz Hz']
    · unfold flight
      isplitl [Hz]
      · iapply (fl_g c fg (oth w) (oth_lt w hw2) r3 h3 g _ rfl); iexact Hz
      iapply (fl_d c fd (oth w) (oth_lt w hw2) r3 h3 d _ rfl); iexact Hz'
    unfold arrsBut
    isplitl [HAg]; · iexact HAg
    iexact HAd
  · have hc : ¬ k0_cond3 r3 = 1#1 := fun h => h3 (toNat_of_cond3 r3 hn32 h)
    sl_exec (disch := first | sl_exact hc3 | sl_exact hc | omega)
    rw [← Idealize.SL.Sem.wp_bind]
    ihave HR := (Entails.of_eq (kept_eq (tab (F := F) c q main_v64 br)).symm) $$ HR
    iapply (half_wbuf c i xb hxb b1 hb1 b2 hb2 y hy fg fd X B1 B2 Y q br r0 v16 hbr r2 he W' Q)
    isplitl [HR]; · iexact HR
    isplitl [HW]; · iexact HW
    isplitl [HX]; · iexact HX
    isplitl [HB1]; · iexact HB1
    isplitl [HB2]; · iexact HB2
    isplitl [HY]; · iexact HY
    isplitl [HO]; · iexact HO
    iintro ⟨HR, HW, HD, HO⟩
    iapply Hk
    isplitl [HT]; · iexact HT
    isplitl [HN]; · iexact HN
    isplitl [HNX]; · iexact HNX
    isplitl [HS]; · iexact HS
    isplitl [HR]; · iexact HR
    isplitl [HW]; · iexact HW
    isplitl [HFw]; · iexact HFw
    isplitr [HD HO]
    rotate_left
    · isplitl [HD]; · iexact HD
      iexact HO
    rw [nxt_neg c fg fd w hw2 r3 h3]
    isplitl [HF]; · iexact HF
    unfold arrs
    isplitl [HAg]; · iexact HAg
    iexact HAd
end

end Cert.Proof.Experts

end
-- ==== Proof.ExpStep.lean ====
/- The experts' feed-forward call: what the tables say point by point, what the call keeps between two points, and a
   point's run from what is kept before it to what is kept after it. -/
module

public import proofs.«01_k».proof.Proof.ExpBody2

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UE ℕ

/-- The place of a table for grid point `n`. -/
def ix (n : ℕ) : S160.Idx := fun a => match a with | 0 => ⟨n % 160, Nat.mod_lt _ (by decide)⟩

/-- The tables agree: `N` blocks are used, experts and slots are in range; from one block to the next either everything
    stays, or the next expert is the one announced and the slot is the other; after the last block none is announced. -/
structure Good (be nx sl : S160.Idx → BitVec 32) (nu : S1.Idx → BitVec 32) (N : ℕ) : Prop where
  hnu : ∀ x, nu x = BitVec.ofNat 32 N
  pos : 1 ≤ N
  le : N ≤ 160
  hbe : ∀ x, (be x).toNat < 32
  hsl : ∀ x, (sl x).toNat < 2
  hnx : ∀ x, (nx x).toInt < 32
  same : ∀ b, b + 1 < N → be (ix (b + 1)) = be (ix b) → nx (ix (b + 1)) = nx (ix b) ∧ sl (ix (b + 1)) = sl (ix b)
  step : ∀ b, b + 1 < N → be (ix (b + 1)) ≠ be (ix b) → nx (ix b) = be (ix (b + 1)) ∧ sl (ix (b + 1)) = oth (sl (ix b))
  last : ¬ (nx (ix (N - 1))).toNat < 32

theorem lt160 (t : Fin grid0.N) : t.val < 160 := t.isLt.trans_eq N_0
theorem coords_val : ∀ t : Fin grid0.N, ((grid0.coords t) 0).val = t.val := by decide
theorem at160_coords (t : Fin grid0.N) : at160 (grid0.coords t) = ix t.val := by
  funext a; fin_cases a
  refine Fin.ext ?_
  show ((grid0.coords t) 0).val = t.val % 160
  have : t.val < 160 := by exact lt160 t
  rw [coords_val, Nat.mod_eq_of_lt this]
theorem off2_coords : ∀ t : Fin grid0.N, k0_off2 (grid0.coords t) = ![t.val - 1] := by decide
theorem at_prev (f : S160.Idx → BitVec 32) (t : Fin grid0.N) (h : ∀ x, k0_off2 (grid0.coords t) x + S1.size x ≤ S160.size x) (y : S1.Idx) :
    f ((Rect.unit (s := S160) (k0_off2 (grid0.coords t)) S1.size h).emb y) = f (ix (t.val - 1)) := by
  refine congrArg f (funext fun x => Fin.ext ?_)
  fin_cases x
  have hy : (y 0).val < 1 := (y 0).isLt
  have ho : k0_off2 (grid0.coords t) 0 = t.val - 1 := congrFun (off2_coords t) 0
  have : t.val < 160 := by exact lt160 t
  show k0_off2 (grid0.coords t) 0 + 1 * (y 0).val = (t.val - 1) % 160
  rw [Nat.mod_eq_of_lt (by omega)]; omega

theorem bit_ne (b : Bool) : Scalar.cmpi .ne (Scalar.extui (BitVec.ofBool b) : BitVec 32) 0#32 = BitVec.ofBool b := by cases b <;> decide
theorem slt_nat (a b : ℕ) (ha : a ≤ 160) (hb : b ≤ 160) : Scalar.cmpi .slt (BitVec.ofNat 32 a) (BitVec.ofNat 32 b) = BitVec.ofBool (decide (a < b)) := by
  have e1 : (BitVec.ofNat 32 a).toNat = a := by rw [BitVec.toNat_ofNat]; omega
  have e2 : (BitVec.ofNat 32 b).toNat = b := by rw [BitVec.toNat_ofNat]; omega
  refine (WordCmp.cmpi_slt_of_lt (x := BitVec.ofNat 32 a) (y := BitVec.ofNat 32 b) (by rw [e1]; omega) (by rw [e2]; omega)).trans ?_
  rw [e1, e2]
theorem cond2_iff (t : Fin grid0.N) : k0_cond2 (grid0.coords t) = 1#1 ↔ t.val = 0 := by
  revert t; decide
theorem cond1_iff (t : Fin grid0.N) (N : ℕ) (hN : N ≤ 160) (v4 v7 : BitVec 32) :
    k0_cond1 (grid0.coords t) (BitVec.ofNat 32 N) v4 v7 = 1#1 ↔ ((t.val = 0 ∨ v7 ≠ v4) ∧ t.val < N) := by
  have ht : t.val < 160 := by exact lt160 t
  have e : k0_cond1 (grid0.coords t) (BitVec.ofNat 32 N) v4 v7 = BitVec.ofBool ((decide (t.val = 0) || decide (v7 ≠ v4)) && decide (t.val < N)) := by
    unfold k0_cond1
    rw [coords_val]
    have e1 : Scalar.cmpi .eq (BitVec.ofNat 32 t.val) 0#32 = BitVec.ofBool (decide (t.val = 0)) := by
      refine (WordCmp.cmpi_eq_eq_toNat _ _).trans ?_
      have : (BitVec.ofNat 32 t.val).toNat = t.val := by rw [BitVec.toNat_ofNat]; omega
      rw [this]; rfl
    have e2 : Scalar.cmpi .ne v7 v4 = BitVec.ofBool (decide (v7 ≠ v4)) := WordCmp.cmpi_ne_eq _ _
    have e3 := slt_nat t.val N (by omega) hN
    simp only [e1, e2, e3]
    have e4 : Scalar.andi (Scalar.ori (BitVec.ofBool (decide (t.val = 0))) (BitVec.ofBool (decide (v7 ≠ v4)))) (BitVec.ofBool (decide (t.val < N)))
        = BitVec.ofBool ((decide (t.val = 0) || decide (v7 ≠ v4)) && decide (t.val < N)) := by
      show IntOp.andi (IntOp.ori _ _) _ = _
      rw [WordCmp.ori_ofBool, WordCmp.andi_ofBool]
    rw [e4, bit_ne]
  rw [e, WordCmp.ofBool_eq_one_iff]; simp
theorem cond4_iff (t : Fin grid0.N) (N : ℕ) (hN : N ≤ 160) (v : BitVec 32) :
    k0_cond4 (grid0.coords t) (BitVec.ofNat 32 N) v = 1#1 ↔ (t.val < N ∧ ¬ v.toInt ≤ 256) := by
  have ht : t.val < 160 := by exact lt160 t
  have e : k0_cond4 (grid0.coords t) (BitVec.ofNat 32 N) v = BitVec.ofBool (decide (t.val < N) && (decide (v.toInt ≤ 256) ^^ true)) := by
    unfold k0_cond4
    rw [coords_val]
    have e2 : Scalar.cmpi .sle v 256#32 = BitVec.ofBool (decide (v.toInt ≤ 256)) := WordCmp.cmpi_sle_eq _ _
    have e3 := slt_nat t.val N (by omega) hN
    simp only [e2, e3]
    have e4 : Scalar.andi (BitVec.ofBool (decide (t.val < N))) (Scalar.xori (BitVec.ofBool (decide (v.toInt ≤ 256))) 1#1)
        = BitVec.ofBool (decide (t.val < N) && (decide (v.toInt ≤ 256) ^^ true)) := by
      show IntOp.andi _ (IntOp.xori _ (BitVec.ofBool true)) = _
      rw [WordCmp.xori_ofBool, WordCmp.andi_ofBool]
    rw [e4, bit_ne]
  rw [e, WordCmp.ofBool_eq_one_iff]; simp
theorem cond5_iff (t : Fin grid0.N) (N : ℕ) (hN : N ≤ 160) (v : BitVec 32) :
    k0_cond5 (grid0.coords t) (BitVec.ofNat 32 N) v = 1#1 ↔ (t.val < N ∧ v.toInt ≤ 256) := by
  have ht : t.val < 160 := by exact lt160 t
  have e : k0_cond5 (grid0.coords t) (BitVec.ofNat 32 N) v = BitVec.ofBool (decide (t.val < N) && decide (v.toInt ≤ 256)) := by
    unfold k0_cond5
    rw [coords_val]
    have e2 : Scalar.cmpi .sle v 256#32 = BitVec.ofBool (decide (v.toInt ≤ 256)) := WordCmp.cmpi_sle_eq _ _
    have e3 := slt_nat t.val N (by omega) hN
    simp only [e2, e3]
    have e4 : Scalar.andi (BitVec.ofBool (decide (t.val < N))) (BitVec.ofBool (decide (v.toInt ≤ 256)))
        = BitVec.ofBool (decide (t.val < N) && decide (v.toInt ≤ 256)) := by
      show IntOp.andi _ _ = _
      rw [WordCmp.andi_ofBool]
    rw [e4, bit_ne]
  rw [e, WordCmp.ofBool_eq_one_iff]; simp

theorem two_words (w : BitVec 32) (h : w.toNat < 2) : w = 0#32 ∨ w = 1#32 := by
  rcases (show w.toNat = 0 ∨ w.toNat = 1 by omega) with h | h
  · exact .inl (BitVec.eq_of_toNat_eq h)
  · exact .inr (BitVec.eq_of_toNat_eq h)
theorem oth_oth (w : BitVec 32) (h : w.toNat < 2) : oth (oth w) = w := by rcases two_words w h with rfl | rfl <;> decide

section
variable (c : Dev nD) (fg : Buf (Elt F) ((c : Thread nD τ).loc main_arg2)) (fd : Buf (Elt F) ((c : Thread nD τ).loc main_arg4))

theorem wbuf_congr {e e' : BitVec 32} (h : e = e') (he : e.toNat < 32) (he' : e'.toNat < 32) : (wbuf c fg fd e he : sProp 𝕄) = wbuf c fg fd e' he' := by subst h; rfl
theorem free_congr {e e' : BitVec 32} (h : e = e') (he : e.toNat < 2) (he' : e'.toNat < 2) : (free (F := F) c e he : sProp 𝕄) = free c e' he' := by subst h; rfl
theorem nxt_congr {e e' n n' : BitVec 32} (h : e = e') (hn : n = n') (he : e.toNat < 2) (he' : e'.toNat < 2) : (nxt c fg fd e he n : sProp 𝕄) = nxt c fg fd e' he' n' := by subst h; subst hn; rfl
theorem flight_congr {w w' e e' : BitVec 32} (h : w = w') (hn : e = e') (hw : w.toNat < 2) (hw' : w'.toNat < 2) (he : e.toNat < 32) (he' : e'.toNat < 32) :
    (flight c fg fd w hw e he : sProp 𝕄) = flight c fg fd w' hw' e' he' := by subst h; subst hn; rfl
theorem arrsBut_congr {e e' : BitVec 32} (h : e = e') (he : e.toNat < 32) (he' : e'.toNat < 32) : (arrsBut c fg fd e he : sProp 𝕄) = arrsBut c fg fd e' he' := by subst h; rfl

variable {be nx sl : S160.Idx → BitVec 32} {nu : S1.Idx → BitVec 32} {N : ℕ} (G : Good be nx sl nu N)

/-- What the call keeps before point `t`, the tables apart: at first everything free; later the rounded weights of the
    expert before, its slot free, and the next expert's weights on their way into the other slot, if there is one. -/
def Inv (t : ℕ) : sProp 𝕄 :=
  if t = 0 then iprop(wany (F := F) c ∗ free (F := F) c 0#32 (by decide) ∗ free (F := F) c 1#32 (by decide) ∗ arrs c fg fd)
  else iprop(wbuf c fg fd (be (ix (min (t - 1) (N - 1)))) (G.hbe _) ∗ free (F := F) c (sl (ix (min (t - 1) (N - 1)))) (G.hsl _)
    ∗ nxt c fg fd (sl (ix (min (t - 1) (N - 1)))) (G.hsl _) (nx (ix (min (t - 1) (N - 1)))))

theorem inv_zero : (Inv c fg fd G 0 : sProp 𝕄) = iprop(wany (F := F) c ∗ free (F := F) c 0#32 (by decide) ∗ free (F := F) c 1#32 (by decide) ∗ arrs c fg fd) := by
  unfold Inv; rw [if_pos rfl]
theorem inv_at (t p : ℕ) (ht : t ≠ 0) (hp : min (t - 1) (N - 1) = p) : (Inv c fg fd G t : sProp 𝕄)
    = iprop(wbuf c fg fd (be (ix p)) (G.hbe _) ∗ free (F := F) c (sl (ix p)) (G.hsl _) ∗ nxt c fg fd (sl (ix p)) (G.hsl _) (nx (ix p))) := by
  unfold Inv; rw [if_neg ht]; subst hp; rfl

theorem wany_of (e : BitVec 32) (he : e.toNat < 32) : (wbuf c fg fd e he : sProp 𝕄) ⊢ wany (F := F) c := by
  unfold wbuf wany
  iintro ⟨%f2, %f3, %h2, %h3, H2, H3⟩
  iexists f2; iexists f3
  isplitl [H2]; · iexact H2
  iexact H3

/-- Both slots, whichever is named first. -/
theorem both_free (w : BitVec 32) (hw : w.toNat < 2) : (iprop(free (F := F) c 0#32 (by decide) ∗ free (F := F) c 1#32 (by decide)) : sProp 𝕄)
    ⊢ iprop(free (F := F) c w hw ∗ free (F := F) c (oth w) (oth_lt w hw)) := by
  rcases two_words w hw with rfl | rfl
  · iintro ⟨H0, H1⟩
    isplitl [H0]; · iexact H0
    iexact H1
  · iintro ⟨H0, H1⟩
    isplitl [H1]; · iexact H1
    iexact H0
theorem free_both (w : BitVec 32) (hw : w.toNat < 2) : (iprop(free (F := F) c w hw ∗ free (F := F) c (oth w) (oth_lt w hw)) : sProp 𝕄)
    ⊢ iprop(free (F := F) c 0#32 (by decide) ∗ free (F := F) c 1#32 (by decide)) := by
  rcases two_words w hw with rfl | rfl
  · iintro ⟨H0, H1⟩
    isplitl [H0]; · iexact H0
    iexact H1
  · iintro ⟨H0, H1⟩
    isplitl [H1]; · iexact H1
    iexact H0

/-- After the last point everything is free again. -/
theorem inv_end (t : ℕ) (ht : N ≤ t) : (Inv c fg fd G t : sProp 𝕄) ⊢ Inv c fg fd G 0 := by
  have := G.pos
  rw [inv_at c fg fd G t (N - 1) (by omega) (by omega), inv_zero, nxt_neg c fg fd _ _ _ G.last]
  iintro ⟨HW, HF, HO, HA⟩
  isplitl [HW]; · iapply (wany_of c fg fd _ _); iexact HW
  ihave HB := (free_both c _ (G.hsl (ix (N - 1)))) $$ [HF HO]
  · isplitl [HF]; · iexact HF
    iexact HO
  icases HB with ⟨H0, H1⟩
  isplitl [H0]; · iexact H0
  isplitl [H1]; · iexact H1
  iexact HA

variable (xb : Memref sig .tc .vmem S4096x128 .f32) (hxb : xb.IsWhole)
  (b1 : Memref sig .tc .vmem S1x1x2048 .f32) (hb1 : b1.IsWhole) (b2 : Memref sig .tc .vmem S1x1x1024 .f32) (hb2 : b2.IsWhole)
  (y : Memref sig .tc .vmem S4096x128 .f32) (hy : y.IsWhole)
  (X : Bf (F := F) c xb) (B1 : Bf (F := F) c b1) (B2 : Bf (F := F) c b2) (Y : Bf (F := F) c y)

theorem done_idle (i : grid0.Coords) (v0 v16 e e' : BitVec 32) (he he') (h4 : ¬ k0_cond4 i v0 v16 = 1#1) (h5 : ¬ k0_cond5 i v0 v16 = 1#1) :
    (done c i xb b1 b2 y fg fd X B1 B2 Y v0 v16 e he : sProp 𝕄) ⊢ done c i xb b1 b2 y fg fd X B1 B2 Y v0 v16 e' he' := by
  unfold done
  iintro ⟨H1, H2, H3, ⟨%Y', %hY, H4⟩⟩
  isplitl [H1]; · iexact H1
  isplitl [H2]; · iexact H2
  isplitl [H3]; · iexact H3
  iexists Y'; isplitr
  · ipureintro; exact ⟨fun h => absurd h h5, fun _ h => absurd h h4, hY.2.2⟩
  iexact H4

theorem done_congr (i : grid0.Coords) (v0 v16 : BitVec 32) {e e' : BitVec 32} (h : e = e') (he he') :
    (done c i xb b1 b2 y fg fd X B1 B2 Y v0 v16 e he : sProp 𝕄) = done c i xb b1 b2 y fg fd X B1 B2 Y v0 v16 e' he' := by subst h; rfl

/-- The five tables. -/
def tabs (q : PosShare TreeShare) (be nx sl br : S160.Idx → BitVec 32) (nu : S1.Idx → BitVec 32) : sProp 𝕄 :=
  iprop(tab (F := F) c q main_v18 be ∗ tab (F := F) c q main_v19 nu ∗ tab (F := F) c q main_v51 nx ∗ tab (F := F) c q main_v55 sl ∗ tab (F := F) c q main_v64 br)

theorem point (q : PosShare TreeShare) (br : S160.Idx → BitVec 32) (t : Fin grid0.N) (W : Waits sig Unit) (Q : PUnit → sProp 𝕄) :
    iprop(tabs (F := F) c q be nx sl br nu ∗ Inv c fg fd G t.val ∗ pt (F := F) c xb X ∗ pt (F := F) c b1 B1 ∗ pt (F := F) c b2 B2 ∗ pt (F := F) c y Y ∗ owes (c : Thread nD τ) 0 W
      ∗ (iprop(tabs (F := F) c q be nx sl br nu ∗ Inv c fg fd G (t.val + 1)
        ∗ done c (grid0.coords t) xb b1 b2 y fg fd X B1 B2 Y (BitVec.ofNat 32 N) (br (ix t.val)) (be (ix t.val)) (G.hbe _) ∗ ∃ W, owes (c : Thread nD τ) 0 W) -∗ Q ⟨⟩))
    ⊢ wp frame (wpE (defs₀ (F := F)) Variants.none c none) Set.univ (body (grid0.coords t) xb hxb b1 hb1 b2 hb2 y hy) Q := by
  have hpos := G.pos
  have hle := G.le
  have hbr : br (at160 (grid0.coords t)) = br (ix t.val) := by rw [at160_coords]
  have hbe : be (at160 (grid0.coords t)) = be (ix t.val) := by rw [at160_coords]
  have hsl : sl (at160 (grid0.coords t)) = sl (ix t.val) := by rw [at160_coords]
  have hnx : nx (at160 (grid0.coords t)) = nx (ix t.val) := by rw [at160_coords]
  have hbp := at_prev be t
  have hc := cond1_iff t N hle (be (ix (t.val - 1))) (be (ix t.val))
  unfold tabs
  by_cases h0 : t.val = 0
  · -- the first point
    have h1 := hc.2 ⟨.inl h0, by omega⟩
    have h2 := (cond2_iff t).2 h0
    rw [inv_at c fg fd G (t.val + 1) t.val (by omega) (by omega),
      show (Inv c fg fd G t.val : sProp 𝕄) = Inv c fg fd G 0 by rw [h0], inv_zero]
    iintro ⟨⟨Tb, Tn, Tx, Ts, Tr⟩, ⟨HW, H0, H1, HA⟩, Hx, Hb1, Hb2, Hy, HO, HK⟩
    ihave HB := (both_free c _ (G.hsl (ix t.val))) $$ [H0 H1]
    · isplitl [H0]; · iexact H0
      iexact H1
    icases HB with ⟨H0, H1⟩
    iapply (body_first c (grid0.coords t) xb hxb b1 hb1 b2 hb2 y hy fg fd X B1 B2 Y q be nu nx sl br (BitVec.ofNat 32 N) _ _ _ _ _ G.hnu hbr hbe hbp hsl hnx h1 h2
      (G.hbe _) (G.hsl _) (G.hnx _) W Q)
    isplitl [Tb]; · iexact Tb
    isplitl [Tn]; · iexact Tn
    isplitl [Tx]; · iexact Tx
    isplitl [Ts]; · iexact Ts
    isplitl [Tr]; · iexact Tr
    isplitl [H0]; · iexact H0
    isplitl [HA]; · iexact HA
    isplitl [HW]; · iexact HW
    isplitl [H1]; · iexact H1
    isplitl [Hx]; · iexact Hx
    isplitl [Hb1]; · iexact Hb1
    isplitl [Hb2]; · iexact Hb2
    isplitl [Hy]; · iexact Hy
    isplitl [HO]; · iexact HO
    iintro ⟨Tb, Tn, Tx, Ts, Tr, HW, HF, HN, HD, HO⟩
    iapply HK
    isplitl [Tb Tn Tx Ts Tr]
    · isplitl [Tb]; · iexact Tb
      isplitl [Tn]; · iexact Tn
      isplitl [Tx]; · iexact Tx
      isplitl [Ts]; · iexact Ts
      iexact Tr
    isplitl [HW HF HN]
    · isplitl [HW]; · iexact HW
      isplitl [HF]; · iexact HF
      iexact HN
    isplitl [HD]; · iexact HD
    iexact HO
  by_cases hnew : be (ix t.val) ≠ be (ix (t.val - 1)) ∧ t.val < N
  · -- a new expert
    have h1 := hc.2 ⟨.inr hnew.1, hnew.2⟩
    have h2 : ¬ k0_cond2 (grid0.coords t) = 1#1 := fun h => h0 ((cond2_iff t).1 h)
    have hst := G.step (t.val - 1) (by omega) (by rw [show t.val - 1 + 1 = t.val by omega]; exact hnew.1)
    rw [show t.val - 1 + 1 = t.val by omega] at hst
    have hn32 : (nx (ix (t.val - 1))).toNat < 32 := by rw [hst.1]; exact G.hbe _
    rw [inv_at c fg fd G (t.val + 1) t.val (by omega) (by omega), inv_at c fg fd G t.val (t.val - 1) (by omega) (by omega),
      nxt_pos c fg fd _ _ _ hn32,
      flight_congr c fg fd (w' := sl (ix t.val)) hst.2.symm hst.1 _ (G.hsl _) _ (G.hbe _), arrsBut_congr c fg fd hst.1 _ (G.hbe _),
      free_congr (F := F) c (e := sl (ix (t.val - 1))) (e' := oth (sl (ix t.val))) (by rw [hst.2, oth_oth _ (G.hsl _)]) _ (oth_lt _ (G.hsl _))]
    iintro ⟨⟨Tb, Tn, Tx, Ts, Tr⟩, ⟨HW, H1, HFl, HA⟩, Hx, Hb1, Hb2, Hy, HO, HK⟩
    ihave HW' := (wany_of c fg fd _ _) $$ HW
    iapply (body_later c (grid0.coords t) xb hxb b1 hb1 b2 hb2 y hy fg fd X B1 B2 Y q be nu nx sl br (BitVec.ofNat 32 N) _ _ _ _ _ G.hnu hbr hbe hbp hsl hnx h1 h2
      (G.hbe _) (G.hsl _) (G.hnx _) W Q)
    isplitl [Tb]; · iexact Tb
    isplitl [Tn]; · iexact Tn
    isplitl [Tx]; · iexact Tx
    isplitl [Ts]; · iexact Ts
    isplitl [Tr]; · iexact Tr
    isplitl [HFl]; · iexact HFl
    isplitl [HA]; · iexact HA
    isplitl [HW']; · iexact HW'
    isplitl [H1]; · iexact H1
    isplitl [Hx]; · iexact Hx
    isplitl [Hb1]; · iexact Hb1
    isplitl [Hb2]; · iexact Hb2
    isplitl [Hy]; · iexact Hy
    isplitl [HO]; · iexact HO
    iintro ⟨Tb, Tn, Tx, Ts, Tr, HW, HF, HN, HD, HO⟩
    iapply HK
    isplitl [Tb Tn Tx Ts Tr]
    · isplitl [Tb]; · iexact Tb
      isplitl [Tn]; · iexact Tn
      isplitl [Tx]; · iexact Tx
      isplitl [Ts]; · iexact Ts
      iexact Tr
    isplitl [HW HF HN]
    · isplitl [HW]; · iexact HW
      isplitl [HF]; · iexact HF
      iexact HN
    isplitl [HD]; · iexact HD
    iexact HO
  · -- the expert of the point before, or no block
    have h1 : ¬ k0_cond1 (grid0.coords t) (BitVec.ofNat 32 N) (be (ix (t.val - 1))) (be (ix t.val)) = 1#1 := fun h => by
      have h' := hc.1 h
      exact hnew ⟨h'.1.resolve_left h0, h'.2⟩
    have hinv : (Inv c fg fd G (t.val + 1) : sProp 𝕄) = Inv c fg fd G t.val := by
      by_cases hN : t.val < N
      · have hs : be (ix t.val) = be (ix (t.val - 1)) := by by_contra hx; exact hnew ⟨hx, hN⟩
        have hsm := G.same (t.val - 1) (by omega) (by rw [show t.val - 1 + 1 = t.val by omega]; exact hs)
        rw [show t.val - 1 + 1 = t.val by omega] at hsm
        rw [inv_at c fg fd G (t.val + 1) t.val (by omega) (by omega), inv_at c fg fd G t.val (t.val - 1) (by omega) (by omega),
          wbuf_congr c fg fd hs _ (G.hbe _), free_congr (F := F) c hsm.2 _ (G.hsl _), nxt_congr c fg fd hsm.2 hsm.1 _ (G.hsl _)]
      · rw [inv_at c fg fd G (t.val + 1) (N - 1) (by omega) (by omega), inv_at c fg fd G t.val (N - 1) (by omega) (by omega)]
    rw [hinv]
    have hd : (done c (grid0.coords t) xb b1 b2 y fg fd X B1 B2 Y (BitVec.ofNat 32 N) (br (ix t.val)) (be (ix (min (t.val - 1) (N - 1)))) (G.hbe _) : sProp 𝕄)
        ⊢ done c (grid0.coords t) xb b1 b2 y fg fd X B1 B2 Y (BitVec.ofNat 32 N) (br (ix t.val)) (be (ix t.val)) (G.hbe _) := by
      by_cases hN : t.val < N
      · have hs : be (ix t.val) = be (ix (t.val - 1)) := by by_contra hx; exact hnew ⟨hx, hN⟩
        exact Entails.of_eq (done_congr c fg fd xb b1 b2 y X B1 B2 Y _ _ _ (by rw [hs, show min (t.val - 1) (N - 1) = t.val - 1 by omega]) _ _)
      · exact done_idle c fg fd xb b1 b2 y X B1 B2 Y _ _ _ _ _ _ _ (fun h => hN ((cond4_iff t N hle _).1 h).1) (fun h => hN ((cond5_iff t N hle _).1 h).1)
    rw [inv_at c fg fd G t.val _ h0 rfl]
    iintro ⟨⟨Tb, Tn, Tx, Ts, Tr⟩, ⟨HW, HF, HN⟩, Hx, Hb1, Hb2, Hy, HO, HK⟩
    iapply (body_keep c (grid0.coords t) xb hxb b1 hb1 b2 hb2 y hy fg fd X B1 B2 Y q be nu br (BitVec.ofNat 32 N) _ _ _ G.hnu hbr hbe hbp h1 _ (G.hbe _) W Q)
    isplitl [Tb]; · iexact Tb
    isplitl [Tn]; · iexact Tn
    isplitl [Tr]; · iexact Tr
    isplitl [HW]; · iexact HW
    isplitl [Hx]; · iexact Hx
    isplitl [Hb1]; · iexact Hb1
    isplitl [Hb2]; · iexact Hb2
    isplitl [Hy]; · iexact Hy
    isplitl [HO]; · iexact HO
    iintro ⟨Tb, Tn, Tr, HW, HD, HO⟩
    iapply HK
    isplitl [Tb Tn Tx Ts Tr]
    · isplitl [Tb]; · iexact Tb
      isplitl [Tn]; · iexact Tn
      isplitl [Tx]; · iexact Tx
      isplitl [Ts]; · iexact Ts
      iexact Tr
    isplitl [HW HF HN]
    · isplitl [HW]; · iexact HW
      isplitl [HF]; · iexact HF
      iexact HN
    isplitl [HD]; · iapply hd; iexact HD
    iexact HO

end

end Cert.Proof.Experts

end
-- ==== Proof.ExpSlots.lean ====
/- The experts' feed-forward call: the rings of the weights and the call's own semaphores, cut into their two slots and
   put together again. -/
module

public import proofs.«01_k».proof.Proof.ExpStep

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UE ℕ

/-! ## The two slots of each ring -/

theorem two_lt (k : ℕ) (h : k < 2) : (BitVec.ofNat 32 k).toNat < 2 := by rw [BitVec.toNat_ofNat]; omega
def gSs (k : ℕ) (h : k < 2) : Finset S2x1024x2048.Idx := (gS (BitVec.ofNat 32 k) (two_lt k h)).view.set
def dSs (k : ℕ) (h : k < 2) : Finset S2x1024x1024.Idx := (dS (BitVec.ofNat 32 k) (two_lt k h)).view.set

theorem gSs_rect (k : ℕ) (h : k < 2) : gSs k h = (Rect.unit (s := S2x1024x2048) (k0_off5 (BitVec.ofNat 32 k)) S1x1024x2048.size (gsl_inb _ (two_lt k h))).set := by
  show (((View.whole (cc0_scratch0 : Ref sig .tc)).slice _).reshape _ _).set = _
  rw [View.set_reshape, View.set_slice]; exact Finset.map_refl
theorem dSs_rect (k : ℕ) (h : k < 2) : dSs k h = (Rect.unit (s := S2x1024x1024) (k0_off8 (BitVec.ofNat 32 k)) S1x1024x1024.size (dsl_inb _ (two_lt k h))).set := by
  show (((View.whole (cc0_scratch1 : Ref sig .tc)).slice _).reshape _ _).set = _
  rw [View.set_reshape, View.set_slice]; exact Finset.map_refl

theorem mem_gSs (k : Fin 2) (x : S2x1024x2048.Idx) : x ∈ gSs k.val k.isLt ↔ (x 0).val = k.val := by
  have hk := k.isLt
  have e0 : (BitVec.ofNat 32 k.val).toNat = k.val := by rw [BitVec.toNat_ofNat]; omega
  rw [gSs_rect, Rect.mem_set_unit]
  constructor
  · intro h
    have h0 : (BitVec.ofNat 32 k.val).toNat ≤ (x 0).val ∧ (x 0).val < (BitVec.ofNat 32 k.val).toNat + 1 := h 0
    omega
  · intro h a
    have h1 : (x 1).val < 1024 := (x 1).isLt
    have h2 : (x 2).val < 2048 := (x 2).isLt
    fin_cases a
    · show (BitVec.ofNat 32 k.val).toNat ≤ (x 0).val ∧ (x 0).val < (BitVec.ofNat 32 k.val).toNat + 1; omega
    · show 0 ≤ (x 1).val ∧ (x 1).val < 0 + 1024; omega
    · show 0 ≤ (x 2).val ∧ (x 2).val < 0 + 2048; omega
theorem mem_dSs (k : Fin 2) (x : S2x1024x1024.Idx) : x ∈ dSs k.val k.isLt ↔ (x 0).val = k.val := by
  have hk := k.isLt
  have e0 : (BitVec.ofNat 32 k.val).toNat = k.val := by rw [BitVec.toNat_ofNat]; omega
  rw [dSs_rect, Rect.mem_set_unit]
  constructor
  · intro h
    have h0 : (BitVec.ofNat 32 k.val).toNat ≤ (x 0).val ∧ (x 0).val < (BitVec.ofNat 32 k.val).toNat + 1 := h 0
    omega
  · intro h a
    have h1 : (x 1).val < 1024 := (x 1).isLt
    have h2 : (x 2).val < 1024 := (x 2).isLt
    fin_cases a
    · show (BitVec.ofNat 32 k.val).toNat ≤ (x 0).val ∧ (x 0).val < (BitVec.ofNat 32 k.val).toNat + 1; omega
    · show 0 ≤ (x 1).val ∧ (x 1).val < 0 + 1024; omega
    · show 0 ≤ (x 2).val ∧ (x 2).val < 0 + 1024; omega

theorem gSs_disjoint : ∀ a ∈ (Finset.univ : Finset (Fin 2)), ∀ b ∈ (Finset.univ : Finset (Fin 2)), a ≠ b → Disjoint (gSs a.val a.isLt) (gSs b.val b.isLt) := by
  intro a _ b _ h
  rw [Finset.disjoint_left]; intro x hx hy
  rw [mem_gSs] at hx hy
  exact h (Fin.ext (hx.symm.trans hy))
theorem dSs_disjoint : ∀ a ∈ (Finset.univ : Finset (Fin 2)), ∀ b ∈ (Finset.univ : Finset (Fin 2)), a ≠ b → Disjoint (dSs a.val a.isLt) (dSs b.val b.isLt) := by
  intro a _ b _ h
  rw [Finset.disjoint_left]; intro x hx hy
  rw [mem_dSs] at hx hy
  exact h (Fin.ext (hx.symm.trans hy))
theorem gSs_cover : (Finset.univ : Finset (Fin 2)).biUnion (fun k => gSs k.val k.isLt) = Finset.univ := by
  refine Finset.eq_univ_of_forall fun x => Finset.mem_biUnion.mpr ⟨⟨(x 0).val, (x 0).isLt⟩, Finset.mem_univ _, ?_⟩
  rw [mem_gSs]
theorem dSs_cover : (Finset.univ : Finset (Fin 2)).biUnion (fun k => dSs k.val k.isLt) = Finset.univ := by
  refine Finset.eq_univ_of_forall fun x => Finset.mem_biUnion.mpr ⟨⟨(x 0).val, (x 0).isLt⟩, Finset.mem_univ _, ?_⟩
  rw [mem_dSs]

theorem lt0 : (0#32 : BitVec 32).toNat < 2 := by decide
theorem lt1 : (1#32 : BitVec 32).toNat < 2 := by decide

section
variable (c : Dev nD)

theorem g_slots (g : Buf (Elt F) ((c.tc : Thread nD τ).loc cc0_scratch0)) : ((c : Thread nD τ).loc cc0_scratch0 ↦{fullShare} g : sProp 𝕄) = iprop(pt (F := F) c (gS 0#32 lt0) g ∗ pt (F := F) c (gS 1#32 lt1) g) := by
  have h := pointsTo_biUnion (Val := Elt F) (U := UE) (Ix := Unit) (Name := ℕ) (Lvl := ℕ) Finset.univ (ℓ := (c : Thread nD τ).loc cc0_scratch0) (q := fullShare) (f := g) (fun k : Fin 2 => gSs k.val k.isLt) gSs_disjoint
  rw [gSs_cover, BI.bigSep_fin_two] at h
  exact h
theorem d_slots (g : Buf (Elt F) ((c : Thread nD τ).loc cc0_scratch1)) : ((c : Thread nD τ).loc cc0_scratch1 ↦{fullShare} g : sProp 𝕄) = iprop(pt (F := F) c (dS 0#32 lt0) g ∗ pt (F := F) c (dS 1#32 lt1) g) := by
  have h := pointsTo_biUnion (Val := Elt F) (U := UE) (Ix := Unit) (Name := ℕ) (Lvl := ℕ) Finset.univ (ℓ := (c : Thread nD τ).loc cc0_scratch1) (q := fullShare) (f := g) (fun k : Fin 2 => dSs k.val k.isLt) dSs_disjoint
  rw [dSs_cover, BI.bigSep_fin_two] at h
  exact h

theorem g_join (l0 l1 : Buf (Elt F) ((c.tc : Thread nD τ).loc cc0_scratch0)) : iprop(pt (F := F) c (gS 0#32 lt0) l0 ∗ pt (F := F) c (gS 1#32 lt1) l1) ⊢ (iprop(∃ g, (c : Thread nD τ).loc cc0_scratch0 ↦{fullShare} g) : sProp 𝕄) := by
  have h := pointsTo_biUnion_join (ℓ := (c : Thread nD τ).loc cc0_scratch0) (q := fullShare) (Val := Elt F) (U := UE) (Ix := Unit) (Name := ℕ) (Lvl := ℕ) Finset.univ
    (fun k : Fin 2 => gSs k.val k.isLt) (fun k => if k = 0 then l0 else l1) l0 gSs_disjoint
  rw [gSs_cover, BI.bigSep_fin_two] at h
  refine BIBase.Entails.trans (show iprop(((c.tc : Thread nD τ).loc cc0_scratch0 ↦[gSs 0 (by decide)]{fullShare} l0) ∗ ((c.tc : Thread nD τ).loc cc0_scratch0 ↦[gSs 1 (by decide)]{fullShare} l1)) ⊢ _ from h) ?_
  iintro ⟨%g, -, Hg⟩
  iexists g; iexact Hg
theorem d_join (l0 l1 : Buf (Elt F) ((c : Thread nD τ).loc cc0_scratch1)) : iprop(pt (F := F) c (dS 0#32 lt0) l0 ∗ pt (F := F) c (dS 1#32 lt1) l1) ⊢ (iprop(∃ g, (c : Thread nD τ).loc cc0_scratch1 ↦{fullShare} g) : sProp 𝕄) := by
  have h := pointsTo_biUnion_join (ℓ := (c : Thread nD τ).loc cc0_scratch1) (q := fullShare) (Val := Elt F) (U := UE) (Ix := Unit) (Name := ℕ) (Lvl := ℕ) Finset.univ
    (fun k : Fin 2 => dSs k.val k.isLt) (fun k => if k = 0 then l0 else l1) l0 dSs_disjoint
  rw [dSs_cover, BI.bigSep_fin_two] at h
  refine BIBase.Entails.trans (show iprop(((c.tc : Thread nD τ).loc cc0_scratch1 ↦[dSs 0 (by decide)]{fullShare} l0) ∗ ((c.tc : Thread nD τ).loc cc0_scratch1 ↦[dSs 1 (by decide)]{fullShare} l1)) ⊢ _ from h) ?_
  iintro ⟨%g, -, Hg⟩
  iexists g; iexact Hg

/-- The call's own semaphores by number: the gates' of slot 0 and 1, the down weights' of slot 0 and 1. -/
abbrev osem : Fin 4 → SemLoc sig := fun k => .dma ⟨8 + k.val, by have := k.isLt; show _ < 12; omega⟩
theorem own_sems : (Pipeline.ownSems0 (Ix := Unit) (Name := ℕ) (U := UE) (Lvl := ℕ) (Val := Elt F) (τ := τ) osem c : sProp 𝕄)
    = iprop(zero c (gM 0#32 lt0) ∗ zero c (gM 1#32 lt1) ∗ zero c (dM 0#32 lt0) ∗ zero c (dM 1#32 lt1)) := by
  rw [Pipeline.ownSems0_eq_of_list c osem [0, 1, 2, 3] (by decide) (by decide),
    show gM 0#32 lt0 = (⟨8, by decide⟩ : DmaSem sig) by decide, show gM 1#32 lt1 = (⟨9, by decide⟩ : DmaSem sig) by decide,
    show dM 0#32 lt0 = (⟨10, by decide⟩ : DmaSem sig) by decide, show dM 1#32 lt1 = (⟨11, by decide⟩ : DmaSem sig) by decide]
  rfl

/-- The scratch of the call and its semaphores at zero are what is kept before the first point. -/
theorem scratch_in :
    iprop((∃ f, ((c.tc : Thread nD τ).loc cc0_scratch0) ↦{fullShare} f) ∗ (∃ f, ((c : Thread nD τ).loc cc0_scratch1) ↦{fullShare} f)
      ∗ (∃ f, ((c : Thread nD τ).loc cc0_scratch2) ↦{fullShare} f) ∗ (∃ f, ((c : Thread nD τ).loc cc0_scratch3) ↦{fullShare} f)
      ∗ Pipeline.ownSems0 (Ix := Unit) (Name := ℕ) (U := UE) (Lvl := ℕ) (Val := Elt F) (τ := τ) osem c)
    ⊢ (iprop(wany (F := F) c ∗ free (F := F) c 0#32 lt0 ∗ free (F := F) c 1#32 lt1) : sProp 𝕄) := by
  rw [own_sems]
  unfold wany free
  iintro ⟨⟨%f0, H0⟩, ⟨%f1, H1⟩, ⟨%f2, H2⟩, ⟨%f3, H3⟩, S0, S1, S2, S3⟩
  ihave H0 := (Entails.of_eq (g_slots c f0)) $$ H0
  ihave H1 := (Entails.of_eq (d_slots c f1)) $$ H1
  icases H0 with ⟨G0, G1⟩
  icases H1 with ⟨D0, D1⟩
  isplitl [H2 H3]
  · iexists f2; iexists f3
    isplitl [H2]; · iexact H2
    iexact H3
  isplitl [G0 D0 S0 S2]
  · isplitl [G0]; · iexists f0; iexact G0
    isplitl [D0]; · iexists f1; iexact D0
    isplitl [S0]; · iexact S0
    iexact S2
  · isplitl [G1]; · iexists f0; iexact G1
    isplitl [D1]; · iexists f1; iexact D1
    isplitl [S1]; · iexact S1
    iexact S3
theorem scratch_out :
    (iprop(wany (F := F) c ∗ free (F := F) c 0#32 lt0 ∗ free (F := F) c 1#32 lt1) : sProp 𝕄)
    ⊢ iprop((∃ f, ((c.tc : Thread nD τ).loc cc0_scratch0) ↦{fullShare} f) ∗ (∃ f, ((c : Thread nD τ).loc cc0_scratch1) ↦{fullShare} f)
      ∗ (∃ f, ((c : Thread nD τ).loc cc0_scratch2) ↦{fullShare} f) ∗ (∃ f, ((c : Thread nD τ).loc cc0_scratch3) ↦{fullShare} f)
      ∗ Pipeline.ownSems0 (Ix := Unit) (Name := ℕ) (U := UE) (Lvl := ℕ) (Val := Elt F) (τ := τ) osem c) := by
  rw [own_sems]
  unfold wany free
  iintro ⟨⟨%f2, %f3, H2, H3⟩, ⟨⟨%g0, G0⟩, ⟨%d0, D0⟩, S0, S2⟩, ⟨%g1, G1⟩, ⟨%d1, D1⟩, S1, S3⟩
  isplitl [G0 G1]
  · iapply (g_join c g0 g1)
    isplitl [G0]; · iexact G0
    iexact G1
  isplitl [D0 D1]
  · iapply (d_join c d0 d1)
    isplitl [D0]; · iexact D0
    iexact D1
  isplitl [H2]; · iexists f2; iexact H2
  isplitl [H3]; · iexists f3; iexact H3
  isplitl [S0]; · iexact S0
  isplitl [S1]; · iexact S1
  isplitl [S2]; · iexact S2
  iexact S3

end

end Cert.Proof.Experts

end
-- ==== Proof.ExpLaunch.lean ====
/- The experts' feed-forward call: the pipeline at tables that agree, its proof data, a point's obligation and the run of
   the whole call. -/
module

public import proofs.«01_k».proof.Proof.ExpSlots
public import Idealize.ShloMosaic.Lib.Pipeline.FrameBody
public import Idealize.ShloMosaic.Lib.Pipeline.ArrRel

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UE ℕ

open Idealize.ShloMosaic.Pipeline (RDat Cfg Window)

/-! ## The tables as the call finds them -/

theorem min_nat (a b : ℕ) (ha : a ≤ 160) (hb : b ≤ 160) : (Scalar.minsi (BitVec.ofNat 32 a) (BitVec.ofNat 32 b)).toNat = min a b := by
  have ea : (BitVec.ofNat 32 a).toNat = a := by rw [BitVec.toNat_ofNat]; omega
  have eb : (BitVec.ofNat 32 b).toNat = b := by rw [BitVec.toNat_ofNat]; omega
  show (if (BitVec.ofNat 32 a).slt (BitVec.ofNat 32 b) then BitVec.ofNat 32 a else BitVec.ofNat 32 b).toNat = _
  have hs : (BitVec.ofNat 32 a).slt (BitVec.ofNat 32 b) = decide (a < b) := by
    rw [BitVec.slt, BitVec.toInt_eq_toNat_cond, BitVec.toInt_eq_toNat_cond, ea, eb, if_pos (by omega), if_pos (by omega), decide_eq_decide]
    omega
  rw [hs]
  by_cases h : a < b
  · rw [if_pos (decide_eq_true h), ea]; omega
  · rw [if_neg (by simp [h]), eb]; omega
theorem sub_one (N : ℕ) (h1 : 1 ≤ N) (h : N ≤ 160) : Scalar.subi (BitVec.ofNat 32 N) 1#32 = BitVec.ofNat 32 (N - 1) := by
  apply BitVec.eq_of_toNat_eq
  show (BitVec.ofNat 32 N - 1#32).toNat = _
  rw [BitVec.toNat_sub, BitVec.toNat_ofNat, BitVec.toNat_ofNat, BitVec.toNat_ofNat]
  omega

/-- The five tables' contents, in the call's order. -/
def pfOf (be nx sl br : S160.Idx → BitVec 32) (nu : S1.Idx → BitVec 32) : pre0.Contents (Elt F) := fun
  | ⟨0, _⟩ => be
  | ⟨1, _⟩ => nu
  | ⟨2, _⟩ => nx
  | ⟨3, _⟩ => sl
  | ⟨4, _⟩ => br
  | ⟨_ + 5, h⟩ => absurd h (by simp)

section
variable {be nx sl : S160.Idx → BitVec 32} {nu : S1.Idx → BitVec 32} {N : ℕ} (G : Good be nx sl nu N) (br : S160.Idx → BitVec 32)
include G

/-- The rows' and the result's block index at a grid point: its number, the last used block's past it. -/
theorem rows_ix (i : grid0.Coords) : cc0_transform_0 (F := F) inb_S1_S1_0 numel1_S1 (pfOf be nx sl br nu) i = ![min (i 0).val (N - 1), 0] := by
  have h1 := G.pos
  have h2 := G.le
  have hi : (i 0).val < 160 := (i 0).isLt
  refine (congrArg (fun v : BitVec 32 => (![(Scalar.minsi (BitVec.ofNat 32 (i 0).val) (Scalar.subi v 1#32)).toNat, 0] : Fin 2 → ℕ)) (G.hnu _)).trans ?_
  show (![(Scalar.minsi (BitVec.ofNat 32 (i 0).val) (Scalar.subi (BitVec.ofNat 32 N) 1#32)).toNat, 0] : Fin 2 → ℕ) = _
  rw [sub_one N h1 h2, min_nat _ _ (by omega) (by omega)]
theorem out_ix (i : grid0.Coords) : cc0_transform_5 (F := F) inb_S1_S1_0 numel1_S1 (pfOf be nx sl br nu) i = ![min (i 0).val (N - 1), 0] :=
  rows_ix G br i
omit G in
theorem bias_ix (i : grid0.Coords) : cc0_transform_2 (F := F) k0_off1_inb numel1_S1 (pfOf be nx sl br nu) i = ![(be (at160 i)).toNat, 0, 0] := by
  exact congrArg (fun v : BitVec 32 => (![v.toNat, 0, 0] : Fin 3 → ℕ)) (word_at be i _ (k0_off1_eq i) _ _)
omit G in
theorem bias_ix' (i : grid0.Coords) : cc0_transform_4 (F := F) k0_off1_inb numel1_S1 (pfOf be nx sl br nu) i = ![(be (at160 i)).toNat, 0, 0] := bias_ix br i

/-- The tables name blocks inside the arrays. -/
theorem ok_pf : ok0 (F := F) (pfOf be nx sl br nu) := by
  have h1 := G.pos
  have h2 := G.le
  unfold ok0
  refine ⟨fun i => ⟨?_, .inl rfl⟩, fun i => ⟨?_, .inl rfl⟩, fun i => ⟨?_, .inl rfl⟩, fun i => ⟨?_, .inl rfl⟩⟩
  · rw [rows_ix G br i]; intro a; fin_cases a
    · exact (show (min (i 0).val (N - 1) + 1) * 4096 ≤ 655360 by omega)
    · exact (show (0 + 1) * 128 ≤ 128 by omega)
  · have := G.hbe (at160 i)
    rw [bias_ix br i]; intro a; fin_cases a
    · exact (show ((be (at160 i)).toNat + 1) * 1 ≤ 32 by omega)
    · exact (show (0 + 1) * 1 ≤ 1 by omega)
    · exact (show (0 + 1) * 2048 ≤ 2048 by omega)
  · have := G.hbe (at160 i)
    rw [bias_ix' br i]; intro a; fin_cases a
    · exact (show ((be (at160 i)).toNat + 1) * 1 ≤ 32 by omega)
    · exact (show (0 + 1) * 1 ≤ 1 by omega)
    · exact (show (0 + 1) * 1024 ≤ 1024 by omega)
  · rw [out_ix G br i]; intro a; fin_cases a
    · exact (show (min (i 0).val (N - 1) + 1) * 4096 ≤ 655360 by omega)
    · exact (show (0 + 1) * 128 ≤ 128 by omega)

/-- The tables as admissible contents, and the pipeline at them. -/
def adm : (pcfg0 (F := F)).Adm := ⟨pfOf be nx sl br nu, ok_pf G br⟩
end

section
variable {be nx sl : S160.Idx → BitVec 32} {nu : S1.Idx → BitVec 32} {N : ℕ} (G : Good be nx sl nu N) (br : S160.Idx → BitVec 32)
abbrev cfgE : Cfg sig Λ₀ := cfg0 (adm (F := F) G br)

variable (V : (c : Dev nD) → (b : Ref sig .tc) → Buf (Elt F) ((c.tc : Thread nD τ).loc b)) (c : Dev nD)

/-- A window's block at a grid point, of its array at the call. -/
def blk (w : Fin 4) (t : Fin grid0.N) : ((cfgE (F := F) G br).win w).block.Idx → Elt F ((cfgE (F := F) G br).win w).elt :=
  (((cfgE (F := F) G br).win w).blk t).view.read (Elt F) (V c (Pipeline.arrRef spec0 w))

/-- The proof data: the arrays as the call finds them; a point leaves what it fetched, and in the output window what `outRel` says. -/
def rdE : RDat τ (Elt F) Unit ℕ UE ℕ (cfgE (F := F) G br) c where
  A w := V c (Pipeline.arrRef spec0 w)
  after w t Y X := match w with
    | ⟨0, _⟩ => X = Y
    | ⟨1, _⟩ => X = Y
    | ⟨2, _⟩ => X = Y
    | ⟨3, _⟩ => outRel (BitVec.ofNat 32 N) (br (ix t.val)) (grid0.coords t) (blk G br V c 0 t) (blk G br V c 1 t) (wG c (V c main_arg2) (be (ix t.val)) (G.hbe _))
        (blk G br V c 2 t) (wD c (V c main_arg4) (be (ix t.val)) (G.hbe _)) Y X
    | ⟨_ + 4, h⟩ => absurd h (Nat.not_lt.2 (Nat.le_add_left _ _))
  Φ t := iprop(tabs (F := F) c fullShare.right be nx sl br nu ∗ (∃ r, prngReg c r) ∗ Inv c (V c main_arg2) (V c main_arg4) G t.val)
  q _ := fullShare
  owed _ := 0

theorem A_eq (w : Fin 4) : (rdE G br V c).A w = V c (Pipeline.arrRef spec0 w) := by dsimp only [rdE]

theorem fetched_blk (w : Fin 4) (hc : ∀ i a, ((cfgE (F := F) G br).win w).clip i a = none) (t : Fin grid0.N) (d) : (rdE G br V c).fetched w t d = blk G br V c w t := by
  funext j
  unfold RDat.fetched Window.fill
  rw [dif_pos ((((cfgE (F := F) G br).win w).moved_iff _ j).mpr fun a => by have := (j a).isLt; unfold Window.xsize; rw [hc]; exact this)]
  rfl

theorem clipE (w : Fin 4) (i : grid0.Coords) (a) : ((cfgE (F := F) G br).win w).clip i a = none := by
  fin_cases w <;> rfl
theorem finds_blk (w : Fin 4) (hw : ((cfgE (F := F) G br).win w).isOut = false) (hk : ∀ t Y X, (rdE G br V c).after w t Y X → X = Y) (t : Fin grid0.N) (Y)
    (hY : (rdE G br V c).Finds w t Y) : Y = blk G br V c w t := by
  obtain ⟨d, hd⟩ := (rdE G br V c).finds_in_eq_fetched w hw (fun t t' _ => funext fun a => (clipE G br w _ a).trans (clipE G br w _ a).symm) hk t Y hY
  rw [hd, fetched_blk G br V c w (clipE G br w)]

set_option backward.isDefEq.respectTransparency.types false in
/-- Every point's obligation. -/
theorem obligation : (rdE (F := F) G br V c).BodyObligation (defs₀ (F := F)) Variants.none () Set.univ := fun t Y hY => by
  have h0 := finds_blk G br V c 0 rfl (fun _ _ _ h => h) t _ (hY 0)
  have h1 := finds_blk G br V c 1 rfl (fun _ _ _ h => h) t _ (hY 1)
  have h2 := finds_blk G br V c 2 rfl (fun _ _ _ h => h) t _ (hY 2)
  rw [bigSep_W0, bigSep_W0]
  unfold RDat.owesAt Pipeline.owesWithin owns
  rw [show (rdE G br V c).Φ t.castSucc = iprop(tabs (F := F) c fullShare.right be nx sl br nu ∗ (∃ r, prngReg c r) ∗ Inv c (V c main_arg2) (V c main_arg4) G t.val) from rfl,
    show (rdE G br V c).Φ t.succ = iprop(tabs (F := F) c fullShare.right be nx sl br nu ∗ (∃ r, prngReg c r) ∗ Inv c (V c main_arg2) (V c main_arg4) G (t.val + 1)) from rfl,
    show (rdE G br V c).owed t.castSucc = 0 from rfl, show (rdE G br V c).owed t.succ = 0 from rfl]
  iintro ⟨⟨HT, HP, HI⟩, ⟨%W, %hW, HO⟩, ⟨%f0, %e0, H0⟩, ⟨%f1, %e1, H1⟩, ⟨%f2, %e2, H2⟩, ⟨%f3, %e3, H3⟩⟩
  iapply (point c (V c main_arg2) (V c main_arg4) G _ _ _ _ _ _ _ _ f0 f1 f2 f3 fullShare.right br t W)
  isplitl [HT]; · iexact HT
  isplitl [HI]; · iexact HI
  isplitl [H0]; · iexact H0
  isplitl [H1]; · iexact H1
  isplitl [H2]; · iexact H2
  isplitl [H3]; · iexact H3
  isplitl [HO]; · iexact HO
  unfold done
  iintro ⟨HT, HI, ⟨H0, H1, H2, ⟨%Y', %hY', H3⟩⟩, ⟨%W', HO⟩⟩
  isplitl [HT HP HI]
  · isplitl [HT]; · iexact HT
    isplitl [HP]; · iexact HP
    iexact HI
  isplitl [HO]
  · iexists W'; isplitr
    · ipureintro; exact fun _ _ => Or.inl trivial
    iexact HO
  isplitl [H0]
  · iexists (Y 0); isplitr
    · ipureintro; rfl
    iexists f0; isplitr
    · ipureintro; exact e0
    iexact H0
  isplitl [H1]
  · iexists (Y 1); isplitr
    · ipureintro; rfl
    iexists f1; isplitr
    · ipureintro; exact e1
    iexact H1
  isplitl [H2]
  · iexists (Y 2); isplitr
    · ipureintro; rfl
    iexists f2; isplitr
    · ipureintro; exact e2
    iexact H2
  · iexists _; isplitr
    swap
    · iexists Y'; isplitr
      · ipureintro; rfl
      iexact H3
    · ipureintro
      rw [e0, e1, e2, e3, h0, h1, h2] at hY'
      exact hY'

/-! ## The run -/

/-- The weights, which the call's own transfers read. -/
abbrev HW : Finset (Ref sig .tc) := {main_arg2, main_arg4}
theorem HW_sub : HW ⊆ Pipeline.restRefsP sig pre0 spec0 := by decide
theorem own_facts : Pipeline.OwnSemFacts spec0 osem := by decide

theorem HW_held : (bigSep HW fun b => ((c.tc : Thread nD τ).loc b) ↦{fullShare} V c b : sProp 𝕄) = arrs c (V c main_arg2) (V c main_arg4) := by
  unfold HW arrs
  rw [bigSep_insert (by decide), bigSep_singleton]
  rfl

theorem tabs_held : (Pipeline.ΦT pre0 (pfOf (F := F) be nx sl br nu) c : sProp 𝕄) = tabs (F := F) c fullShare.right be nx sl br nu := by
  unfold Pipeline.ΦT Pipeline.prefHeld tabs
  rw [bigSep_univ_eq_bigSepL [(0 : Fin 5), 1, 2, 3, 4] (by decide) (by decide)]
  rfl

theorem inE : iprop(Pipeline.ΦD osem spec0 HW V c ∗ Pipeline.ΦT pre0 (pfOf (F := F) be nx sl br nu) c) ⊢ ((rdE G br V c).Φ 0 : sProp 𝕄) := by
  rw [tabs_held]
  unfold Pipeline.ΦD
  rw [scopedRest0_eq, HW_held]
  show _ ⊢ iprop(tabs (F := F) c fullShare.right be nx sl br nu ∗ (∃ r, prngReg c r) ∗ Inv c (V c main_arg2) (V c main_arg4) G 0)
  rw [inv_zero]
  iintro ⟨⟨⟨H0, H1, H2, H3⟩, HP, HS, HA⟩, HT⟩
  isplitl [HT]; · iexact HT
  isplitl [HP]; · iexact HP
  ihave H := (scratch_in c) $$ [H0 H1 H2 H3 HS]
  · isplitl [H0]; · iexact H0
    isplitl [H1]; · iexact H1
    isplitl [H2]; · iexact H2
    isplitl [H3]; · iexact H3
    iexact HS
  icases H with ⟨HW, HF, HF'⟩
  isplitl [HW]; · iexact HW
  isplitl [HF]; · iexact HF
  isplitl [HF']; · iexact HF'
  iexact HA

theorem outE : ((rdE G br V c).Φ (Fin.last (cfgE (F := F) G br).N) : sProp 𝕄) ⊢ Pipeline.ΦD osem spec0 HW V c := by
  unfold Pipeline.ΦD
  rw [scopedRest0_eq, HW_held]
  show iprop(tabs (F := F) c fullShare.right be nx sl br nu ∗ (∃ r, prngReg c r) ∗ Inv c (V c main_arg2) (V c main_arg4) G grid0.N) ⊢ _
  iintro ⟨-, HP, HI⟩
  ihave HI := (inv_end c (V c main_arg2) (V c main_arg4) G grid0.N (by rw [N_0]; exact G.le)) $$ HI
  ihave HI := (Entails.of_eq (inv_zero c (V c main_arg2) (V c main_arg4) G)) $$ HI
  icases HI with ⟨HW, HF, HF', HA⟩
  ihave H := (scratch_out c) $$ [HW HF HF']
  · isplitl [HW]; · iexact HW
    isplitl [HF]; · iexact HF
    iexact HF'
  icases H with ⟨H0, H1, H2, H3, HS⟩
  isplitl [H0 H1 H2 H3]
  · isplitl [H0]; · iexact H0
    isplitl [H1]; · iexact H1
    isplitl [H2]; · iexact H2
    iexact H3
  isplitl [HP]; · iexact HP
  isplitl [HS]; · iexact HS
  iexact HA
end

/-! ## The host code before the call -/

variable (m : (ℓ : Loc nD τ sig) → Buf (Elt F) ℓ)

/-- The host code's stretches, in order. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13]
/-- The buffers when the call begins. -/
def VE (c : Dev nD) (b : Ref sig .tc) : Buf (Elt F) ((c.tc : Thread nD τ).loc b) := StableHlo.after opss.flatten (fun b => m (c, b)) b

theorem fresh_all : (opss (F := F)).Forall fun ops => ops.Forall fun op => op.fresh = ∅ := by
  refine ⟨?_, ?_, ?_, ?_, ?_, ?_, ?_, ?_, ?_, ?_, ?_, ?_, ?_, ?_⟩ <;> (repeat' constructor)

theorem hmainE : Pipeline.HMainP (Ix := Unit) (Name := ℕ) (U := UE) (Lvl := ℕ) (pcfgs (F := F)) 0 defs₀ Variants.none m (fun c => main (F := F) c) (VE m) :=
  Pipeline.hmainP_prefixes pcfgs 0 defs₀ Variants.none m _ opss
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩
    fresh_all (fun c => main_chain c)

/-- The tables agree at the call: what the host code is to establish of the counts. -/
structure Tables (be nx sl br : S160.Idx → BitVec 32) (nu : S1.Idx → BitVec 32) : Prop where
  e0 : ∀ c, VE m c main_v18 = be
  e1 : ∀ c, VE m c main_v19 = nu
  e2 : ∀ c, VE m c main_v51 = nx
  e3 : ∀ c, VE m c main_v55 = sl
  e4 : ∀ c, VE m c main_v64 = br

theorem shareE {be nx sl : S160.Idx → BitVec 32} {nu : S1.Idx → BitVec 32} {N : ℕ} (G : Good be nx sl nu N) (br : S160.Idx → BitVec 32)
    (V : (c : Dev nD) → (b : Ref sig .tc) → Buf (Elt F) ((c.tc : Thread nD τ).loc b)) (c : Dev nD) (w : Fin 4) : (rdE G br V c).share w = fullShare := by
  unfold RDat.share; split <;> rfl
theorem tablesE {be nx sl : S160.Idx → BitVec 32} {nu : S1.Idx → BitVec 32} {N : ℕ} (G : Good be nx sl nu N) (br : S160.Idx → BitVec 32) (HT : Tables m be nx sl br nu)
    (c : Dev nD) (k : Fin 5) : VE m c (pre0.ref k) = (adm (F := F) G br).1 k := by
  fin_cases k
  · exact HT.e0 c
  · exact HT.e1 c
  · exact HT.e2 c
  · exact HT.e3 c
  · exact HT.e4 c

set_option backward.isDefEq.respectTransparency.types false in
set_option maxRecDepth 4000 in
theorem run {be nx sl : S160.Idx → BitVec 32} {nu : S1.Idx → BitVec 32} {N : ℕ} (G : Good be nx sl nu N) (br : S160.Idx → BitVec 32) (HT : Tables m be nx sl br nu)
    (g : Dev nD → PrngReg) :
    θ_run (Pipeline.defs pcfgs (defs₀ (F := F))) (onTc fun c => main (F := F) c) (s₀ m g)
      (fun r => RDat.FramePost (cfgE (F := F) G br) (rdE G br (VE m)) (VE m) r ∧ r.2.sem = fun _ => 0) := by
  have hb := obligation (F := F) G br (VE m)
  have hs := shareE (F := F) G br (VE m)
  have hm := hmainE (F := F) m
  have hA := A_eq (F := F) G br (VE m)
  have hp := tablesE (F := F) m G br HT
  have hi := inE (F := F) G br (VE m)
  have ho := outE (F := F) G br (VE m)
  generalize VE m = V at *
  refine RDat.θ_run_frameP_dma (pcs := pcfgs) (a := fun _ => adm (F := F) G br) (p := 0) launch0 osem defs₀ Variants.none (rdE G br V) own_facts HW HW_sub m g (fun c => main (F := F) c)
    hb hs (fun _ _ => rfl) V ?_ hA hp hi ho _ (fun _ h => h)
  convert hm using 1

end Cert.Proof.Experts

end
-- ==== Proof.ExpHost.lean ====
/- The host code that prepares the call: the five tables it makes of the counts, as terms of the counts.
-/
module

public import proofs.«01_k».proof.Proof.ExpLaunch
public import Idealize.ShloMosaic.Lib.Routing.OpsOne
public import Idealize.ShloMosaic.Lib.Routing.Main
public import Idealize.ShloMosaic.Lib.StableHlo.RunRead

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UE ℕ

open Idealize.ShloMosaic.Routing Idealize.ShloMosaic.ValueIdx

def b32 (v : BitVec 32) : IVec S32 32 := broadcastInDim S32 ![] bcast_S_S32 (constantI S_ 32 v)
def b160 (v : BitVec 32) : IVec S160 32 := broadcastInDim S160 ![] bcast_S_S160 (constantI S_ 32 v)
def cols (x : IVec S32 32) : IVec S160x32 32 := broadcastInDim S160x32 ![0, 1] bcast_S1x32_S160x32_0_1 (broadcastInDim S1x32 ![1] bcast_S32_S1x32_1 x)
def rows (x : IVec S160 32) : IVec S160x32 32 := broadcastInDim S160x32 ![0, 1] bcast_S160x1_S160x32_0_1 (broadcastInDim S160x1 ![0] bcast_S160_S160x1_0 x)
def cols1 (x : IVec S32 1) : IVec S32x32 1 := broadcastInDim S32x32 ![0, 1] bcast_S1x32_S32x32_0_1 (broadcastInDim S1x32 ![1] bcast_S32_S1x32_1 x)
def cols32 (x : IVec S32 32) : IVec S32x32 32 := broadcastInDim S32x32 ![0, 1] bcast_S1x32_S32x32_0_1 (broadcastInDim S1x32 ![1] bcast_S32_S1x32_1 x)
def rows32 (x : IVec S32 32) : IVec S32x32 32 := broadcastInDim S32x32 ![0, 1] bcast_S32x1_S32x32_0_1 (broadcastInDim S32x1 ![0] bcast_S32_S32x1_0 x)
def cum (x : IVec S32 32) : IVec S32 32 :=
  Host.reduceWindow IntOp.addi ![32] ![1] ![31] ![0] x (broadcastInDim S_ ![] bcast_S_S_ (constantI S_ 32 0#32)) reduceWindows_S32_S32_w32s1p31_0 h_S_
def sum160 (x : IVec S160x32 32) : IVec S160 32 := Host.reduce IntOp.addi x (constantI S_ 32 0#32) reducesTo_S160x32_S160_d1 h_S_

section
variable (k : IVec S32 32)
def tNum : IVec S32 32 := subi (addi k (b32 512#32)) (b32 1#32)
def tNb : IVec S32 32 := pyDiv bcast_S_S32 (tNum k) (constantI S_ 32 512#32)
def tEnd : IVec S32 32 := cum (tNb k)
def tBe : IVec S160 32 := minsi (sum160 (extui 32 (cmpi .sle (cols (tEnd k)) (rows (iotaInDim S160 32 0))) natLt_1_32)) (b160 31#32)
def tNu : IVec S1 32 := extractStridedSlice S1 ![31] (tEnd k) slices_S32_S1_31
def tPres : IVec S32 1 := cmpi .sgt (tNb k) (b32 0#32)
def tLater : IVec S32x32 32 :=
  select (andi (cmpi .sgt (cols32 (iotaInDim S32 32 0)) (rows32 (iotaInDim S32 32 0))) (cols1 (tPres k))) (cols32 (iotaInDim S32 32 0))
    (broadcastInDim S32x32 ![] bcast_S_S32x32 (constantI S_ 32 32#32))
def tMin : IVec S32 32 := Host.reduce IntOp.minsi (tLater k) (constantI S_ 32 2147483647#32) reducesTo_S32x32_S32_d1 h_S_
def tNext : IVec S32 32 := select (cmpi .slt (tMin k) (b32 32#32)) (tMin k) (b32 4294967295#32)
def tOrd : IVec S32 32 := subi (cum (extui 32 (tPres k) natLt_1_32)) (b32 1#32)
def tSlot : IVec S32 32 := pyRem bcast_S_S32 (tOrd k) (constantI S_ 32 2#32)
def tHot : IVec S160x32 32 := extui 32 (cmpi .eq (rows (tBe k)) (cols (iotaInDim S32 32 0))) natLt_1_32
def tNx : IVec S160 32 := sum160 (muli (tHot k) (cols (tNext k)))
def tSl : IVec S160 32 := sum160 (muli (tHot k) (cols (tSlot k)))
def tRe : IVec S160 32 := sum160 (muli (tHot k) (cols (addi (muli (subi (tEnd k) (tNb k)) (b32 512#32)) k)))
def tBr : IVec S160 32 := minsi (b160 512#32) (maxsi (b160 0#32) (subi (tRe k) (muli (iotaInDim S160 32 0) (b160 512#32))))
end

variable (m : (ℓ : Loc nD τ sig) → Buf (Elt F) ℓ)

set_option maxRecDepth 8192 in
set_option maxHeartbeats 4000000 in
theorem tables_be (c : Dev nD) : VE m c main_v18 = tBe (m ((c.tc : Thread nD τ).loc main_arg0)) := by
  unfold VE
  simp only [opss, List.flatten_cons, List.flatten_nil, List.append_nil]
  simp only [StableHlo.after_append]
  after_reads_simp
  simp only [StableHlo.TRef.toBuf, StableHlo.TRef.ofBuf, cast_eq, id]
  simp only [tBe, tNu, tNx, tSl, tBr, tRe, tHot, tNext, tSlot, tOrd, tMin, tLater, tPres, tEnd, tNb, tNum, b32, b160, cols, rows, cols1, cols32, rows32, cum, sum160, pyDiv, pyRem, divGuard]
  all_goals with_reducible rfl

set_option maxRecDepth 8192 in
set_option maxHeartbeats 4000000 in
theorem tables_nu (c : Dev nD) : VE m c main_v19 = tNu (m ((c.tc : Thread nD τ).loc main_arg0)) := by
  unfold VE
  simp only [opss, List.flatten_cons, List.flatten_nil, List.append_nil]
  simp only [StableHlo.after_append]
  after_reads_simp
  simp only [StableHlo.TRef.toBuf, StableHlo.TRef.ofBuf, cast_eq, id]
  simp only [tBe, tNu, tNx, tSl, tBr, tRe, tHot, tNext, tSlot, tOrd, tMin, tLater, tPres, tEnd, tNb, tNum, b32, b160, cols, rows, cols1, cols32, rows32, cum, sum160, pyDiv, pyRem, divGuard]
  all_goals with_reducible rfl

set_option maxRecDepth 8192 in
set_option maxHeartbeats 4000000 in
theorem tables_nx (c : Dev nD) : VE m c main_v51 = tNx (m ((c.tc : Thread nD τ).loc main_arg0)) := by
  unfold VE
  simp only [opss, List.flatten_cons, List.flatten_nil, List.append_nil]
  simp only [StableHlo.after_append]
  after_reads_simp
  simp only [StableHlo.TRef.toBuf, StableHlo.TRef.ofBuf, cast_eq, id]
  simp only [tBe, tNu, tNx, tSl, tBr, tRe, tHot, tNext, tSlot, tOrd, tMin, tLater, tPres, tEnd, tNb, tNum, b32, b160, cols, rows, cols1, cols32, rows32, cum, sum160, pyDiv, pyRem, divGuard]
  all_goals with_reducible rfl

set_option maxRecDepth 8192 in
set_option maxHeartbeats 4000000 in
theorem tables_sl (c : Dev nD) : VE m c main_v55 = tSl (m ((c.tc : Thread nD τ).loc main_arg0)) := by
  unfold VE
  simp only [opss, List.flatten_cons, List.flatten_nil, List.append_nil]
  simp only [StableHlo.after_append]
  after_reads_simp
  simp only [StableHlo.TRef.toBuf, StableHlo.TRef.ofBuf, cast_eq, id]
  simp only [tBe, tNu, tNx, tSl, tBr, tRe, tHot, tNext, tSlot, tOrd, tMin, tLater, tPres, tEnd, tNb, tNum, b32, b160, cols, rows, cols1, cols32, rows32, cum, sum160, pyDiv, pyRem, divGuard]
  all_goals with_reducible rfl

set_option maxRecDepth 8192 in
set_option maxHeartbeats 4000000 in
theorem tables_br (c : Dev nD) : VE m c main_v64 = tBr (m ((c.tc : Thread nD τ).loc main_arg0)) := by
  unfold VE
  simp only [opss, List.flatten_cons, List.flatten_nil, List.append_nil]
  simp only [StableHlo.after_append]
  after_reads_simp
  simp only [StableHlo.TRef.toBuf, StableHlo.TRef.ofBuf, cast_eq, id]
  simp only [tBe, tNu, tNx, tSl, tBr, tRe, tHot, tNext, tSlot, tOrd, tMin, tLater, tPres, tEnd, tNb, tNum, b32, b160, cols, rows, cols1, cols32, rows32, cum, sum160, pyDiv, pyRem, divGuard]
  all_goals with_reducible rfl

end Cert.Proof.Experts

end
-- ==== Proof.ExpNat.lean ====
/- The counts' arithmetic: the blocks each expert takes, the expert of a block, the next expert that has any, and its
   ordinal among those that do.
-/
module

public import proofs.«01_k».proof.Proof.ExpHost

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UE ℕ

section
variable (n : ℕ → ℕ)

/-- The blocks of 512 rows that expert `e` takes, and the blocks up to and with its own. -/
def nbN (e : ℕ) : ℕ := (n e + 511) / 512
def enN (e : ℕ) : ℕ := ((List.range (e + 1)).map (nbN n)).sum
/-- The experts that end at or before block `b`: the expert of the block, where a block is used. -/
def exN (b : ℕ) : ℕ := Nat.count (fun q => enN n q ≤ b) 32
def beN (b : ℕ) : ℕ := min (exN n b) 31
/-- The experts up to and with `e` that take a block. -/
def pcN (e : ℕ) : ℕ := ((List.range (e + 1)).map fun q => if 0 < nbN n q then 1 else 0).sum
/-- The next expert that takes a block; 32 if none does. -/
def nmN (e : ℕ) : ℕ := (Finset.univ : Finset (Fin 32)).fold min 2147483647 fun j => if e < j.val ∧ 0 < nbN n j.val then j.val else 32
def nextN (e : ℕ) : ℕ := if nmN n e < 32 then nmN n e else 4294967295

theorem en_succ (e : ℕ) : enN n (e + 1) = enN n e + nbN n (e + 1) := by
  unfold enN; rw [List.range_succ (n := e + 1)]; simp
theorem pc_succ (e : ℕ) : pcN n (e + 1) = pcN n e + if 0 < nbN n (e + 1) then 1 else 0 := by
  unfold pcN; rw [List.range_succ (n := e + 1)]; simp
theorem en_mono {a b : ℕ} (h : a ≤ b) : enN n a ≤ enN n b :=
  monotone_nat_of_le_succ (fun e => by rw [en_succ]; omega) h
theorem pc_mono {a b : ℕ} (h : a ≤ b) : pcN n a ≤ pcN n b :=
  monotone_nat_of_le_succ (fun e => by rw [pc_succ]; omega) h
theorem nb_le_en (e : ℕ) : nbN n e ≤ enN n e := by
  cases e with
  | zero => simp [enN]
  | succ e => rw [en_succ]; omega

theorem count_down (p : ℕ → Prop) [DecidablePred p] (h : ∀ q, p (q + 1) → p q) (N : ℕ) : ∀ q < N, p q ↔ q < Nat.count p N := by
  have hd : ∀ a b, a ≤ b → p b → p a := fun a b hab => by
    induction hab with
    | refl => exact id
    | step _ ih => exact fun hb => ih (h _ hb)
  induction N with
  | zero => intro q hq; omega
  | succ N ih =>
    intro q hq
    have hle := Nat.count_le (p := p) (n := N)
    rw [Nat.count_succ]
    by_cases hN : p N
    · have hc : Nat.count p N = N := by
        rcases N with _ | N
        · simp
        · have := (ih N (by omega)).mp (hd _ _ (by omega) hN); omega
      rw [if_pos hN]
      exact ⟨fun _ => by omega, fun _ => hd q N (by omega) hN⟩
    · rw [if_neg hN]
      rcases Nat.lt_succ_iff_lt_or_eq.mp hq with h1 | h1
      · exact ih q h1
      · subst h1; exact ⟨fun h => absurd h hN, fun h => by omega⟩

theorem ex_iff (b q : ℕ) (hq : q < 32) : enN n q ≤ b ↔ q < exN n b :=
  count_down (fun q => enN n q ≤ b) (fun q h => le_trans (en_mono n (by omega)) h) 32 q hq
theorem ex_le (b : ℕ) : exN n b ≤ 32 := Nat.count_le _

theorem ex_lt {b : ℕ} (h : b < enN n 31) : exN n b < 32 := by
  have := (ex_iff n b 31 (by omega)).not.mp (by omega); omega
theorem be_eq {b : ℕ} (h : b < enN n 31) : beN n b = exN n b := by have := ex_lt n h; unfold beN; omega
theorem lt_en_ex {b : ℕ} (h : b < enN n 31) : b < enN n (exN n b) := by
  have := (ex_iff n b (exN n b) (ex_lt n h)).not.mpr (by omega); omega
/-- The block lies past the blocks of the experts before its own. -/
theorem en_sub_le {b : ℕ} (h : b < enN n 31) : enN n (exN n b) - nbN n (exN n b) ≤ b := by
  have hl := ex_lt n h
  have hi := fun q hq => ex_iff n b q hq
  revert hl hi
  generalize exN n b = e
  intro hl hi
  cases e with
  | zero => simp [enN]
  | succ e => rw [en_succ]; have := (hi e (by omega)).mpr (by omega); omega
theorem nb_pos {b : ℕ} (h : b < enN n 31) : 0 < nbN n (exN n b) := by
  have := lt_en_ex n h; have := en_sub_le n h; have := nb_le_en n (exN n b); omega
theorem ex_mono {a b : ℕ} (h : a ≤ b) : exN n a ≤ exN n b := by
  by_contra hc
  have h32 := ex_le n a
  have h1 := (ex_iff n a (exN n b) (by omega)).mpr (by omega)
  have h2 := (ex_iff n b (exN n b) (by omega)).not.mpr (by omega)
  omega

theorem nm_le_iff (e c : ℕ) (hc : c < 32) : nmN n e ≤ c ↔ ∃ j : Fin 32, (e < j.val ∧ 0 < nbN n j.val) ∧ j.val ≤ c := by
  unfold nmN
  rw [Finset.fold_min_le]
  constructor
  · rintro (h | ⟨j, -, h⟩)
    · omega
    · split at h
      · exact ⟨j, ‹_›, h⟩
      · omega
  · rintro ⟨j, h, hj⟩
    exact Or.inr ⟨j, Finset.mem_univ _, by rw [if_pos h]; exact hj⟩
theorem le_nm (e c : ℕ) (hc : c ≤ 32) (h : ∀ j : Fin 32, e < j.val → 0 < nbN n j.val → c ≤ j.val) : c ≤ nmN n e := by
  unfold nmN
  rw [Finset.le_fold_min]
  refine ⟨by omega, fun j _ => ?_⟩
  split
  · exact h j (by tauto) (by tauto)
  · exact hc

theorem pc_flat (e : ℕ) : ∀ d, (∀ q, e < q → q ≤ e + d → nbN n q = 0) → pcN n (e + d) = pcN n e
  | 0, _ => rfl
  | d + 1, h => by
    rw [← Nat.add_assoc, pc_succ, pc_flat e d fun q h1 h2 => h q h1 (by omega), h (e + d + 1) (by omega) (by omega)]; rfl

/-- From one used block to the next at another expert: that expert is the next one with a block, and the one after in
    the count of those. -/
theorem step_next {b : ℕ} (h : b + 1 < enN n 31) (hne : exN n (b + 1) ≠ exN n b) :
    nmN n (exN n b) = exN n (b + 1) ∧ pcN n (exN n (b + 1)) = pcN n (exN n b) + 1 := by
  have hb : b < enN n 31 := by omega
  have h1 := ex_mono n (show b ≤ b + 1 by omega)
  have hl := ex_lt n h
  have hp := nb_pos n h
  have hlt : exN n b < exN n (b + 1) := by omega
  have e1 := (ex_iff n (b + 1) (exN n b) (by omega)).mpr hlt
  have e2 := lt_en_ex n hb
  have flat : ∀ q, exN n b < q → q < exN n (b + 1) → nbN n q = 0 := fun q hq hq' => by
    obtain ⟨r, rfl⟩ : ∃ r, q = r + 1 := ⟨q - 1, by omega⟩
    have a1 := (ex_iff n (b + 1) (r + 1) (by omega)).mpr hq'
    have a2 := en_mono n (show exN n b ≤ r by omega)
    rw [en_succ] at a1; omega
  constructor
  · apply le_antisymm
    · exact (nm_le_iff n _ _ hl).mpr ⟨⟨_, hl⟩, ⟨hlt, hp⟩, le_refl _⟩
    · refine le_nm n _ _ (by omega) fun j hj hj' => ?_
      by_contra hc
      have := flat j.val hj (by omega); omega
  · obtain ⟨d, hd⟩ : ∃ d, exN n (b + 1) = exN n b + d + 1 := ⟨exN n (b + 1) - exN n b - 1, by omega⟩
    rw [hd, pc_succ, ← hd, if_pos hp, pc_flat n _ d fun q a1 a2 => flat q a1 (by omega)]

theorem last_next {b : ℕ} (h : b + 1 = enN n 31) : nmN n (exN n b) = 32 := by
  have hb : b < enN n 31 := by omega
  have h2 := lt_en_ex n hb
  apply le_antisymm
  · have h0 : (⟨0, by decide⟩ : Fin 32) ∈ (Finset.univ : Finset (Fin 32)) := Finset.mem_univ _
    unfold nmN
    rw [Finset.fold_min_le]
    exact Or.inr ⟨⟨0, by decide⟩, h0, by split <;> omega⟩
  · refine le_nm n _ _ (le_refl _) fun j hj hj' => ?_
    exfalso
    obtain ⟨r, hr⟩ : ∃ r, j.val = r + 1 := ⟨j.val - 1, by omega⟩
    have a1 := en_mono n (show j.val ≤ 31 by have := j.isLt; omega)
    have a2 := en_mono n (show exN n b ≤ r by omega)
    rw [hr, en_succ] at a1; rw [hr] at hj'; omega

theorem pc_pos {b : ℕ} (h : 0 < enN n 31) : 1 ≤ pcN n (beN n b) := by
  have h0 : 1 ≤ pcN n (exN n 0) := by
    have hp := nb_pos n h
    revert hp; generalize exN n 0 = e; intro hp
    cases e with
    | zero => simp [pcN, hp]
    | succ e => rw [pc_succ, if_pos hp]; omega
  have hl := ex_lt n h
  have hm := ex_mono n (Nat.zero_le b)
  exact le_trans h0 (pc_mono n (by unfold beN; omega))

/-- The counts are those of 65536 pairs. -/
structure Fits : Prop where
  le : ∀ e < 32, n e ≤ 65536
  sum : ((List.range 32).map n).sum = 65536

theorem nb_sum_le (M : ℕ) : 512 * ((List.range M).map (nbN n)).sum ≤ ((List.range M).map n).sum + 511 * M
    ∧ ((List.range M).map n).sum ≤ 512 * ((List.range M).map (nbN n)).sum := by
  induction M with
  | zero => simp
  | succ M ih => rw [List.range_succ]; simp only [List.map_append, List.map_cons, List.map_nil, List.sum_append, List.sum_cons, List.sum_nil, nbN] at ih ⊢; omega

variable {n}
theorem Fits.en31 (h : Fits n) : 1 ≤ enN n 31 ∧ enN n 31 ≤ 159 := by
  have := nb_sum_le n 32; rw [h.sum] at this
  have e : enN n 31 = ((List.range 32).map (nbN n)).sum := rfl
  rw [e]; omega
theorem Fits.en_le (h : Fits n) {e : ℕ} (he : e < 32) : enN n e ≤ 159 := le_trans (en_mono n (by omega)) h.en31.2
theorem Fits.nb_le (h : Fits n) {e : ℕ} (he : e < 32) : nbN n e ≤ 159 := le_trans (nb_le_en n e) (h.en_le he)
theorem pc_le (e : ℕ) : pcN n e ≤ e + 1 := by
  induction e with
  | zero => simp only [pcN]; simp; split <;> omega
  | succ e ih => rw [pc_succ]; split <;> omega
end

end Cert.Proof.Experts

end
-- ==== Proof.ExpFold.lean ====
/- A fold along the rows of a two-dimensional array, read at a row.
-/
module

public import proofs.«01_k».proof.Proof.ExpNat
import Idealize.ShloMosaic.Lib.Pointwise.Reduce
public import Idealize.ShloMosaic.Lib.ValueIdxCore

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UE ℕ

theorem reduce_row {n0 n1 : ℕ} {u : Shape} (h : (⟨2, ![n0, n1]⟩ : Shape).ReducesTo [1] ⟨1, ![n0]⟩) (j : Fin n0)
    (op : BitVec 32 → BitVec 32 → BitVec 32) [Std.Commutative op] [Std.Associative op] (c : BitVec 32) (v : IVec ⟨2, ![n0, n1]⟩ 32) (hu : 0 < u.numel) :
    Host.reduce op v (constantI u 32 c) h hu (ValueIdx.ix1 j) = (Finset.univ : Finset (Fin n1)).fold op c fun q => v (ValueIdx.ix2 j q) := by
  rw [Host.reduce_eq_fold]
  refine (Shape.ReducesTo.fold_fiber_r2_a1 h _ op _ v).trans ?_
  refine congrArg (fun f => (Finset.univ : Finset (Fin n1)).fold op c f) (funext fun q => congrArg v (funext fun d => ?_))
  match d with
  | ⟨0, _⟩ => rfl
  | ⟨1, _⟩ => rfl

end Cert.Proof.Experts

end
-- ==== Proof.ExpCounts.lean ====
/- The tables at an index, for counts that fit: the words of the counts' arithmetic. So the tables are good.
-/
module

public import proofs.«01_k».proof.Proof.ExpFold
public import Idealize.ShloMosaic.Lib.Routing.OpsOne
public import Idealize.ShloMosaic.Lib.Routing.Main
public import Idealize.ShloMosaic.Lib.PlanTiles.Rows
public import Idealize.ShloMosaic.Lib.WordCmp

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UE ℕ

open Idealize.ShloMosaic.Routing Idealize.ShloMosaic.ValueIdx Idealize.ShloMosaic.WordCmp

theorem ofNat_add_sub (a b c : ℕ) (h : c ≤ a + b) : BitVec.ofNat 32 a + BitVec.ofNat 32 b - BitVec.ofNat 32 c = BitVec.ofNat 32 (a + b - c) := by
  rw [← BitVec.ofNat_add]
  conv_lhs => rw [show a + b = (a + b - c) + c by omega, BitVec.ofNat_add]
  exact BitVec.add_sub_cancel _ _
theorem ofNat_sub (a c : ℕ) (h : c ≤ a) : BitVec.ofNat 32 a - BitVec.ofNat 32 c = BitVec.ofNat 32 (a - c) := by
  conv_lhs => rw [show a = (a - c) + c by omega, BitVec.ofNat_add]
  exact BitVec.add_sub_cancel _ _

theorem fold_pick (e : Fin 32) (x : Fin 32 → BitVec 32) (s : Finset (Fin 32)) :
    s.fold IntOp.addi 0#32 (fun q => if q = e then x q else 0#32) = if e ∈ s then x e else 0#32 := by
  induction s using Finset.induction_on with
  | empty => rfl
  | insert a s ha ih =>
    rw [Finset.fold_insert ha, ih]
    by_cases h : a = e
    · subst h; rw [if_pos rfl, if_neg ha, if_pos (Finset.mem_insert_self _ _)]; exact BitVec.add_zero _
    · rw [if_neg h]
      have : (e ∈ insert a s) ↔ e ∈ s := by rw [Finset.mem_insert]; exact or_iff_right (fun h' => h h'.symm)
      simp only [this]; exact BitVec.zero_add _

theorem fold_min_word (f : Fin 32 → ℕ) (hf : ∀ q, f q < 2 ^ 31) (i : ℕ) (hi : i < 2 ^ 31) (s : Finset (Fin 32)) :
    s.fold IntOp.minsi (BitVec.ofNat 32 i) (fun q => BitVec.ofNat 32 (f q)) = BitVec.ofNat 32 (s.fold min i f) ∧ s.fold min i f < 2 ^ 31 := by
  induction s using Finset.induction_on with
  | empty => exact ⟨rfl, hi⟩
  | insert a s ha ih =>
    rw [Finset.fold_insert ha, Finset.fold_insert ha, ih.1, PlanTiles.minsi_word (hf a) ih.2, min_comm]
    exact ⟨rfl, lt_of_le_of_lt (min_le_left _ _) (hf a)⟩

theorem cum_at (x : IVec S32 32) (f : ℕ → ℕ) (hx : ∀ i : Fin 32, x (ix1 i) = BitVec.ofNat 32 (f i.val)) (i : Fin 32) :
    cum x (ix1 i) = BitVec.ofNat 32 ((List.range (i.val + 1)).map f).sum := by
  unfold cum
  exact cumsum1 (N := 32) (Nm1 := 31) rfl x f hx _ rfl _ _ i

section
variable {k : IVec S32 32} {n : ℕ → ℕ} (H : Fits n) (hk : ∀ i : Fin 32, k (ix1 i) = BitVec.ofNat 32 (n i.val))
include H hk

theorem tNum_at (i : Fin 32) : tNum k (ix1 i) = BitVec.ofNat 32 (n i.val + 511) := by
  have h : tNum k (ix1 i) = k (ix1 i) + BitVec.ofNat 32 512 - BitVec.ofNat 32 1 := rfl
  rw [h, hk, ofNat_add_sub _ _ _ (by omega)]; congr 1
theorem tNb_at (i : Fin 32) : tNb k (ix1 i) = BitVec.ofNat 32 (nbN n i.val) := by
  have := H.le i.val i.isLt
  exact pyDiv_ap _ _ _ _ (tNum_at H hk i) rfl (by omega) (by decide) (by decide)
theorem tEnd_at (i : Fin 32) : tEnd k (ix1 i) = BitVec.ofNat 32 (enN n i.val) :=
  cum_at _ (nbN n) (tNb_at H hk) i
theorem tBe_at (b : Fin 160) : tBe k (ix1 b) = BitVec.ofNat 32 (beN n b.val) := by
  have h : tBe k (ix1 b) = IntOp.minsi (sum160 (extui 32 (cmpi .sle (cols (tEnd k)) (rows (iotaInDim S160 32 0))) natLt_1_32) (ix1 b)) (BitVec.ofNat 32 31) := rfl
  have hs : sum160 (extui 32 (cmpi .sle (cols (tEnd k)) (rows (iotaInDim S160 32 0))) natLt_1_32) (ix1 b) = BitVec.ofNat 32 (exN n b.val) :=
    reduce_count (by decide) _ _ _ _ b (fun q => enN n q ≤ b.val) fun q => by
      have e : cmpi .sle (cols (tEnd k)) (rows (iotaInDim S160 32 0)) (ix2 b q) = IntOp.cmpi .sle (tEnd k (ix1 q)) (BitVec.ofNat 32 b.val) :=
        congrArg₂ (IntOp.cmpi .sle) (bcCols _ _ _ b q) (bcRows _ _ _ b q)
      have := H.en_le q.isLt
      rw [e, tEnd_at H hk, cmpi_sle_ofNat_eq_one_iff (by omega) (by omega)]
  have := ex_le n b.val
  rw [h, hs, PlanTiles.minsi_word (by omega) (by decide), min_comm]; rfl
theorem tNu_at (x : S1.Idx) : tNu k x = BitVec.ofNat 32 (enN n 31) := by
  rw [eq_ix1 x]
  have h0 : x 0 = (0 : Fin 1) := Fin.ext (by have := (x 0).isLt; change (x 0).val < 1 at this; change (x 0).val = 0; omega)
  rw [h0]
  exact (slice1 31 (tEnd k) _ 0 (by decide)).trans (tEnd_at H hk ⟨31, by decide⟩)
theorem tPres_at (i : Fin 32) : tPres k (ix1 i) = BitVec.ofBool (decide (0 < nbN n i.val)) := by
  have h : tPres k (ix1 i) = IntOp.cmpi .sgt (tNb k (ix1 i)) (BitVec.ofNat 32 0) := rfl
  have := H.nb_le i.isLt
  rw [h, tNb_at H hk, cmpi_sgt_ofNat (by omega) (by decide)]
theorem tLater_at (i j : Fin 32) : tLater k (ix2 i j) = BitVec.ofNat 32 (if i.val < j.val ∧ 0 < nbN n j.val then j.val else 32) := by
  have h : tLater k (ix2 i j) = Scalar.select (IntOp.andi (IntOp.cmpi .sgt (cols32 (iotaInDim S32 32 0) (ix2 i j)) (rows32 (iotaInDim S32 32 0) (ix2 i j))) (cols1 (tPres k) (ix2 i j)))
    (cols32 (iotaInDim S32 32 0) (ix2 i j)) (BitVec.ofNat 32 32) := rfl
  have hc : cols32 (iotaInDim S32 32 0) (ix2 i j) = BitVec.ofNat 32 j.val := bcCols _ _ _ i j
  have hr : rows32 (iotaInDim S32 32 0) (ix2 i j) = BitVec.ofNat 32 i.val := bcRows _ _ _ i j
  have hp : cols1 (tPres k) (ix2 i j) = tPres k (ix1 j) := bcCols _ _ _ i j
  have := i.isLt; have := j.isLt
  rw [h, hc, hr, hp, tPres_at H hk, cmpi_sgt_ofNat (by omega) (by omega)]
  by_cases h1 : i.val < j.val <;> by_cases h2 : 0 < nbN n j.val <;> simp only [h1, h2, decide_true, decide_false, and_self, and_false, and_true, if_true, if_false] <;> rfl
theorem tMin_at (i : Fin 32) : tMin k (ix1 i) = BitVec.ofNat 32 (nmN n i.val) ∧ nmN n i.val < 2 ^ 31 := by
  have h : tMin k (ix1 i) = (Finset.univ : Finset (Fin 32)).fold IntOp.minsi (BitVec.ofNat 32 2147483647) (fun q => tLater k (ix2 i q)) := by
    exact reduce_row _ i IntOp.minsi _ _ _
  rw [h]
  simp only [tLater_at H hk]
  exact fold_min_word _ (fun q => by have := q.isLt; split <;> omega) _ (by decide) _
theorem tNext_at (i : Fin 32) : tNext k (ix1 i) = BitVec.ofNat 32 (nextN n i.val) := by
  have h : tNext k (ix1 i) = Scalar.select (IntOp.cmpi .slt (tMin k (ix1 i)) (BitVec.ofNat 32 32)) (tMin k (ix1 i)) (BitVec.ofNat 32 4294967295) := rfl
  have hm := tMin_at H hk i
  rw [h, hm.1, cmpi_slt_ofNat hm.2 (by decide), select_decide]
  unfold nextN; split <;> rfl
theorem tOrd_at (i : Fin 32) (hp : 1 ≤ pcN n i.val) : tOrd k (ix1 i) = BitVec.ofNat 32 (pcN n i.val - 1) := by
  have h : tOrd k (ix1 i) = cum (extui 32 (tPres k) natLt_1_32) (ix1 i) - BitVec.ofNat 32 1 := rfl
  have hc : cum (extui 32 (tPres k) natLt_1_32) (ix1 i) = BitVec.ofNat 32 (pcN n i.val) :=
    cum_at _ (fun q => if 0 < nbN n q then 1 else 0) (fun q => by
      have e : extui 32 (tPres k) natLt_1_32 (ix1 q) = (tPres k (ix1 q)).zeroExtend 32 := rfl
      rw [e, tPres_at H hk]; by_cases h2 : 0 < nbN n q.val <;> simp [h2]) i
  rw [h, hc, ofNat_sub _ _ hp]
theorem tSlot_at (i : Fin 32) (hp : 1 ≤ pcN n i.val) : tSlot k (ix1 i) = BitVec.ofNat 32 ((pcN n i.val - 1) % 2) := by
  have := pc_le (n := n) i.val; have := i.isLt
  exact pyRem_ap _ _ _ _ (tOrd_at H hk i hp) rfl (by omega) (by decide) (by decide)

/-- A sum over the experts with the block's own marked is the value at the block's expert. -/
theorem pick_at (x : IVec S32 32) (b : Fin 160) :
    sum160 (muli (tHot k) (cols x)) (ix1 b) = x (ix1 (⟨beN n b.val, by unfold beN; omega⟩ : Fin 32)) := by
  have hlt : beN n b.val < 32 := by unfold beN; omega
  have h : sum160 (muli (tHot k) (cols x)) (ix1 b) = (Finset.univ : Finset (Fin 32)).fold IntOp.addi 0#32 (fun q => muli (tHot k) (cols x) (ix2 b q)) := by
    exact reduce_row _ b IntOp.addi _ _ _
  have e : ∀ q : Fin 32, muli (tHot k) (cols x) (ix2 b q) = if q = (⟨beN n b.val, hlt⟩ : Fin 32) then x (ix1 q) else 0#32 := fun q => by
    have e1 : muli (tHot k) (cols x) (ix2 b q) = (IntOp.cmpi .eq (rows (tBe k) (ix2 b q)) (cols (iotaInDim S32 32 0) (ix2 b q))).zeroExtend 32 * cols x (ix2 b q) := rfl
    have e2 : rows (tBe k) (ix2 b q) = tBe k (ix1 b) := bcRows _ _ _ b q
    have e3 : cols (iotaInDim S32 32 0) (ix2 b q) = BitVec.ofNat 32 q.val := bcCols _ _ _ b q
    have e4 : cols x (ix2 b q) = x (ix1 q) := bcCols _ _ _ b q
    have := q.isLt
    rw [e1, e2, e3, e4, tBe_at H hk, cmpi_eq_ofNat (by omega) (by omega)]
    by_cases hq : q = (⟨beN n b.val, hlt⟩ : Fin 32)
    · rw [if_pos hq, decide_eq_true (congrArg Fin.val hq).symm]; exact BitVec.one_mul _
    · rw [if_neg hq, decide_eq_false fun h' => hq (Fin.ext h'.symm)]; exact BitVec.zero_mul
  rw [h]; simp only [e]
  rw [fold_pick, if_pos (Finset.mem_univ _)]

theorem tNx_at (b : Fin 160) : tNx k (ix1 b) = BitVec.ofNat 32 (nextN n (beN n b.val)) :=
  (pick_at H hk _ b).trans (tNext_at H hk _)
theorem tSl_at (b : Fin 160) : tSl k (ix1 b) = BitVec.ofNat 32 ((pcN n (beN n b.val) - 1) % 2) :=
  (pick_at H hk _ b).trans (tSlot_at H hk _ (pc_pos n (by have := H.en31; omega)))

omit H hk in
theorem ix_eq (b : ℕ) (hb : b < 160) : ix b = ix1 (⟨b, hb⟩ : Fin 160) := funext fun a => match a with
  | 0 => Fin.ext (Nat.mod_eq_of_lt hb)

theorem be_ix (b : ℕ) (hb : b < 160) : tBe k (ix b) = BitVec.ofNat 32 (beN n b) := (congrArg (tBe k) (ix_eq b hb)).trans (tBe_at H hk ⟨b, hb⟩)
theorem nx_ix (b : ℕ) (hb : b < 160) : tNx k (ix b) = BitVec.ofNat 32 (nextN n (beN n b)) := (congrArg (tNx k) (ix_eq b hb)).trans (tNx_at H hk ⟨b, hb⟩)
theorem sl_ix (b : ℕ) (hb : b < 160) : tSl k (ix b) = BitVec.ofNat 32 ((pcN n (beN n b) - 1) % 2) := (congrArg (tSl k) (ix_eq b hb)).trans (tSl_at H hk ⟨b, hb⟩)
omit hk in
theorem next_toInt (e : ℕ) : (BitVec.ofNat 32 (nextN n e)).toInt < 32 := by
  unfold nextN; split
  · rename_i h
    rw [BitVec.toInt_eq_toNat_of_lt (by rw [BitVec.toNat_ofNat]; omega), BitVec.toNat_ofNat]; omega
  · decide
omit H hk in
theorem ofNat_ne {a b : ℕ} (ha : a < 32) (hb : b < 32) (h : BitVec.ofNat 32 a = BitVec.ofNat 32 b) : a = b := by
  have := congrArg BitVec.toNat h
  rwa [BitVec.toNat_ofNat, BitVec.toNat_ofNat, Nat.mod_eq_of_lt (by omega), Nat.mod_eq_of_lt (by omega)] at this
omit H hk in
theorem be_lt (n : ℕ → ℕ) (b : ℕ) : beN n b < 32 := by unfold beN; omega

theorem good : Good (tBe k) (tNx k) (tSl k) (tNu k) (enN n 31) where
  hnu := tNu_at H hk
  pos := H.en31.1
  le := le_trans H.en31.2 (by decide)
  hbe x := by
    rw [eq_ix1 x]; have := be_lt n (x 0).val
    exact (congrArg BitVec.toNat (tBe_at H hk (x 0))).trans_lt (by rw [BitVec.toNat_ofNat]; omega)
  hsl x := by
    rw [eq_ix1 x]
    exact (congrArg BitVec.toNat (tSl_at H hk (x 0))).trans_lt (by rw [BitVec.toNat_ofNat]; omega)
  hnx x := by
    rw [eq_ix1 x]
    exact (congrArg BitVec.toInt (tNx_at H hk (x 0))).trans_lt (next_toInt H _)
  same b hb h := by
    have hN := H.en31.2
    rw [be_ix H hk _ (by omega), be_ix H hk _ (by omega)] at h
    have h' := ofNat_ne (be_lt n _) (be_lt n _) h
    rw [nx_ix H hk _ (by omega), nx_ix H hk _ (by omega), sl_ix H hk _ (by omega), sl_ix H hk _ (by omega), h']
    exact ⟨rfl, rfl⟩
  step b hb h := by
    have hN := H.en31.2
    rw [be_ix H hk _ (by omega), be_ix H hk _ (by omega)] at h
    have f1 := be_eq n hb
    have f2 := be_eq n (show b < enN n 31 by omega)
    have h' : exN n (b + 1) ≠ exN n b := fun h' => h (by rw [f1, f2, h'])
    have st := step_next n hb h'
    have p0 := pc_pos n (b := b) (show 0 < enN n 31 by omega)
    have hl := ex_lt n hb
    rw [nx_ix H hk _ (by omega), be_ix H hk _ (by omega), sl_ix H hk _ (by omega), sl_ix H hk _ (by omega), f1, f2]
    rw [f2] at p0
    constructor
    · unfold nextN; rw [st.1, if_pos hl]
    · rw [st.2]
      rcases Nat.mod_two_eq_zero_or_one (pcN n (exN n b) - 1) with hm | hm
      · rw [hm, show (pcN n (exN n b) + 1 - 1) % 2 = 1 by omega]; decide
      · rw [hm, show (pcN n (exN n b) + 1 - 1) % 2 = 0 by omega]; decide
  last := by
    have hN := H.en31
    rw [nx_ix H hk _ (by omega), be_eq n (show enN n 31 - 1 < enN n 31 by omega)]
    unfold nextN; rw [last_next n (show enN n 31 - 1 + 1 = enN n 31 by omega)]
    decide
end

end Cert.Proof.Experts

end
-- ==== Proof.ExpFrame.lean ====
/- What the precondition says of the counts, and the whole call's run of it: the arguments end as they were, the counters
   at zero, and the result as the pipeline's last states have it.
-/
module

public import proofs.«01_k».proof.Proof.ExpCounts
public import proofs.«01_k».proof.Proof.Gen.Pre_counts_fit
public import Idealize.ShloMosaic.Lib.StableHlo.RunRead

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UE ℕ

open Idealize.ShloMosaic.Routing Idealize.ShloMosaic.ValueIdx
open Idealize.ShloMosaic.Pipeline (RDat Cfg Window)

theorem count_le {v : BitVec 32} {u : BitVec 1} (e : IntOp.andi (IntOp.andi (IntOp.cmpi .sge v 0#32) (IntOp.cmpi .sle v 65536#32)) u = 1#1) : v.toNat ≤ 65536 ∧ u = 1#1 := by
  have hand : ∀ (p q : Bool) (u : BitVec 1), IntOp.andi (IntOp.andi (BitVec.ofBool p) (BitVec.ofBool q)) u = 1#1 → (p = true ∧ q = true) ∧ u = 1#1 := by decide
  obtain ⟨e', hu⟩ := hand _ _ _ e
  simp only [BitVec.sle_eq_decide, decide_eq_true_eq, BitVec.toInt_eq_toNat_cond, BitVec.toNat_ofNat, Nat.reducePow, Nat.reduceMod] at e'
  exact ⟨by omega, hu⟩

theorem fits_of_fn {k : IVec S32 32} {xb : FVec F S655360x128 .f32} {wg : FVec F S32x1024x2048 .f32} {bg : FVec F S32x2048 .f32} {wd : FVec F S32x1024x1024 .f32} {bd : FVec F S32x1024 .f32}
    (h : Cert.Pre_counts_fit.fn (F := F) k xb wg bg wd bd = fun _ => 1#1) : ∃ n, Fits n ∧ ∀ i : Fin 32, k (ix1 i) = BitVec.ofNat 32 (n i.val) := by
  have hi : ∀ i : Fin 32, (k (ix1 i)).toNat ≤ 65536 ∧ cmpi .eq (Host.reduce IntOp.addi k (constantI S_ 32 0#32) Cert.Pre_counts_fit.Facts.reducesTo_S32_S_d0 Cert.Pre_counts_fit.Facts.h_S_) (constantI S_ 32 65536#32) ix0 = 1#1 := fun i => by
    have e := congrFun h (ix1 i)
    unfold Cert.Pre_counts_fit.fn at e
    have e2 : IntOp.andi (IntOp.andi (IntOp.cmpi .sge (k (ix1 i)) 0#32) (IntOp.cmpi .sle (k (ix1 i)) 65536#32))
        (broadcastInDim S32 ![] Cert.Pre_counts_fit.Facts.bcast_S_S32 (cmpi .eq (Host.reduce IntOp.addi k (constantI S_ 32 0#32) Cert.Pre_counts_fit.Facts.reducesTo_S32_S_d0 Cert.Pre_counts_fit.Facts.h_S_) (constantI S_ 32 65536#32)) (ix1 i)) = 1#1 := e
    rw [bc0] at e2
    exact count_le e2
  have hk : ∀ i : Fin 32, k (ix1 i) = BitVec.ofNat 32 ((fun j => if h : j < 32 then (k (ix1 (⟨j, h⟩ : Fin 32))).toNat else 0) i.val) := fun i => by
    simp only [i.isLt, dif_pos]; exact BitVec.eq_of_toNat_eq (by rw [BitVec.toNat_ofNat]; exact (Nat.mod_eq_of_lt (k _).isLt).symm)
  generalize hn : (fun j => if h : j < 32 then (k (ix1 (⟨j, h⟩ : Fin 32))).toNat else 0) = n at hk
  have hle : ∀ e < 32, n e ≤ 65536 := fun e he => by rw [← hn]; simp only [he, dif_pos]; exact (hi ⟨e, he⟩).1
  refine ⟨n, ⟨hle, ?_⟩, hk⟩
  have hs := (hi 0).2
  have hs' : IntOp.cmpi .eq (Host.reduce IntOp.addi k (constantI S_ 32 0#32) Cert.Pre_counts_fit.Facts.reducesTo_S32_S_d0 Cert.Pre_counts_fit.Facts.h_S_ ix0) (BitVec.ofNat 32 65536) = 1#1 := hs
  rw [reduce_sum k n hk] at hs'
  have hb : ((List.range 32).map n).sum ≤ 65536 * 32 := by
    have := List.sum_le_card_nsmul ((List.range 32).map n) 65536 fun x hx => by
      obtain ⟨e, he, rfl⟩ := List.mem_map.mp hx
      exact hle e (List.mem_range.mp he)
    simpa [Nat.mul_comm] using this
  rwa [WordCmp.cmpi_eq_ofNat_eq_one_iff (by omega) (by decide)] at hs'

section
variable (m : (ℓ : Loc nD τ sig) → Buf (Elt F) ℓ)

set_option maxRecDepth 8192 in
set_option maxHeartbeats 4000000 in
theorem args_at (c : Dev nD) : VE m c main_arg0 = m ((c.tc : Thread nD τ).loc main_arg0) ∧ VE m c main_arg1 = m ((c.tc : Thread nD τ).loc main_arg1)
    ∧ VE m c main_arg2 = m ((c.tc : Thread nD τ).loc main_arg2) ∧ VE m c main_arg3 = m ((c.tc : Thread nD τ).loc main_arg3)
    ∧ VE m c main_arg4 = m ((c.tc : Thread nD τ).loc main_arg4) ∧ VE m c main_arg5 = m ((c.tc : Thread nD τ).loc main_arg5) := by
  unfold VE
  simp only [opss, List.flatten_cons, List.flatten_nil, List.append_nil]
  simp only [StableHlo.after_append]
  refine ⟨?_, ?_, ?_, ?_, ?_, ?_⟩ <;> (after_reads_simp)
  all_goals with_reducible rfl

set_option maxRecDepth 8192 in
set_option maxHeartbeats 4000000 in
theorem bias_gate (c : Dev nD) : VE m c main_v65 = broadcastInDim S32x1x2048 ![0, 2] bcast_S32x2048_S32x1x2048_0_2 (m ((c.tc : Thread nD τ).loc main_arg3)) := by
  unfold VE
  simp only [opss, List.flatten_cons, List.flatten_nil, List.append_nil]
  simp only [StableHlo.after_append]
  after_reads_simp
  all_goals with_reducible rfl
set_option maxRecDepth 8192 in
set_option maxHeartbeats 4000000 in
theorem bias_down (c : Dev nD) : VE m c main_v66 = broadcastInDim S32x1x1024 ![0, 2] bcast_S32x1024_S32x1x1024_0_2 (m ((c.tc : Thread nD τ).loc main_arg5)) := by
  unfold VE
  simp only [opss, List.flatten_cons, List.flatten_nil, List.append_nil]
  simp only [StableHlo.after_append]
  after_reads_simp
  all_goals with_reducible rfl

/-- The counts the program was given. -/
abbrev cnt : IVec S32 32 := m (((0 : Dev nD).tc : Thread nD τ).loc main_arg0)

theorem tables : Tables m (tBe (cnt m)) (tNx (cnt m)) (tSl (cnt m)) (tBr (cnt m)) (tNu (cnt m)) := by
  have hc : ∀ c : Dev nD, c = 0 := fun c => Subsingleton.elim _ _
  exact ⟨fun c => by rw [hc c]; exact tables_be m 0, fun c => by rw [hc c]; exact tables_nu m 0, fun c => by rw [hc c]; exact tables_nx m 0, fun c => by rw [hc c]; exact tables_sl m 0, fun c => by rw [hc c]; exact tables_br m 0⟩

theorem rest_of {N : ℕ} (G : Good (tBe (cnt m)) (tNx (cnt m)) (tSl (cnt m)) (tNu (cnt m)) N) (r) (h : RDat.FramePost (cfgE (F := F) G (tBr (cnt m))) (rdE G (tBr (cnt m)) (VE m)) (VE m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  obtain ⟨k0, k1, k2, k3, k4, k5⟩ := args_at m c
  refine ⟨((h c).2 main_arg0 ?_).trans k0, ?_, ((h c).2 main_arg2 ?_).trans k2, ((h c).2 main_arg3 ?_).trans k3, ((h c).2 main_arg4 ?_).trans k4, ((h c).2 main_arg5 ?_).trans k5⟩
  rotate_left 1
  · have e := RDat.FramePost.arr_in h c 0 rfl
    rw [A_eq] at e
    exact e.trans k1
  all_goals (show _ ∈ Pipeline.restRefs sig spec0; decide)
end

end Cert.Proof.Experts

end
-- ==== Proof.ExpClaims.lean ====
/- The second call's runs at the bit-exact and at the ideal values, and its reference's.
-/
module

public import proofs.«01_k».proof.Proof.ExpFrame
public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Reference2Ideal
public import proofs.«01_k».proof.Proof.Gen.Reference2Ideal.Run
public import proofs.«01_k».proof.Proof.Gen.On_expert_rows
public import Idealize.ShloMosaic.Adequacy
public import Idealize.ShloMosaic.Init

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UE ℕ

/-- The run's counters and arguments, over any values. -/
theorem frame_run (m : (ℓ : Loc nD τ sig) → Buf (Elt F) ℓ) (g : Dev nD → PrngReg) {n : ℕ → ℕ} (H : Fits n) (hk : ∀ i : Fin 32, cnt m (ValueIdx.ix1 i) = BitVec.ofNat 32 (n i.val)) :
    θ_run (Cert.Kernel2Ideal.defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  have e := run m (good H hk) (tBr (cnt m)) (tables m) g
  refine (θ_run _ _ _).mono (fun r h => ?_) e
  exact ⟨fun c => rest_of m (good H hk) r h.1 c, h.2⟩

/-! ## The two readings of the program are one text -/

set_option maxHeartbeats 4000000 in
set_option maxRecDepth 100000 in
theorem main_eq (c : Dev nD) : Cert.Kernel2.main (F := F) c = main (F := F) c := by
  refine (Cert.Kernel2.Gen.main_chain c).trans (Eq.trans ?_ (main_chain c).symm)
  have l : (Cert.Kernel2.Gen.hostOps0 (F := F)) = hostOps0 := rfl
  have l_1 : (Cert.Kernel2.Gen.hostOps0_1 (F := F)) = hostOps0_1 := rfl
  have l_2 : (Cert.Kernel2.Gen.hostOps0_2 (F := F)) = hostOps0_2 := rfl
  have l_3 : (Cert.Kernel2.Gen.hostOps0_3 (F := F)) = hostOps0_3 := rfl
  have l_4 : (Cert.Kernel2.Gen.hostOps0_4 (F := F)) = hostOps0_4 := rfl
  have l_5 : (Cert.Kernel2.Gen.hostOps0_5 (F := F)) = hostOps0_5 := rfl
  have l_6 : (Cert.Kernel2.Gen.hostOps0_6 (F := F)) = hostOps0_6 := rfl
  have l_7 : (Cert.Kernel2.Gen.hostOps0_7 (F := F)) = hostOps0_7 := rfl
  have l_8 : (Cert.Kernel2.Gen.hostOps0_8 (F := F)) = hostOps0_8 := rfl
  have l_9 : (Cert.Kernel2.Gen.hostOps0_9 (F := F)) = hostOps0_9 := rfl
  have l_10 : (Cert.Kernel2.Gen.hostOps0_10 (F := F)) = hostOps0_10 := rfl
  have l_11 : (Cert.Kernel2.Gen.hostOps0_11 (F := F)) = hostOps0_11 := rfl
  have l_12 : (Cert.Kernel2.Gen.hostOps0_12 (F := F)) = hostOps0_12 := rfl
  have l_13 : (Cert.Kernel2.Gen.hostOps0_13 (F := F)) = hostOps0_13 := rfl
  simp only [l, l_1, l_2, l_3, l_4, l_5, l_6, l_7, l_8, l_9, l_10, l_11, l_12, l_13]
  rfl

set_option maxHeartbeats 2000000 in
set_option maxRecDepth 100000 in
theorem calls_eq : Cert.Kernel2.defs₀ (F := F) = defs₀ (F := F) := by
  unfold Cert.Kernel2.defs₀ defs₀
  congr 1
  funext l x
  match l, x with
  | 0, (t, s) =>
    refine Eq.trans (b := cc0_experts (grid0.coords t) (Memref.whole main_v18) (Memref.isWhole_whole _) (Memref.whole main_v19) (Memref.isWhole_whole _) (Memref.whole main_v51) (Memref.isWhole_whole _) (Memref.whole main_v55) (Memref.isWhole_whole _) (Memref.whole main_v64) (Memref.isWhole_whole _) (spec0_0.stage (s 0)) (hstage0_0 ((s 0).cast nbuf0_0)) (Memref.whole main_arg2) (Memref.isWhole_whole _) (spec0_1.stage (s 1)) (hstage0_1 ((s 1).cast nbuf0_1)) (Memref.whole main_arg4) (Memref.isWhole_whole _) (spec0_2.stage (s 2)) (hstage0_2 ((s 2).cast nbuf0_2)) (spec0_3.stage (s 3)) (hstage0_3 ((s 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4) ?_ rfl
    unfold cc0_experts
    rfl

theorem defs_eq : Cert.Kernel2.defs (F := F) = Cert.Kernel2Ideal.defs (F := F) := congrArg (Pipeline.defs (pcfgs (F := F))) calls_eq

/-- The second program as printed: the run at the bit-exact values. -/
theorem frame_kernel : Cert.quiescent_Kernel2 := fun m ρ hpre => by
  obtain ⟨n, H, hk⟩ := fits_of_fn (F := Bits) (hpre 0)
  have e := frame_run (F := Bits) m ρ H hk
  rw [← defs_eq, show (main (F := Bits)) = Cert.Kernel2.main (F := Bits) from (funext main_eq).symm] at e
  exact e

/-- Over the ideal values: the same run. -/
theorem frame_ideal : Cert.quiescent_Kernel2Ideal := fun m ρ hpre => by
  obtain ⟨n, H, hk⟩ := fits_of_fn (F := Ideal) (hpre 0)
  exact frame_run (F := Ideal) m ρ H hk

/-- The reference is host operations and declares no semaphore. -/
theorem frame_reference_ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Proof.Experts

end
-- ==== Proof.ExpOut.lean ====
/- Where the blocks of the windows lie in their arrays, and what the output array holds after the run.
-/
module

public import proofs.«01_k».proof.Proof.ExpFrame
public import proofs.«01_k».proof.Proof.ExpFrame
public import Idealize.ShloMosaic.Lib.Pipeline.Covers

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UE ℕ

open Idealize.ShloMosaic.Pipeline (RDat Cfg Window)
open Idealize.ShloMosaic.ValueIdx

variable {be nx sl : S160.Idx → BitVec 32} {nu : S1.Idx → BitVec 32} {N : ℕ} (G : Good be nx sl nu N) (br : S160.Idx → BitVec 32)
variable (V : (c : Dev nD) → (b : Ref sig .tc) → Buf (Elt F) ((c.tc : Thread nD τ).loc b)) (c : Dev nD)

theorem index_rows (t : Fin grid0.N) : ((cfgE (F := F) G br).win 0).index t = ![min t.val (N - 1), 0] :=
  (rows_ix G br (grid0.coords t)).trans (by rw [coords_val])
theorem index_out (t : Fin grid0.N) : ((cfgE (F := F) G br).win 3).index t = ![min t.val (N - 1), 0] :=
  (out_ix G br (grid0.coords t)).trans (by rw [coords_val])
theorem index_up (t : Fin grid0.N) : ((cfgE (F := F) G br).win 1).index t = ![(be (ix t.val)).toNat, 0, 0] :=
  (bias_ix br (grid0.coords t)).trans (by rw [at160_coords])
theorem index_down (t : Fin grid0.N) : ((cfgE (F := F) G br).win 2).index t = ![(be (ix t.val)).toNat, 0, 0] :=
  (bias_ix' br (grid0.coords t)).trans (by rw [at160_coords])

theorem row_lt (t : Fin grid0.N) (r : Fin 4096) : 4096 * t.val + r.val < 655360 := by have := lt160 t; omega

/-- A block of rows in the array. -/
theorem blk_rows (t : Fin grid0.N) (ht : t.val < N) (r : Fin 4096) (q : Fin 128) :
    blk G br V c 0 t (ix2 r q) = V c main_arg1 (ix2 ⟨4096 * t.val + r.val, row_lt t r⟩ q) := by
  have hi := index_rows (F := F) G br t
  have h0 := Window.rect_emb_val ((cfgE (F := F) G br).win 0) t (ix2 r q) (0 : Fin 2)
  have h1 := Window.rect_emb_val ((cfgE (F := F) G br).win 0) t (ix2 r q) (1 : Fin 2)
  rw [hi] at h0 h1
  refine congrArg (V c main_arg1) (funext fun a => Fin.ext ?_)
  match a with
  | 0 => exact h0.trans (show min t.val (N - 1) * 4096 + r.val = 4096 * t.val + r.val by rw [Nat.min_eq_left (by omega), Nat.mul_comm])
  | 1 => exact h1.trans (show 0 * 128 + q.val = q.val by omega)

theorem blk_up (t : Fin grid0.N) (e : ℕ) (he : e < 32) (hb : (be (ix t.val)).toNat = e) (j : Fin 2048) :
    blk G br V c 1 t (ix3 0 0 j) = V c main_v65 (ix3 ⟨e, he⟩ 0 j) := by
  have hi := index_up (F := F) G br t
  rw [hb] at hi
  have h0 := Window.rect_emb_val ((cfgE (F := F) G br).win 1) t (ix3 (0 : Fin 1) (0 : Fin 1) j) (0 : Fin 3)
  have h1 := Window.rect_emb_val ((cfgE (F := F) G br).win 1) t (ix3 (0 : Fin 1) (0 : Fin 1) j) (1 : Fin 3)
  have h2 := Window.rect_emb_val ((cfgE (F := F) G br).win 1) t (ix3 (0 : Fin 1) (0 : Fin 1) j) (2 : Fin 3)
  rw [hi] at h0 h1 h2
  refine congrArg (V c main_v65) (funext fun a => Fin.ext ?_)
  match a with
  | 0 => exact h0.trans (show e * 1 + 0 = e by omega)
  | 1 => exact h1.trans (show 0 * 1 + 0 = 0 by omega)
  | 2 => exact h2.trans (show 0 * 2048 + j.val = j.val by omega)

theorem blk_down (t : Fin grid0.N) (e : ℕ) (he : e < 32) (hb : (be (ix t.val)).toNat = e) (j : Fin 1024) :
    blk G br V c 2 t (ix3 0 0 j) = V c main_v66 (ix3 ⟨e, he⟩ 0 j) := by
  have hi := index_down (F := F) G br t
  rw [hb] at hi
  have h0 := Window.rect_emb_val ((cfgE (F := F) G br).win 2) t (ix3 (0 : Fin 1) (0 : Fin 1) j) (0 : Fin 3)
  have h1 := Window.rect_emb_val ((cfgE (F := F) G br).win 2) t (ix3 (0 : Fin 1) (0 : Fin 1) j) (1 : Fin 3)
  have h2 := Window.rect_emb_val ((cfgE (F := F) G br).win 2) t (ix3 (0 : Fin 1) (0 : Fin 1) j) (2 : Fin 3)
  rw [hi] at h0 h1 h2
  refine congrArg (V c main_v66) (funext fun a => Fin.ext ?_)
  match a with
  | 0 => exact h0.trans (show e * 1 + 0 = e by omega)
  | 1 => exact h1.trans (show 0 * 1 + 0 = 0 by omega)
  | 2 => exact h2.trans (show 0 * 1024 + j.val = j.val by omega)

/-- What the body leaves at a point, from a block's leftovers. -/
abbrev Left (t : Fin grid0.N) (X : S4096x128.Idx → F .f32) : Prop := ∃ Y : S4096x128.Idx → F .f32,
  outRel (BitVec.ofNat 32 N) (br (ix t.val)) (grid0.coords t) (blk G br V c 0 t) (blk G br V c 1 t) (wG c (V c main_arg2) (be (ix t.val)) (G.hbe _))
    (blk G br V c 2 t) (wD c (V c main_arg4) (be (ix t.val)) (G.hbe _)) Y X

/-- At a point the output window holds what the body left at the point of its block. -/
theorem leaves_out : ∀ (n : ℕ) (hn : n < grid0.N) (X : S4096x128.Idx → F .f32), (rdE G br V c).Leaves 3 ⟨n, hn⟩ X →
    Left G br V c ⟨min n (N - 1), lt_of_le_of_lt (Nat.min_le_left _ _) hn⟩ X := by
  intro n
  induction n with
  | zero =>
    rintro hn X ⟨Y, -, h⟩
    have e : (⟨min 0 (N - 1), lt_of_le_of_lt (Nat.min_le_left _ _) hn⟩ : Fin grid0.N) = ⟨0, hn⟩ := Fin.ext (Nat.zero_min _)
    rw [e]; exact ⟨Y, h⟩
  | succ n ih =>
    rintro hn X ⟨Y, hY, h⟩
    by_cases hlt : n + 1 < N
    · have e : (⟨min (n + 1) (N - 1), lt_of_le_of_lt (Nat.min_le_left _ _) hn⟩ : Fin grid0.N) = ⟨n + 1, hn⟩ := Fin.ext (Nat.min_eq_left (by omega))
      rw [e]; exact ⟨Y, h⟩
    · have h' : outRel (BitVec.ofNat 32 N) (br (ix (n + 1))) (grid0.coords ⟨n + 1, hn⟩) (blk G br V c 0 ⟨n + 1, hn⟩) (blk G br V c 1 ⟨n + 1, hn⟩) (wG c (V c main_arg2) (be (ix (n + 1))) (G.hbe _))
          (blk G br V c 2 ⟨n + 1, hn⟩) (wD c (V c main_arg4) (be (ix (n + 1))) (G.hbe _)) Y X := h
      have hXY : X = Y := h'.2.2 (fun h5 => hlt ((cond5_iff ⟨n + 1, hn⟩ N G.le _).1 h5).1) (fun h4 => hlt ((cond4_iff ⟨n + 1, hn⟩ N G.le _).1 h4).1)
      have hfe : ((cfgE (F := F) G br).win 3).fetch ⟨n + 1, hn⟩ = false := by
        rw [Window.fetch_eq_fetchOf]; rfl
      rcases ((rdE G br V c).finds_of_pos hfe (Nat.succ_ne_zero n) Y).1 hY with hf | hl
      · exfalso
        rcases (Window.flush_out (w := (cfgE (F := F) G br).win 3) rfl _).1 hf with h1 | ⟨h1, h2⟩
        · have h1' : n + 1 = grid0.N := h1
          omega
        · refine h2 ?_
          rw [index_out, index_out]
          have hp := G.pos
          show (![min (n + 1) (N - 1), 0] : Fin 2 → ℕ) = ![min n (N - 1), 0]
          rw [Nat.min_eq_right (by omega), Nat.min_eq_right (by omega)]
      · have := ih (by omega) Y hl
        have e : (⟨min (n + 1) (N - 1), lt_of_le_of_lt (Nat.min_le_left _ _) hn⟩ : Fin grid0.N) = ⟨min n (N - 1), lt_of_le_of_lt (Nat.min_le_left _ _) (by omega)⟩ := by
          have hp := G.pos
          refine Fin.ext ?_
          show min (n + 1) (N - 1) = min n (N - 1)
          rw [Nat.min_eq_right (by omega), Nat.min_eq_right (by omega)]
        rw [e, hXY]; exact this

/-- What holds of the body's leftovers at every element of every block in use holds of the array. -/
theorem arr_out (r) (h : RDat.FramePost (cfgE (F := F) G br) (rdE G br V) V r) (P : S655360x128.Idx → F .f32 → Prop)
    (hP : ∀ t : Fin grid0.N, t.val < N → ∀ X, Left G br V c t X → ∀ (a : Fin 4096) (q : Fin 128), P (ix2 ⟨4096 * t.val + a.val, row_lt t a⟩ q) (X (ix2 a q)))
    (t : Fin grid0.N) (ht : t.val < N) (a : Fin 4096) (q : Fin 128) :
    P (ix2 ⟨4096 * t.val + a.val, row_lt t a⟩ q) (r.2.mem ((c.tc : Thread nD τ).loc main_v67) (ix2 ⟨4096 * t.val + a.val, row_lt t a⟩ q)) := by
  obtain ⟨after, hL, hA⟩ := RDat.FramePost.exists_exact h c
  have hA3 : r.2.mem ((c.tc : Thread nD τ).loc main_v67) = ((rdE G br V c).withAfter after).arrAt 3 (cfgE (F := F) G br).N := hA 3
  rw [hA3]
  obtain ⟨u, hu, hf, hi⟩ := Window.exists_flush_same_index (w := (cfgE (F := F) G br).win 3) rfl t
  have key : ∀ (u : Fin grid0.N) (x : S4096x128.Idx), (((cfgE (F := F) G br).win 3).blk u).view.emb x = (ix2 ⟨4096 * (min u.val (N - 1)) + (x 0).val, row_lt ⟨min u.val (N - 1), lt_of_le_of_lt (Nat.min_le_left _ _) u.isLt⟩ (x 0)⟩ (x 1) : S655360x128.Idx) := fun u x => by
    have hi := index_out (F := F) G br u
    have h0 := Window.rect_emb_val ((cfgE (F := F) G br).win 3) u x (0 : Fin 2)
    have h1 := Window.rect_emb_val ((cfgE (F := F) G br).win 3) u x (1 : Fin 2)
    rw [hi] at h0 h1
    refine @funext (Fin 2) _ _ _ fun a => Fin.ext ?_
    match a with
    | 0 => exact h0.trans (show min u.val (N - 1) * 4096 + (x 0).val = 4096 * min u.val (N - 1) + (x 0).val by rw [Nat.mul_comm])
    | 1 => exact h1.trans (show 0 * 128 + (x 1).val = (x 1).val by omega)
  refine Pipeline.Dat.arrAt_forall_of_flushed ((rdE G br V c).withAfter after) 3 P (fun u hu y => ?_) _ u _ u.isLt hf ?_
  · have hp := G.pos
    have hl := leaves_out G br V c u.val u.isLt (after 3 u) (hL 3 u hu)
    have this := fun z : S4096x128.Idx => hP ⟨min u.val (N - 1), lt_of_le_of_lt (Nat.min_le_left _ _) u.isLt⟩ (by show min u.val (N - 1) < N; omega) _ hl (z 0) (z 1)
    refine (congrArg₂ P (key u y) ?_).mpr (this y)
    exact congrArg (after 3 u) (@funext (Fin 2) _ _ _ fun a => match a with | 0 => rfl | 1 => rfl)
  · rw [index_out, index_out] at hi
    have hi0 : min u.val (N - 1) = min t.val (N - 1) := congrFun hi 0
    have e := key u (ix2 a q)
    have e2 : (ix2 ⟨4096 * t.val + a.val, row_lt t a⟩ q : S655360x128.Idx) = (((cfgE (F := F) G br).win 3).blk u).view.emb (ix2 a q) := by
      rw [e]
      refine congrArg (fun z => ix2 z q) (Fin.ext ?_)
      show 4096 * t.val + a.val = 4096 * min u.val (N - 1) + a.val
      omega
    rw [e2]
    exact View.emb_mem_set _ _

end Cert.Proof.Experts

end
-- ==== Proof.ExpCat.lean ====
/- Eight pieces of 128 columns side by side, read at an element.
-/
module

public import proofs.«01_k».proof.Proof.ExpFrame
import Idealize.ShloMosaic.Lib.Pointwise.SelectCore
public import Idealize.ShloMosaic.Lib.ValueIdxCore

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UE ℕ

set_option maxHeartbeats 1600000 in
theorem concat8 {α : Type} {R : ℕ} (x0 x1 x2 x3 x4 x5 x6 x7 : (⟨2, ![R, 128]⟩ : Shape).Idx → α)
    (h : Shape.Concatenates (([⟨⟨2, ![R, 128]⟩, x0⟩, ⟨⟨2, ![R, 128]⟩, x1⟩, ⟨⟨2, ![R, 128]⟩, x2⟩, ⟨⟨2, ![R, 128]⟩, x3⟩, ⟨⟨2, ![R, 128]⟩, x4⟩, ⟨⟨2, ![R, 128]⟩, x5⟩, ⟨⟨2, ![R, 128]⟩, x6⟩, ⟨⟨2, ![R, 128]⟩, x7⟩] : List ((r : Shape) × (r.Idx → α))).map (·.1)) ⟨2, ![R, 1024]⟩ 1)
    (Y : ℕ → ℕ → α)
    (h0 : ∀ u, x0 u = Y (u 0).val (u 1).val) (h1 : ∀ u, x1 u = Y (u 0).val (128 + (u 1).val))
    (h2 : ∀ u, x2 u = Y (u 0).val (256 + (u 1).val)) (h3 : ∀ u, x3 u = Y (u 0).val (384 + (u 1).val))
    (h4 : ∀ u, x4 u = Y (u 0).val (512 + (u 1).val)) (h5 : ∀ u, x5 u = Y (u 0).val (640 + (u 1).val))
    (h6 : ∀ u, x6 u = Y (u 0).val (768 + (u 1).val)) (h7 : ∀ u, x7 u = Y (u 0).val (896 + (u 1).val)) (j : (⟨2, ![R, 1024]⟩ : Shape).Idx) :
    concatenate ⟨2, ![R, 1024]⟩ 1 [⟨⟨2, ![R, 128]⟩, x0⟩, ⟨⟨2, ![R, 128]⟩, x1⟩, ⟨⟨2, ![R, 128]⟩, x2⟩, ⟨⟨2, ![R, 128]⟩, x3⟩, ⟨⟨2, ![R, 128]⟩, x4⟩, ⟨⟨2, ![R, 128]⟩, x5⟩, ⟨⟨2, ![R, 128]⟩, x6⟩, ⟨⟨2, ![R, 128]⟩, x7⟩] h j = Y (j 0).val (j 1).val := by
  have hk : (j 1).val < 1024 := (j 1).isLt
  have key : ∀ (x : (⟨2, ![R, 128]⟩ : Shape).Idx → α) (o : ℕ) (_ : ∀ u, x u = Y (u 0).val (o + (u 1).val)) (u : (⟨2, ![R, 128]⟩ : Shape).Idx)
      (_ : (u 0).val = (j 0).val) (_ : o + (u 1).val = (j 1).val), x u = Y (j 0).val (j 1).val := fun x o hx u h0 h1 => by rw [hx, h0, h1]
  refine (concatenate_apply _ _ _ h j).trans ?_
  by_cases c0 : (j 1).val < 128
  · refine (concatenateAt_cons _ _ _ _ _ _ _ _).trans ((dif_pos c0).trans ?_); exact key x0 0 (fun u => by rw [h0, Nat.zero_add]) _ rfl (Nat.zero_add _)
  refine (concatenateAt_cons _ _ _ _ _ _ _ _).trans ((dif_neg c0).trans ?_)
  by_cases c1 : (j 1).val - 128 < 128
  · refine (concatenateAt_cons _ _ _ _ _ _ _ _).trans ((dif_pos c1).trans ?_); exact key x1 128 h1 _ rfl (show 128 + ((j 1).val - 128) = (j 1).val by omega)
  refine (concatenateAt_cons _ _ _ _ _ _ _ _).trans ((dif_neg c1).trans ?_)
  by_cases c2 : (j 1).val - 128 - 128 < 128
  · refine (concatenateAt_cons _ _ _ _ _ _ _ _).trans ((dif_pos c2).trans ?_); exact key x2 256 h2 _ rfl (show 256 + ((j 1).val - 128 - 128) = (j 1).val by omega)
  refine (concatenateAt_cons _ _ _ _ _ _ _ _).trans ((dif_neg c2).trans ?_)
  by_cases c3 : (j 1).val - 128 - 128 - 128 < 128
  · refine (concatenateAt_cons _ _ _ _ _ _ _ _).trans ((dif_pos c3).trans ?_); exact key x3 384 h3 _ rfl (show 384 + ((j 1).val - 128 - 128 - 128) = (j 1).val by omega)
  refine (concatenateAt_cons _ _ _ _ _ _ _ _).trans ((dif_neg c3).trans ?_)
  by_cases c4 : (j 1).val - 128 - 128 - 128 - 128 < 128
  · refine (concatenateAt_cons _ _ _ _ _ _ _ _).trans ((dif_pos c4).trans ?_); exact key x4 512 h4 _ rfl (show 512 + ((j 1).val - 128 - 128 - 128 - 128) = (j 1).val by omega)
  refine (concatenateAt_cons _ _ _ _ _ _ _ _).trans ((dif_neg c4).trans ?_)
  by_cases c5 : (j 1).val - 128 - 128 - 128 - 128 - 128 < 128
  · refine (concatenateAt_cons _ _ _ _ _ _ _ _).trans ((dif_pos c5).trans ?_); exact key x5 640 h5 _ rfl (show 640 + ((j 1).val - 128 - 128 - 128 - 128 - 128) = (j 1).val by omega)
  refine (concatenateAt_cons _ _ _ _ _ _ _ _).trans ((dif_neg c5).trans ?_)
  by_cases c6 : (j 1).val - 128 - 128 - 128 - 128 - 128 - 128 < 128
  · refine (concatenateAt_cons _ _ _ _ _ _ _ _).trans ((dif_pos c6).trans ?_); exact key x6 768 h6 _ rfl (show 768 + ((j 1).val - 128 - 128 - 128 - 128 - 128 - 128) = (j 1).val by omega)
  refine (concatenateAt_cons _ _ _ _ _ _ _ _).trans ((dif_neg c6).trans ?_)
  refine (concatenateAt_singleton _ _ _ _ _ _).trans ?_
  exact key x7 896 h7 _ rfl (show 896 + ((j 1).val - 128 - 128 - 128 - 128 - 128 - 128 - 128) = (j 1).val by omega)

end Cert.Proof.Experts

end
-- ==== Proof.ExpKer.lean ====
/- One row of the experts' arithmetic over the ideal values, and the body's two products read at an element as that row.
-/
module

public import proofs.«01_k».proof.Proof.ExpCat
public import Idealize.ShloMosaic.Lib.MatmulPlain
public import Idealize.ShloMosaic.Lib.ValueLayout
public import Idealize.ShloMosaic.Lib.IdealHost

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UE ℕ

open Idealize.ShloMosaic.ValueIdx
open scoped BigOperators

/-- A row's element times a matrix's column, and the column's bias. -/
def lin {K N : ℕ} (x : Fin K → EReal) (w : Fin K → Fin N → EReal) (b : Fin N → EReal) (j : Fin N) : EReal := (∑ k, x k * w k j) + b j

/-- The gate of a hidden value: at most 7. -/
def gateA (h : EReal) : EReal := FloatOps.minimumf (F := Ideal) (φ := .f32) h (FloatOps.ofBits (F := Ideal) .f32 0x40E00000#32)

/-- The linear part of a hidden value, between -7 and 7. -/
def upA (h : EReal) : EReal :=
  FloatOps.minimumf (F := Ideal) (φ := .f32) (FloatOps.ofBits (F := Ideal) .f32 0x40E00000#32) (FloatOps.maximumf (F := Ideal) (φ := .f32) (FloatOps.ofBits (F := Ideal) .f32 0xC0E00000#32) h)

/-- The activation of a hidden row's two halves. -/
def actA (h : Fin 2048 → EReal) (d : Fin 1024) : EReal :=
  (upA (h ⟨1024 + d.val, by omega⟩) + 1) * (gateA (h ⟨d.val, by omega⟩) * Ideal.logistic (Ideal.ofBits .f32 0x3FD9DB23#32 * gateA (h ⟨d.val, by omega⟩)))

/-- A row through an expert. -/
def ffnA (x : Fin 1024 → EReal) (wg : Fin 1024 → Fin 2048 → EReal) (bg : Fin 2048 → EReal) (wd : Fin 1024 → Fin 1024 → EReal) (bd : Fin 1024 → EReal) : Fin 1024 → EReal :=
  lin (actA (lin x wg bg)) wd bd

theorem logistic_eq (x : EReal) : FloatOps.logistic (F := Ideal) (φ := .f32) x = Ideal.logistic x := rfl

theorem lin_congr {K N : ℕ} {x x' : Fin K → EReal} {w w' : Fin K → Fin N → EReal} {b b' : Fin N → EReal} (hx : ∀ k, x k = x' k) (hw : ∀ k j, w k j = w' k j) (hb : ∀ j, b j = b' j) (j : Fin N) :
    lin x w b j = lin x' w' b' j := by
  unfold lin; rw [hb]; exact congrArg (· + b' j) (Finset.sum_congr rfl fun k _ => by rw [hx, hw])

theorem row3 {N : ℕ} (f : Fin N) : ((⟨3, ![1, 1, N]⟩ : Shape).rowMajor (ix3 0 0 f)).val = ((⟨2, ![1, N]⟩ : Shape).rowMajor (ix2 0 f)).val := by
  rw [Shape.rowMajor_val_three, Shape.rowMajor_val_two]; simp; rfl

/-- The first product of the 512 rows, at an element. -/
theorem pay11_at (x0 x1 x2 x3 x4 x5 x6 x7 : Vec Ideal S512x128 .f32) (G : Vec Ideal S1024x2048 .bf16) (Y : ℕ → ℕ → EReal)
    (h0 : ∀ u, x0 u = Y (u 0).val ((u 1).val)) (h1 : ∀ u, x1 u = Y (u 0).val (128 + (u 1).val)) (h2 : ∀ u, x2 u = Y (u 0).val (256 + (u 1).val)) (h3 : ∀ u, x3 u = Y (u 0).val (384 + (u 1).val)) (h4 : ∀ u, x4 u = Y (u 0).val (512 + (u 1).val)) (h5 : ∀ u, x5 u = Y (u 0).val (640 + (u 1).val)) (h6 : ∀ u, x6 u = Y (u 0).val (768 + (u 1).val)) (h7 : ∀ u, x7 u = Y (u 0).val (896 + (u 1).val)) (r : Fin 512) (j : Fin 2048) :
    k0_pay11 (F := Ideal) x0 x1 x2 x3 x4 x5 x6 x7 G (ix2 r j) = ∑ k : Fin 1024, Y r.val k.val * G (ix2 k j) := by
  unfold k0_pay11
  refine (Ideal.matmul_plain_apply (M := 512) (K := 1024) (N := 2048) none _ _ _ r j).trans ?_
  refine (congrArg (· + _) (show _ = (0 : EReal) from Ideal.ofBits_zero_f32)).trans ((zero_add _).trans ?_)
  refine Finset.sum_congr rfl fun k _ => congrArg (· * G (ix2 k j)) ?_
  exact concat8 x0 x1 x2 x3 x4 x5 x6 x7 concatenates_S512x128_S512x128_S512x128_S512x128_S512x128_S512x128_S512x128_S512x128_S512x1024_d1 Y h0 h1 h2 h3 h4 h5 h6 h7 (ix2 r k)

/-- The second product of the 512 rows, at an element. -/
theorem pay13_at (v44 : FVec Ideal S512x2048 .f32) (v46 : FVec Ideal S1x2048 .f32) (v65 : Vec Ideal S1024x1024 .bf16) (v67 : Vec Ideal S1x1x1024 .f32) (r : Fin 512) (f : Fin 1024) :
    k0_pay13 (F := Ideal) v44 v46 v65 v67 (ix2 r f)
      = lin (actA fun d => v44 (ix2 r d) + v46 (ix2 0 d)) (fun d f => v65 (ix2 d f)) (fun f => v67 (ix3 0 0 f)) f := by
  have hid : ∀ d : Fin 2048, addf v44 (broadcastTo S512x2048 v46 broadcasts_S1x2048_S512x2048) (ix2 r d) = v44 (ix2 r d) + v46 (ix2 0 d) := fun d =>
    congrArg (fun b : EReal => v44 (ix2 r d) + b) (broadcastTo_1b_ab_apply v46 broadcasts_S1x2048_S512x2048 r d)
  unfold k0_pay13
  refine congrArg₂ (fun a b : EReal => a + b) ?_ ?_
  · refine (Ideal.matmul_plain_apply (M := 512) (K := 1024) (N := 1024) none _ _ _ r f).trans ?_
    refine (congrArg (· + _) (show _ = (0 : EReal) from Ideal.ofBits_zero_f32)).trans ((zero_add _).trans ?_)
    refine Finset.sum_congr rfl fun k _ => congrArg (· * v65 (ix2 k f)) ?_
    have S0 := (extractStridedSlice_apply ![0, 0] (addf v44 (broadcastTo S512x2048 v46 broadcasts_S1x2048_S512x2048)) slices_S512x2048_o0_0_S512x1024 (ix2 r k)
      (ix2 r ⟨k.val, by omega⟩) (fun a => match a with | ⟨0, _⟩ => (Nat.zero_add _).symm | ⟨1, _⟩ => (Nat.zero_add _).symm)).trans (hid _)
    have S1 := (extractStridedSlice_apply ![0, 1024] (addf v44 (broadcastTo S512x2048 v46 broadcasts_S1x2048_S512x2048)) slices_S512x2048_o0_1024_S512x1024 (ix2 r k)
      (ix2 r ⟨1024 + k.val, by omega⟩) (fun a => match a with | ⟨0, _⟩ => (Nat.zero_add _).symm | ⟨1, _⟩ => rfl)).trans (hid _)
    unfold actA
    refine congrArg₂ (fun a b : EReal => a * b) (congrArg₂ (fun a b : EReal => a + b) (congrArg upA S1) Ideal.ofBits_one_f32) (congrArg (fun h : EReal => gateA h * Ideal.logistic (Ideal.ofBits .f32 0x3FD9DB23#32 * gateA h)) S0)
  · refine (broadcastTo_1b_ab_apply _ _ r f).trans ?_
    exact shapeCast_apply _ _ _ (ix3 0 0 f) (row3 f)

/-- The branch over 512 rows, at an element: row `r` through the expert. -/
theorem bigV_at (X : S4096x128.Idx → Ideal .f32) (B1 : Vec Ideal S1x1x2048 .f32) (G : Vec Ideal S1024x2048 .bf16) (B2 : Vec Ideal S1x1x1024 .f32) (D : Vec Ideal S1024x1024 .bf16) (r : Fin 512) (f : Fin 1024) :
    bigV (F := Ideal) X B1 G B2 D (ix2 r f)
      = ffnA (fun d => X (ix2 ⟨(8 * r.val + d.val / 128) % 4096, Nat.mod_lt _ (by decide)⟩ ⟨d.val % 128, Nat.mod_lt _ (by decide)⟩)) (fun d j => G (ix2 d j)) (fun j => B1 (ix3 0 0 j))
        (fun d f => D (ix2 d f)) (fun f => B2 (ix3 0 0 f)) f := by
  unfold bigV ffnA
  refine (pay13_at _ _ D B2 r f).trans ?_
  refine lin_congr (fun k => congrFun (congrArg actA (funext fun d => ?_)) k) (fun _ _ => rfl) (fun _ => rfl) f
  refine congrArg₂ (fun a b : EReal => a + b) ?_ (shapeCast_apply _ _ _ (ix3 0 0 d) (row3 d))
  refine (pay11_at _ _ _ _ _ _ _ _ G (fun r d => X (ix2 ⟨(8 * r + d / 128) % 4096, Nat.mod_lt _ (by decide)⟩ ⟨d % 128, Nat.mod_lt _ (by decide)⟩)) ?_ ?_ ?_ ?_ ?_ ?_ ?_ ?_ r d)
  all_goals
    intro u
    have u0 : (u 0).val < 512 := (u 0).isLt
    have u1 : (u 1).val < 128 := (u 1).isLt
    refine congrArg X (funext fun a => Fin.ext ?_)
    match a with
    | ⟨0, _⟩ => simp [Rect.withinL, Rect.unit, LoadRect.idx]; omega
    | ⟨1, _⟩ => simp [Rect.withinL, Rect.unit, LoadRect.idx]; omega

/-- The first product of the 256 rows, at an element. -/
theorem pay18_at (x0 x1 x2 x3 x4 x5 x6 x7 : Vec Ideal S256x128 .f32) (G : Vec Ideal S1024x2048 .bf16) (Y : ℕ → ℕ → EReal)
    (h0 : ∀ u, x0 u = Y (u 0).val ((u 1).val)) (h1 : ∀ u, x1 u = Y (u 0).val (128 + (u 1).val)) (h2 : ∀ u, x2 u = Y (u 0).val (256 + (u 1).val)) (h3 : ∀ u, x3 u = Y (u 0).val (384 + (u 1).val)) (h4 : ∀ u, x4 u = Y (u 0).val (512 + (u 1).val)) (h5 : ∀ u, x5 u = Y (u 0).val (640 + (u 1).val)) (h6 : ∀ u, x6 u = Y (u 0).val (768 + (u 1).val)) (h7 : ∀ u, x7 u = Y (u 0).val (896 + (u 1).val)) (r : Fin 256) (j : Fin 2048) :
    k0_pay18 (F := Ideal) x0 x1 x2 x3 x4 x5 x6 x7 G (ix2 r j) = ∑ k : Fin 1024, Y r.val k.val * G (ix2 k j) := by
  unfold k0_pay18
  refine (Ideal.matmul_plain_apply (M := 256) (K := 1024) (N := 2048) none _ _ _ r j).trans ?_
  refine (congrArg (· + _) (show _ = (0 : EReal) from Ideal.ofBits_zero_f32)).trans ((zero_add _).trans ?_)
  refine Finset.sum_congr rfl fun k _ => congrArg (· * G (ix2 k j)) ?_
  exact concat8 x0 x1 x2 x3 x4 x5 x6 x7 concatenates_S256x128_S256x128_S256x128_S256x128_S256x128_S256x128_S256x128_S256x128_S256x1024_d1 Y h0 h1 h2 h3 h4 h5 h6 h7 (ix2 r k)

/-- The second product of the 256 rows, at an element. -/
theorem pay20_at (v44 : FVec Ideal S256x2048 .f32) (v46 : FVec Ideal S1x2048 .f32) (v65 : Vec Ideal S1024x1024 .bf16) (v67 : Vec Ideal S1x1x1024 .f32) (r : Fin 256) (f : Fin 1024) :
    k0_pay20 (F := Ideal) v44 v46 v65 v67 (ix2 r f)
      = lin (actA fun d => v44 (ix2 r d) + v46 (ix2 0 d)) (fun d f => v65 (ix2 d f)) (fun f => v67 (ix3 0 0 f)) f := by
  have hid : ∀ d : Fin 2048, addf v44 (broadcastTo S256x2048 v46 broadcasts_S1x2048_S256x2048) (ix2 r d) = v44 (ix2 r d) + v46 (ix2 0 d) := fun d =>
    congrArg (fun b : EReal => v44 (ix2 r d) + b) (broadcastTo_1b_ab_apply v46 broadcasts_S1x2048_S256x2048 r d)
  unfold k0_pay20
  refine congrArg₂ (fun a b : EReal => a + b) ?_ ?_
  · refine (Ideal.matmul_plain_apply (M := 256) (K := 1024) (N := 1024) none _ _ _ r f).trans ?_
    refine (congrArg (· + _) (show _ = (0 : EReal) from Ideal.ofBits_zero_f32)).trans ((zero_add _).trans ?_)
    refine Finset.sum_congr rfl fun k _ => congrArg (· * v65 (ix2 k f)) ?_
    have S0 := (extractStridedSlice_apply ![0, 0] (addf v44 (broadcastTo S256x2048 v46 broadcasts_S1x2048_S256x2048)) slices_S256x2048_o0_0_S256x1024 (ix2 r k)
      (ix2 r ⟨k.val, by omega⟩) (fun a => match a with | ⟨0, _⟩ => (Nat.zero_add _).symm | ⟨1, _⟩ => (Nat.zero_add _).symm)).trans (hid _)
    have S1 := (extractStridedSlice_apply ![0, 1024] (addf v44 (broadcastTo S256x2048 v46 broadcasts_S1x2048_S256x2048)) slices_S256x2048_o0_1024_S256x1024 (ix2 r k)
      (ix2 r ⟨1024 + k.val, by omega⟩) (fun a => match a with | ⟨0, _⟩ => (Nat.zero_add _).symm | ⟨1, _⟩ => rfl)).trans (hid _)
    unfold actA
    refine congrArg₂ (fun a b : EReal => a * b) (congrArg₂ (fun a b : EReal => a + b) (congrArg upA S1) Ideal.ofBits_one_f32) (congrArg (fun h : EReal => gateA h * Ideal.logistic (Ideal.ofBits .f32 0x3FD9DB23#32 * gateA h)) S0)
  · refine (broadcastTo_1b_ab_apply _ _ r f).trans ?_
    exact shapeCast_apply _ _ _ (ix3 0 0 f) (row3 f)

/-- The branch over 256 rows, at an element: row `r` through the expert. -/
theorem smallV_at (X : S4096x128.Idx → Ideal .f32) (B1 : Vec Ideal S1x1x2048 .f32) (G : Vec Ideal S1024x2048 .bf16) (B2 : Vec Ideal S1x1x1024 .f32) (D : Vec Ideal S1024x1024 .bf16) (r : Fin 256) (f : Fin 1024) :
    smallV (F := Ideal) X B1 G B2 D (ix2 r f)
      = ffnA (fun d => X (ix2 ⟨(8 * r.val + d.val / 128) % 4096, Nat.mod_lt _ (by decide)⟩ ⟨d.val % 128, Nat.mod_lt _ (by decide)⟩)) (fun d j => G (ix2 d j)) (fun j => B1 (ix3 0 0 j))
        (fun d f => D (ix2 d f)) (fun f => B2 (ix3 0 0 f)) f := by
  unfold smallV ffnA
  refine (pay20_at _ _ D B2 r f).trans ?_
  refine lin_congr (fun k => congrFun (congrArg actA (funext fun d => ?_)) k) (fun _ _ => rfl) (fun _ => rfl) f
  refine congrArg₂ (fun a b : EReal => a + b) ?_ (shapeCast_apply _ _ _ (ix3 0 0 d) (row3 d))
  refine (pay18_at _ _ _ _ _ _ _ _ G (fun r d => X (ix2 ⟨(8 * r + d / 128) % 4096, Nat.mod_lt _ (by decide)⟩ ⟨d % 128, Nat.mod_lt _ (by decide)⟩)) ?_ ?_ ?_ ?_ ?_ ?_ ?_ ?_ r d)
  all_goals
    intro u
    have u0 : (u 0).val < 256 := (u 0).isLt
    have u1 : (u 1).val < 128 := (u 1).isLt
    refine congrArg X (funext fun a => Fin.ext ?_)
    match a with
    | ⟨0, _⟩ => simp [Rect.withinL, Rect.unit, LoadRect.idx]; omega
    | ⟨1, _⟩ => simp [Rect.withinL, Rect.unit, LoadRect.idx]; omega

end Cert.Proof.Experts

end
-- ==== Proof.ExpBr.lean ====
/- The number of rows a block holds, at a block in use.
-/
module

public import proofs.«01_k».proof.Proof.ExpCounts
public import proofs.«01_k».proof.Proof.ExpCounts
public import Idealize.ShloMosaic.Lib.PlanTiles.Rows

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UE ℕ

open Idealize.ShloMosaic.Routing Idealize.ShloMosaic.ValueIdx Idealize.ShloMosaic.WordCmp

theorem maxsi_zero {a : ℕ} (ha : a < 2 ^ 31) : IntOp.maxsi (BitVec.ofNat 32 0) (BitVec.ofNat 32 a) = BitVec.ofNat 32 a := by
  unfold IntOp.maxsi
  rw [slt_ofNat32 ha (by decide)]
  rw [if_neg (by simp)]

section
variable {k : IVec S32 32} {n : ℕ → ℕ} (H : Fits n) (hk : ∀ i : Fin 32, k (ix1 i) = BitVec.ofNat 32 (n i.val))
include H hk

theorem tRe_at (b : Fin 160) (e : ℕ) (he : e < 32) (hb : beN n b.val = e) : tRe k (ix1 b) = BitVec.ofNat 32 ((enN n e - nbN n e) * 512 + n e) := by
  subst hb
  unfold tRe
  rw [pick_at H hk]
  have e : addi (muli (subi (tEnd k) (tNb k)) (b32 512#32)) k (ix1 ⟨beN n b.val, he⟩) = (tEnd k (ix1 ⟨beN n b.val, he⟩) - tNb k (ix1 ⟨beN n b.val, he⟩)) * BitVec.ofNat 32 512 + k (ix1 ⟨beN n b.val, he⟩) := rfl
  have := nb_le_en n (beN n b.val)
  refine e.trans ?_
  rw [tEnd_at H hk, tNb_at H hk, hk, ofNat_sub _ _ this, ← BitVec.ofNat_mul, ← BitVec.ofNat_add]

theorem tBr_at (b : Fin 160) (hb : b.val < enN n 31) (e : ℕ) (he : exN n b.val = e) :
    512 * b.val < (enN n e - nbN n e) * 512 + n e ∧ tBr k (ix1 b) = BitVec.ofNat 32 (min ((enN n e - nbN n e) * 512 + n e - 512 * b.val) 512) := by
  have hlt := ex_lt n hb
  have h1 := lt_en_ex n hb
  rw [he] at h1 hlt
  have h2 := nb_le_en n e
  have h3 := H.en_le hlt
  have h4 := H.le e hlt
  have h5 : 512 * b.val < (enN n e - nbN n e) * 512 + n e := by
    have : nbN n e * 512 ≤ n e + 511 := by unfold nbN; omega
    have : (enN n e - nbN n e) * 512 + nbN n e * 512 = enN n e * 512 := by rw [← Nat.add_mul]; congr 1; omega
    omega
  refine ⟨h5, ?_⟩
  have e1 : tBr k (ix1 b) = IntOp.minsi (BitVec.ofNat 32 512) (IntOp.maxsi (BitVec.ofNat 32 0) (tRe k (ix1 b) - BitVec.ofNat 32 b.val * BitVec.ofNat 32 512)) := rfl
  rw [e1, tRe_at H hk b e hlt ((be_eq n hb).trans he), ← BitVec.ofNat_mul, ofNat_sub _ _ (by omega), maxsi_zero (by omega), PlanTiles.minsi_word (by decide) (by omega), Nat.mul_comm b.val 512]
end

end Cert.Proof.Experts

end
-- ==== Proof.ExpVal.lean ====
/- What the body leaves in a block in use, at a row of the block's expert, as the two matrix products of that row.
-/
module

public import proofs.«01_k».proof.Proof.ExpOut
public import proofs.«01_k».proof.Proof.ExpOut
public import proofs.«01_k».proof.Proof.ExpKer
public import proofs.«01_k».proof.Proof.ExpBr

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UE ℕ

open Idealize.ShloMosaic.Pipeline (RDat Cfg Window)
open Idealize.ShloMosaic.ValueIdx

theorem row3' {A B : ℕ} (a : Fin A) (b : Fin B) : ((⟨3, ![1, A, B]⟩ : Shape).rowMajor (ix3 0 a b)).val = ((⟨2, ![A, B]⟩ : Shape).rowMajor (ix2 a b)).val := by
  rw [Shape.rowMajor_val_three, Shape.rowMajor_val_two]; simp; rfl

section
variable (c : Dev nD)

theorem wG_at (f : Buf (Elt Ideal) ((c : Thread nD τ).loc main_arg2)) (w : BitVec 32) (h : w.toNat < 32) (d : Fin 1024) (j : Fin 2048) :
    wG (F := Ideal) c f w h (ix2 d j) = (f : S32x1024x2048.Idx → EReal) (ix3 ⟨w.toNat, h⟩ d j) := by
  unfold wG k0_pay9
  refine (shapeCast_apply _ _ _ (ix2 d j) rfl).trans ?_
  change shapeCast S1024x2048 (View.read (Elt Ideal) (gE' w h).view f) shapeCasts_S1x1024x2048_S1024x2048 (ix2 d j) = _
  refine (shapeCast_apply _ _ _ (ix3 0 d j) (row3' d j)).trans ?_
  refine congrArg f (@funext (Fin 3) _ _ _ fun a => Fin.ext ?_)
  match a with
  | 0 => exact (show w.toNat + 1 * 0 = w.toNat by omega)
  | 1 => exact (show 0 + 1 * d.val = d.val by omega)
  | 2 => exact (show 0 + 1 * j.val = j.val by omega)

theorem wD_at (f : Buf (Elt Ideal) ((c : Thread nD τ).loc main_arg4)) (w : BitVec 32) (h : w.toNat < 32) (d : Fin 1024) (j : Fin 1024) :
    wD (F := Ideal) c f w h (ix2 d j) = (f : S32x1024x1024.Idx → EReal) (ix3 ⟨w.toNat, h⟩ d j) := by
  unfold wD k0_pay10
  refine (shapeCast_apply _ _ _ (ix2 d j) rfl).trans ?_
  change shapeCast S1024x1024 (View.read (Elt Ideal) (dE' w h).view f) shapeCasts_S1x1024x1024_S1024x1024 (ix2 d j) = _
  refine (shapeCast_apply _ _ _ (ix3 0 d j) (row3' d j)).trans ?_
  refine congrArg f (@funext (Fin 3) _ _ _ fun a => Fin.ext ?_)
  match a with
  | 0 => exact (show w.toNat + 1 * 0 = w.toNat by omega)
  | 1 => exact (show 0 + 1 * d.val = d.val by omega)
  | 2 => exact (show 0 + 1 * j.val = j.val by omega)
end

theorem atBig_ix (a : Fin 4096) (q : Fin 128) : atBig (ix2 a q) = ix2 (⟨a.val / 8, by omega⟩ : Fin 512) (⟨a.val % 8 * 128 + q.val, by omega⟩ : Fin 1024) :=
  @funext (Fin 2) _ _ _ fun z => match z with | 0 => rfl | 1 => rfl
theorem atSmall_ix (a : Fin 4096) (q : Fin 128) (h : a.val < 2048) : atSmall (ix2 a q) h = ix2 (⟨a.val / 8, by omega⟩ : Fin 256) (⟨a.val % 8 * 128 + q.val, by omega⟩ : Fin 1024) :=
  @funext (Fin 2) _ _ _ fun z => match z with | 0 => rfl | 1 => rfl

/-- An element of the experts' result: row `p` of the array is a part of the product of row `p / 8` of the tokens with the weights of expert `e`. -/
def ffnRow (xb : S655360x128.Idx → EReal) (wg : S32x1024x2048.Idx → EReal) (bg : S32x2048.Idx → EReal) (wd : S32x1024x1024.Idx → EReal) (bd : S32x1024.Idx → EReal)
    (e : Fin 32) (p : Fin 655360) (q : Fin 128) : EReal :=
  ffnA (fun d => xb (ix2 ⟨8 * (p.val / 8) + d.val / 128, by omega⟩ ⟨d.val % 128, Nat.mod_lt _ (by decide)⟩)) (fun d j => wg (ix3 e d j)) (fun j => bg (ix2 e j))
    (fun d f => wd (ix3 e d f)) (fun f => bd (ix2 e f)) ⟨p.val % 8 * 128 + q.val, by omega⟩

variable (m : (ℓ : Loc nD τ sig) → Buf (Elt Ideal) ℓ) (c : Dev nD)

theorem gate_at (e : Fin 32) (j : Fin 2048) : VE m c main_v65 (ix3 e 0 j) = m ((c.tc : Thread nD τ).loc main_arg3) (ix2 e j) :=
  (congrFun (bias_gate m c) (ix3 e 0 j)).trans (broadcastInDim_apply _ _ _ _ (ix2 e j) fun a => match a with | 0 => rfl | 1 => rfl)
theorem down_at (e : Fin 32) (j : Fin 1024) : VE m c main_v66 (ix3 e 0 j) = m ((c.tc : Thread nD τ).loc main_arg5) (ix2 e j) :=
  (congrFun (bias_down m c) (ix3 e 0 j)).trans (broadcastInDim_apply _ _ _ _ (ix2 e j) fun a => match a with | 0 => rfl | 1 => rfl)

variable {n : ℕ → ℕ} (H : Fits n) (hk : ∀ i : Fin 32, cnt m (ix1 i) = BitVec.ofNat 32 (n i.val))
include H hk

/-- The block's expert. -/
theorem be_toNat (t : Fin grid0.N) (ht : t.val < enN n 31) : (tBe (cnt m) (ix t.val)).toNat = exN n t.val := by
  have := ex_lt n ht
  rw [be_ix H hk t.val (lt160 t), be_eq n ht, BitVec.toNat_ofNat]
  omega

/-- The product of a block's rows and its expert's weights, row by row. -/
theorem prod_at (t : Fin grid0.N) (ht : t.val < enN n 31) (a : Fin 4096) (q : Fin 128) :
    ffnA (fun d => blk (F := Ideal) (good H hk) (tBr (cnt m)) (VE m) c 0 t (ix2 ⟨(8 * (a.val / 8) + d.val / 128) % 4096, Nat.mod_lt _ (by decide)⟩ ⟨d.val % 128, Nat.mod_lt _ (by decide)⟩))
        (fun d j => wG (F := Ideal) c (VE m c main_arg2) (tBe (cnt m) (ix t.val)) ((good H hk).hbe _) (ix2 d j)) (fun j => blk (F := Ideal) (good H hk) (tBr (cnt m)) (VE m) c 1 t (ix3 0 0 j))
        (fun d f => wD (F := Ideal) c (VE m c main_arg4) (tBe (cnt m) (ix t.val)) ((good H hk).hbe _) (ix2 d f)) (fun f => blk (F := Ideal) (good H hk) (tBr (cnt m)) (VE m) c 2 t (ix3 0 0 f)) ⟨a.val % 8 * 128 + q.val, by omega⟩
      = ffnRow (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        ⟨exN n t.val, ex_lt n ht⟩ ⟨4096 * t.val + a.val, row_lt t a⟩ q := by
  obtain ⟨-, e1, e2, -, e4, -⟩ := args_at m c
  have hb := be_toNat m H hk t ht
  have hv : (⟨(tBe (cnt m) (ix t.val)).toNat, (good H hk).hbe (ix t.val)⟩ : Fin 32) = ⟨exN n t.val, ex_lt n ht⟩ := (Fin.mk.injEq _ _ _ _).mpr hb
  unfold ffnRow
  have p1 : (fun d : Fin 1024 => blk (F := Ideal) (good H hk) (tBr (cnt m)) (VE m) c 0 t (ix2 ⟨(8 * (a.val / 8) + d.val / 128) % 4096, Nat.mod_lt _ (by decide)⟩ ⟨d.val % 128, Nat.mod_lt _ (by decide)⟩))
      = fun d => m ((c.tc : Thread nD τ).loc main_arg1) (ix2 ⟨8 * ((4096 * t.val + a.val) / 8) + d.val / 128, by have := row_lt t a; omega⟩ ⟨d.val % 128, Nat.mod_lt _ (by decide)⟩) := funext fun d => by
    rw [blk_rows (good H hk) (tBr (cnt m)) (VE m) c t ht, e1]
    refine congrArg (m ((c.tc : Thread nD τ).loc main_arg1)) (congrArg (fun z => ix2 z _) (Fin.ext ?_))
    show 4096 * t.val + (8 * (a.val / 8) + d.val / 128) % 4096 = 8 * ((4096 * t.val + a.val) / 8) + d.val / 128
    omega
  have p2 : (fun (d : Fin 1024) (j : Fin 2048) => wG (F := Ideal) c (VE m c main_arg2) (tBe (cnt m) (ix t.val)) ((good H hk).hbe _) (ix2 d j))
      = fun d j => m ((c.tc : Thread nD τ).loc main_arg2) (ix3 ⟨exN n t.val, ex_lt n ht⟩ d j) := funext fun d => funext fun j => by
    rw [wG_at, e2, hv]
  have p3 : (fun j : Fin 2048 => blk (F := Ideal) (good H hk) (tBr (cnt m)) (VE m) c 1 t (ix3 0 0 j)) = fun j => m ((c.tc : Thread nD τ).loc main_arg3) (ix2 ⟨exN n t.val, ex_lt n ht⟩ j) := funext fun j =>
    (blk_up (good H hk) (tBr (cnt m)) (VE m) c t _ (ex_lt n ht) hb j).trans (gate_at m c _ j)
  have p4 : (fun (d : Fin 1024) (f : Fin 1024) => wD (F := Ideal) c (VE m c main_arg4) (tBe (cnt m) (ix t.val)) ((good H hk).hbe _) (ix2 d f))
      = fun d f => m ((c.tc : Thread nD τ).loc main_arg4) (ix3 ⟨exN n t.val, ex_lt n ht⟩ d f) := funext fun d => funext fun j => by
    rw [wD_at, e4, hv]
  have p5 : (fun j : Fin 1024 => blk (F := Ideal) (good H hk) (tBr (cnt m)) (VE m) c 2 t (ix3 0 0 j)) = fun j => m ((c.tc : Thread nD τ).loc main_arg5) (ix2 ⟨exN n t.val, ex_lt n ht⟩ j) := funext fun j =>
    (blk_down (good H hk) (tBr (cnt m)) (VE m) c t _ (ex_lt n ht) hb j).trans (down_at m c _ j)
  rw [p1, p2, p3, p4, p5]
  refine congrArg _ (Fin.ext ?_)
  show a.val % 8 * 128 + q.val = (4096 * t.val + a.val) % 8 * 128 + q.val
  omega

/-- What the body leaves at a row that its block's expert has. -/
theorem left_val (t : Fin grid0.N) (ht : t.val < enN n 31) (X : S4096x128.Idx → EReal) (hX : Left (F := Ideal) (good H hk) (tBr (cnt m)) (VE m) c t X)
    (a : Fin 4096) (q : Fin 128) (ha : a.val / 8 < min 512 ((enN n (exN n t.val) - nbN n (exN n t.val)) * 512 + n (exN n t.val) - 512 * t.val)) :
    X (ix2 a q) = ffnRow (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        ⟨exN n t.val, ex_lt n ht⟩ ⟨4096 * t.val + a.val, row_lt t a⟩ q := by
  obtain ⟨Y, h5, h4, -⟩ := hX
  have hr := (tBr_at H hk ⟨t.val, lt160 t⟩ ht _ rfl).2
  have hr' : tBr (cnt m) (ix t.val) = BitVec.ofNat 32 (min ((enN n (exN n t.val) - nbN n (exN n t.val)) * 512 + n (exN n t.val) - 512 * t.val) 512) := (congrArg (tBr (cnt m)) (ix_eq t.val (lt160 t))).trans hr
  have hi : (tBr (cnt m) (ix t.val)).toInt = (min ((enN n (exN n t.val) - nbN n (exN n t.val)) * 512 + n (exN n t.val) - 512 * t.val) 512 : ℕ) := by
    rw [hr', BitVec.toInt_eq_toNat_of_lt (by rw [BitVec.toNat_ofNat]; omega), BitVec.toNat_ofNat]
    omega
  refine Eq.trans ?_ (prod_at m c H hk t ht a q)
  by_cases hle : (tBr (cnt m) (ix t.val)).toInt ≤ 256
  · have hc := (cond5_iff t (enN n 31) (good H hk).le (tBr (cnt m) (ix t.val))).2 ⟨ht, hle⟩
    have hlt : a.val < 2048 := by omega
    refine (h5 hc (ix2 a q) hlt).trans ?_
    rw [atSmall_ix]
    exact smallV_at _ _ _ _ _ _ _
  · have hc := (cond4_iff t (enN n 31) (good H hk).le (tBr (cnt m) (ix t.val))).2 ⟨ht, hle⟩
    have hn : ¬ k0_cond5 (grid0.coords t) (BitVec.ofNat 32 (enN n 31)) (tBr (cnt m) (ix t.val)) = 1#1 := fun h => hle ((cond5_iff t (enN n 31) (good H hk).le (tBr (cnt m) (ix t.val))).1 h).2
    refine (h4 hn hc (ix2 a q)).trans ?_
    rw [atBig_ix]
    exact bigV_at _ _ _ _ _ _ _

end Cert.Proof.Experts

end
-- ==== Proof.ExpFold1.lean ====
/- A disjunction along the rows of a two-dimensional array of bits: if it holds, one of the row's bits does.
-/
module

public import proofs.«01_k».proof.Proof.ExpNat
import Idealize.ShloMosaic.Lib.Pointwise.Reduce
public import Idealize.ShloMosaic.Lib.ValueIdxCore

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UE ℕ

theorem fold_or {β : Type} (s : Finset β) (f : β → BitVec 1) (h : s.fold IntOp.ori 0#1 f = 1#1) : ∃ q ∈ s, f q = 1#1 := by
  classical
  revert h
  refine Finset.induction_on s (fun h => absurd h (by simp)) fun a s ha ih h => ?_
  rw [Finset.fold_insert ha] at h
  have hor : ∀ x y : BitVec 1, IntOp.ori x y = 1#1 → x = 1#1 ∨ y = 1#1 := by decide
  rcases hor _ _ h with h | h
  · exact ⟨a, Finset.mem_insert_self _ _, h⟩
  · obtain ⟨q, hq, e⟩ := ih h; exact ⟨q, Finset.mem_insert_of_mem hq, e⟩

theorem row_or {n0 n1 : ℕ} {u : Shape} (h : (⟨2, ![n0, n1]⟩ : Shape).ReducesTo [1] ⟨1, ![n0]⟩) (j : Fin n0)
    (v : IVec ⟨2, ![n0, n1]⟩ 1) (hu : 0 < u.numel) (e : Host.reduce IntOp.ori v (constantI u 1 0#1) h hu (ValueIdx.ix1 j) = 1#1) :
    ∃ q : Fin n1, v (ValueIdx.ix2 j q) = 1#1 := by
  rw [Host.reduce_eq_fold] at e
  have e2 := (Shape.ReducesTo.fold_fiber_r2_a1 h _ IntOp.ori _ v).symm.trans e
  obtain ⟨q, -, hq⟩ := fold_or _ _ e2
  refine ⟨q, (congrArg v (funext fun d => ?_)).trans hq⟩
  match d with
  | ⟨0, _⟩ => rfl
  | ⟨1, _⟩ => rfl

end Cert.Proof.Experts

end
-- ==== Proof.ExpMask.lean ====
/- The rows that some expert's count covers, and the block such a row lies in.
-/
module

public import proofs.«01_k».proof.Proof.ExpFold1
public import proofs.«01_k».proof.Proof.Gen.On_expert_rows
public import proofs.«01_k».proof.Proof.ExpFrame

@[expose] public section

noncomputable section

namespace Cert.Proof.ExpertsMask

open Cert.On_expert_rows Cert.On_expert_rows.Facts

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Routing Idealize.ShloMosaic.ValueIdx Idealize.ShloMosaic.WordCmp
open Cert.Proof.Experts

def mNb (k : IVec S32 32) : IVec S32 32 := muli (pyDiv bcast_S_S32 (addi k (broadcastInDim S32 ![] bcast_S_S32 (constantI S_ 32 511#32))) (constantI S_ 32 512#32)) (broadcastInDim S32 ![] bcast_S_S32 (constantI S_ 32 512#32))
def mEnd (k : IVec S32 32) : IVec S32 32 :=
  Host.reduceWindow IntOp.addi ![32] ![1] ![31] ![0] (mNb k) (broadcastInDim S_ ![] bcast_S_S_ (constantI S_ 32 0#32)) reduceWindows_S32_S32_w32s1p31_0 h_S_
def mSt (k : IVec S32 32) : IVec S32 32 := subi (mEnd k) (mNb k)
def mRow : IVec S655360x32 32 := pyDiv bcast_S_S655360x32 (iotaInDim S655360x32 32 0) (constantI S_ 32 8#32)
def mCols (x : IVec S32 32) : IVec S655360x32 32 := broadcastInDim S655360x32 ![0, 1] bcast_S1x32_S655360x32_0_1 (broadcastInDim S1x32 ![1] bcast_S32_S1x32_1 x)
def mTaken (k : IVec S32 32) : IVec S655360 1 :=
  Host.reduce IntOp.ori (andi (cmpi .sle (mCols (mSt k)) mRow) (cmpi .slt mRow (mCols (addi (mSt k) k)))) (constantI S_ 1 0#1) reducesTo_S655360x32_S655360_d1 h_S_

section
variable {k : IVec S32 32} {n : ℕ → ℕ} (H : Fits n) (hk : ∀ i : Fin 32, k (ix1 i) = BitVec.ofNat 32 (n i.val))
include H hk

theorem mNb_at (i : Fin 32) : mNb k (ix1 i) = BitVec.ofNat 32 (nbN n i.val * 512) := by
  have := H.le i.val i.isLt
  have e : addi k (broadcastInDim S32 ![] bcast_S_S32 (constantI S_ 32 511#32)) (ix1 i) = BitVec.ofNat 32 (n i.val + 511) := by
    have e' : addi k (broadcastInDim S32 ![] bcast_S_S32 (constantI S_ 32 511#32)) (ix1 i) = k (ix1 i) + BitVec.ofNat 32 511 := rfl
    rw [e', hk, BitVec.ofNat_add]
  have e2 := pyDiv_ap bcast_S_S32 _ (constantI S_ 32 512#32) _ e rfl (by omega) (by decide) (by decide)
  have e3 : mNb k (ix1 i) = pyDiv bcast_S_S32 (addi k (broadcastInDim S32 ![] bcast_S_S32 (constantI S_ 32 511#32))) (constantI S_ 32 512#32) (ix1 i) * BitVec.ofNat 32 512 := rfl
  rw [e3, e2, ← BitVec.ofNat_mul]; rfl

omit H hk in
theorem sum_mul (f : ℕ → ℕ) (a : ℕ) : ∀ l : List ℕ, (l.map fun j => f j * a).sum = (l.map f).sum * a := fun l => by
  induction l with
  | nil => simp
  | cons b l ih => simp only [List.map_cons, List.sum_cons, ih, Nat.add_mul]

theorem mEnd_at (i : Fin 32) : mEnd k (ix1 i) = BitVec.ofNat 32 (enN n i.val * 512) := by
  unfold mEnd
  exact (cumsum1 (N := 32) (Nm1 := 31) rfl (mNb k) (fun j => nbN n j * 512) (mNb_at H hk) _ rfl _ _ i).trans (congrArg (BitVec.ofNat 32) (sum_mul _ _ _))

theorem mSt_at (i : Fin 32) : mSt k (ix1 i) = BitVec.ofNat 32 ((enN n i.val - nbN n i.val) * 512) := by
  have e : mSt k (ix1 i) = mEnd k (ix1 i) - mNb k (ix1 i) := rfl
  have := nb_le_en n i.val
  rw [e, mEnd_at H hk, mNb_at H hk, ofNat_sub _ _ (by omega), Nat.sub_mul]

omit H hk in
theorem mRow_at (p : Fin 655360) (q : Fin 32) : mRow (ix2 p q) = BitVec.ofNat 32 (p.val / 8) :=
  pyDiv_ap _ _ _ _ (a := p.val) (b := 8) rfl rfl (by omega) (by decide) (by decide)

/-- A row that a count covers lies among the rows of some expert. -/
theorem taken {xb : FVec F S655360x128 .f32} {wg : FVec F S32x1024x2048 .f32} {bg : FVec F S32x2048 .f32} {wd : FVec F S32x1024x1024 .f32} {bd : FVec F S32x1024 .f32}
    (p : Fin 655360) (q : Fin 128) (h : fn (F := F) k xb wg bg wd bd (ix2 p q) = 1#1) :
    ∃ e < 32, (enN n e - nbN n e) * 512 ≤ p.val / 8 ∧ p.val / 8 < (enN n e - nbN n e) * 512 + n e := by
  have e : fn (F := F) k xb wg bg wd bd = broadcastInDim S655360x128 ![0, 1] bcast_S655360x1_S655360x128_0_1 (broadcastInDim S655360x1 ![0] bcast_S655360_S655360x1_0 (mTaken k)) := rfl
  rw [e] at h
  have h2 : mTaken k (ix1 p) = 1#1 := (bcRows bcast_S655360_S655360x1_0 bcast_S655360x1_S655360x128_0_1 (mTaken k) p q).symm.trans h
  obtain ⟨j, hj⟩ := row_or _ p _ _ h2
  have hand : ∀ x y : BitVec 1, IntOp.andi x y = 1#1 → x = 1#1 ∧ y = 1#1 := by decide
  obtain ⟨h3, h4⟩ := hand _ _ hj
  have c1 : mCols (mSt k) (ix2 p j) = mSt k (ix1 j) := bcCols _ _ _ p j
  have c2 : mCols (addi (mSt k) k) (ix2 p j) = mSt k (ix1 j) + k (ix1 j) := bcCols _ _ _ p j
  have h5 : IntOp.cmpi .sle (mCols (mSt k) (ix2 p j)) (mRow (ix2 p j)) = 1#1 := h3
  have h6 : IntOp.cmpi .slt (mRow (ix2 p j)) (mCols (addi (mSt k) k) (ix2 p j)) = 1#1 := h4
  have l1 := H.en_le j.isLt
  have l2 := H.le j.val j.isLt
  have hp := p.isLt
  rw [c1, mSt_at H hk, mRow_at, cmpi_sle_ofNat_eq_one_iff (by omega) (by omega)] at h5
  rw [c2, mSt_at H hk, mRow_at, hk, ← BitVec.ofNat_add, cmpi_slt_ofNat (by omega) (by omega)] at h6
  refine ⟨j.val, j.isLt, h5, ?_⟩
  by_contra hc
  rw [decide_eq_false hc] at h6
  exact absurd h6 (by decide)
end

/-- Such a row's block: it is one of the blocks used, the expert is the block's, and the row is among the block's. -/
theorem block {n : ℕ → ℕ} (H : Fits n) {e w : ℕ} (he : e < 32) (h0 : (enN n e - nbN n e) * 512 ≤ w) (h1 : w < (enN n e - nbN n e) * 512 + n e) :
    w / 512 < enN n 31 ∧ exN n (w / 512) = e ∧ w % 512 < min 512 ((enN n e - nbN n e) * 512 + n e - 512 * (w / 512)) := by
  have hn : n e ≤ nbN n e * 512 := by unfold nbN; omega
  have hle := nb_le_en n e
  have hm : enN n e ≤ enN n 31 := en_mono n (by omega)
  have hlt : w / 512 < enN n e := by
    have : w < enN n e * 512 := by
      have : (enN n e - nbN n e) * 512 + nbN n e * 512 = enN n e * 512 := by rw [← Nat.add_mul]; congr 1; omega
      omega
    omega
  have hb : w / 512 < enN n 31 := by omega
  refine ⟨hb, ?_, by omega⟩
  have i1 := (ex_iff n (w / 512) e he).not.mp (by omega)
  by_contra hne
  have hlt2 : exN n (w / 512) < e := by omega
  have hx := lt_en_ex n hb
  obtain ⟨f, rfl⟩ : ∃ f, e = f + 1 := ⟨e - 1, by omega⟩
  have hs := en_succ n f
  have hmm : enN n (exN n (w / 512)) ≤ enN n f := en_mono n (by omega)
  omega

end Cert.Proof.ExpertsMask

end
-- ==== Proof.ExpRef.lean ====
/- The experts' reference read at an element: its row through the expert that its position belongs to.
-/
module

public import proofs.«01_k».proof.Proof.ExpKer
public import proofs.«01_k».proof.Proof.Gen.Reference2Ideal
public import proofs.«01_k».proof.Proof.Gen.Reference2Ideal.Run
public import Idealize.ShloMosaic.Lib.StackMember

@[expose] public section

noncomputable section

namespace Cert.Proof.ExpertsRef

open Cert.Reference2Ideal Cert.Reference2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Routing Idealize.ShloMosaic.ValueIdx Idealize.ShloMosaic.WordCmp
open scoped BigOperators
open Cert.Proof.Experts (nbN enN exN beN Fits lin lin_congr gateA upA actA ffnA ex_le)

/-! ## The reference's terms -/

section
variable (k : IVec S32 32)
def rNb : IVec S32 32 := pyDiv bcast_S_S32 (addi k (broadcastInDim S32 ![] bcast_S_S32 (constantI S_ 32 511#32))) (id (constantI S_ 32 512#32))
def rEnd : IVec S32 32 :=
  Host.reduceWindow IntOp.addi ![32] ![1] ![31] ![0] (muli (rNb k) (broadcastInDim S32 ![] bcast_S_S32 (constantI S_ 32 512#32))) (broadcastInDim S_ ![] bcast_S_S_ (constantI S_ 32 0#32)) reduceWindows_S32_S32_w32s1p31_0 h_S_
def rCnt : IVec S81920 32 :=
  Host.reduce IntOp.addi (extui 32 (cmpi .sle (broadcastInDim S81920x32 ![0, 1] bcast_S1x32_S81920x32_0_1 (broadcastInDim S1x32 ![1] bcast_S32_S1x32_1 (rEnd k)))
    (broadcastInDim S81920x32 ![0, 1] bcast_S81920x1_S81920x32_0_1 (broadcastInDim S81920x1 ![0] bcast_S81920_S81920x1_0 (iotaInDim S81920 32 0)))) natLt_1_32) (constantI S_ 32 0#32) reducesTo_S81920x32_S81920_d1 h_S_
def rE : IVec S81920 32 := minsi (rCnt k) (broadcastInDim S81920 ![] bcast_S_S81920 (constantI S_ 32 31#32))
def rIx : IVec S81920x1 32 :=
  broadcastInDim S81920x1 ![0] bcast_S81920_S81920x1_0 (select (cmpi .slt (rE k) (broadcastInDim S81920 ![] bcast_S_S81920 (constantI S_ 32 0#32)))
    (addi (rE k) (broadcastInDim S81920 ![] bcast_S_S81920 (constantI S_ 32 32#32))) (rE k))
end

def hidR (k : IVec S32 32) (xb : FVec F S655360x128 .f32) (wg : FVec F S32x1024x2048 .f32) (bg : FVec F S32x2048 .f32) : FVec F S81920x2048 .f32 :=
  addf (Host.dotGeneral dot_S81920x1024_S81920x1024x2048_S81920x2048_1_1_n_2_0_0 none (shapeCast _ xb shapeCasts_S655360x128_S81920x1024) (Host.gather gather_S32x1024x2048_S81920x1_S81920x1024x2048_12_0_n_n_0_1_110242048 wg (rIx k))) (Host.gather gather_S32x2048_S81920x1_S81920x2048_1_0_n_n_0_1_12048 bg (rIx k))
def gateR (h : FVec F S81920x2048 .f32) : FVec F S81920x1024 .f32 :=
  minimumf (extractStridedSlice S81920x1024 ![0, 0] h slices_S81920x2048_S81920x1024_0_0) (broadcastInDim S81920x1024 ![] bcast_S_S81920x1024 (constant S_ .f32 0x40E00000#32))
def actR (h : FVec F S81920x2048 .f32) : FVec F S81920x1024 .f32 :=
  mulf (addf (minimumf (broadcastInDim S81920x1024 ![] bcast_S_S81920x1024 (id (constant S_ .f32 0x40E00000#32))) (maximumf (broadcastInDim S81920x1024 ![] bcast_S_S81920x1024 (id (constant S_ .f32 0xC0E00000#32))) (extractStridedSlice S81920x1024 ![0, 1024] h slices_S81920x2048_S81920x1024_0_1024))) (broadcastInDim S81920x1024 ![] bcast_S_S81920x1024 (constant S_ .f32 0x3F800000#32))) (mulf (gateR h) (Host.divf (broadcastInDim S81920x1024 ![] bcast_S_S81920x1024 (constant S_ .f32 0x3F800000#32)) (addf (broadcastInDim S81920x1024 ![] bcast_S_S81920x1024 (constant S_ .f32 0x3F800000#32)) (Host.exp (Host.negf (mulf (broadcastInDim S81920x1024 ![] bcast_S_S81920x1024 (constant S_ .f32 0x3FD9DB23#32)) (gateR h)))))))
def outR (k : IVec S32 32) (xb : FVec F S655360x128 .f32) (wg : FVec F S32x1024x2048 .f32) (bg : FVec F S32x2048 .f32) (wd : FVec F S32x1024x1024 .f32) (bd : FVec F S32x1024 .f32) : FVec F S81920x1024 .f32 :=
  addf (Host.dotGeneral dot_S81920x1024_S81920x1024x1024_S81920x1024_1_1_n_2_0_0 none (actR (hidR k xb wg bg)) (Host.gather gather_S32x1024x1024_S81920x1_S81920x1024x1024_12_0_n_n_0_1_110241024 wd (rIx k))) (Host.gather gather_S32x1024_S81920x1_S81920x1024_1_0_n_n_0_1_11024 bd (rIx k))

set_option maxRecDepth 8192 in
set_option maxHeartbeats 4000000 in
theorem res_eq (m : (ℓ : Loc nD τ sig) → Buf (Elt F) ℓ) (c : Dev nD) :
    Value.res_main_v67 m c = shapeCast S655360x128 (outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) shapeCasts_S81920x1024_S655360x128 := by
  unfold Value.res_main_v67 outR actR gateR hidR rIx rE rCnt rEnd rNb pyDiv
  rfl

/-! ## The position's expert -/

section
variable {k : IVec S32 32} {n : ℕ → ℕ} (H : Fits n) (hk : ∀ i : Fin 32, k (ix1 i) = BitVec.ofNat 32 (n i.val))
include H hk

theorem rNb_at (i : Fin 32) : rNb k (ix1 i) = BitVec.ofNat 32 (nbN n i.val) := by
  have := H.le i.val i.isLt
  have e : addi k (broadcastInDim S32 ![] bcast_S_S32 (constantI S_ 32 511#32)) (ix1 i) = BitVec.ofNat 32 (n i.val + 511) := by
    have e' : addi k (broadcastInDim S32 ![] bcast_S_S32 (constantI S_ 32 511#32)) (ix1 i) = k (ix1 i) + BitVec.ofNat 32 511 := rfl
    rw [e', hk, BitVec.ofNat_add]
  exact pyDiv_ap _ _ _ _ e rfl (by omega) (by decide) (by decide)

omit H hk in
theorem sum_mul (f : ℕ → ℕ) (a : ℕ) : ∀ l : List ℕ, (l.map fun j => f j * a).sum = (l.map f).sum * a := fun l => by
  induction l with
  | nil => simp
  | cons b l ih => simp only [List.map_cons, List.sum_cons, ih, Nat.add_mul]

omit H hk in
theorem cumR_at (x : IVec S32 32) (f : ℕ → ℕ) (hx : ∀ i : Fin 32, x (ix1 i) = BitVec.ofNat 32 (f i.val)) (i : Fin 32) :
    Host.reduceWindow IntOp.addi ![32] ![1] ![31] ![0] x (broadcastInDim S_ ![] bcast_S_S_ (constantI S_ 32 0#32)) reduceWindows_S32_S32_w32s1p31_0 h_S_ (ix1 i)
      = BitVec.ofNat 32 ((List.range (i.val + 1)).map f).sum :=
  cumsum1 (N := 32) (Nm1 := 31) rfl x f hx _ rfl _ _ i

theorem rEnd_at (i : Fin 32) : rEnd k (ix1 i) = BitVec.ofNat 32 (enN n i.val * 512) := by
  unfold rEnd
  refine (cumR_at _ (fun j => nbN n j * 512) (fun i => ?_) i).trans (congrArg (BitVec.ofNat 32) (sum_mul _ _ _))
  have e : muli (rNb k) (broadcastInDim S32 ![] bcast_S_S32 (constantI S_ 32 512#32)) (ix1 i) = rNb k (ix1 i) * BitVec.ofNat 32 512 := rfl
  rw [e, rNb_at H hk, BitVec.ofNat_mul]

theorem rE_at (b : Fin 81920) : rE k (ix1 b) = BitVec.ofNat 32 (beN n (b.val / 512)) := by
  have h : rE k (ix1 b) = IntOp.minsi (rCnt k (ix1 b)) (BitVec.ofNat 32 31) := rfl
  have hs : rCnt k (ix1 b) = BitVec.ofNat 32 (exN n (b.val / 512)) := by
    unfold rCnt
    refine reduce_count (by decide) _ _ _ _ b (fun q => enN n q ≤ b.val / 512) fun q => ?_
    have e : cmpi .sle (broadcastInDim S81920x32 ![0, 1] bcast_S1x32_S81920x32_0_1 (broadcastInDim S1x32 ![1] bcast_S32_S1x32_1 (rEnd k)))
        (broadcastInDim S81920x32 ![0, 1] bcast_S81920x1_S81920x32_0_1 (broadcastInDim S81920x1 ![0] bcast_S81920_S81920x1_0 (iotaInDim S81920 32 0))) (ix2 b q)
        = IntOp.cmpi .sle (rEnd k (ix1 q)) (BitVec.ofNat 32 b.val) :=
      congrArg₂ (IntOp.cmpi .sle) (bcCols _ _ _ b q) (bcRows _ _ _ b q)
    have := H.en_le q.isLt
    rw [e, rEnd_at H hk, cmpi_sle_ofNat_eq_one_iff (by omega) (by omega), Nat.le_div_iff_mul_le (by decide)]
  have := ex_le n (b.val / 512)
  rw [h, hs, PlanTiles.minsi_word (by omega) (by decide), min_comm]; rfl

theorem rIx_at (b : Fin 81920) (j : S81920x1.Idx) (hj : (j 0).val = b.val) : rIx k j = BitVec.ofNat 32 (beN n (b.val / 512)) := by
  have e : rIx k j = select (cmpi .slt (rE k) (broadcastInDim S81920 ![] bcast_S_S81920 (constantI S_ 32 0#32)))
      (addi (rE k) (broadcastInDim S81920 ![] bcast_S_S81920 (constantI S_ 32 32#32))) (rE k) (ix1 b) :=
    broadcastInDim_apply _ _ _ _ (ix1 b) fun a => by
      match a with
      | ⟨0, _⟩ => exact hj.symm
  have e2 : select (cmpi .slt (rE k) (broadcastInDim S81920 ![] bcast_S_S81920 (constantI S_ 32 0#32)))
      (addi (rE k) (broadcastInDim S81920 ![] bcast_S_S81920 (constantI S_ 32 32#32))) (rE k) (ix1 b)
      = if IntOp.cmpi .slt (rE k (ix1 b)) (BitVec.ofNat 32 0) = 1#1 then rE k (ix1 b) + 32#32 else rE k (ix1 b) := rfl
  have hb : beN n (b.val / 512) < 32 := by unfold beN; omega
  rw [e, e2, rE_at H hk, cmpi_slt_ofNat (by omega) (by omega)]
  simp
end

end Cert.Proof.ExpertsRef

end
-- ==== Proof.ExpRef2.lean ====
/- The experts' reference over the ideal values, read at an element.
-/
module

public import proofs.«01_k».proof.Proof.ExpRef
public import proofs.«01_k».proof.Proof.Gen.Reference2Ideal
public import Idealize.ShloMosaic.Lib.StackMember

@[expose] public section

noncomputable section

namespace Cert.Proof.ExpertsRef

open Cert.Reference2Ideal Cert.Reference2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Routing (bc0)
open Idealize.ShloMosaic.ValueIdx
open scoped BigOperators
open Cert.Proof.Experts (nbN enN exN beN Fits lin lin_congr gateA upA actA ffnA ex_le)

/-! ## The looked-up weights and biases -/

section
variable {e : ℕ} (he : e < 32)

abbrev gW := gather_S32x1024x2048_S81920x1_S81920x1024x2048_12_0_n_n_0_1_110242048
abbrev gB := gather_S32x2048_S81920x1_S81920x2048_1_0_n_n_0_1_12048
abbrev gV := gather_S32x1024x1024_S81920x1_S81920x1024x1024_12_0_n_n_0_1_110241024
abbrev gC := gather_S32x1024_S81920x1_S81920x1024_1_0_n_n_0_1_11024

include he in
theorem clamp {w : BitVec 32} (h : w = BitVec.ofNat 32 e) : min w.toInt.toNat (32 - 1) + 0 + 0 = e := by
  rw [h, BitVec.toInt_eq_toNat_cond, BitVec.toNat_ofNat]; rw [if_pos (by omega)]; omega

theorem gW_at (v : FVec F S32x1024x2048 .f32) (ix : S81920x1.Idx → BitVec 32) (b : Fin 81920) (hx : ∀ j, (j 0).val = b.val → ix j = BitVec.ofNat 32 e) (d : Fin 1024) (j : Fin 2048) :
    Host.gather gW v ix (ix3 b d j) = v (ix3 ⟨e, he⟩ d j) := by
  unfold Host.gather
  refine congrArg v (funext fun a => Fin.ext ?_)
  match a with
  | ⟨0, _⟩ =>
    show gW.start (ix3 b d j) ix 0 + gW.batchCoord (ix3 b d j) 0 + gW.offCoord (ix3 b d j) 0 = e
    rw [GatherDims.batchCoord_eq_zero _ _ _ List.not_mem_nil,
      GatherDims.offCoord_eq_zero _ _ _ (fun hm => ((GatherDims.mem_sKept _ _).mp hm).1 (List.mem_singleton.mpr rfl))]
    unfold GatherDims.start
    rw [dif_pos (show (0 : Fin 3) ∈ gW.startIndexMap from List.mem_singleton.mpr rfl)]
    exact clamp he (hx _ rfl)
  | ⟨1, _⟩ =>
    show gW.start (ix3 b d j) ix 1 + gW.batchCoord (ix3 b d j) 1 + gW.offCoord (ix3 b d j) 1 = d.val
    rw [GatherDims.batchCoord_eq_zero _ _ _ List.not_mem_nil]
    unfold GatherDims.start GatherDims.offCoord
    rw [dif_neg (show ¬ (1 : Fin 3) ∈ gW.startIndexMap by decide), dif_pos (show (1 : Fin 3) ∈ gW.sKept by decide)]
    exact Nat.zero_add _
  | ⟨2, _⟩ =>
    show gW.start (ix3 b d j) ix 2 + gW.batchCoord (ix3 b d j) 2 + gW.offCoord (ix3 b d j) 2 = j.val
    rw [GatherDims.batchCoord_eq_zero _ _ _ List.not_mem_nil]
    unfold GatherDims.start GatherDims.offCoord
    rw [dif_neg (show ¬ (2 : Fin 3) ∈ gW.startIndexMap by decide), dif_pos (show (2 : Fin 3) ∈ gW.sKept by decide)]
    exact Nat.zero_add _

theorem gV_at (v : FVec F S32x1024x1024 .f32) (ix : S81920x1.Idx → BitVec 32) (b : Fin 81920) (hx : ∀ j, (j 0).val = b.val → ix j = BitVec.ofNat 32 e) (d : Fin 1024) (j : Fin 1024) :
    Host.gather gV v ix (ix3 b d j) = v (ix3 ⟨e, he⟩ d j) := by
  unfold Host.gather
  refine congrArg v (funext fun a => Fin.ext ?_)
  match a with
  | ⟨0, _⟩ =>
    show gV.start (ix3 b d j) ix 0 + gV.batchCoord (ix3 b d j) 0 + gV.offCoord (ix3 b d j) 0 = e
    rw [GatherDims.batchCoord_eq_zero _ _ _ List.not_mem_nil,
      GatherDims.offCoord_eq_zero _ _ _ (fun hm => ((GatherDims.mem_sKept _ _).mp hm).1 (List.mem_singleton.mpr rfl))]
    unfold GatherDims.start
    rw [dif_pos (show (0 : Fin 3) ∈ gV.startIndexMap from List.mem_singleton.mpr rfl)]
    exact clamp he (hx _ rfl)
  | ⟨1, _⟩ =>
    show gV.start (ix3 b d j) ix 1 + gV.batchCoord (ix3 b d j) 1 + gV.offCoord (ix3 b d j) 1 = d.val
    rw [GatherDims.batchCoord_eq_zero _ _ _ List.not_mem_nil]
    unfold GatherDims.start GatherDims.offCoord
    rw [dif_neg (show ¬ (1 : Fin 3) ∈ gV.startIndexMap by decide), dif_pos (show (1 : Fin 3) ∈ gV.sKept by decide)]
    exact Nat.zero_add _
  | ⟨2, _⟩ =>
    show gV.start (ix3 b d j) ix 2 + gV.batchCoord (ix3 b d j) 2 + gV.offCoord (ix3 b d j) 2 = j.val
    rw [GatherDims.batchCoord_eq_zero _ _ _ List.not_mem_nil]
    unfold GatherDims.start GatherDims.offCoord
    rw [dif_neg (show ¬ (2 : Fin 3) ∈ gV.startIndexMap by decide), dif_pos (show (2 : Fin 3) ∈ gV.sKept by decide)]
    exact Nat.zero_add _

theorem gB_at (v : FVec F S32x2048 .f32) (ix : S81920x1.Idx → BitVec 32) (b : Fin 81920) (hx : ∀ j, (j 0).val = b.val → ix j = BitVec.ofNat 32 e) (j : Fin 2048) :
    Host.gather gB v ix (ix2 b j) = v (ix2 ⟨e, he⟩ j) := by
  unfold Host.gather
  refine congrArg v (funext fun a => Fin.ext ?_)
  match a with
  | ⟨0, _⟩ =>
    show gB.start (ix2 b j) ix 0 + gB.batchCoord (ix2 b j) 0 + gB.offCoord (ix2 b j) 0 = e
    rw [GatherDims.batchCoord_eq_zero _ _ _ List.not_mem_nil,
      GatherDims.offCoord_eq_zero _ _ _ (fun hm => ((GatherDims.mem_sKept _ _).mp hm).1 (List.mem_singleton.mpr rfl))]
    unfold GatherDims.start
    rw [dif_pos (show (0 : Fin 2) ∈ gB.startIndexMap from List.mem_singleton.mpr rfl)]
    exact clamp he (hx _ rfl)
  | ⟨1, _⟩ =>
    show gB.start (ix2 b j) ix 1 + gB.batchCoord (ix2 b j) 1 + gB.offCoord (ix2 b j) 1 = j.val
    rw [GatherDims.batchCoord_eq_zero _ _ _ List.not_mem_nil]
    unfold GatherDims.start GatherDims.offCoord
    rw [dif_neg (show ¬ (1 : Fin 2) ∈ gB.startIndexMap by decide), dif_pos (show (1 : Fin 2) ∈ gB.sKept by decide)]
    exact Nat.zero_add _

theorem gC_at (v : FVec F S32x1024 .f32) (ix : S81920x1.Idx → BitVec 32) (b : Fin 81920) (hx : ∀ j, (j 0).val = b.val → ix j = BitVec.ofNat 32 e) (j : Fin 1024) :
    Host.gather gC v ix (ix2 b j) = v (ix2 ⟨e, he⟩ j) := by
  unfold Host.gather
  refine congrArg v (funext fun a => Fin.ext ?_)
  match a with
  | ⟨0, _⟩ =>
    show gC.start (ix2 b j) ix 0 + gC.batchCoord (ix2 b j) 0 + gC.offCoord (ix2 b j) 0 = e
    rw [GatherDims.batchCoord_eq_zero _ _ _ List.not_mem_nil,
      GatherDims.offCoord_eq_zero _ _ _ (fun hm => ((GatherDims.mem_sKept _ _).mp hm).1 (List.mem_singleton.mpr rfl))]
    unfold GatherDims.start
    rw [dif_pos (show (0 : Fin 2) ∈ gC.startIndexMap from List.mem_singleton.mpr rfl)]
    exact clamp he (hx _ rfl)
  | ⟨1, _⟩ =>
    show gC.start (ix2 b j) ix 1 + gC.batchCoord (ix2 b j) 1 + gC.offCoord (ix2 b j) 1 = j.val
    rw [GatherDims.batchCoord_eq_zero _ _ _ List.not_mem_nil]
    unfold GatherDims.start GatherDims.offCoord
    rw [dif_neg (show ¬ (1 : Fin 2) ∈ gC.startIndexMap by decide), dif_pos (show (1 : Fin 2) ∈ gC.sKept by decide)]
    exact Nat.zero_add _
end

/-! ## The row products -/

/-- A product of each row by its own matrix, at an element. -/
theorem rowdot {R K N : ℕ} (w : DotDims.WF ⟨2, ![R, K]⟩ ⟨3, ![R, K, N]⟩ ⟨2, ![R, N]⟩ [1] [1] [] [2] [0] [0])
    (A : FVec Ideal ⟨2, ![R, K]⟩ .f32) (B : FVec Ideal ⟨3, ![R, K, N]⟩ .f32) (r : Fin R) (j : Fin N) :
    Host.dotGeneral (⟨[1], [1], [], [2], [0], [0], w⟩ : DotDims _ _ _) none A B (ix2 r j) = ∑ k : Fin K, A (ix2 r k) * B (ix3 r k j) := by
  show FloatOps.dotGeneral _ none _ A B (ix2 r j) = _
  rw [Ideal.dotGeneral_apply, ← Equiv.sum_comp (contrEquiv1 (⟨[1], [1], [], [2], [0], [0], w⟩ : DotDims _ _ _) K rfl rfl).symm]
  refine Finset.sum_congr rfl fun k _ => ?_
  have c3 := contrEquiv1_symm_val (⟨[1], [1], [], [2], [0], [0], w⟩ : DotDims ⟨2, ![R, K]⟩ ⟨3, ![R, K, N]⟩ ⟨2, ![R, N]⟩) K rfl rfl k
  refine congrArg₂ (fun a b : EReal => a * b) (congrArg A (funext fun ax => Fin.ext ?_)) (congrArg B (funext fun ax => Fin.ext ?_))
  · match ax with
    | ⟨0, _⟩ => simp [DotDims.lhsIdx]; rfl
    | ⟨1, _⟩ => simp [DotDims.lhsIdx]; exact c3
  · match ax with
    | ⟨0, _⟩ => simp [DotDims.rhsIdx]; rfl
    | ⟨1, _⟩ => simp [DotDims.rhsIdx]; exact c3
    | ⟨2, _⟩ => simp [DotDims.rhsIdx]; rfl

/-! ## The reference at an element -/

theorem gateR_at (h : FVec Ideal S81920x2048 .f32) (b : Fin 81920) (d : Fin 1024) : gateR h (ix2 b d) = gateA (h (ix2 b ⟨d.val, by omega⟩)) := by
  have S0 := extractStridedSlice_apply ![0, 0] h slices_S81920x2048_S81920x1024_0_0 (ix2 b d) (ix2 b ⟨d.val, by omega⟩)
    (fun a => match a with | ⟨0, _⟩ => (Nat.zero_add _).symm | ⟨1, _⟩ => (Nat.zero_add _).symm)
  exact congrArg gateA S0

theorem actR_at (h : FVec Ideal S81920x2048 .f32) (b : Fin 81920) (d : Fin 1024) : actR h (ix2 b d) = actA (fun j => h (ix2 b j)) d := by
  have S1 := extractStridedSlice_apply ![0, 1024] h slices_S81920x2048_S81920x1024_0_1024 (ix2 b d) (ix2 b ⟨1024 + d.val, by omega⟩)
    (fun a => match a with | ⟨0, _⟩ => (Nat.zero_add _).symm | ⟨1, _⟩ => rfl)
  have L : ∀ x : EReal, Ideal.div (Ideal.ofBits .f32 0x3F800000#32) (Ideal.ofBits .f32 0x3F800000#32 + Ideal.exp (-x)) = Ideal.logistic x := fun x => by
    rw [Ideal.ofBits_one_f32]; rfl
  have g := gateR_at h b d
  unfold actR actA
  refine congrArg₂ (fun a b : EReal => a * b) (congrArg₂ (fun a b : EReal => a + b) (congrArg upA S1) Ideal.ofBits_one_f32) ?_
  refine congrArg₂ (fun a b : EReal => a * b) g ((L _).trans (congrArg (fun x : EReal => Ideal.logistic (Ideal.ofBits .f32 0x3FD9DB23#32 * x)) g))

theorem outR_at {k : IVec S32 32} {n : ℕ → ℕ} (H : Fits n) (hk : ∀ i : Fin 32, k (ix1 i) = BitVec.ofNat 32 (n i.val)) (xb : FVec Ideal S655360x128 .f32) (wg : FVec Ideal S32x1024x2048 .f32) (bg : FVec Ideal S32x2048 .f32)
    (wd : FVec Ideal S32x1024x1024 .f32) (bd : FVec Ideal S32x1024 .f32) (b : Fin 81920) (e : ℕ) (he : e < 32) (hb : beN n (b.val / 512) = e) (f : Fin 1024) :
    outR k xb wg bg wd bd (ix2 b f)
      = ffnA (fun d => xb (ix2 ⟨8 * b.val + d.val / 128, by omega⟩ ⟨d.val % 128, Nat.mod_lt _ (by decide)⟩)) (fun d j => wg (ix3 ⟨e, he⟩ d j)) (fun j => bg (ix2 ⟨e, he⟩ j))
        (fun d f => wd (ix3 ⟨e, he⟩ d f)) (fun f => bd (ix2 ⟨e, he⟩ f)) f := by
  have hx : ∀ j : S81920x1.Idx, (j 0).val = b.val → rIx k j = BitVec.ofNat 32 e := fun j hj => by rw [rIx_at H hk b j hj, hb]
  have hid : ∀ j : Fin 2048, hidR k xb wg bg (ix2 b j)
      = lin (fun d : Fin 1024 => xb (ix2 ⟨8 * b.val + d.val / 128, by omega⟩ ⟨d.val % 128, Nat.mod_lt _ (by decide)⟩)) (fun d j => wg (ix3 ⟨e, he⟩ d j)) (fun j => bg (ix2 ⟨e, he⟩ j)) j := fun j => by
    unfold hidR lin
    refine congrArg₂ (fun a b : EReal => a + b) ((rowdot _ _ _ b j).trans (Finset.sum_congr rfl fun d _ => congrArg₂ (fun a b : EReal => a * b) ?_ (gW_at he wg _ b hx d j))) (gB_at he bg _ b hx j)
    refine shapeCast_apply _ _ _ _ ?_
    rw [Shape.rowMajor_val_two, Shape.rowMajor_val_two]
    show (8 * b.val + d.val / 128) * 128 + d.val % 128 = b.val * 1024 + d.val
    omega
  unfold outR ffnA
  refine (congrArg₂ (fun a b : EReal => a + b) ((rowdot _ _ _ b f).trans (Finset.sum_congr rfl fun d _ => congrArg₂ (fun a b : EReal => a * b) ?_ (gV_at he wd _ b hx d f))) (gC_at he bd _ b hx f))
  exact (actR_at _ b d).trans (congrFun (congrArg actA (funext hid)) d)

end Cert.Proof.ExpertsRef

end
-- ==== Proof.ExpAlg.lean ====
/- The experts' call, with the host code before it, leaves what the reference leaves, at every row that a count covers.
-/
module

public import proofs.«01_k».proof.Proof.ExpVal
public import proofs.«01_k».proof.Defs
public import proofs.«01_k».proof.Proof.ExpVal
public import proofs.«01_k».proof.Proof.ExpMask
public import proofs.«01_k».proof.Proof.ExpRef2
public import proofs.«01_k».proof.Proof.Gen.Reference2Ideal.Run

@[expose] public section

noncomputable section

namespace Cert.Proof.Experts

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UE ℕ

open Idealize.ShloMosaic.Pipeline (RDat Cfg Window)
open Idealize.ShloMosaic.ValueIdx

section
variable (m : (ℓ : Loc nD τ sig) → Buf (Elt Ideal) ℓ) (c : Dev nD)
variable {n : ℕ → ℕ} (H : Fits n) (hk : ∀ i : Fin 32, cnt m (ix1 i) = BitVec.ofNat 32 (n i.val))
include H hk

/-- The array after the run, at a row of some expert. -/
theorem value (r) (h : RDat.FramePost (cfgE (F := Ideal) (good H hk) (tBr (cnt m))) (rdE (good H hk) (tBr (cnt m)) (VE m)) (VE m) r) (p : Fin 655360) (q : Fin 128)
    (e : ℕ) (he : e < 32) (h0 : (enN n e - nbN n e) * 512 ≤ p.val / 8) (h1 : p.val / 8 < (enN n e - nbN n e) * 512 + n e) :
    r.2.mem ((c.tc : Thread nD τ).loc main_v67) (ix2 p q)
      = ffnRow (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        ⟨e, he⟩ p q := by
  have hp := p.isLt
  obtain ⟨b1, b2, b3⟩ := ExpertsMask.block H he h0 h1
  have hN : p.val / 8 / 512 < grid0.N := by rw [N_0]; omega
  have hw : 4096 * (p.val / 8 / 512) + p.val % 4096 = p.val := by omega
  have key := arr_out (F := Ideal) (good H hk) (tBr (cnt m)) (VE m) c r h
    (fun i v => ∀ (p : Fin 655360) (q : Fin 128), i = ix2 p q → ∀ (e : ℕ) (he : e < 32), (enN n e - nbN n e) * 512 ≤ p.val / 8 → p.val / 8 < (enN n e - nbN n e) * 512 + n e →
      v = ffnRow (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        ⟨e, he⟩ p q) ?_ ⟨p.val / 8 / 512, hN⟩ b1 ⟨p.val % 4096, Nat.mod_lt _ (by decide)⟩ q
  · have ep : (⟨4096 * (p.val / 8 / 512) + p.val % 4096, by omega⟩ : Fin 655360) = p := Fin.ext hw
    have := key _ q rfl e he (by show _ ≤ (4096 * (p.val / 8 / 512) + p.val % 4096) / 8; rw [hw]; exact h0) (by show (4096 * (p.val / 8 / 512) + p.val % 4096) / 8 < _; rw [hw]; exact h1)
    exact ep ▸ this
  · intro t ht X hX a q p q' hpq e he h0 h1
    have hp0 : (⟨4096 * t.val + a.val, row_lt t a⟩ : Fin 655360) = p := congrFun hpq 0
    have hq0 : q = q' := congrFun hpq 1
    subst hq0
    subst hp0
    obtain ⟨b1, b2, b3⟩ := ExpertsMask.block H he h0 h1
    have ha := a.isLt
    have e1 : (4096 * t.val + a.val) / 8 / 512 = t.val := by omega
    have e2 : (4096 * t.val + a.val) / 8 % 512 = a.val / 8 := by omega
    rw [show ((⟨4096 * t.val + a.val, row_lt t a⟩ : Fin 655360).val) = 4096 * t.val + a.val from rfl, e1] at b2 b3
    rw [e2] at b3
    subst b2
    exact left_val m c H hk t ht X hX a q b3
end

/-- The reference's array at a row of some expert. -/
theorem ref_value (m : (ℓ : Loc Cert.Reference2Ideal.nD Cert.Reference2Ideal.τ Cert.Reference2Ideal.sig) → Buf (Elt Ideal) ℓ) (c : Dev Cert.Reference2Ideal.nD) {k : IVec S32 32} {n : ℕ → ℕ} (H : Fits n)
    (hk : ∀ i : Fin 32, k (ix1 i) = BitVec.ofNat 32 (n i.val)) (hm : m ((c.tc : Thread Cert.Reference2Ideal.nD Cert.Reference2Ideal.τ).loc Cert.Reference2Ideal.main_arg0) = k) (p : Fin 655360) (q : Fin 128)
    (e : ℕ) (he : e < 32) (h0 : (enN n e - nbN n e) * 512 ≤ p.val / 8) (h1 : p.val / 8 < (enN n e - nbN n e) * 512 + n e) :
    Cert.Reference2Ideal.Value.res_main_v67 (F := Ideal) m c (ix2 p q)
      = ffnRow (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))
        (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) ⟨e, he⟩ p q := by
  have hp := p.isLt
  obtain ⟨b1, b2, -⟩ := ExpertsMask.block H he h0 h1
  have hb : beN n (p.val / 8 / 512) = e := (be_eq n b1).trans b2
  rw [ExpertsRef.res_eq, hm]
  refine (shapeCast_apply _ _ _ (ix2 (⟨p.val / 8, by omega⟩ : Fin 81920) (⟨p.val % 8 * 128 + q.val, by omega⟩ : Fin 1024)) ?_).trans ?_
  · rw [Shape.rowMajor_val_two, Shape.rowMajor_val_two]
    show p.val / 8 * 1024 + (p.val % 8 * 128 + q.val) = p.val * 128 + q.val
    omega
  · exact ExpertsRef.outR_at H hk _ _ _ _ _ (⟨p.val / 8, by omega⟩ : Fin 81920) e he hb _

theorem algebraic : Cert.algebraic_Kernel2Ideal_Reference2Ideal_on_expert_rows := by
  intro m ρ m' ρ' hpre hag
  obtain ⟨n, H, hk⟩ := fits_of_fn (F := Ideal) (hpre 0)
  refine ⟨fun c => Cert.Reference2Ideal.Value.res_main_v67 (F := Ideal) m' c, ?_, ?_⟩
  · have e := run m (good H hk) (tBr (cnt m)) (tables m) ρ
    refine (θ_run _ _ _).mono (fun r h c => ⟨fun i hi => ?_, rest_of m (good H hk) r h.1 c⟩) e
    obtain ⟨a0, a1, a2, a3, a4, a5⟩ := hag c
    have hc : c = 0 := Subsingleton.elim _ _
    subst hc
    rw [eq_ix2 i] at hi ⊢
    obtain ⟨e, he, h0, h1⟩ := ExpertsMask.taken H hk (i 0) (i 1) hi
    refine (value m 0 H hk r h.1 (i 0) (i 1) e he h0 h1).trans ((ref_value m' 0 H hk a0 (i 0) (i 1) e he h0 h1).trans ?_).symm
    rw [a1, a2, a3, a4, a5]
  · exact (θ_run Cert.Reference2Ideal.defs _ _).mono (fun r h c => ⟨fun i _ => congrFun (h c).1 i, (h c).2⟩) (Cert.Reference2Ideal.Value.run (F := Ideal) m' ρ')

end Cert.Proof.Experts

end
-- ==== Proof.lean ====
/- The claims about the gather of the expert outputs' rows: each program's run (Proof/Launch.lean for the program, the
   generated one for the reference) read at the arguments, the counters and the result, and the result of the one equal to
   the result of the other (Proof/Value.lean `gather_eq`). The claims about the experts' products are proved in
   Proof/ExpClaims.lean (the frames) and Proof/ExpAlg.lean (the values) and put beside them in `claim`. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_rows_in_range
public import proofs.«01_k».proof.Proof.Gen.Kernel2
public import proofs.«01_k».proof.Proof.Gen.Kernel2Ideal
public import proofs.«01_k».proof.Proof.Gen.Reference2Ideal
public import proofs.«01_k».proof.Proof.Gen.Pre_counts_fit
public import proofs.«01_k».proof.Proof.Gen.On_expert_rows
public import proofs.«01_k».proof.Proof.Launch
public import proofs.«01_k».proof.Proof.Value
public import proofs.«01_k».proof.Proof.ExpClaims
public import proofs.«01_k».proof.Proof.ExpAlg
public import Idealize.ShloMosaic.Adequacy
public import Idealize.ShloMosaic.Init

@[expose] public section

noncomputable section

namespace Cert.Proof

open Idealize.ShloMosaic Idealize.SL.Sem Cert.Proof.Collect

/-- The program as printed: the run at the bit-exact values. -/
theorem frame_kernel : Cert.quiescent_Kernel := fun m ρ hpre =>
  (θ_run Cert.KernelIdeal.defs _ _).mono (fun _ h => ⟨fun c => (h.1 c).2, h.2⟩)
    (run_main (F := Bits) m ρ fun d => lists_lt _ (range_of_fn _ _ (hpre d)))

/-- The program over the ideal values: the same run. -/
theorem frame_ideal : Cert.quiescent_KernelIdeal := fun m ρ hpre =>
  (θ_run Cert.KernelIdeal.defs _ _).mono (fun _ h => ⟨fun c => (h.1 c).2, h.2⟩)
    (run_main (F := Ideal) m ρ fun d => lists_lt _ (range_of_fn _ _ (hpre d)))

/-- The reference is host operations and declares no semaphore. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- Bit for bit: both leave, at row `p` of the result, the row that index `p` names. -/
theorem bitexact : Cert.bitexact_Kernel_Reference := by
  intro m ρ m' ρ' hpre hag
  have hr := fun d => range_of_fn (F := Bits) _ _ (hpre d)
  refine ⟨fun c => Gv (F := Bits) (my m c) (ml m c), ?_, ?_⟩
  · exact (θ_run Cert.KernelIdeal.defs _ _).mono (fun _ h => h.1) (run_main (F := Bits) m ρ fun d => lists_lt _ (hr d))
  · refine (θ_run Cert.Reference.defs _ _).mono (fun r h c => ⟨(h c).1.trans ?_, (h c).2⟩) (Cert.Reference.Value.run (F := Bits) m' ρ')
    rw [(hag c).1, (hag c).2]
    exact gather_eq (F := Bits) _ _ (hr c)

/-- Over the ideal values: the same. -/
theorem algebraic : Cert.algebraic_KernelIdeal_ReferenceIdeal := by
  intro m ρ m' ρ' hpre hag
  have hr := fun d => range_of_fn (F := Ideal) _ _ (hpre d)
  refine ⟨fun c => Gv (F := Ideal) (my m c) (ml m c), ?_, ?_⟩
  · exact (θ_run Cert.KernelIdeal.defs _ _).mono (fun _ h => h.1) (run_main (F := Ideal) m ρ fun d => lists_lt _ (hr d))
  · refine (θ_run Cert.ReferenceIdeal.defs _ _).mono (fun r h c => ⟨(h c).1.trans ?_, (h c).2⟩) (Cert.ReferenceIdeal.Value.run (F := Ideal) m' ρ')
    rw [(hag c).1, (hag c).2]
    exact gather_eq (F := Ideal) _ _ (hr c)

theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts, Cert.Pre_rows_in_range.Gen.facts, Cert.Pre_counts_fit.Gen.facts, Cert.On_expert_rows.Gen.facts,
  frame_kernel, frame_ideal, frame_reference_ideal, frame_reference, Experts.frame_kernel, Experts.frame_ideal, Experts.frame_reference_ideal,
  trivial, bitexact, algebraic, trivial, Experts.algebraic⟩

end Cert.Proof

end
